-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_on_covered_pre_bounded [hKernelIdeal : Cert.KernelIdeal.Facts] [hReferenceIdeal : Cert.ReferenceIdeal.Facts] [hPre_bounded : Cert.Pre_bounded.Facts] [hOn_covered : Cert.On_covered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![64, 32000]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v2_0) i = v0 c i)
          ∧ (∀ i : (⟨2, ![64, 1]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v2_1) i = v1 c i)
          ∧ (∀ i : (⟨2, ![64, 52]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v2_2) i = v2 c i)
          ∧ (∀ i : (⟨2, ![64, 8192]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.KernelIdeal.nD Cert.KernelIdeal.τ).loc Cert.KernelIdeal.main_v2_3) i = v3 c i)
          ∧ (∀ i : (⟨2, ![64, 1]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 i = 1#1 → r.2.mem ((c.tc : Thread Cert.KernelIdeal.nD Cert.KernelIdeal.τ).loc Cert.KernelIdeal.main_v2_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![64, 32000]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v2_0) i = v0 c i)
          ∧ (∀ i : (⟨2, ![64, 1]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v2_1) i = v1 c i)
          ∧ (∀ i : (⟨2, ![64, 52]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v2_2) i = v2 c i)
          ∧ (∀ i : (⟨2, ![64, 8192]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.ReferenceIdeal.nD Cert.ReferenceIdeal.τ).loc Cert.ReferenceIdeal.main_v2_3) i = v3 c i)
          ∧ (∀ i : (⟨2, ![64, 1]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 i = 1#1 → r.2.mem ((c.tc : Thread Cert.ReferenceIdeal.nD Cert.ReferenceIdeal.τ).loc Cert.ReferenceIdeal.main_v2_4) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_bounded : Cert.Pre_bounded.Facts) (hOn_covered : Cert.On_covered.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_on_covered_pre_bounded (hKernelIdeal := hKernelIdeal) (hReferenceIdeal := hReferenceIdeal) (hPre_bounded := hPre_bounded) (hOn_covered := hOn_covered)
-- ==== On_covered.lean ====
abbrev S64x1x8192 : Shape := ⟨3, ![64, 1, 8192]⟩
abbrev S8192x32000 : Shape := ⟨2, ![8192, 32000]⟩
abbrev S64x250 : Shape := ⟨2, ![64, 250]⟩
abbrev S64x1000 : Shape := ⟨2, ![64, 1000]⟩
abbrev S64x1x52 : Shape := ⟨3, ![64, 1, 52]⟩
abbrev S64x32000 : Shape := ⟨2, ![64, 32000]⟩
abbrev S_ : Shape := ⟨0, ![]⟩
abbrev S64x1 : Shape := ⟨2, ![64, 1]⟩
abbrev S64x52 : Shape := ⟨2, ![64, 52]⟩
abbrev S64x8192 : Shape := ⟨2, ![64, 8192]⟩

class Facts : Prop where
  bcast_S_S64x32000 : S_.BroadcastsInDim S64x32000 (![] : Fin 0 → Fin S64x32000.rank)
  bcast_S_S64x1 : S_.BroadcastsInDim S64x1 (![] : Fin 0 → Fin S64x1.rank)
  bcast_S_S64x52 : S_.BroadcastsInDim S64x52 (![] : Fin 0 → Fin S64x52.rank)
  bcast_S_S64x8192 : S_.BroadcastsInDim S64x8192 (![] : Fin 0 → Fin S64x8192.rank)

variable [Facts]

def fn {F : FTy → Type} [FloatOps F] (main_arg0 : FVec F S64x1x8192 .bf16) (main_arg1 : FVec F S8192x32000 .fp8e4m3) (main_arg2 : FVec F S64x250 .f32) (main_arg3 : IVec S64x1000 32) (main_arg4 : IVec S64x1x52 32) : IVec S64x32000 1 × IVec S64x1 1 × IVec S64x52 1 × IVec S64x8192 1 × IVec S64x1 1 :=
  let main_v0 : IVec S64x32000 32 := iotaInDim S64x32000 32 1
  let main_c : IVec S_ 32 := constantI S_ 32 256#32
  let main_v1 : IVec S64x32000 32 := broadcastInDim S64x32000 ![] bcast_S_S64x32000 main_c
  let main_v2 : IVec S64x32000 1 := cmpi .sge main_v0 main_v1
  let main_c_0 : IVec S_ 32 := constantI S_ 32 31744#32
  let main_v3 : IVec S64x32000 32 := broadcastInDim S64x32000 ![] bcast_S_S64x32000 main_c_0
  let main_v4 : IVec S64x32000 1 := cmpi .slt main_v0 main_v3
  let main_v5 : IVec S64x32000 1 := andi main_v2 main_v4
  let main_c_1 : IVec S_ 1 := constantI S_ 1 0#1
  let main_v6 : IVec S64x1 1 := broadcastInDim S64x1 ![] bcast_S_S64x1 main_c_1
  let main_c_2 : IVec S_ 1 := constantI S_ 1 0#1
  let main_v7 : IVec S64x52 1 := broadcastInDim S64x52 ![] bcast_S_S64x52 main_c_2
  let main_c_3 : IVec S_ 1 := constantI S_ 1 1#1
  let main_v8 : IVec S64x8192 1 := broadcastInDim S64x8192 ![] bcast_S_S64x8192 main_c_3
  let main_c_4 : IVec S_ 1 := constantI S_ 1 1#1
  let main_v9 : IVec S64x1 1 := broadcastInDim S64x1 ![] bcast_S_S64x1 main_c_4
  (main_v5, main_v6, main_v7, main_v8, main_v9)
-- ==== Pre_bounded.lean ====
abbrev S64x1x8192 : Shape := ⟨3, ![64, 1, 8192]⟩
abbrev S8192x32000 : Shape := ⟨2, ![8192, 32000]⟩
abbrev S64x250 : Shape := ⟨2, ![64, 250]⟩
abbrev S64x1000 : Shape := ⟨2, ![64, 1000]⟩
abbrev S64x1x52 : Shape := ⟨3, ![64, 1, 52]⟩
abbrev S_ : Shape := ⟨0, ![]⟩
abbrev S64x250x8192 : Shape := ⟨3, ![64, 250, 8192]⟩
abbrev S64x250x1 : Shape := ⟨3, ![64, 250, 1]⟩

class Facts : Prop where
  bitsLt_bf16_f32 : FTy.bits .bf16 < FTy.bits .f32
  bcast_S_S64x1x8192 : S_.BroadcastsInDim S64x1x8192 (![] : Fin 0 → Fin S64x1x8192.rank)
  bcast_S_S64x250 : S_.BroadcastsInDim S64x250 (![] : Fin 0 → Fin S64x250.rank)
  bcast_S64x1x8192_S64x250x8192_0_1_2 : S64x1x8192.BroadcastsInDim S64x250x8192 (![0, 1, 2] : Fin 3 → Fin S64x250x8192.rank)
  bcast_S64x250_S64x250x1_0_1 : S64x250.BroadcastsInDim S64x250x1 (![0, 1] : Fin 2 → Fin S64x250x1.rank)
  bcast_S64x250x1_S64x250x8192_0_1_2 : S64x250x1.BroadcastsInDim S64x250x8192 (![0, 1, 2] : Fin 3 → Fin S64x250x8192.rank)

variable [Facts]

def fn {F : FTy → Type} [FloatOps F] (main_arg0 : FVec F S64x1x8192 .bf16) (main_arg1 : FVec F S8192x32000 .fp8e4m3) (main_arg2 : FVec F S64x250 .f32) (main_arg3 : IVec S64x1000 32) (main_arg4 : IVec S64x1x52 32) : IVec S64x250x8192 1 :=
  let main_v0 : FVec F S64x1x8192 .f32 := (extf .f32 · bitsLt_bf16_f32) main_arg0
  let main_v1 : FVec F S64x1x8192 .f32 := Host.absf main_v0
  let main_cst : FVec F S_ .f32 := constant S_ .f32 0x7F7F0000#32
  let main_v2 : FVec F S64x1x8192 .f32 := broadcastInDim S64x1x8192 ![] bcast_S_S64x1x8192 main_cst
  let main_v3 : IVec S64x1x8192 1 := cmpf .ole main_v1 main_v2
  let main_cst_0 : FVec F S_ .f32 := constant S_ .f32 0x00000000#32
  let main_v4 : FVec F S64x250 .f32 := broadcastInDim S64x250 ![] bcast_S_S64x250 main_cst_0
  let main_v5 : IVec S64x250 1 := cmpf .oge main_arg2 main_v4
  let main_cst_1 : FVec F S_ .f32 := constant S_ .f32 0x7F7FFFFF#32
  let main_v6 : FVec F S64x250 .f32 := broadcastInDim S64x250 ![] bcast_S_S64x250 main_cst_1
  let main_v7 : IVec S64x250 1 := cmpf .ole main_arg2 main_v6
  let main_v8 : IVec S64x250 1 := andi main_v5 main_v7
  let main_v9 : IVec S64x250x8192 1 := broadcastInDim S64x250x8192 ![0, 1, 2] bcast_S64x1x8192_S64x250x8192_0_1_2 main_v3
  let main_v10 : IVec S64x250x1 1 := broadcastInDim S64x250x1 ![0, 1] bcast_S64x250_S64x250x1_0_1 main_v8
  let main_v11 : IVec S64x250x8192 1 := broadcastInDim S64x250x8192 ![0, 1, 2] bcast_S64x250x1_S64x250x8192_0_1_2 main_v10
  let main_v12 : IVec S64x250x8192 1 := andi main_v9 main_v11
  main_v12
-- ==== Kernel.lean ====
abbrev S64x1x8192 : Shape := ⟨3, ![64, 1, 8192]⟩
abbrev S8192x32000 : Shape := ⟨2, ![8192, 32000]⟩
abbrev S64x250 : Shape := ⟨2, ![64, 250]⟩
abbrev S64x1000 : Shape := ⟨2, ![64, 1000]⟩
abbrev S64x1x52 : Shape := ⟨3, ![64, 1, 52]⟩
abbrev S64x8192 : Shape := ⟨2, ![64, 8192]⟩
abbrev S64x52 : Shape := ⟨2, ![64, 52]⟩
abbrev S64x32000 : Shape := ⟨2, ![64, 32000]⟩
abbrev S64x1 : Shape := ⟨2, ![64, 1]⟩
abbrev S12x8192x256 : Shape := ⟨3, ![12, 8192, 256]⟩
abbrev S64x256 : Shape := ⟨2, ![64, 256]⟩
abbrev S64x1024 : Shape := ⟨2, ![64, 1024]⟩
abbrev S64x128 : Shape := ⟨2, ![64, 128]⟩
abbrev S2x64x256 : Shape := ⟨3, ![2, 64, 256]⟩
abbrev S4x64x256 : Shape := ⟨3, ![4, 64, 256]⟩
abbrev S12 : Shape := ⟨1, ![12]⟩
abbrev S4 : Shape := ⟨1, ![4]⟩
abbrev S_ : Shape := ⟨0, ![]⟩
abbrev S1 : Shape := ⟨1, ![1]⟩
abbrev S1x8192x256 : Shape := ⟨3, ![1, 8192, 256]⟩
abbrev S8192x256 : Shape := ⟨2, ![8192, 256]⟩
abbrev S64 : Shape := ⟨1, ![64]⟩
abbrev S64x128x1 : Shape := ⟨3, ![64, 128, 1]⟩
abbrev S1x128x256 : Shape := ⟨3, ![1, 128, 256]⟩
abbrev S128x256 : Shape := ⟨2, ![128, 256]⟩
abbrev S1x256 : Shape := ⟨2, ![1, 256]⟩
abbrev S1x64x256 : Shape := ⟨3, ![1, 64, 256]⟩
abbrev S1x64x128 : Shape := ⟨3, ![1, 64, 128]⟩

abbrev nBuf : Space → Nat
  | .hbm => 12
  | .vmem => 20
  | .smem => 0
  | _ => 0

abbrev bufTy : (tb : Table) → Fin (tcTables nBuf tb) → BufTy
  | .hbm, ⟨0, _⟩ => ⟨S64x1x8192, .bf16⟩
  | .hbm, ⟨1, _⟩ => ⟨S8192x32000, .fp8e4m3⟩
  | .hbm, ⟨2, _⟩ => ⟨S64x250, .f32⟩
  | .hbm, ⟨3, _⟩ => ⟨S64x1000, .i32⟩
  | .hbm, ⟨4, _⟩ => ⟨S64x1x52, .i32⟩
  | .hbm, ⟨5, _⟩ => ⟨S64x8192, .bf16⟩
  | .hbm, ⟨6, _⟩ => ⟨S64x52, .i32⟩
  | .hbm, ⟨7, _⟩ => ⟨S64x32000, .f32⟩
  | .hbm, ⟨8, _⟩ => ⟨S64x1, .f32⟩
  | .hbm, ⟨9, _⟩ => ⟨S64x52, .f32⟩
  | .hbm, ⟨10, _⟩ => ⟨S64x8192, .fp8e4m3⟩
  | .hbm, ⟨11, _⟩ => ⟨S64x1, .f32⟩
  | .local _ .vmem, ⟨0, _⟩ => ⟨S64x1, .f32⟩
  | .local _ .vmem, ⟨1, _⟩ => ⟨S64x52, .f32⟩
  | .local _ .vmem, ⟨2, _⟩ => ⟨S64x1, .f32⟩
  | .local _ .vmem, ⟨3, _⟩ => ⟨S64x8192, .bf16⟩
  | .local _ .vmem, ⟨4, _⟩ => ⟨S64x8192, .fp8e4m3⟩
  | .local _ .vmem, ⟨5, _⟩ => ⟨S12x8192x256, .fp8e4m3⟩
  | .local _ .vmem, ⟨6, _⟩ => ⟨S64x250, .f32⟩
  | .local _ .vmem, ⟨7, _⟩ => ⟨S64x256, .f32⟩
  | .local _ .vmem, ⟨8, _⟩ => ⟨S64x1000, .i32⟩
  | .local _ .vmem, ⟨9, _⟩ => ⟨S64x1024, .i32⟩
  | .local _ .vmem, ⟨10, _⟩ => ⟨S64x52, .i32⟩
  | .local _ .vmem, ⟨11, _⟩ => ⟨S64x128, .i32⟩
  | .local _ .vmem, ⟨12, _⟩ => ⟨S64x256, .f32⟩
  | .local _ .vmem, ⟨13, _⟩ => ⟨S64x128, .f32⟩
  | .local _ .vmem, ⟨14, _⟩ => ⟨S2x64x256, .f32⟩
  | .local _ .vmem, ⟨15, _⟩ => ⟨S4x64x256, .f32⟩
  | .local _ .vmem, ⟨16, _⟩ => ⟨S64x128, .f32⟩
  | .local _ .vmem, ⟨17, _⟩ => ⟨S64x128, .f32⟩
  | .local _ .vmem, ⟨18, _⟩ => ⟨S64x128, .f32⟩
  | .local _ .vmem, ⟨19, _⟩ => ⟨S64x128, .i32⟩
  | _, _ => ⟨S64x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

def k0_mult1 : BitVec 32 :=
  let c0_i32_0 : BitVec 32 := 0#32
  c0_i32_0
def k0_mult2 : BitVec 32 :=
  let c256_i32 : BitVec 32 := 256#32
  c256_i32
def k0_mult3 : BitVec 32 :=
  let c512_i32 : BitVec 32 := 512#32
  c512_i32
def k0_mult4 : BitVec 32 :=
  let c768_i32 : BitVec 32 := 768#32
  c768_i32
def k0_mult5 : BitVec 32 :=
  let c1024_i32 : BitVec 32 := 1024#32
  c1024_i32
def k0_mult6 : BitVec 32 :=
  let c1280_i32 : BitVec 32 := 1280#32
  c1280_i32
def k0_mult7 : BitVec 32 :=
  let c1536_i32 : BitVec 32 := 1536#32
  c1536_i32
def k0_mult8 : BitVec 32 :=
  let c1792_i32 : BitVec 32 := 1792#32
  c1792_i32
def k0_mult9 : BitVec 32 :=
  let c2048_i32 : BitVec 32 := 2048#32
  c2048_i32
def k0_mult10 : BitVec 32 :=
  let c2304_i32 : BitVec 32 := 2304#32
  c2304_i32
def k0_mult11 : BitVec 32 :=
  let c2560_i32 : BitVec 32 := 2560#32
  c2560_i32
def k0_mult12 : BitVec 32 :=
  let c2816_i32 : BitVec 32 := 2816#32
  c2816_i32
def k0_mult13 : BitVec 32 :=
  let c0_i32_736 : BitVec 32 := 0#32
  c0_i32_736
def k0_mult14 : BitVec 32 :=
  let c0_i32_742 : BitVec 32 := 0#32
  c0_i32_742
@[reducible] def k0_t1_loop : Scf.Loop 32 :=
  let c1_i32_1208 : BitVec 32 := 1#32
  let c124_i32 : BitVec 32 := 124#32
  let v2237 : BitVec 32 := Scalar.addi c1_i32_1208 c124_i32
  let c1_i32_1209 : BitVec 32 := 1#32
  ⟨c1_i32_1208, v2237, c1_i32_1209⟩
def k0_cond1 (k0_t1 : Fin k0_t1_loop.trips) : BitVec 1 :=
  let c1_i32_1208 : BitVec 32 := 1#32
  let c1_i32_1209 : BitVec 32 := 1#32
  let arg31 : BitVec 32 := Scf.iv c1_i32_1208 c1_i32_1209 k0_t1
  let c1_i32_1341 : BitVec 32 := 1#32
  let v2490 : BitVec 32 := Scalar.subi arg31 c1_i32_1341
  let c12_i32_1342 : BitVec 32 := 12#32
  let v2491 : BitVec 32 := Scalar.addi v2490 c12_i32_1342
  let c125_i32 : BitVec 32 := 125#32
  let v2492 : BitVec 1 := Scalar.cmpi .slt v2491 c125_i32
  let v2493 : BitVec 32 := Scalar.extui v2492
  let c0_i32_1343 : BitVec 32 := 0#32
  let v2494 : BitVec 1 := Scalar.cmpi .ne v2493 c0_i32_1343
  v2494

def k0_mult15 (k0_t1 : Fin k0_t1_loop.trips) : BitVec 32 :=
  let c1_i32_1208 : BitVec 32 := 1#32
  let c1_i32_1209 : BitVec 32 := 1#32
  let arg31 : BitVec 32 := Scf.iv c1_i32_1208 c1_i32_1209 k0_t1
  let c1_i32_1947 : BitVec 32 := 1#32
  let v3416 : BitVec 32 := Scalar.subi arg31 c1_i32_1947
  let c12_i32_1948 : BitVec 32 := 12#32
  let v3417 : BitVec 32 := Scalar.addi v3416 c12_i32_1948
  let c256_i32_1949 : BitVec 32 := 256#32
  let v3418 : BitVec 32 := Scalar.muli v3417 c256_i32_1949
  v3418
def k0_off1 (k0_t1 : Fin k0_t1_loop.trips) : Fin 1 → Nat :=
  let c1_i32_1208 : BitVec 32 := 1#32
  let c1_i32_1209 : BitVec 32 := 1#32
  let arg31 : BitVec 32 := Scf.iv c1_i32_1208 c1_i32_1209 k0_t1
  let c1_i32_1339 : BitVec 32 := 1#32
  let v2488 : BitVec 32 := Scalar.subi arg31 c1_i32_1339
  let c12_i32_1340 : BitVec 32 := 12#32
  let v2489 : BitVec 32 := Scalar.remsi v2488 c12_i32_1340
  ![v2489.toNat]
def k0_off2 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c1_i32_1339 : BitVec 32 := 1#32
  let v2488 : BitVec 32 := Scalar.subi arg31 c1_i32_1339
  let c12_i32_1340 : BitVec 32 := 12#32
  let v2489 : BitVec 32 := Scalar.remsi v2488 c12_i32_1340
  let c0_i32_1950 : BitVec 32 := 0#32
  let c0_i32_1951 : BitVec 32 := 0#32
  ![v2489.toNat, 0, 0]
def k0_off3 (k0_t1 : Fin k0_t1_loop.trips) : Fin 2 → Nat :=
  let c0_i32_1952 : BitVec 32 := 0#32
  let c1_i32_1208 : BitVec 32 := 1#32
  let c1_i32_1209 : BitVec 32 := 1#32
  let arg31 : BitVec 32 := Scf.iv c1_i32_1208 c1_i32_1209 k0_t1
  let c1_i32_1947 : BitVec 32 := 1#32
  let v3416 : BitVec 32 := Scalar.subi arg31 c1_i32_1947
  let c12_i32_1948 : BitVec 32 := 12#32
  let v3417 : BitVec 32 := Scalar.addi v3416 c12_i32_1948
  let c256_i32_1949 : BitVec 32 := 256#32
  let v3418 : BitVec 32 := Scalar.muli v3417 c256_i32_1949
  let v3419 : BitVec 32 := v3418
  ![0, v3419.toNat]
def k0_cond2 (k0_t1 : Fin k0_t1_loop.trips) : BitVec 1 :=
  let c1_i32_1208 : BitVec 32 := 1#32
  let c1_i32_1209 : BitVec 32 := 1#32
  let arg31 : BitVec 32 := Scf.iv c1_i32_1208 c1_i32_1209 k0_t1
  let c2_i32_1344 : BitVec 32 := 2#32
  let v2495 : BitVec 1 := Scalar.cmpi .sge arg31 c2_i32_1344
  let v2496 : BitVec 32 := Scalar.extui v2495
  let c0_i32_1345 : BitVec 32 := 0#32
  let v2497 : BitVec 1 := Scalar.cmpi .ne v2496 c0_i32_1345
  v2497

def k0_mult16 (k0_t1 : Fin k0_t1_loop.trips) : BitVec 32 :=
  let c1_i32_1208 : BitVec 32 := 1#32
  let c1_i32_1209 : BitVec 32 := 1#32
  let arg31 : BitVec 32 := Scf.iv c1_i32_1208 c1_i32_1209 k0_t1
  let c2_i32_1947 : BitVec 32 := 2#32
  let v3416 : BitVec 32 := Scalar.subi arg31 c2_i32_1947
  let c256_i32_1950 : BitVec 32 := 256#32
  let v3419 : BitVec 32 := Scalar.muli v3416 c256_i32_1950
  v3419
def k0_off4 (k0_t1 : Fin k0_t1_loop.trips) : Fin 1 → Nat :=
  let c1_i32_1208 : BitVec 32 := 1#32
  let c1_i32_1209 : BitVec 32 := 1#32
  let arg31 : BitVec 32 := Scf.iv c1_i32_1208 c1_i32_1209 k0_t1
  let c2_i32_1948 : BitVec 32 := 2#32
  let v3417 : BitVec 32 := Scalar.subi arg31 c2_i32_1948
  let c4_i32_1949 : BitVec 32 := 4#32
  let v3418 : BitVec 32 := Scalar.remsi v3417 c4_i32_1949
  ![v3418.toNat]
def k0_off5 (k0_t1 : Fin k0_t1_loop.trips) : Fin 2 → Nat :=
  let c0_i32_1951 : BitVec 32 := 0#32
  let c1_i32_1208 : BitVec 32 := 1#32
  let c1_i32_1209 : BitVec 32 := 1#32
  let arg31 : BitVec 32 := Scf.iv c1_i32_1208 c1_i32_1209 k0_t1
  let c2_i32_1947 : BitVec 32 := 2#32
  let v3416 : BitVec 32 := Scalar.subi arg31 c2_i32_1947
  let c256_i32_1950 : BitVec 32 := 256#32
  let v3419 : BitVec 32 := Scalar.muli v3416 c256_i32_1950
  let v3420 : BitVec 32 := v3419
  ![0, v3420.toNat]
def k0_off6 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c2_i32_1948 : BitVec 32 := 2#32
  let v3417 : BitVec 32 := Scalar.subi arg31 c2_i32_1948
  let c4_i32_1949 : BitVec 32 := 4#32
  let v3418 : BitVec 32 := Scalar.remsi v3417 c4_i32_1949
  let c0_i32_1952 : BitVec 32 := 0#32
  let c0_i32_1953 : BitVec 32 := 0#32
  ![v3418.toNat, 0, 0]
def k0_cond3 (k0_t1 : Fin k0_t1_loop.trips) : BitVec 1 :=
  let c1_i32_1208 : BitVec 32 := 1#32
  let c1_i32_1209 : BitVec 32 := 1#32
  let arg31 : BitVec 32 := Scf.iv c1_i32_1208 c1_i32_1209 k0_t1
  let c1_i32_1346 : BitVec 32 := 1#32
  let v2498 : BitVec 32 := Scalar.subi arg31 c1_i32_1346
  let c4_i32_1347 : BitVec 32 := 4#32
  let v2499 : BitVec 1 := Scalar.cmpi .sge v2498 c4_i32_1347
  let v2500 : BitVec 32 := Scalar.extui v2499
  let c0_i32_1348 : BitVec 32 := 0#32
  let v2501 : BitVec 1 := Scalar.cmpi .ne v2500 c0_i32_1348
  v2501

def k0_mult17 (k0_t1 : Fin k0_t1_loop.trips) : BitVec 32 :=
  let c1_i32_1208 : BitVec 32 := 1#32
  let c1_i32_1209 : BitVec 32 := 1#32
  let arg31 : BitVec 32 := Scf.iv c1_i32_1208 c1_i32_1209 k0_t1
  let c1_i32_1947 : BitVec 32 := 1#32
  let v3416 : BitVec 32 := Scalar.subi arg31 c1_i32_1947
  let c4_i32_1948 : BitVec 32 := 4#32
  let v3417 : BitVec 32 := Scalar.subi v3416 c4_i32_1948
  let c256_i32_1951 : BitVec 32 := 256#32
  let v3420 : BitVec 32 := Scalar.muli v3417 c256_i32_1951
  v3420
def k0_off7 (k0_t1 : Fin k0_t1_loop.trips) : Fin 1 → Nat :=
  let c1_i32_1208 : BitVec 32 := 1#32
  let c1_i32_1209 : BitVec 32 := 1#32
  let arg31 : BitVec 32 := Scf.iv c1_i32_1208 c1_i32_1209 k0_t1
  let c1_i32_1949 : BitVec 32 := 1#32
  let v3418 : BitVec 32 := Scalar.subi arg31 c1_i32_1949
  let c4_i32_1950 : BitVec 32 := 4#32
  let v3419 : BitVec 32 := Scalar.remsi v3418 c4_i32_1950
  ![v3419.toNat]
def k0_off8 (k0_t1 : Fin k0_t1_loop.trips) : Fin 2 → Nat :=
  let c0_i32_1952 : BitVec 32 := 0#32
  let c1_i32_1208 : BitVec 32 := 1#32
  let c1_i32_1209 : BitVec 32 := 1#32
  let arg31 : BitVec 32 := Scf.iv c1_i32_1208 c1_i32_1209 k0_t1
  let c1_i32_1947 : BitVec 32 := 1#32
  let v3416 : BitVec 32 := Scalar.subi arg31 c1_i32_1947
  let c4_i32_1948 : BitVec 32 := 4#32
  let v3417 : BitVec 32 := Scalar.subi v3416 c4_i32_1948
  let c256_i32_1951 : BitVec 32 := 256#32
  let v3420 : BitVec 32 := Scalar.muli v3417 c256_i32_1951
  let v3421 : BitVec 32 := v3420
  ![0, v3421.toNat]
def k0_off9 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c1_i32_1949 : BitVec 32 := 1#32
  let v3418 : BitVec 32 := Scalar.subi arg31 c1_i32_1949
  let c4_i32_1950 : BitVec 32 := 4#32
  let v3419 : BitVec 32 := Scalar.remsi v3418 c4_i32_1950
  let c0_i32_1953 : BitVec 32 := 0#32
  let c0_i32_1954 : BitVec 32 := 0#32
  ![v3419.toNat, 0, 0]
def k0_mult18 (k0_t1 : Fin k0_t1_loop.trips) : BitVec 32 :=
  let c1_i32_1208 : BitVec 32 := 1#32
  let c1_i32_1209 : BitVec 32 := 1#32
  let arg31 : BitVec 32 := Scf.iv c1_i32_1208 c1_i32_1209 k0_t1
  let c256_i32_1349 : BitVec 32 := 256#32
  let v2502 : BitVec 32 := Scalar.muli arg31 c256_i32_1349
  v2502
def k0_off10 (k0_t1 : Fin k0_t1_loop.trips) : Fin 1 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  ![v2487.toNat]
def k0_off11 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let c0_i32_1350 : BitVec 32 := 0#32
  let c0_i32_1351 : BitVec 32 := 0#32
  ![v2487.toNat, 0, 0]
def k0_off12 (k0_t1 : Fin k0_t1_loop.trips) : Fin 2 → Nat :=
  let c0_i32_1352 : BitVec 32 := 0#32
  let c1_i32_1208 : BitVec 32 := 1#32
  let c1_i32_1209 : BitVec 32 := 1#32
  let arg31 : BitVec 32 := Scf.iv c1_i32_1208 c1_i32_1209 k0_t1
  let c256_i32_1349 : BitVec 32 := 256#32
  let v2502 : BitVec 32 := Scalar.muli arg31 c256_i32_1349
  let v2503 : BitVec 32 := v2502
  ![0, v2503.toNat]
def k0_mult19 (k0_t1 : Fin k0_t1_loop.trips) : BitVec 32 :=
  let c1_i32_1208 : BitVec 32 := 1#32
  let c1_i32_1209 : BitVec 32 := 1#32
  let arg31 : BitVec 32 := Scf.iv c1_i32_1208 c1_i32_1209 k0_t1
  let c2_i32_1354 : BitVec 32 := 2#32
  let v2510 : BitVec 32 := Scalar.muli arg31 c2_i32_1354
  let c0_i32_1356 : BitVec 32 := 0#32
  let v2512 : BitVec 1 := Scalar.cmpi .sgt v2510 c0_i32_1356
  let v2513 : BitVec 32 := Scalar.extui v2512
  let c0_i32_1357 : BitVec 32 := 0#32
  let v2514 : BitVec 1 := Scalar.cmpi .slt v2510 c0_i32_1357
  let v2515 : BitVec 32 := Scalar.extui v2514
  let v2516 : BitVec 32 := Scalar.subi v2513 v2515
  let c128_i32_1355 : BitVec 32 := 128#32
  let c0_i32_1358 : BitVec 32 := 0#32
  let v2517 : BitVec 1 := Scalar.cmpi .sgt c128_i32_1355 c0_i32_1358
  let v2518 : BitVec 32 := Scalar.extui v2517
  let c0_i32_1359 : BitVec 32 := 0#32
  let v2519 : BitVec 1 := Scalar.cmpi .slt c128_i32_1355 c0_i32_1359
  let v2520 : BitVec 32 := Scalar.extui v2519
  let v2521 : BitVec 32 := Scalar.subi v2518 v2520
  let v2522 : BitVec 1 := Scalar.cmpi .ne v2516 v2521
  let v2523 : BitVec 32 := Scalar.remsi v2510 c128_i32_1355
  let c0_i32_1360 : BitVec 32 := 0#32
  let v2524 : BitVec 1 := Scalar.cmpi .ne v2523 c0_i32_1360
  let v2525 : BitVec 1 := Scalar.andi v2522 v2524
  let v2511 : BitVec 32 := Scalar.divsi v2510 c128_i32_1355
  let c1_i32_1361 : BitVec 32 := 1#32
  let v2526 : BitVec 32 := Scalar.subi v2511 c1_i32_1361
  let v2527 : BitVec 32 := Scalar.select v2525 v2526 v2511
  let c128_i32_1362 : BitVec 32 := 128#32
  let v2528 : BitVec 32 := Scalar.muli v2527 c128_i32_1362
  v2528
def k0_off13 (k0_t1 : Fin k0_t1_loop.trips) : Fin 2 → Nat :=
  let c0_1363 : Index := 0#32
  let c1_i32_1208 : BitVec 32 := 1#32
  let c1_i32_1209 : BitVec 32 := 1#32
  let arg31 : BitVec 32 := Scf.iv c1_i32_1208 c1_i32_1209 k0_t1
  let c2_i32_1354 : BitVec 32 := 2#32
  let v2510 : BitVec 32 := Scalar.muli arg31 c2_i32_1354
  let c0_i32_1356 : BitVec 32 := 0#32
  let v2512 : BitVec 1 := Scalar.cmpi .sgt v2510 c0_i32_1356
  let v2513 : BitVec 32 := Scalar.extui v2512
  let c0_i32_1357 : BitVec 32 := 0#32
  let v2514 : BitVec 1 := Scalar.cmpi .slt v2510 c0_i32_1357
  let v2515 : BitVec 32 := Scalar.extui v2514
  let v2516 : BitVec 32 := Scalar.subi v2513 v2515
  let c128_i32_1355 : BitVec 32 := 128#32
  let c0_i32_1358 : BitVec 32 := 0#32
  let v2517 : BitVec 1 := Scalar.cmpi .sgt c128_i32_1355 c0_i32_1358
  let v2518 : BitVec 32 := Scalar.extui v2517
  let c0_i32_1359 : BitVec 32 := 0#32
  let v2519 : BitVec 1 := Scalar.cmpi .slt c128_i32_1355 c0_i32_1359
  let v2520 : BitVec 32 := Scalar.extui v2519
  let v2521 : BitVec 32 := Scalar.subi v2518 v2520
  let v2522 : BitVec 1 := Scalar.cmpi .ne v2516 v2521
  let v2523 : BitVec 32 := Scalar.remsi v2510 c128_i32_1355
  let c0_i32_1360 : BitVec 32 := 0#32
  let v2524 : BitVec 1 := Scalar.cmpi .ne v2523 c0_i32_1360
  let v2525 : BitVec 1 := Scalar.andi v2522 v2524
  let v2511 : BitVec 32 := Scalar.divsi v2510 c128_i32_1355
  let c1_i32_1361 : BitVec 32 := 1#32
  let v2526 : BitVec 32 := Scalar.subi v2511 c1_i32_1361
  let v2527 : BitVec 32 := Scalar.select v2525 v2526 v2511
  let c128_i32_1362 : BitVec 32 := 128#32
  let v2528 : BitVec 32 := Scalar.muli v2527 c128_i32_1362
  let v2529 : BitVec 32 := v2528
  let v2530 : Index := Scalar.indexCast v2529
  ![0, v2530.toNat]
def k0_off14 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2583 : Index := Scalar.indexCast v2487
  let c0_1390 : Index := 0#32
  let c0_1391 : Index := 0#32
  ![v2583.toNat, 0, 0]
def k0_off15 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2591 : Index := Scalar.indexCast v2487
  let c128_1397 : Index := 128#32
  let c0_1398 : Index := 0#32
  ![v2591.toNat, 128, 0]
def k0_off16 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2600 : Index := Scalar.indexCast v2487
  let c256_1404 : Index := 256#32
  let c0_1405 : Index := 0#32
  ![v2600.toNat, 256, 0]
def k0_off17 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2609 : Index := Scalar.indexCast v2487
  let c384_1411 : Index := 384#32
  let c0_1412 : Index := 0#32
  ![v2609.toNat, 384, 0]
def k0_off18 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2618 : Index := Scalar.indexCast v2487
  let c512_1418 : Index := 512#32
  let c0_1419 : Index := 0#32
  ![v2618.toNat, 512, 0]
def k0_off19 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2627 : Index := Scalar.indexCast v2487
  let c640_1425 : Index := 640#32
  let c0_1426 : Index := 0#32
  ![v2627.toNat, 640, 0]
def k0_off20 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2636 : Index := Scalar.indexCast v2487
  let c768_1432 : Index := 768#32
  let c0_1433 : Index := 0#32
  ![v2636.toNat, 768, 0]
def k0_off21 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2645 : Index := Scalar.indexCast v2487
  let c896_1439 : Index := 896#32
  let c0_1440 : Index := 0#32
  ![v2645.toNat, 896, 0]
def k0_off22 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2654 : Index := Scalar.indexCast v2487
  let c1024_1446 : Index := 1024#32
  let c0_1447 : Index := 0#32
  ![v2654.toNat, 1024, 0]
def k0_off23 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2663 : Index := Scalar.indexCast v2487
  let c1152_1453 : Index := 1152#32
  let c0_1454 : Index := 0#32
  ![v2663.toNat, 1152, 0]
def k0_off24 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2672 : Index := Scalar.indexCast v2487
  let c1280_1460 : Index := 1280#32
  let c0_1461 : Index := 0#32
  ![v2672.toNat, 1280, 0]
def k0_off25 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2681 : Index := Scalar.indexCast v2487
  let c1408_1467 : Index := 1408#32
  let c0_1468 : Index := 0#32
  ![v2681.toNat, 1408, 0]
def k0_off26 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2690 : Index := Scalar.indexCast v2487
  let c1536_1474 : Index := 1536#32
  let c0_1475 : Index := 0#32
  ![v2690.toNat, 1536, 0]
def k0_off27 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2699 : Index := Scalar.indexCast v2487
  let c1664_1481 : Index := 1664#32
  let c0_1482 : Index := 0#32
  ![v2699.toNat, 1664, 0]
def k0_off28 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2708 : Index := Scalar.indexCast v2487
  let c1792_1488 : Index := 1792#32
  let c0_1489 : Index := 0#32
  ![v2708.toNat, 1792, 0]
def k0_off29 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2717 : Index := Scalar.indexCast v2487
  let c1920_1495 : Index := 1920#32
  let c0_1496 : Index := 0#32
  ![v2717.toNat, 1920, 0]
def k0_off30 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2726 : Index := Scalar.indexCast v2487
  let c2048_1502 : Index := 2048#32
  let c0_1503 : Index := 0#32
  ![v2726.toNat, 2048, 0]
def k0_off31 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2735 : Index := Scalar.indexCast v2487
  let c2176_1509 : Index := 2176#32
  let c0_1510 : Index := 0#32
  ![v2735.toNat, 2176, 0]
def k0_off32 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2744 : Index := Scalar.indexCast v2487
  let c2304_1516 : Index := 2304#32
  let c0_1517 : Index := 0#32
  ![v2744.toNat, 2304, 0]
def k0_off33 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2753 : Index := Scalar.indexCast v2487
  let c2432_1523 : Index := 2432#32
  let c0_1524 : Index := 0#32
  ![v2753.toNat, 2432, 0]
def k0_off34 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2762 : Index := Scalar.indexCast v2487
  let c2560_1530 : Index := 2560#32
  let c0_1531 : Index := 0#32
  ![v2762.toNat, 2560, 0]
def k0_off35 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2771 : Index := Scalar.indexCast v2487
  let c2688_1537 : Index := 2688#32
  let c0_1538 : Index := 0#32
  ![v2771.toNat, 2688, 0]
def k0_off36 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2780 : Index := Scalar.indexCast v2487
  let c2816_1544 : Index := 2816#32
  let c0_1545 : Index := 0#32
  ![v2780.toNat, 2816, 0]
def k0_off37 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2789 : Index := Scalar.indexCast v2487
  let c2944_1551 : Index := 2944#32
  let c0_1552 : Index := 0#32
  ![v2789.toNat, 2944, 0]
def k0_off38 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2798 : Index := Scalar.indexCast v2487
  let c3072_1558 : Index := 3072#32
  let c0_1559 : Index := 0#32
  ![v2798.toNat, 3072, 0]
def k0_off39 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2807 : Index := Scalar.indexCast v2487
  let c3200_1565 : Index := 3200#32
  let c0_1566 : Index := 0#32
  ![v2807.toNat, 3200, 0]
def k0_off40 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2816 : Index := Scalar.indexCast v2487
  let c3328_1572 : Index := 3328#32
  let c0_1573 : Index := 0#32
  ![v2816.toNat, 3328, 0]
def k0_off41 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2825 : Index := Scalar.indexCast v2487
  let c3456_1579 : Index := 3456#32
  let c0_1580 : Index := 0#32
  ![v2825.toNat, 3456, 0]
def k0_off42 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2834 : Index := Scalar.indexCast v2487
  let c3584_1586 : Index := 3584#32
  let c0_1587 : Index := 0#32
  ![v2834.toNat, 3584, 0]
def k0_off43 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2843 : Index := Scalar.indexCast v2487
  let c3712_1593 : Index := 3712#32
  let c0_1594 : Index := 0#32
  ![v2843.toNat, 3712, 0]
def k0_off44 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2852 : Index := Scalar.indexCast v2487
  let c3840_1600 : Index := 3840#32
  let c0_1601 : Index := 0#32
  ![v2852.toNat, 3840, 0]
def k0_off45 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2861 : Index := Scalar.indexCast v2487
  let c3968_1607 : Index := 3968#32
  let c0_1608 : Index := 0#32
  ![v2861.toNat, 3968, 0]
def k0_off46 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2870 : Index := Scalar.indexCast v2487
  let c4096_1614 : Index := 4096#32
  let c0_1615 : Index := 0#32
  ![v2870.toNat, 4096, 0]
def k0_off47 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2879 : Index := Scalar.indexCast v2487
  let c4224_1621 : Index := 4224#32
  let c0_1622 : Index := 0#32
  ![v2879.toNat, 4224, 0]
def k0_off48 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2888 : Index := Scalar.indexCast v2487
  let c4352_1628 : Index := 4352#32
  let c0_1629 : Index := 0#32
  ![v2888.toNat, 4352, 0]
def k0_off49 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2897 : Index := Scalar.indexCast v2487
  let c4480_1635 : Index := 4480#32
  let c0_1636 : Index := 0#32
  ![v2897.toNat, 4480, 0]
def k0_off50 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2906 : Index := Scalar.indexCast v2487
  let c4608_1642 : Index := 4608#32
  let c0_1643 : Index := 0#32
  ![v2906.toNat, 4608, 0]
def k0_off51 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2915 : Index := Scalar.indexCast v2487
  let c4736_1649 : Index := 4736#32
  let c0_1650 : Index := 0#32
  ![v2915.toNat, 4736, 0]
def k0_off52 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2924 : Index := Scalar.indexCast v2487
  let c4864_1656 : Index := 4864#32
  let c0_1657 : Index := 0#32
  ![v2924.toNat, 4864, 0]
def k0_off53 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2933 : Index := Scalar.indexCast v2487
  let c4992_1663 : Index := 4992#32
  let c0_1664 : Index := 0#32
  ![v2933.toNat, 4992, 0]
def k0_off54 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2942 : Index := Scalar.indexCast v2487
  let c5120_1670 : Index := 5120#32
  let c0_1671 : Index := 0#32
  ![v2942.toNat, 5120, 0]
def k0_off55 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2951 : Index := Scalar.indexCast v2487
  let c5248_1677 : Index := 5248#32
  let c0_1678 : Index := 0#32
  ![v2951.toNat, 5248, 0]
def k0_off56 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2960 : Index := Scalar.indexCast v2487
  let c5376_1684 : Index := 5376#32
  let c0_1685 : Index := 0#32
  ![v2960.toNat, 5376, 0]
def k0_off57 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2969 : Index := Scalar.indexCast v2487
  let c5504_1691 : Index := 5504#32
  let c0_1692 : Index := 0#32
  ![v2969.toNat, 5504, 0]
def k0_off58 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2978 : Index := Scalar.indexCast v2487
  let c5632_1698 : Index := 5632#32
  let c0_1699 : Index := 0#32
  ![v2978.toNat, 5632, 0]
def k0_off59 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2987 : Index := Scalar.indexCast v2487
  let c5760_1705 : Index := 5760#32
  let c0_1706 : Index := 0#32
  ![v2987.toNat, 5760, 0]
def k0_off60 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v2996 : Index := Scalar.indexCast v2487
  let c5888_1712 : Index := 5888#32
  let c0_1713 : Index := 0#32
  ![v2996.toNat, 5888, 0]
def k0_off61 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v3005 : Index := Scalar.indexCast v2487
  let c6016_1719 : Index := 6016#32
  let c0_1720 : Index := 0#32
  ![v3005.toNat, 6016, 0]
def k0_off62 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v3014 : Index := Scalar.indexCast v2487
  let c6144_1726 : Index := 6144#32
  let c0_1727 : Index := 0#32
  ![v3014.toNat, 6144, 0]
def k0_off63 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v3023 : Index := Scalar.indexCast v2487
  let c6272_1733 : Index := 6272#32
  let c0_1734 : Index := 0#32
  ![v3023.toNat, 6272, 0]
def k0_off64 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v3032 : Index := Scalar.indexCast v2487
  let c6400_1740 : Index := 6400#32
  let c0_1741 : Index := 0#32
  ![v3032.toNat, 6400, 0]
def k0_off65 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v3041 : Index := Scalar.indexCast v2487
  let c6528_1747 : Index := 6528#32
  let c0_1748 : Index := 0#32
  ![v3041.toNat, 6528, 0]
def k0_off66 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v3050 : Index := Scalar.indexCast v2487
  let c6656_1754 : Index := 6656#32
  let c0_1755 : Index := 0#32
  ![v3050.toNat, 6656, 0]
def k0_off67 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v3059 : Index := Scalar.indexCast v2487
  let c6784_1761 : Index := 6784#32
  let c0_1762 : Index := 0#32
  ![v3059.toNat, 6784, 0]
def k0_off68 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v3068 : Index := Scalar.indexCast v2487
  let c6912_1768 : Index := 6912#32
  let c0_1769 : Index := 0#32
  ![v3068.toNat, 6912, 0]
def k0_off69 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v3077 : Index := Scalar.indexCast v2487
  let c7040_1775 : Index := 7040#32
  let c0_1776 : Index := 0#32
  ![v3077.toNat, 7040, 0]
def k0_off70 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v3086 : Index := Scalar.indexCast v2487
  let c7168_1782 : Index := 7168#32
  let c0_1783 : Index := 0#32
  ![v3086.toNat, 7168, 0]
def k0_off71 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v3095 : Index := Scalar.indexCast v2487
  let c7296_1789 : Index := 7296#32
  let c0_1790 : Index := 0#32
  ![v3095.toNat, 7296, 0]
def k0_off72 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v3104 : Index := Scalar.indexCast v2487
  let c7424_1796 : Index := 7424#32
  let c0_1797 : Index := 0#32
  ![v3104.toNat, 7424, 0]
def k0_off73 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v3113 : Index := Scalar.indexCast v2487
  let c7552_1803 : Index := 7552#32
  let c0_1804 : Index := 0#32
  ![v3113.toNat, 7552, 0]
def k0_off74 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v3122 : Index := Scalar.indexCast v2487
  let c7680_1810 : Index := 7680#32
  let c0_1811 : Index := 0#32
  ![v3122.toNat, 7680, 0]
def k0_off75 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v3131 : Index := Scalar.indexCast v2487
  let c7808_1817 : Index := 7808#32
  let c0_1818 : Index := 0#32
  ![v3131.toNat, 7808, 0]
def k0_off76 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v3140 : Index := Scalar.indexCast v2487
  let c7936_1824 : Index := 7936#32
  let c0_1825 : Index := 0#32
  ![v3140.toNat, 7936, 0]
def k0_off77 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c12_i32 : BitVec 32 := 12#32
  let v2487 : BitVec 32 := Scalar.remsi arg31 c12_i32
  let v3149 : Index := Scalar.indexCast v2487
  let c8064_1831 : Index := 8064#32
  let c0_1832 : Index := 0#32
  ![v3149.toNat, 8064, 0]
def k0_off78 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c2_i32_1353 : BitVec 32 := 2#32
  let v2509 : BitVec 32 := Scalar.remsi arg31 c2_i32_1353
  let v3157 : Index := Scalar.indexCast v2509
  let c0_1836 : Index := 0#32
  let c0_1837 : Index := 0#32
  ![v3157.toNat, 0, 0]
def k0_mult20 (k0_t1 : Fin k0_t1_loop.trips) : BitVec 32 :=
  let c1_i32_1208 : BitVec 32 := 1#32
  let c1_i32_1209 : BitVec 32 := 1#32
  let arg31 : BitVec 32 := Scf.iv c1_i32_1208 c1_i32_1209 k0_t1
  let c1_i32_1838 : BitVec 32 := 1#32
  let v3161 : BitVec 32 := Scalar.subi arg31 c1_i32_1838
  let c2_i32_1849 : BitVec 32 := 2#32
  let v3169 : BitVec 32 := Scalar.muli v3161 c2_i32_1849
  let c0_i32_1850 : BitVec 32 := 0#32
  let v3170 : BitVec 32 := Scalar.addi v3169 c0_i32_1850
  let c4_i32_1851 : BitVec 32 := 4#32
  let v3171 : BitVec 32 := Scalar.muli v3170 c4_i32_1851
  let c0_i32_1853 : BitVec 32 := 0#32
  let v3173 : BitVec 1 := Scalar.cmpi .sgt v3171 c0_i32_1853
  let v3174 : BitVec 32 := Scalar.extui v3173
  let c0_i32_1854 : BitVec 32 := 0#32
  let v3175 : BitVec 1 := Scalar.cmpi .slt v3171 c0_i32_1854
  let v3176 : BitVec 32 := Scalar.extui v3175
  let v3177 : BitVec 32 := Scalar.subi v3174 v3176
  let c128_i32_1852 : BitVec 32 := 128#32
  let c0_i32_1855 : BitVec 32 := 0#32
  let v3178 : BitVec 1 := Scalar.cmpi .sgt c128_i32_1852 c0_i32_1855
  let v3179 : BitVec 32 := Scalar.extui v3178
  let c0_i32_1856 : BitVec 32 := 0#32
  let v3180 : BitVec 1 := Scalar.cmpi .slt c128_i32_1852 c0_i32_1856
  let v3181 : BitVec 32 := Scalar.extui v3180
  let v3182 : BitVec 32 := Scalar.subi v3179 v3181
  let v3183 : BitVec 1 := Scalar.cmpi .ne v3177 v3182
  let v3184 : BitVec 32 := Scalar.remsi v3171 c128_i32_1852
  let c0_i32_1857 : BitVec 32 := 0#32
  let v3185 : BitVec 1 := Scalar.cmpi .ne v3184 c0_i32_1857
  let v3186 : BitVec 1 := Scalar.andi v3183 v3185
  let v3172 : BitVec 32 := Scalar.divsi v3171 c128_i32_1852
  let c1_i32_1858 : BitVec 32 := 1#32
  let v3187 : BitVec 32 := Scalar.subi v3172 c1_i32_1858
  let v3188 : BitVec 32 := Scalar.select v3186 v3187 v3172
  let c128_i32_1859 : BitVec 32 := 128#32
  let v3189 : BitVec 32 := Scalar.muli v3188 c128_i32_1859
  v3189
def k0_off79 (k0_t1 : Fin k0_t1_loop.trips) (c0_i32_1850 : BitVec 32) : Fin 2 → Nat :=
  let c0_1860 : Index := 0#32
  let c1_i32_1208 : BitVec 32 := 1#32
  let c1_i32_1209 : BitVec 32 := 1#32
  let arg31 : BitVec 32 := Scf.iv c1_i32_1208 c1_i32_1209 k0_t1
  let c1_i32_1838 : BitVec 32 := 1#32
  let v3161 : BitVec 32 := Scalar.subi arg31 c1_i32_1838
  let c2_i32_1849 : BitVec 32 := 2#32
  let v3169 : BitVec 32 := Scalar.muli v3161 c2_i32_1849
  let v3170 : BitVec 32 := Scalar.addi v3169 c0_i32_1850
  let c4_i32_1851 : BitVec 32 := 4#32
  let v3171 : BitVec 32 := Scalar.muli v3170 c4_i32_1851
  let c0_i32_1853 : BitVec 32 := 0#32
  let v3173 : BitVec 1 := Scalar.cmpi .sgt v3171 c0_i32_1853
  let v3174 : BitVec 32 := Scalar.extui v3173
  let c0_i32_1854 : BitVec 32 := 0#32
  let v3175 : BitVec 1 := Scalar.cmpi .slt v3171 c0_i32_1854
  let v3176 : BitVec 32 := Scalar.extui v3175
  let v3177 : BitVec 32 := Scalar.subi v3174 v3176
  let c128_i32_1852 : BitVec 32 := 128#32
  let c0_i32_1855 : BitVec 32 := 0#32
  let v3178 : BitVec 1 := Scalar.cmpi .sgt c128_i32_1852 c0_i32_1855
  let v3179 : BitVec 32 := Scalar.extui v3178
  let c0_i32_1856 : BitVec 32 := 0#32
  let v3180 : BitVec 1 := Scalar.cmpi .slt c128_i32_1852 c0_i32_1856
  let v3181 : BitVec 32 := Scalar.extui v3180
  let v3182 : BitVec 32 := Scalar.subi v3179 v3181
  let v3183 : BitVec 1 := Scalar.cmpi .ne v3177 v3182
  let v3184 : BitVec 32 := Scalar.remsi v3171 c128_i32_1852
  let c0_i32_1857 : BitVec 32 := 0#32
  let v3185 : BitVec 1 := Scalar.cmpi .ne v3184 c0_i32_1857
  let v3186 : BitVec 1 := Scalar.andi v3183 v3185
  let v3172 : BitVec 32 := Scalar.divsi v3171 c128_i32_1852
  let c1_i32_1858 : BitVec 32 := 1#32
  let v3187 : BitVec 32 := Scalar.subi v3172 c1_i32_1858
  let v3188 : BitVec 32 := Scalar.select v3186 v3187 v3172
  let c128_i32_1859 : BitVec 32 := 128#32
  let v3189 : BitVec 32 := Scalar.muli v3188 c128_i32_1859
  let v3190 : BitVec 32 := v3189
  let v3191 : Index := Scalar.indexCast v3190
  ![0, v3191.toNat]
def k0_off80 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c1_i32_1839 : BitVec 32 := 1#32
  let v3162 : BitVec 32 := Scalar.subi arg31 c1_i32_1839
  let c2_i32_1840 : BitVec 32 := 2#32
  let v3163 : BitVec 32 := Scalar.remsi v3162 c2_i32_1840
  let v3218 : Index := Scalar.indexCast v3163
  let c0_1871 : Index := 0#32
  let c0_1872 : Index := 0#32
  ![v3218.toNat, 0, 0]
def k0_off81 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c1_i32_1841 : BitVec 32 := 1#32
  let v3164 : BitVec 32 := Scalar.subi arg31 c1_i32_1841
  let c4_i32_1842 : BitVec 32 := 4#32
  let v3165 : BitVec 32 := Scalar.remsi v3164 c4_i32_1842
  let v3225 : Index := Scalar.indexCast v3165
  let c0_1876 : Index := 0#32
  let c0_1877 : Index := 0#32
  ![v3225.toNat, 0, 0]
def k0_mult21 (k0_t1 : Fin k0_t1_loop.trips) : BitVec 32 :=
  let c1_i32_1208 : BitVec 32 := 1#32
  let c1_i32_1209 : BitVec 32 := 1#32
  let arg31 : BitVec 32 := Scf.iv c1_i32_1208 c1_i32_1209 k0_t1
  let c1_i32_1838 : BitVec 32 := 1#32
  let v3161 : BitVec 32 := Scalar.subi arg31 c1_i32_1838
  let c2_i32_1894 : BitVec 32 := 2#32
  let v3283 : BitVec 32 := Scalar.muli v3161 c2_i32_1894
  let c1_i32_1895 : BitVec 32 := 1#32
  let v3284 : BitVec 32 := Scalar.addi v3283 c1_i32_1895
  let c4_i32_1896 : BitVec 32 := 4#32
  let v3285 : BitVec 32 := Scalar.muli v3284 c4_i32_1896
  let c0_i32_1898 : BitVec 32 := 0#32
  let v3287 : BitVec 1 := Scalar.cmpi .sgt v3285 c0_i32_1898
  let v3288 : BitVec 32 := Scalar.extui v3287
  let c0_i32_1899 : BitVec 32 := 0#32
  let v3289 : BitVec 1 := Scalar.cmpi .slt v3285 c0_i32_1899
  let v3290 : BitVec 32 := Scalar.extui v3289
  let v3291 : BitVec 32 := Scalar.subi v3288 v3290
  let c128_i32_1897 : BitVec 32 := 128#32
  let c0_i32_1900 : BitVec 32 := 0#32
  let v3292 : BitVec 1 := Scalar.cmpi .sgt c128_i32_1897 c0_i32_1900
  let v3293 : BitVec 32 := Scalar.extui v3292
  let c0_i32_1901 : BitVec 32 := 0#32
  let v3294 : BitVec 1 := Scalar.cmpi .slt c128_i32_1897 c0_i32_1901
  let v3295 : BitVec 32 := Scalar.extui v3294
  let v3296 : BitVec 32 := Scalar.subi v3293 v3295
  let v3297 : BitVec 1 := Scalar.cmpi .ne v3291 v3296
  let v3298 : BitVec 32 := Scalar.remsi v3285 c128_i32_1897
  let c0_i32_1902 : BitVec 32 := 0#32
  let v3299 : BitVec 1 := Scalar.cmpi .ne v3298 c0_i32_1902
  let v3300 : BitVec 1 := Scalar.andi v3297 v3299
  let v3286 : BitVec 32 := Scalar.divsi v3285 c128_i32_1897
  let c1_i32_1903 : BitVec 32 := 1#32
  let v3301 : BitVec 32 := Scalar.subi v3286 c1_i32_1903
  let v3302 : BitVec 32 := Scalar.select v3300 v3301 v3286
  let c128_i32_1904 : BitVec 32 := 128#32
  let v3303 : BitVec 32 := Scalar.muli v3302 c128_i32_1904
  v3303
def k0_off82 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c1_i32_1839 : BitVec 32 := 1#32
  let v3162 : BitVec 32 := Scalar.subi arg31 c1_i32_1839
  let c2_i32_1840 : BitVec 32 := 2#32
  let v3163 : BitVec 32 := Scalar.remsi v3162 c2_i32_1840
  let v3332 : Index := Scalar.indexCast v3163
  let c0_1916 : Index := 0#32
  let c128_1917 : Index := 128#32
  ![v3332.toNat, 0, 128]
def k0_off83 (k0_t1 : Fin k0_t1_loop.trips) : Fin 3 → Nat :=
  let c1_i32_1208 : BitVec 32 := 1#32
  let c1_i32_1209 : BitVec 32 := 1#32
  let arg31 : BitVec 32 := Scf.iv c1_i32_1208 c1_i32_1209 k0_t1
  let c1_i32_1841 : BitVec 32 := 1#32
  let v3164 : BitVec 32 := Scalar.subi arg31 c1_i32_1841
  let c4_i32_1842 : BitVec 32 := 4#32
  let v3165 : BitVec 32 := Scalar.remsi v3164 c4_i32_1842
  let v3339 : Index := Scalar.indexCast v3165
  let c0_1921 : Index := 0#32
  let c128_1922 : Index := 128#32
  ![v3339.toNat, 0, 128]
def k0_mult22 : BitVec 32 :=
  let c31488_i32 : BitVec 32 := 31488#32
  c31488_i32
def k0_mult23 : BitVec 32 :=
  let c30720_i32 : BitVec 32 := 30720#32
  c30720_i32
def k0_mult24 : BitVec 32 :=
  let c896_i32 : BitVec 32 := 896#32
  c896_i32
def k0_mult25 : BitVec 32 :=
  let c896_i32_1257 : BitVec 32 := 896#32
  c896_i32_1257
def k0_mult26 : BitVec 32 :=
  let c31744_i32 : BitVec 32 := 31744#32
  c31744_i32
def k0_mult27 : BitVec 32 :=
  let c30976_i32 : BitVec 32 := 30976#32
  c30976_i32
def k0_mult28 : BitVec 32 :=
  let c31232_i32 : BitVec 32 := 31232#32
  c31232_i32
def k0_mult29 : BitVec 32 :=
  let c31488_i32_1327 : BitVec 32 := 31488#32
  c31488_i32_1327
def k0_mult30 : BitVec 32 :=
  let c31744_i32_1333 : BitVec 32 := 31744#32
  c31744_i32_1333
abbrev stage0_0 : Fin 1 → Memref sig .tc .vmem S64x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x52 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S64x1x8192 : Shape := ⟨3, ![64, 1, 8192]⟩
abbrev S8192x32000 : Shape := ⟨2, ![8192, 32000]⟩
abbrev S64x250 : Shape := ⟨2, ![64, 250]⟩
abbrev S64x1000 : Shape := ⟨2, ![64, 1000]⟩
abbrev S64x1x52 : Shape := ⟨3, ![64, 1, 52]⟩
abbrev S64x8192 : Shape := ⟨2, ![64, 8192]⟩
abbrev S64x52 : Shape := ⟨2, ![64, 52]⟩
abbrev S64x32000 : Shape := ⟨2, ![64, 32000]⟩
abbrev S64x1 : Shape := ⟨2, ![64, 1]⟩
abbrev S64 : Shape := ⟨1, ![64]⟩
abbrev S64x253 : Shape := ⟨2, ![64, 253]⟩
abbrev S64x1x250x1 : Shape := ⟨4, ![64, 1, 250, 1]⟩
abbrev S64x128x250x128 : Shape := ⟨4, ![64, 128, 250, 128]⟩
abbrev S64x1000x1 : Shape := ⟨3, ![64, 1000, 1]⟩
abbrev S64x1000x32 : Shape := ⟨3, ![64, 1000, 32]⟩
abbrev S64x52x1 : Shape := ⟨3, ![64, 52, 1]⟩
abbrev S64x52x32000 : Shape := ⟨3, ![64, 52, 32000]⟩
abbrev S64x1x32000 : Shape := ⟨3, ![64, 1, 32000]⟩
abbrev S64x52x1000 : Shape := ⟨3, ![64, 52, 1000]⟩
abbrev S64x1x1000 : Shape := ⟨3, ![64, 1, 1000]⟩

abbrev nBuf : Space → Nat
  | .hbm => 12
  | .vmem => 10
  | .smem => 0
  | _ => 0

abbrev bufTy : (tb : Table) → Fin (tcTables nBuf tb) → BufTy
  | .hbm, ⟨0, _⟩ => ⟨S64x1x8192, .bf16⟩
  | .hbm, ⟨1, _⟩ => ⟨S8192x32000, .fp8e4m3⟩
  | .hbm, ⟨2, _⟩ => ⟨S64x250, .f32⟩
  | .hbm, ⟨3, _⟩ => ⟨S64x1000, .i32⟩
  | .hbm, ⟨4, _⟩ => ⟨S64x1x52, .i32⟩
  | .hbm, ⟨5, _⟩ => ⟨S64x8192, .bf16⟩
  | .hbm, ⟨6, _⟩ => ⟨S64x52, .i32⟩
  | .hbm, ⟨7, _⟩ => ⟨S64x32000, .f32⟩
  | .hbm, ⟨8, _⟩ => ⟨S64x1, .f32⟩
  | .hbm, ⟨9, _⟩ => ⟨S64x52, .f32⟩
  | .hbm, ⟨10, _⟩ => ⟨S64x8192, .fp8e4m3⟩
  | .hbm, ⟨11, _⟩ => ⟨S64x1, .f32⟩
  | .local _ .vmem, ⟨0, _⟩ => ⟨S64x8192, .bf16⟩
  | .local _ .vmem, ⟨1, _⟩ => ⟨S8192x32000, .fp8e4m3⟩
  | .local _ .vmem, ⟨2, _⟩ => ⟨S64x250, .f32⟩
  | .local _ .vmem, ⟨3, _⟩ => ⟨S64x1000, .i32⟩
  | .local _ .vmem, ⟨4, _⟩ => ⟨S64x52, .i32⟩
  | .local _ .vmem, ⟨5, _⟩ => ⟨S64x32000, .f32⟩
  | .local _ .vmem, ⟨6, _⟩ => ⟨S64x1, .f32⟩
  | .local _ .vmem, ⟨7, _⟩ => ⟨S64x52, .f32⟩
  | .local _ .vmem, ⟨8, _⟩ => ⟨S64x8192, .fp8e4m3⟩
  | .local _ .vmem, ⟨9, _⟩ => ⟨S64x1, .f32⟩
  | _, _ => ⟨S64x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S64x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x32000 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x250 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1000 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x52 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x32000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x52 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x8192 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Dma.lean ====
/-
  The names and the transfers of one trip of the chunk loop: the blocks of the weights and of the logits, the
  slots of the two rings and their semaphores, what is held before a trip, and the trip's first part, which
  starts and waits for the transfers.
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Ring
public import Idealize.ShloMosaic.Lib.Affine
public import Idealize.ShloMosaic.Lib.Tactic

@[expose] public section

set_option maxRecDepth 16384

noncomputable section

namespace Cert.Proof.Kern

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's own resources: the pipeline's, and the counters of the kernel's own transfers. -/
abbrev UU (nD : Nat) (τ : Topo) : Type := UR sig nD τ × Counters
local notation "𝕄" => MT nD τ sig Unit (Elt F) ℕ (UU nD τ) ℕ
abbrev 𝒱₀ : Variants := Variants.none

/-! ## Families over an interval of numbers -/

section Ico
variable {M : Type _} [URA M] (Φ : ℕ → sProp M)

theorem ico_empty {a b : ℕ} (h : b ≤ a) : bigSep (Finset.Ico a b) Φ = (BI.emp : sProp M) := by
  rw [Finset.Ico_eq_empty (by omega), bigSep_empty]
theorem ico_head {a b : ℕ} (h : a < b) : bigSep (Finset.Ico a b) Φ = iprop(Φ a ∗ bigSep (Finset.Ico (a + 1) b) Φ) := by
  rw [show Finset.Ico a b = insert a (Finset.Ico (a + 1) b) from by ext x; simp; omega, bigSep_insert (by simp)]; rfl
theorem ico_last {a b : ℕ} (h : a ≤ b) : bigSep (Finset.Ico a (b + 1)) Φ = iprop(Φ b ∗ bigSep (Finset.Ico a b) Φ) := by
  rw [show Finset.Ico a (b + 1) = insert b (Finset.Ico a b) from by ext x; simp; omega, bigSep_insert (by simp)]; rfl
end Ico

/-! ## The blocks, the slots and the semaphores by number -/

abbrev wM : Memref sig .tc .hbm S8192x32000 .fp8e4m3 := Memref.whole main_arg1
abbrev wbufM : Memref sig .tc .vmem S12x8192x256 .fp8e4m3 := Memref.whole cc0_scratch2
abbrev oM : Memref sig .tc .hbm S64x32000 .f32 := Memref.whole main_v2_0
abbrev obufM : Memref sig .tc .vmem S4x64x256 .f32 := Memref.whole cc0_scratch12
abbrev accM : Memref sig .tc .vmem S2x64x256 .f32 := Memref.whole cc0_scratch11

abbrev colOff (b : ℕ) : Fin 2 → Nat := ![0, 256 * (b % 125)]
abbrev wslotOff (b : ℕ) : Fin 3 → Nat := ![b % 12, 0, 0]
abbrev oslotOff (b : ℕ) : Fin 3 → Nat := ![b % 4, 0, 0]
abbrev aslotOff (b : ℕ) : Fin 3 → Nat := ![b % 2, 0, 0]
theorem wcol_inb (b : ℕ) : ∀ a, colOff b a + S8192x256.size a ≤ S8192x32000.size a := by
  have := Nat.mod_lt b (show 0 < 125 by decide); intro a; fin_cases a
  · show 0 + 8192 ≤ 8192; omega
  · show 256 * (b % 125) + 256 ≤ 32000; omega
theorem ocol_inb (b : ℕ) : ∀ a, colOff b a + S64x256.size a ≤ S64x32000.size a := by
  have := Nat.mod_lt b (show 0 < 125 by decide); intro a; fin_cases a
  · show 0 + 64 ≤ 64; omega
  · show 256 * (b % 125) + 256 ≤ 32000; omega
theorem wslot_inb (b : ℕ) : ∀ a, wslotOff b a + S1x8192x256.size a ≤ S12x8192x256.size a := by
  have := Nat.mod_lt b (show 0 < 12 by decide); intro a; fin_cases a
  · show b % 12 + 1 ≤ 12; omega
  · show 0 + 8192 ≤ 8192; omega
  · show 0 + 256 ≤ 256; omega
theorem oslot_inb (b : ℕ) : ∀ a, oslotOff b a + S1x64x256.size a ≤ S4x64x256.size a := by
  have := Nat.mod_lt b (show 0 < 4 by decide); intro a; fin_cases a
  · show b % 4 + 1 ≤ 4; omega
  · show 0 + 64 ≤ 64; omega
  · show 0 + 256 ≤ 256; omega
theorem aslot_inb (b : ℕ) : ∀ a, aslotOff b a + S1x64x256.size a ≤ S2x64x256.size a := by
  have := Nat.mod_lt b (show 0 < 2 by decide); intro a; fin_cases a
  · show b % 2 + 1 ≤ 2; omega
  · show 0 + 64 ≤ 64; omega
  · show 0 + 256 ≤ 256; omega
theorem wcell_inb (b : ℕ) : ∀ a, (![b % 12] : Fin 1 → Nat) a + S1.size a ≤ S12.size a := by
  have := Nat.mod_lt b (show 0 < 12 by decide); intro a; fin_cases a; show b % 12 + 1 ≤ 12; omega
theorem ocell_inb (b : ℕ) : ∀ a, (![b % 4] : Fin 1 → Nat) a + S1.size a ≤ S4.size a := by
  have := Nat.mod_lt b (show 0 < 4 by decide); intro a; fin_cases a; show b % 4 + 1 ≤ 4; omega

/-- Columns `256 b …` of the weights. -/
def wblk (b : ℕ) : Memref sig .tc .hbm S8192x256 .fp8e4m3 :=
  wM.slice (Rect.unit (s := S8192x32000) (colOff b) S8192x256.size (wcol_inb b)) (fun _ => rfl)
/-- Columns `256 b …` of the logits. -/
def oblk (b : ℕ) : Memref sig .tc .hbm S64x256 .f32 :=
  oM.slice (Rect.unit (s := S64x32000) (colOff b) S64x256.size (ocol_inb b)) (fun _ => rfl)
/-- The slot of the weights' ring that block `b` lands in. -/
def wslot (b : ℕ) : Memref sig .tc .vmem S8192x256 .fp8e4m3 :=
  (wbufM.slice (Rect.unit (s := S12x8192x256) (wslotOff b) S1x8192x256.size (wslot_inb b)) (fun _ => rfl)).squeeze S8192x256 squeezes_S1x8192x256_S8192x256
/-- The slot of the logits' ring that block `b` leaves from. -/
def oslot (b : ℕ) : Memref sig .tc .vmem S64x256 .f32 :=
  (obufM.slice (Rect.unit (s := S4x64x256) (oslotOff b) S1x64x256.size (oslot_inb b)) (fun _ => rfl)).squeeze S64x256 squeezes_S1x64x256_S64x256
def wcell (b : ℕ) : DmaSems sig S_ := (cc0_scratch17.slice (Rect.unit (s := S12) ![b % 12] S1.size (wcell_inb b))).squeeze S_ squeezes_S1_S_
def ocell (b : ℕ) : DmaSems sig S_ := (cc0_scratch18.slice (Rect.unit (s := S4) ![b % 4] S1.size (ocell_inb b))).squeeze S_ squeezes_S1_S_
/-- The half of the accumulator that chunk `b` uses. -/
def aslot (b : ℕ) : Memref sig .tc .vmem S1x64x256 .f32 :=
  accM.slice (Rect.unit (s := S2x64x256) (aslotOff b) S1x64x256.size (aslot_inb b)) (fun _ => rfl)

instance (b : ℕ) : ClosedOff (wslotOff b) := ⟨wslotOff b, rfl⟩
instance (b : ℕ) : ClosedOff (oslotOff b) := ⟨oslotOff b, rfl⟩
instance (b : ℕ) : ClosedOff (aslotOff b) := ⟨aslotOff b, rfl⟩
instance (b : ℕ) : ClosedOff (colOff b) := ⟨colOff b, rfl⟩

theorem wslot_congr {off : Fin 3 → Nat} {b : ℕ} (e : off = wslotOff b) (hh hs) :
    (wbufM.slice (Rect.unit (s := S12x8192x256) off S1x8192x256.size hh) hs).squeeze S8192x256 squeezes_S1x8192x256_S8192x256 = wslot b :=
  congrArg (fun M : Memref sig .tc .vmem S1x8192x256 .fp8e4m3 => M.squeeze S8192x256 squeezes_S1x8192x256_S8192x256) (Memref.slice_unit_congr _ e _ _ _ _)
theorem oslot_congr {off : Fin 3 → Nat} {b : ℕ} (e : off = oslotOff b) (hh hs) :
    (obufM.slice (Rect.unit (s := S4x64x256) off S1x64x256.size hh) hs).squeeze S64x256 squeezes_S1x64x256_S64x256 = oslot b :=
  congrArg (fun M : Memref sig .tc .vmem S1x64x256 .f32 => M.squeeze S64x256 squeezes_S1x64x256_S64x256) (Memref.slice_unit_congr _ e _ _ _ _)
theorem wblk_congr {off : Fin 2 → Nat} {b : ℕ} (e : off = colOff b) (hh hs) :
    wM.slice (Rect.unit (s := S8192x32000) off S8192x256.size hh) hs = wblk b := Memref.slice_unit_congr _ e _ _ _ (fun _ => rfl)
theorem oblk_congr {off : Fin 2 → Nat} {b : ℕ} (e : off = colOff b) (hh hs) :
    oM.slice (Rect.unit (s := S64x32000) off S64x256.size hh) hs = oblk b := Memref.slice_unit_congr _ e _ _ _ (fun _ => rfl)
theorem wcell_congr {off : Fin 1 → Nat} {b : ℕ} (e : off = ![b % 12]) (hh) :
    (cc0_scratch17.slice (Rect.unit (s := S12) off S1.size hh)).squeeze S_ squeezes_S1_S_ = wcell b :=
  congrArg (fun A : DmaSems sig S1 => A.squeeze S_ squeezes_S1_S_) (SemArray.slice_unit_congr _ e _ _)
theorem ocell_congr {off : Fin 1 → Nat} {b : ℕ} (e : off = ![b % 4]) (hh) :
    (cc0_scratch18.slice (Rect.unit (s := S4) off S1.size hh)).squeeze S_ squeezes_S1_S_ = ocell b :=
  congrArg (fun A : DmaSems sig S1 => A.squeeze S_ squeezes_S1_S_) (SemArray.slice_unit_congr _ e _ _)

theorem wslot_add (b : ℕ) : wslot (b + 12) = wslot b := (wslot_congr (by simp [wslotOff]) (wslot_inb (b + 12)) _)
theorem wcell_add (b : ℕ) : wcell (b + 12) = wcell b := (wcell_congr (by simp) (wcell_inb (b + 12)))
theorem oslot_sub {b : ℕ} (h : 4 ≤ b) : oslot (b - 4) = oslot b :=
  oslot_congr (by unfold oslotOff; congr 1; omega) (oslot_inb (b - 4)) _
theorem ocell_sub {b : ℕ} (h : 4 ≤ b) : ocell (b - 4) = ocell b :=
  ocell_congr (by congr 1; omega) (ocell_inb (b - 4))

/-! ### The loop's conditions and offsets -/

theorem trips_eq : k0_t1_loop.trips = 124 := by decide +kernel
theorem lt124 (k : Fin k0_t1_loop.trips) : k.val < 124 := Nat.lt_of_lt_of_eq k.isLt trips_eq
theorem cond1_iff : ∀ k : Fin k0_t1_loop.trips, k0_cond1 k = 1#1 ↔ k.val < 113 := by decide +kernel
theorem cond2_iff : ∀ k : Fin k0_t1_loop.trips, k0_cond2 k = 1#1 ↔ 1 ≤ k.val := by decide +kernel
theorem cond3_iff : ∀ k : Fin k0_t1_loop.trips, k0_cond3 k = 1#1 ↔ 4 ≤ k.val := by decide +kernel
theorem off3_eq : ∀ k : Fin k0_t1_loop.trips, k.val < 113 → k0_off3 k = colOff (k.val + 12) := by decide +kernel
theorem off4_eq : ∀ k : Fin k0_t1_loop.trips, 1 ≤ k.val → k0_off4 k = ![(k.val - 1) % 4] := by decide +kernel
theorem off5_eq : ∀ k : Fin k0_t1_loop.trips, 1 ≤ k.val → k0_off5 k = colOff (k.val - 1) := by decide +kernel
theorem off6_eq : ∀ k : Fin k0_t1_loop.trips, 1 ≤ k.val → k0_off6 k = oslotOff (k.val - 1) := by decide +kernel
theorem off7_eq : ∀ k : Fin k0_t1_loop.trips, 4 ≤ k.val → k0_off7 k = ![(k.val - 4) % 4] := by decide +kernel
theorem off8_eq : ∀ k : Fin k0_t1_loop.trips, 4 ≤ k.val → k0_off8 k = colOff (k.val - 4) := by decide +kernel
theorem off9_eq : ∀ k : Fin k0_t1_loop.trips, 4 ≤ k.val → k0_off9 k = oslotOff (k.val - 4) := by decide +kernel
theorem off12_eq : ∀ k : Fin k0_t1_loop.trips, k0_off12 k = colOff (k.val + 1) := by decide +kernel

section Canon
variable (k : Fin k0_t1_loop.trips)
@[sl_canon] theorem cW1 (hh) : (cc0_scratch17.slice (Rect.unit (s := S12) (k0_off1 k) S1.size hh)).squeeze S_ squeezes_S1_S_ = wcell k.val := wcell_congr (k0_off1_eq k) _
@[sl_canon] theorem cW2 (hh hs) : (wbufM.slice (Rect.unit (s := S12x8192x256) (k0_off2 k) S1x8192x256.size hh) hs).squeeze S8192x256 squeezes_S1x8192x256_S8192x256 = wslot k.val := wslot_congr (k0_off2_eq k) _ _
@[sl_canon] theorem cW3 (h : k.val < 113) (hh hs) : wM.slice (Rect.unit (s := S8192x32000) (k0_off3 k) S8192x256.size hh) hs = wblk (k.val + 12) := wblk_congr (off3_eq k h) _ _
@[sl_canon] theorem cO4 (h : 1 ≤ k.val) (hh) : (cc0_scratch18.slice (Rect.unit (s := S4) (k0_off4 k) S1.size hh)).squeeze S_ squeezes_S1_S_ = ocell (k.val - 1) := ocell_congr (off4_eq k h) _
@[sl_canon] theorem cO5 (h : 1 ≤ k.val) (hh hs) : oM.slice (Rect.unit (s := S64x32000) (k0_off5 k) S64x256.size hh) hs = oblk (k.val - 1) := oblk_congr (off5_eq k h) _ _
@[sl_canon] theorem cO6 (h : 1 ≤ k.val) (hh hs) : (obufM.slice (Rect.unit (s := S4x64x256) (k0_off6 k) S1x64x256.size hh) hs).squeeze S64x256 squeezes_S1x64x256_S64x256 = oslot (k.val - 1) := oslot_congr (off6_eq k h) _ _
@[sl_canon] theorem cO7 (h : 4 ≤ k.val) (hh) : (cc0_scratch18.slice (Rect.unit (s := S4) (k0_off7 k) S1.size hh)).squeeze S_ squeezes_S1_S_ = ocell (k.val - 4) := ocell_congr (off7_eq k h) _
@[sl_canon] theorem cO8 (h : 4 ≤ k.val) (hh hs) : oM.slice (Rect.unit (s := S64x32000) (k0_off8 k) S64x256.size hh) hs = oblk (k.val - 4) := oblk_congr (off8_eq k h) _ _
@[sl_canon] theorem cO9 (h : 4 ≤ k.val) (hh hs) : (obufM.slice (Rect.unit (s := S4x64x256) (k0_off9 k) S1x64x256.size hh) hs).squeeze S64x256 squeezes_S1x64x256_S64x256 = oslot (k.val - 4) := oslot_congr (off9_eq k h) _ _
@[sl_canon] theorem cW10 (hh) : (cc0_scratch17.slice (Rect.unit (s := S12) (k0_off10 k) S1.size hh)).squeeze S_ squeezes_S1_S_ = wcell (k.val + 1) := wcell_congr (k0_off10_eq k) _
@[sl_canon] theorem cW11 (hh hs) : (wbufM.slice (Rect.unit (s := S12x8192x256) (k0_off11 k) S1x8192x256.size hh) hs).squeeze S8192x256 squeezes_S1x8192x256_S8192x256 = wslot (k.val + 1) := wslot_congr (k0_off11_eq k) _ _
@[sl_canon] theorem cW12 (hh hs) : wM.slice (Rect.unit (s := S8192x32000) (k0_off12 k) S8192x256.size hh) hs = wblk (k.val + 1) := wblk_congr (off12_eq k) _ _
end Canon

/-! ## What is held -/

section Pieces
variable (c : Dev nD) (XA : Buf (Elt F) (wM.view.loc (c : Thread nD τ))) (OV : ℕ → S64x256.Idx → Elt F .f32)

abbrev cellP (s : DmaSems sig S_) : sProp 𝕄 := semVal ((c : Thread nD τ), SemLoc.dma s.sem) 0
abbrev wslotP (S : Memref sig .tc .vmem S8192x256 .fp8e4m3) (f : Buf (Elt F) (S.view.loc (c : Thread nD τ))) : sProp 𝕄 :=
  S.view.loc (c : Thread nD τ) ↦[S.view.set]{fullShare} f
abbrev oslotP (S : Memref sig .tc .vmem S64x256 .f32) (g : Buf (Elt F) (S.view.loc (c : Thread nD τ))) : sProp 𝕄 :=
  S.view.loc (c : Thread nD τ) ↦[S.view.set]{fullShare} g
abbrev oblkP (b : ℕ) (f : Buf (Elt F) ((oblk b).view.loc (c : Thread nD τ))) : sProp 𝕄 :=
  (oblk b).view.loc (c : Thread nD τ) ↦[(oblk b).view.set]{fullShare} f
abbrev wHome (b : ℕ) : sProp 𝕄 := (wblk b).view.loc (c : Thread nD τ) ↦[(wblk b).view.set]{fullShare} XA

/-- What block `b`'s transfer leaves in a slot. -/
abbrev wLanded (S : Memref sig .tc .vmem S8192x256 .fp8e4m3) (b : ℕ) (f : Buf (Elt F) (S.view.loc (c : Thread nD τ))) : Buf (Elt F) (S.view.loc (c : Thread nD τ)) :=
  S.view.writes (Elt F) f [⟨Rect.whole S8192x256, ReadAs.same.apply ((wblk b).view.read (Elt F) XA)⟩]
/-- What a slot's transfer leaves in block `b` of the logits. -/
abbrev oLanded (S : Memref sig .tc .vmem S64x256 .f32) (b : ℕ) (f : Buf (Elt F) ((oblk b).view.loc (c : Thread nD τ)))
    (g : Buf (Elt F) (S.view.loc (c : Thread nD τ))) : Buf (Elt F) ((oblk b).view.loc (c : Thread nD τ)) :=
  (oblk b).view.writes (Elt F) f [⟨Rect.whole S64x256, ReadAs.same.apply (S.view.read (Elt F) g)⟩]

def wFlyAt (S : Memref sig .tc .vmem S8192x256 .fp8e4m3) (s : DmaSems sig S_) (b : ℕ) : sProp 𝕄 :=
  iprop(∃ f, Transfers.Flight countersEmb (c : Thread nD τ) (SemLoc.dma s.sem) () 65536 iprop(wslotP c S (wLanded c XA S b f) ∗ wHome c XA b))
def oFlyAt (S : Memref sig .tc .vmem S64x256 .f32) (s : DmaSems sig S_) (b : ℕ) : sProp 𝕄 :=
  iprop(∃ f, ∃ g, ⌜S.view.read (Elt F) g = OV b⌝ ∗ Transfers.Flight countersEmb (c : Thread nD τ) (SemLoc.dma s.sem) () 2048 iprop(oblkP c b (oLanded c S b f g) ∗ oslotP c S g))
def wFreeAt (S : Memref sig .tc .vmem S8192x256 .fp8e4m3) (s : DmaSems sig S_) : sProp 𝕄 := iprop((∃ f, wslotP c S f) ∗ cellP c s)
def oFreeAt (S : Memref sig .tc .vmem S64x256 .f32) (s : DmaSems sig S_) : sProp 𝕄 := iprop((∃ g, oslotP c S g) ∗ cellP c s)

/-- Block `b` of the weights under way to its slot; -/
def wFly (b : ℕ) : sProp 𝕄 := wFlyAt c XA (wslot b) (wcell b) b
/-- its slot free; -/
def wFree (b : ℕ) : sProp 𝕄 := wFreeAt c (wslot b) (wcell b)
/-- block `b` of the logits not yet written; -/
def oHome (b : ℕ) : sProp 𝕄 := iprop(∃ f, oblkP c b f)
/-- under way from its slot; -/
def oFly (b : ℕ) : sProp 𝕄 := oFlyAt c OV (oslot b) (ocell b) b
/-- arrived; -/
def oDone (b : ℕ) : sProp 𝕄 := iprop(∃ f, ⌜(oblk b).view.read (Elt F) f = OV b⌝ ∗ oblkP c b f)
/-- computed and not yet sent; -/
def oReady (b : ℕ) : sProp 𝕄 := iprop((∃ g, ⌜(oslot b).view.read (Elt F) g = OV b⌝ ∗ oslotP c (oslot b) g) ∗ cellP c (ocell b))
/-- its slot free. -/
def oFree (b : ℕ) : sProp 𝕄 := oFreeAt c (oslot b) (ocell b)

/-- The weights' ring before trip `k`; -/
def wAt (k : ℕ) : sProp 𝕄 :=
  iprop(bigSep (Finset.Ico 0 (k + 1)) (wHome c XA) ∗ bigSep (Finset.Ico (k + 1) (min (k + 12) 125)) (wFly c XA)
    ∗ bigSep (Finset.Ico (k + 12) 125) (wHome c XA) ∗ bigSep (Finset.Ico (min k 113) (k + 1)) (wFree c))
/-- in trip `k` while it computes, block `k + 1` in its slot. -/
def wMid (k : ℕ) : sProp 𝕄 :=
  iprop(bigSep (Finset.Ico 0 (k + 2)) (wHome c XA) ∗ bigSep (Finset.Ico (k + 2) (min (k + 13) 125)) (wFly c XA)
    ∗ bigSep (Finset.Ico (k + 13) 125) (wHome c XA) ∗ bigSep (Finset.Ico (min (k + 1) 113) (k + 1)) (wFree c))
/-- The logits' ring before trip `k`; -/
def oAt (k : ℕ) : sProp 𝕄 :=
  iprop(bigSep (Finset.Ico (k - 1) 125) (oHome c) ∗ bigSep (Finset.Ico (k - 4) (k - 1)) (oFly c OV)
    ∗ bigSep (Finset.Ico 0 (k - 4)) (oDone c OV) ∗ bigSep (Finset.Ico (k - 1) k) (oReady c OV) ∗ bigSep (Finset.Ico k 4) (oFree c))
/-- in trip `k` while it computes, block `k`'s slot in hand. -/
def oMid (k : ℕ) : sProp 𝕄 :=
  iprop(bigSep (Finset.Ico k 125) (oHome c) ∗ bigSep (Finset.Ico (k - 3) k) (oFly c OV)
    ∗ bigSep (Finset.Ico 0 (k - 3)) (oDone c OV) ∗ bigSep (Finset.Ico (k + 1) 4) (oFree c))

/-- A trip's end gives the weights' slot back, -/
theorem wAt_succ (k : ℕ) : iprop(wMid c XA k ∗ wFree c (k + 1)) ⊢ wAt c XA (k + 1) := by
  unfold wMid wAt
  rw [ico_last (wFree c) (show min (k + 1) 113 ≤ k + 1 by omega)]
  iintro ⟨⟨H1, H2, H3, H4⟩, H5⟩
  iframe H1 H2 H3 H5 H4
/-- and leaves the logits' slot to be sent. -/
theorem oAt_succ (k : ℕ) : iprop(oMid c OV k ∗ oReady c OV k) ⊢ oAt c OV (k + 1) := by
  unfold oMid oAt
  rw [show k + 1 - 1 = k by omega, show k + 1 - 4 = k - 3 by omega, ico_last (oReady c OV) (le_refl k), ico_empty (oReady c OV) (le_refl k)]
  iintro ⟨⟨H1, H2, H3, H4⟩, H5⟩
  iframe H1 H2 H3 H5 H4
  iempintro

/-- The blocks of the weights trip `k < 113` does not touch; -/
def wRest (k : ℕ) : sProp 𝕄 :=
  iprop(bigSep (Finset.Ico 0 (k + 1)) (wHome c XA) ∗ bigSep (Finset.Ico (k + 2) (k + 12)) (wFly c XA) ∗ bigSep (Finset.Ico (k + 13) 125) (wHome c XA))
theorem wAt_lo (k : ℕ) (h : k < 113) : wAt c XA k ⊢ iprop(wFly c XA (k + 1) ∗ wHome c XA (k + 12) ∗ wFree c k ∗ wRest c XA k) := by
  unfold wAt wRest
  rw [show min (k + 12) 125 = k + 12 by omega, show min k 113 = k by omega, ico_head (wFly c XA) (show k + 1 < k + 12 by omega),
    ico_head (wHome c XA) (show k + 12 < 125 by omega), ico_last (wFree c) (le_refl k)]
  iintro ⟨H1, ⟨H2, H3⟩, ⟨H4, H5⟩, H6, -⟩
  iframe H2 H4 H6 H1 H3 H5
theorem wMid_lo (k : ℕ) (h : k < 113) : iprop(wHome c XA (k + 1) ∗ wFlyAt c XA (wslot k) (wcell k) (k + 12) ∗ wRest c XA k) ⊢ wMid c XA k := by
  rw [show wFlyAt c XA (wslot k) (wcell k) (k + 12) = wFly c XA (k + 12) by unfold wFly; rw [wslot_add, wcell_add]]
  unfold wMid wRest
  rw [show min (k + 13) 125 = k + 12 + 1 by omega, show min (k + 1) 113 = k + 1 by omega, ico_empty (wFree c) (le_refl (k + 1)),
    ico_last (wFly c XA) (show k + 2 ≤ k + 12 by omega), ico_last (wHome c XA) (show 0 ≤ k + 1 by omega)]
  iintro ⟨H1, H2, H3, H4, H5⟩
  iframe H1 H2 H3 H4 H5
  iempintro
/-- nor trip `k ≥ 113`. -/
def wRest' (k : ℕ) : sProp 𝕄 :=
  iprop(bigSep (Finset.Ico 0 (k + 1)) (wHome c XA) ∗ bigSep (Finset.Ico (k + 2) 125) (wFly c XA) ∗ bigSep (Finset.Ico 113 (k + 1)) (wFree c))
theorem wAt_hi (k : ℕ) (h : 113 ≤ k) (h' : k < 124) : wAt c XA k ⊢ iprop(wFly c XA (k + 1) ∗ wRest' c XA k) := by
  unfold wAt wRest'
  rw [show min (k + 12) 125 = 125 by omega, show min k 113 = 113 by omega, ico_head (wFly c XA) (show k + 1 < 125 by omega)]
  iintro ⟨H1, ⟨H2, H3⟩, -, H4⟩
  iframe H2 H1 H3 H4
theorem wMid_hi (k : ℕ) (h : 113 ≤ k) : iprop(wHome c XA (k + 1) ∗ wRest' c XA k) ⊢ wMid c XA k := by
  unfold wMid wRest'
  rw [show min (k + 13) 125 = 125 by omega, show min (k + 1) 113 = 113 by omega, ico_empty (wHome c XA) (show 125 ≤ k + 13 by omega),
    ico_last (wHome c XA) (show 0 ≤ k + 1 by omega)]
  iintro ⟨H1, H2, H3, H4⟩
  iframe H1 H2 H3 H4
  iempintro

theorem oAt_zero : oAt c OV 0 ⊢ iprop(oFree c 0 ∗ oMid c OV 0) := by
  unfold oAt oMid
  rw [ico_head (oFree c) (show 0 < 4 by omega)]
  iintro ⟨H1, H2, H3, -, H4, H5⟩
  iframe H4 H1 H2 H3 H5
theorem oAt_zero' (k : ℕ) (h : k = 0) : oAt c OV k ⊢ iprop(oFree c k ∗ oMid c OV k) := by subst h; exact oAt_zero c OV
/-- The blocks of the logits trip `k ≥ 1` does not touch. -/
def oRest (k : ℕ) : sProp 𝕄 :=
  iprop(bigSep (Finset.Ico k 125) (oHome c) ∗ bigSep (Finset.Ico (k - 3) (k - 1)) (oFly c OV) ∗ bigSep (Finset.Ico 0 (k - 4)) (oDone c OV) ∗ bigSep (Finset.Ico (k + 1) 4) (oFree c))
theorem oAt_lo (k : ℕ) (h : 1 ≤ k) (h' : k < 4) : oAt c OV k ⊢ iprop(oHome c (k - 1) ∗ oReady c OV (k - 1) ∗ oFree c k ∗ oRest c OV k) := by
  unfold oAt oRest
  rw [ico_head (oHome c) (show k - 1 < 125 by omega), ico_head (oReady c OV) (show k - 1 < k by omega), ico_head (oFree c) h',
    show k - 1 + 1 = k by omega, show k - 3 = k - 4 by omega]
  iintro ⟨⟨H1, H2⟩, H3, H4, ⟨H5, -⟩, H6, H7⟩
  iframe H1 H5 H6 H2 H3 H4 H7
theorem oMid_lo (k : ℕ) (h : 1 ≤ k) (h' : k < 4) : iprop(oFly c OV (k - 1) ∗ oRest c OV k) ⊢ oMid c OV k := by
  unfold oMid oRest
  obtain ⟨j, rfl⟩ : ∃ j, k = j + 1 := ⟨k - 1, by omega⟩
  rw [show j + 1 - 1 = j by omega, ico_last (oFly c OV) (show j + 1 - 3 ≤ j by omega), show j + 1 - 3 = j + 1 - 4 by omega]
  iintro ⟨H1, H2, H3, H4, H5⟩
  iframe H2 H1 H3 H4 H5
theorem oAt_hi (k : ℕ) (h : 4 ≤ k) (h' : k < 124) : oAt c OV k ⊢ iprop(oHome c (k - 1) ∗ oReady c OV (k - 1) ∗ oFly c OV (k - 4) ∗ oRest c OV k) := by
  unfold oAt oRest
  rw [ico_head (oHome c) (show k - 1 < 125 by omega), ico_head (oReady c OV) (show k - 1 < k by omega), ico_head (oFly c OV) (show k - 4 < k - 1 by omega),
    ico_empty (oFree c) h, ico_empty (oFree c) (show 4 ≤ k + 1 by omega),
    show k - 1 + 1 = k by omega, show k - 4 + 1 = k - 3 by omega]
  iintro ⟨⟨H1, H2⟩, ⟨H3, H3'⟩, H4, ⟨H5, -⟩, H6⟩
  iframe H1 H5 H3 H2 H3' H4 H6
theorem oMid_hi (k : ℕ) (h : 4 ≤ k) (h' : k < 124) : iprop(oFly c OV (k - 1) ∗ oDone c OV (k - 4) ∗ oRest c OV k) ⊢ oMid c OV k := by
  unfold oMid oRest
  obtain ⟨j, rfl⟩ : ∃ j, k = j + 4 := ⟨k - 4, by omega⟩
  rw [show j + 4 - 1 = j + 3 by omega, show j + 4 - 4 = j by omega, show j + 4 - 3 = j + 1 by omega, ico_last (oFly c OV) (show j + 1 ≤ j + 3 by omega), ico_last (oDone c OV) (show 0 ≤ j by omega)]
  iintro ⟨H1, H2, H3, H4, H5, H6⟩
  iframe H3 H1 H4 H2 H5 H6

section Part
variable (arg6 : Memref sig .tc .vmem S64x1 .f32) (harg6 : arg6.IsWhole) (arg7 : Memref sig .tc .vmem S64x52 .f32) (harg7 : arg7.IsWhole)
  (arg9 : Memref sig .tc .vmem S64x1 .f32) (harg9 : arg9.IsWhole)

theorem oFree_sub (k : ℕ) (h : 4 ≤ k) : oFreeAt (F := F) c (oslot (k - 4)) (ocell (k - 4)) ⊢ oFreeAt (F := F) c (oslot k) (ocell k) := by
  rw [oslot_sub h, ocell_sub h]
theorem oDone_of (b : ℕ) (f g) (h : (oslot b).view.read (Elt F) g = OV b) : oblkP c b (oLanded c (oslot b) b f g) ⊢ oDone c OV b := by
  unfold oDone; iintro H; iexists _; isplitr; swap; iexact H; ipureintro; rw [← h]
  exact View.read_writes_whole _ _ _

/-- What the first part of trip `k` works out. -/
abbrev ret1 (k : Fin k0_t1_loop.trips) : Σ' (arg31 : BitVec 32) (v2487 : BitVec 32) (v2509 : BitVec 32) (v2510 : BitVec 32) (c128_i32_1355 : BitVec 32) (v2511 : BitVec 32) (v2516 : BitVec 32) (v2518 : BitVec 32), BitVec 32 := ⟨Scf.iv 1#32 1#32 k, Scalar.remsi (Scf.iv 1#32 1#32 k) 12#32, Scalar.remsi (Scf.iv 1#32 1#32 k) 2#32, Scalar.muli (Scf.iv 1#32 1#32 k) 2#32, 128#32, Scalar.divsi (Scalar.muli (Scf.iv 1#32 1#32 k) 2#32) 128#32, 1#32, 1#32, 0#32⟩

/-- The first part of trip `k`: its transfers. -/
theorem part1_run (k : Fin k0_t1_loop.trips) :
    iprop(wAt c XA k.val ∗ oAt c OV k.val ∗ (∃ W, owes (c : Thread nD τ) 0 W)) ⊢ wp frame (wpE (defs₀ (F := F)) 𝒱₀ (c : Thread nD τ) none) Set.univ
      (k0_part1 (F := F) (Memref.whole main_v0) (Memref.isWhole_whole _) (Memref.whole main_arg1) (Memref.isWhole_whole _) (Memref.whole main_arg2) (Memref.isWhole_whole _) (Memref.whole main_arg3) (Memref.isWhole_whole _) (Memref.whole main_v1) (Memref.isWhole_whole _) (Memref.whole main_v2_0) (Memref.isWhole_whole _) arg6 harg6 arg7 harg7 (Memref.whole main_v2_3) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 1#32 1#32 k)
      (fun r => iprop(⌜r = ret1 k⌝ ∗ (∃ f, wslotP c (wslot (k.val + 1)) (wLanded c XA (wslot (k.val + 1)) (k.val + 1) f)) ∗ cellP c (wcell (k.val + 1))
        ∗ (∃ g, oslotP c (oslot k.val) g) ∗ cellP c (ocell k.val) ∗ wMid c XA k.val ∗ oMid c OV k.val ∗ (∃ W, owes (c : Thread nD τ) 0 W))) := by
  have hk := lt124 k
  have b1 := cond1_iff k; have b2 := cond2_iff k; have b3 := cond3_iff k
  rcases Nat.lt_or_ge k.val 113 with h1 | h1
  · rcases Nat.lt_or_ge k.val 4 with h3 | h3
    · rcases Nat.lt_or_ge k.val 1 with h2 | h2
      · skip
        have C1 : k0_cond1 k = 1#1 := b1.2 h1
        have C2 : ¬ k0_cond2 k = 1#1 := fun h => by have := b2.1 h; omega
        have C3 : ¬ k0_cond3 k = 1#1 := fun h => by have := b3.1 h; omega
        clear b1 b2 b3
        iintro ⟨HW, HO, ⟨%W, Howes⟩⟩
        ihave HW' := (wAt_lo c XA k.val h1) $$ HW
        have h0 : k.val = 0 := by omega
        ihave HO' := (oAt_zero' c OV k.val h0) $$ HO
        unfold wFly wFlyAt wFree wFreeAt oFree oFreeAt
        icases HW' with ⟨⟨%fw, HWf⟩, HWh, ⟨⟨%fs, HWs⟩, HWc⟩, HWr⟩
        icases HO' with ⟨⟨HOF1, HOF2⟩, HOr⟩
        sl_exec
        sl_step
        isplitr; · ipureintro; rfl
        isplitl [HWf_dst]; · iexists _; iexact HWf_dst
        isplitl [HWf]; · iexact HWf
        isplitl [HOF1]; · iexact HOF1
        isplitl [HOF2]; · iexact HOF2
        isplitl [HWf_src HWc HWr]
        · iapply (wMid_lo c XA k.val h1)
          isplitl [HWf_src]; · iexact HWf_src
          isplitl [HWc]; · unfold wFlyAt; iexists _; iexact HWc
          iexact HWr
        isplitl [HOr]; · iexact HOr
        iexists _; iexact Howes
      · skip
        have C1 : k0_cond1 k = 1#1 := b1.2 h1
        have C2 : k0_cond2 k = 1#1 := b2.2 h2
        have C3 : ¬ k0_cond3 k = 1#1 := fun h => by have := b3.1 h; omega
        clear b1 b2 b3
        iintro ⟨HW, HO, ⟨%W, Howes⟩⟩
        ihave HW' := (wAt_lo c XA k.val h1) $$ HW
        ihave HO' := (oAt_lo c OV k.val h2 h3) $$ HO
        unfold wFly wFlyAt wFree wFreeAt oHome oReady oFree oFreeAt
        icases HW' with ⟨⟨%fw, HWf⟩, HWh, ⟨⟨%fs, HWs⟩, HWc⟩, HWr⟩
        icases HO' with ⟨⟨%fo, HOh⟩, ⟨⟨%go, %hgo, HOs⟩, HOc⟩, ⟨HOF1, HOF2⟩, HOr⟩
        sl_exec
        sl_step
        isplitr; · ipureintro; rfl
        isplitl [HWf_dst]; · iexists _; iexact HWf_dst
        isplitl [HWf]; · iexact HWf
        isplitl [HOF1]; · iexact HOF1
        isplitl [HOF2]; · iexact HOF2
        isplitl [HWf_src HWc HWr]
        · iapply (wMid_lo c XA k.val h1)
          isplitl [HWf_src]; · iexact HWf_src
          isplitl [HWc]; · unfold wFlyAt; iexists _; iexact HWc
          iexact HWr
        isplitl [HOc HOr]
        · iapply (oMid_lo c OV k.val h2 h3)
          isplitl [HOc]
          · unfold oFly oFlyAt; iexists _, _; isplitr; swap; iexact HOc; ipureintro; exact hgo
          iexact HOr
        iexists _; iexact Howes
    · have h2 : 1 ≤ k.val := by omega
      have C1 : k0_cond1 k = 1#1 := b1.2 h1
      have C2 : k0_cond2 k = 1#1 := b2.2 h2
      have C3 : k0_cond3 k = 1#1 := b3.2 h3
      clear b1 b2 b3
      iintro ⟨HW, HO, ⟨%W, Howes⟩⟩
      ihave HW' := (wAt_lo c XA k.val h1) $$ HW
      ihave HO' := (oAt_hi c OV k.val h3 hk) $$ HO
      unfold wFly wFlyAt wFree wFreeAt oHome oReady oFly oFlyAt
      icases HW' with ⟨⟨%fw, HWf⟩, HWh, ⟨⟨%fs, HWs⟩, HWc⟩, HWr⟩
      icases HO' with ⟨⟨%fo, HOh⟩, ⟨⟨%go, %hgo, HOs⟩, HOc⟩, ⟨%ff, %gf, %hgf, HOf⟩, HOr⟩
      sl_exec
      sl_step
      isplitr; · ipureintro; rfl
      isplitl [HWf_dst]; · iexists _; iexact HWf_dst
      isplitl [HWf]; · iexact HWf
      ihave HOF := (oFree_sub (F := F) c k.val h3) $$ [HOf_src HOf]
      · unfold oFreeAt; isplitl [HOf_src]; · iexists _; iexact HOf_src
        iexact HOf
      unfold oFreeAt
      icases HOF with ⟨HOF1, HOF2⟩
      isplitl [HOF1]; · iexact HOF1
      isplitl [HOF2]; · iexact HOF2
      isplitl [HWf_src HWc HWr]
      · iapply (wMid_lo c XA k.val h1)
        isplitl [HWf_src]; · iexact HWf_src
        isplitl [HWc]; · unfold wFlyAt; iexists _; iexact HWc
        iexact HWr
      isplitl [HOc HOf_dst HOr]
      · iapply (oMid_hi c OV k.val h3 hk)
        isplitl [HOc]
        · unfold oFly oFlyAt; iexists _, _; isplitr; swap; iexact HOc; ipureintro; exact hgo
        isplitl [HOf_dst]; · iapply (oDone_of c OV (k.val - 4) ff gf hgf); iexact HOf_dst
        iexact HOr
      iexists _; iexact Howes
  · have h2 : 1 ≤ k.val := by omega
    have h3 : 4 ≤ k.val := by omega
    have C1 : ¬ k0_cond1 k = 1#1 := fun h => by have := b1.1 h; omega
    have C2 : k0_cond2 k = 1#1 := b2.2 h2
    have C3 : k0_cond3 k = 1#1 := b3.2 h3
    clear b1 b2 b3
    iintro ⟨HW, HO, ⟨%W, Howes⟩⟩
    ihave HW' := (wAt_hi c XA k.val h1 hk) $$ HW
    ihave HO' := (oAt_hi c OV k.val h3 hk) $$ HO
    unfold wFly wFlyAt oHome oReady oFly oFlyAt
    icases HW' with ⟨⟨%fw, HWf⟩, HWr⟩
    icases HO' with ⟨⟨%fo, HOh⟩, ⟨⟨%go, %hgo, HOs⟩, HOc⟩, ⟨%ff, %gf, %hgf, HOf⟩, HOr⟩
    sl_exec
    sl_step
    isplitr; · ipureintro; rfl
    isplitl [HWf_dst]; · iexists _; iexact HWf_dst
    isplitl [HWf]; · iexact HWf
    ihave HOF := (oFree_sub (F := F) c k.val h3) $$ [HOf_src HOf]
    · unfold oFreeAt; isplitl [HOf_src]; · iexists _; iexact HOf_src
      iexact HOf
    unfold oFreeAt
    icases HOF with ⟨HOF1, HOF2⟩
    isplitl [HOF1]; · iexact HOF1
    isplitl [HOF2]; · iexact HOF2
    isplitl [HWf_src HWr]
    · iapply (wMid_hi c XA k.val h1)
      isplitl [HWf_src]; · iexact HWf_src
      iexact HWr
    isplitl [HOc HOf_dst HOr]
    · iapply (oMid_hi c OV k.val h3 hk)
      isplitl [HOc]
      · unfold oFly oFlyAt; iexists _, _; isplitr; swap; iexact HOc; ipureintro; exact hgo
      isplitl [HOf_dst]; · iapply (oDone_of c OV (k.val - 4) ff gf hgf); iexact HOf_dst
      iexact HOr
    iexists _; iexact Howes
end Part
end Pieces

end Cert.Proof.Kern
-- ==== Proof.Trip.lean ====
/-
  One trip of the chunk loop: from the running state before it (the row maximum and sum, the candidates' logits and
  the accumulator of the chunk before) to the one after, with what the trip puts in the logits' ring.
-/
module

public import proofs.«01_k».proof.Proof.Dma
public import Idealize.ShloMosaic.Lib.VecWindow
public import Idealize.ShloMosaic.Lib.ValueLayout

@[expose] public section

set_option maxRecDepth 16384

noncomputable section

namespace Cert.Proof.Kern

open Cert.Kernel Cert.Kernel.Gen
open Idealize.ShloMosaic.ValueIdx
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

abbrev codesM : Memref sig .tc .vmem S64x8192 .fp8e4m3 := Memref.whole cc0_scratch1
abbrev wsM : Memref sig .tc .vmem S64x256 .f32 := Memref.whole cc0_scratch4
abbrev bmM : Memref sig .tc .vmem S64x1024 .i32 := Memref.whole cc0_scratch6
abbrev candM : Memref sig .tc .vmem S64x128 .i32 := Memref.whole cc0_scratch8
abbrev sexpM : Memref sig .tc .vmem S64x256 .f32 := Memref.whole cc0_scratch9
abbrev xsM : Memref sig .tc .vmem S64x128 .f32 := Memref.whole cc0_scratch10
abbrev mM : Memref sig .tc .vmem S64x128 .f32 := Memref.whole cc0_scratch13
abbrev sM : Memref sig .tc .vmem S64x128 .f32 := Memref.whole cc0_scratch14
abbrev clM : Memref sig .tc .vmem S64x128 .f32 := Memref.whole cc0_scratch15
abbrev caM : Memref sig .tc .vmem S64x128 .i32 := Memref.whole cc0_scratch16

/-! ## Contents by their values -/

/-- What a chunk's two stores leave in a slot of the logits' ring: its lower and its upper 128 columns. -/
def ohalves (a b : S1x64x128.Idx → Elt F .f32) : S64x256.Idx → Elt F .f32 := fun y =>
  if h : (y 1).val < 128 then a (ix3 (0 : Fin 1) (y 0) (⟨(y 1).val, h⟩ : Fin 128))
  else b (ix3 (0 : Fin 1) (y 0) (⟨(y 1).val - 128, by have h2 : (y 1).val < 256 := (y 1).isLt; omega⟩ : Fin 128))

theorem oslot_emb (b : ℕ) (y : S64x256.Idx) :
    (oslot b).view.emb y = obufM.view.emb ((ix3 (⟨b % 4, Nat.mod_lt _ (by decide)⟩ : Fin 4) (y 0) (y 1) : S4x64x256.Idx)) := by
  have e : (oslot b).view.emb y = obufM.view.emb ((Rect.unit (s := S4x64x256) (oslotOff b) S1x64x256.size (oslot_inb b)).emb
      (Shape.reshapeEquiv squeezes_S1x64x256_S64x256.numel_eq y)) := rfl
  have ey : Shape.reshapeEquiv squeezes_S1x64x256_S64x256.numel_eq y = (ix3 (⟨0, Nat.one_pos⟩ : Fin 1) (y 0) (y 1) : S1x64x256.Idx) := by
    have h := reshapeEquiv_ix2_1ab squeezes_S1x64x256_S64x256.numel_eq (y 0 : Fin 64) (y 1 : Fin 256)
    rw [← h]; congr 1; funext a; fin_cases a <;> rfl
  rw [e]
  congr 1
  rw [ey]
  funext a; apply Fin.ext
  fin_cases a
  · show b % 4 + 1 * 0 = b % 4; omega
  · show 0 + 1 * (y 0).val = (y 0).val; omega
  · show 0 + 1 * (y 1).val = (y 1).val; omega

theorem oslot_read (b : ℕ) (f : obufM.view.ty.Contents (Elt F)) (y : S64x256.Idx) :
    (oslot b).view.read (Elt F) f y = obufM.view.read (Elt F) f (ix3 (⟨b % 4, Nat.mod_lt _ (by decide)⟩ : Fin 4) (y 0) (y 1) : S4x64x256.Idx) :=
  congrArg f (oslot_emb b y)

theorem obuf_read (b : ℕ) {off₁ off₂ : Fin 3 → Nat} (e₁ : off₁ = ![b % 4, 0, 0]) (e₂ : off₂ = ![b % 4, 0, 128])
    (h₁ : ∀ a, off₁ a + S1x64x128.size a ≤ S4x64x256.size a) (h₂ : ∀ a, off₂ a + S1x64x128.size a ≤ S4x64x256.size a)
    (g : obufM.view.ty.Contents (Elt F)) (x₁ x₂ : S1x64x128.Idx → Elt F .f32) :
    (oslot b).view.read (Elt F) (View.write (Elt F) (obufM.access (Rect.unit (s := S4x64x256) off₂ S1x64x128.size h₂))
      (View.write (Elt F) (obufM.access (Rect.unit (s := S4x64x256) off₁ S1x64x128.size h₁)) g x₁ Finset.univ) x₂ Finset.univ) = ohalves x₁ x₂ := by
  subst e₁ e₂
  funext y
  have hb := Nat.mod_lt b (show 0 < 4 by decide)
  refine (oslot_read b _ y).trans ?_
  unfold ohalves
  by_cases h : (y 1).val < 128
  · rw [dif_pos h]
    rw [View.read_slice_write_of_not_mem]
    · have e : (ix3 (⟨b % 4, Nat.mod_lt _ (by decide)⟩ : Fin 4) (y 0) (y 1) : S4x64x256.Idx)
          = (Rect.unit (s := S4x64x256) ![b % 4, 0, 0] S1x64x128.size h₁).emb (ix3 (0 : Fin 1) (y 0) (⟨(y 1).val, h⟩ : Fin 128)) := by
        funext a; apply Fin.ext; fin_cases a
        · show b % 4 = b % 4 + 1 * 0; omega
        · show (y 0).val = 0 + 1 * (y 0).val; omega
        · show (y 1).val = 0 + 1 * (y 1).val; omega
      rw [e]; exact View.read_slice_write_emb _ _ _ (Finset.mem_univ _)
    · intro hm
      obtain ⟨x, -, hx⟩ := Finset.mem_map.1 hm
      have := congrArg (fun z : S4x64x256.Idx => (z 2).val) hx
      have h3 : 128 + 1 * (x 2).val = (y 1).val := this
      omega
  · rw [dif_neg h]
    have h2 : (y 1).val < 256 := (y 1).isLt
    have e : (ix3 (⟨b % 4, Nat.mod_lt _ (by decide)⟩ : Fin 4) (y 0) (y 1) : S4x64x256.Idx)
        = (Rect.unit (s := S4x64x256) ![b % 4, 0, 128] S1x64x128.size h₂).emb (ix3 (0 : Fin 1) (y 0) (⟨(y 1).val - 128, by omega⟩ : Fin 128)) := by
      funext a; apply Fin.ext; fin_cases a
      · show b % 4 = b % 4 + 1 * 0; omega
      · show (y 0).val = 0 + 1 * (y 0).val; omega
      · show (y 1).val = 128 + 1 * ((y 1).val - 128); omega
    rw [e]; exact View.read_slice_write_emb _ _ _ (Finset.mem_univ _)

theorem acc_read (b : ℕ) {off : Fin 3 → Nat} (e : off = aslotOff b) (h : ∀ a, off a + S1x64x256.size a ≤ S2x64x256.size a)
    (g : accM.view.ty.Contents (Elt F)) (x : S1x64x256.Idx → Elt F .f32) :
    (aslot b).view.read (Elt F) (View.write (Elt F) (accM.access (Rect.unit (s := S2x64x256) off S1x64x256.size h)) g x Finset.univ) = x := by
  subst e; exact View.read_write_univ _ _

theorem aslot_add (b : ℕ) : aslot (b + 2) = aslot b := by
  unfold aslot; exact Memref.slice_unit_congr _ (by unfold aslotOff; congr 1; omega) _ _ _ (fun _ => rfl)

/-- A buffer holding `x`, whatever it held before. -/
abbrev holds {sp : Space} {s : Shape} {e : EltTy} (M : Memref sig .tc sp s e) (x : s.Idx → Elt F e) : M.view.ty.Contents (Elt F) :=
  M.view.writes (Elt F) M.view.junk [⟨Rect.whole s, x⟩]

/-- Contents that read `x` may be taken to be `holds M x`. -/
theorem holds_of (c : Dev nD) {sp : Space} {s : Shape} {e : EltTy} (M : Memref sig .tc sp s e) (f : Buf (Elt F) (M.view.loc (c : Thread nD τ)))
    (q : PosShare TreeShare) (x : s.Idx → Elt F e) (h : M.view.read (Elt F) f = x) :
    (M.view.loc (c : Thread nD τ) ↦[M.view.set]{q} f : sProp 𝕄) ⊢ M.view.loc (c : Thread nD τ) ↦[M.view.set]{q} holds M x := by
  refine (BI.equiv_iff.mpr (pointsTo_congr ?_)).1
  intro i hi
  obtain ⟨z, -, rfl⟩ := Finset.mem_map.mp hi
  have e1 : M.view.read (Elt F) f z = M.view.read (Elt F) (holds M x) z := by rw [h, View.read_writes_whole]
  rw [View.read_apply, View.read_apply] at e1
  exact (cast_inj _).1 e1

theorem accP_add (c : Dev nD) (b : ℕ) :
    iprop(∃ f : Buf (Elt F) ((aslot b).view.loc (c : Thread nD τ)), ((aslot b).view.loc (c : Thread nD τ) ↦[(aslot b).view.set]{fullShare} f : sProp 𝕄)) ⊢
      iprop(∃ f : Buf (Elt F) ((aslot (b + 2)).view.loc (c : Thread nD τ)), ((aslot (b + 2)).view.loc (c : Thread nD τ) ↦[(aslot (b + 2)).view.set]{fullShare} f : sProp 𝕄)) := by
  rw [aslot_add]

theorem oslot_holds (c : Dev nD) (S : Memref sig .tc .vmem S64x256 .f32) (g : Buf (Elt F) (S.view.loc (c : Thread nD τ))) (x : S64x256.Idx → Elt F .f32)
    (h : S.view.read (Elt F) g = x) : oslotP c S g ⊢ iprop(∃ g, ⌜S.view.read (Elt F) g = x⌝ ∗ oslotP c S g) := by
  iintro H; iexists g; iframe H; ipureintro; exact h

/-- The running state: the row maximum and sum of the chunks so far, lane by lane, the candidates' logits, and the
    accumulator of the newest chunk. -/
structure St (F : FTy → Type) where
  m : S64x128.Idx → Elt F .f32
  s : S64x128.Idx → Elt F .f32
  cl : S64x128.Idx → Elt F .f32
  a : S1x64x256.Idx → Elt F .f32

/-- A trip's outcome: the state after it and the two halves of the logits it writes. -/
structure Out (F : FTy → Type) extends St F where
  o₁ : S1x64x128.Idx → Elt F .f32
  o₂ : S1x64x128.Idx → Elt F .f32

section Trip
variable (c : Dev nD) (XA : Buf (Elt F) (wM.view.loc (c : Thread nD τ))) (OV : ℕ → S64x256.Idx → Elt F .f32)
  (XC : Buf (Elt F) (codesM.view.loc (c : Thread nD τ))) (XS : Buf (Elt F) (wsM.view.loc (c : Thread nD τ)))
  (XB : Buf (Elt F) (bmM.view.loc (c : Thread nD τ))) (XD : Buf (Elt F) (candM.view.loc (c : Thread nD τ)))
  (XX : Buf (Elt F) (xsM.view.loc (c : Thread nD τ))) (XE : Buf (Elt F) (caM.view.loc (c : Thread nD τ)))
  (arg6 : Memref sig .tc .vmem S64x1 .f32) (harg6 : arg6.IsWhole) (arg7 : Memref sig .tc .vmem S64x52 .f32) (harg7 : arg7.IsWhole)
  (arg9 : Memref sig .tc .vmem S64x1 .f32) (harg9 : arg9.IsWhole)
  (v104 v120 : IVec S64x128 32) (v2209 : FVec F S64x256 .f32) (v2210 : Vec F S64x128 .fp8e4m3) (v2212 : FVec F S128x256 .fp8e4m3) (cst_1189 : FVec F S64x256 .f32)

abbrev codesP (q : PosShare TreeShare) (f : Buf (Elt F) (codesM.view.loc (c : Thread nD τ))) : sProp 𝕄 := codesM.view.loc (c : Thread nD τ) ↦[codesM.view.set]{q} f
abbrev wsP (f : Buf (Elt F) (wsM.view.loc (c : Thread nD τ))) : sProp 𝕄 := wsM.view.loc (c : Thread nD τ) ↦[wsM.view.set]{fullShare} f
abbrev bmP (f : Buf (Elt F) (bmM.view.loc (c : Thread nD τ))) : sProp 𝕄 := bmM.view.loc (c : Thread nD τ) ↦[bmM.view.set]{fullShare} f
abbrev candP (f : Buf (Elt F) (candM.view.loc (c : Thread nD τ))) : sProp 𝕄 := candM.view.loc (c : Thread nD τ) ↦[candM.view.set]{fullShare} f
abbrev xsP (f : Buf (Elt F) (xsM.view.loc (c : Thread nD τ))) : sProp 𝕄 := xsM.view.loc (c : Thread nD τ) ↦[xsM.view.set]{fullShare} f
abbrev caP (f : Buf (Elt F) (caM.view.loc (c : Thread nD τ))) : sProp 𝕄 := caM.view.loc (c : Thread nD τ) ↦[caM.view.set]{fullShare} f
/-- What a trip reads and leaves alone. -/
abbrev constP : sProp 𝕄 :=
  iprop(codesP c fullShare.left XC ∗ wsP c XS ∗ bmP c XB ∗ candP c XD ∗ xsP c XX ∗ caP c XE)
abbrev sexpP (f : Buf (Elt F) (sexpM.view.loc (c : Thread nD τ))) : sProp 𝕄 := sexpM.view.loc (c : Thread nD τ) ↦[sexpM.view.set]{fullShare} f
abbrev mP (f : Buf (Elt F) (mM.view.loc (c : Thread nD τ))) : sProp 𝕄 := mM.view.loc (c : Thread nD τ) ↦[mM.view.set]{fullShare} f
abbrev sP (f : Buf (Elt F) (sM.view.loc (c : Thread nD τ))) : sProp 𝕄 := sM.view.loc (c : Thread nD τ) ↦[sM.view.set]{fullShare} f
abbrev clP (f : Buf (Elt F) (clM.view.loc (c : Thread nD τ))) : sProp 𝕄 := clM.view.loc (c : Thread nD τ) ↦[clM.view.set]{fullShare} f
abbrev accP (b : ℕ) (f : Buf (Elt F) ((aslot b).view.loc (c : Thread nD τ))) : sProp 𝕄 := (aslot b).view.loc (c : Thread nD τ) ↦[(aslot b).view.set]{fullShare} f

abbrev tripG (k : Fin k0_t1_loop.trips) : Prog (TpuEff nD τ sig (Elt F) Λ₀ .tc) Unit :=
  k0_t1_body (F := F) (Memref.whole main_v0) (Memref.isWhole_whole _) (Memref.whole main_arg1) (Memref.isWhole_whole _) (Memref.whole main_arg2) (Memref.isWhole_whole _) (Memref.whole main_arg3) (Memref.isWhole_whole _) (Memref.whole main_v1) (Memref.isWhole_whole _) (Memref.whole main_v2_0) (Memref.isWhole_whole _) arg6 harg6 arg7 harg7 (Memref.whole main_v2_3) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 v104 v120 v2209 v2210 v2212 cst_1189 k ()

/-- The buffers of the running state before chunk `b`'s epilogue. -/
abbrev stP (b : ℕ) (σ : St F) : sProp 𝕄 :=
  iprop(mP c (holds mM σ.m) ∗ sP c (holds sM σ.s) ∗ clP c (holds clM σ.cl) ∗ accP c b (holds (aslot b) σ.a) ∗ (∃ f, accP (F := F) c (b + 1) f) ∗ (∃ f, sexpP (F := F) c f))

/-- What is held before trip `k` of the loop with the running state at `σ`. -/
abbrev tripPre (k : ℕ) (σ : St F) : sProp 𝕄 :=
  iprop(stP c k σ ∗ constP c XC XS XB XD XX XE ∗ (∃ W, owes (c : Thread nD τ) 0 W) ∗ wAt c XA k ∗ oAt c OV k)

/-- What trip `k` leaves: as `tripPre` with the logits' slot apart. -/
abbrev tripPost (k : ℕ) (w : Out F) : sProp 𝕄 :=
  iprop((∃ g, ⌜(oslot k).view.read (Elt F) g = ohalves w.o₁ w.o₂⌝ ∗ oslotP c (oslot k) g) ∗ stP c (k + 1) w.toSt ∗ constP c XC XS XB XD XX XE
    ∗ (∃ W, owes (c : Thread nD τ) 0 W) ∗ wAt c XA (k + 1) ∗ oMid c OV k ∗ cellP c (ocell k))

set_option backward.proofsInPublic true in
/-- One trip. -/
def tripRun (k : Fin k0_t1_loop.trips) (σ : St F) :
    { w : Out F // ∀ OV : ℕ → S64x256.Idx → Elt F .f32,
      tripPre c XA OV XC XS XB XD XX XE k.val σ
      ⊢ wp frame (wpE (defs₀ (F := F)) 𝒱₀ (c : Thread nD τ) none) Set.univ (tripG arg6 harg6 arg7 harg7 arg9 harg9 v104 v120 v2209 v2210 v2212 cst_1189 k)
        (fun _ => tripPost c XA OV XC XS XB XD XX XE k.val w) } := by
  refine ⟨⟨⟨?m, ?s, ?cl, ?a⟩, ?o₁, ?o₂⟩, ?run⟩
  case run =>
    intro OV
    have hcut := part1_run c XA OV arg6 harg6 arg7 harg7 arg9 harg9 k
    iintro ⟨⟨Hm, Hs, Hcl, Ha, ⟨%fb, Hb⟩, ⟨%fe, He⟩⟩, ⟨HC, HS, HB, HD, HXX, HE⟩, ⟨%W, HX⟩, HW, HO⟩
    dsimp only [tripG]
    sl_unfold [k0_t1_body]
    sl_exec
    cases hk0_part1_0
    sl_exec
    sl_step
    isplitl [Hk0_part1_3]
    · ihave H' := (oslot_holds c (oslot k.val) (tripRun.sl.Hk0_part1_3_w3 c XB XX v104 v120 k σ _ gk0_part1_1) _ (obuf_read (F := F) k.val (k0_off81_eq k) (k0_off83_eq k) _ _ _ _ _)) $$ Hk0_part1_3
      iexact H'
    isplitl [Hm Hs Hcl Hb Ha He]
    · isplitl [Hm]
      · ihave H' := (holds_of c mM _ fullShare _ (View.read_writes_full _ _ _ _ _)) $$ Hm
        iexact H'
      isplitl [Hs]
      · ihave H' := (holds_of c sM _ fullShare _ (View.read_writes_full _ _ _ _ _)) $$ Hs
        iexact H'
      isplitl [Hcl]
      · ihave H' := (holds_of c clM _ fullShare _ (View.read_writes_full _ _ _ _ _)) $$ Hcl
        iexact H'
      isplitl [Hb]
      · ihave H' := (holds_of c (aslot (k.val + 1)) (tripRun.sl.Hb_w1 c XA XC XS k fb _) fullShare _ (acc_read (F := F) _ (k0_off78_eq k) _ _ _)) $$ Hb
        iexact H'
      isplitl [Ha]
      · iapply (accP_add c k.val)
        iexists _; iexact Ha
      iexists _; iexact He
    isplitl [HC HS HB HD HXX HE]
    · iframe HC HS HB HD HXX HE
    isplitl [Hk0_part1_13]
    · iexists _; iexact Hk0_part1_13
    isplitl [Hk0_part1_1 Hk0_part1_2 Hk0_part1_5 Hk0_part1_6 Hk0_part1_7 Hk0_part1_8]
    · iapply (wAt_succ c XA k.val)
      isplitl [Hk0_part1_5 Hk0_part1_6 Hk0_part1_7 Hk0_part1_8]
      · unfold wMid; iframe Hk0_part1_5 Hk0_part1_6 Hk0_part1_7 Hk0_part1_8
      · unfold wFree wFreeAt
        isplitl [Hk0_part1_1]
        · iexists _; iexact Hk0_part1_1
        · iexact Hk0_part1_2
    isplitl [Hk0_part1_9 Hk0_part1_10 Hk0_part1_11 Hk0_part1_12]
    · unfold oMid; iframe Hk0_part1_9 Hk0_part1_10 Hk0_part1_11 Hk0_part1_12
    iexact Hk0_part1_4

/-- One trip, the logits' ring taken on as well. -/
theorem trip_step (k : Fin k0_t1_loop.trips) (σ : St F)
    (h : OV k.val = ohalves (tripRun c XA XC XS XB XD XX XE arg6 harg6 arg7 harg7 arg9 harg9 v104 v120 v2209 v2210 v2212 cst_1189 k σ).1.o₁
      (tripRun c XA XC XS XB XD XX XE arg6 harg6 arg7 harg7 arg9 harg9 v104 v120 v2209 v2210 v2212 cst_1189 k σ).1.o₂) :
    tripPre c XA OV XC XS XB XD XX XE k.val σ
      ⊢ wp frame (wpE (defs₀ (F := F)) 𝒱₀ (c : Thread nD τ) none) Set.univ (tripG arg6 harg6 arg7 harg7 arg9 harg9 v104 v120 v2209 v2210 v2212 cst_1189 k)
        (fun _ => tripPre c XA OV XC XS XB XD XX XE (k.val + 1) (tripRun c XA XC XS XB XD XX XE arg6 harg6 arg7 harg7 arg9 harg9 v104 v120 v2209 v2210 v2212 cst_1189 k σ).1.toSt) := by
  iintro H
  iapply (wp_wand_r Idealize.ShloMosaic.frame (wpE (defs₀ (F := F)) 𝒱₀ (c : Thread nD τ) none) Set.univ)
  isplitl [H]
  · iapply (tripRun c XA XC XS XB XD XX XE arg6 harg6 arg7 harg7 arg9 harg9 v104 v120 v2209 v2210 v2212 cst_1189 k σ).2 OV; iexact H
  · iintro %_ ⟨⟨%g, %hg, H6⟩, H1, H2, H3, H4, H5, H7⟩
    isplitl [H1]; · iexact H1
    isplitl [H2]; · iexact H2
    isplitl [H3]; · iexact H3
    isplitl [H4]; · iexact H4
    iapply (oAt_succ c OV k.val)
    iframe H5
    unfold oReady
    iframe H7
    iexists g; iframe H6; ipureintro; exact hg.trans h.symm
end Trip

end Cert.Proof.Kern
-- ==== Proof.Loop.lean ====
/-
  The chunk loop: its trips one after another, and the stretch of the kernel around it that finishes chunk 0's
  accumulator and runs the loop.
-/
module

public import proofs.«01_k».proof.Proof.Trip

@[expose] public section

set_option maxRecDepth 16384

noncomputable section

namespace Cert.Proof.Kern

open Cert.Kernel Cert.Kernel.Gen
open Idealize.ShloMosaic.ValueIdx
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Loop
variable (c : Dev nD) (XA : Buf (Elt F) (wM.view.loc (c : Thread nD τ)))
  (XC : Buf (Elt F) (codesM.view.loc (c : Thread nD τ))) (XS : Buf (Elt F) (wsM.view.loc (c : Thread nD τ)))
  (XB : Buf (Elt F) (bmM.view.loc (c : Thread nD τ))) (XD : Buf (Elt F) (candM.view.loc (c : Thread nD τ)))
  (XX : Buf (Elt F) (xsM.view.loc (c : Thread nD τ))) (XE : Buf (Elt F) (caM.view.loc (c : Thread nD τ)))
  (arg6 : Memref sig .tc .vmem S64x1 .f32) (harg6 : arg6.IsWhole) (arg7 : Memref sig .tc .vmem S64x52 .f32) (harg7 : arg7.IsWhole)
  (arg9 : Memref sig .tc .vmem S64x1 .f32) (harg9 : arg9.IsWhole)
  (v104 v120 : IVec S64x128 32) (v2209 : FVec F S64x256 .f32) (v2210 : Vec F S64x128 .fp8e4m3) (v2212 : FVec F S128x256 .fp8e4m3) (cst_1189 : FVec F S64x256 .f32)

attribute [local irreducible] tripRun

/-- What trip `k` does from the state `σ`. -/
def tripOut (k : Fin k0_t1_loop.trips) (σ : St F) : Out F := (tripRun c XA XC XS XB XD XX XE arg6 harg6 arg7 harg7 arg9 harg9 v104 v120 v2209 v2210 v2212 cst_1189 k σ).1

/-- One trip, from any state to the state it leaves. -/
theorem trip_step' (OV : ℕ → S64x256.Idx → Elt F .f32) (k : Fin k0_t1_loop.trips) (σ σ' : St F)
    (h : OV k.val = ohalves (tripOut c XA XC XS XB XD XX XE arg6 harg6 arg7 harg7 arg9 harg9 v104 v120 v2209 v2210 v2212 cst_1189 k σ).o₁ (tripOut c XA XC XS XB XD XX XE arg6 harg6 arg7 harg7 arg9 harg9 v104 v120 v2209 v2210 v2212 cst_1189 k σ).o₂)
    (e : σ' = (tripOut c XA XC XS XB XD XX XE arg6 harg6 arg7 harg7 arg9 harg9 v104 v120 v2209 v2210 v2212 cst_1189 k σ).toSt) :
    tripPre c XA OV XC XS XB XD XX XE k.val σ ⊢ wp frame (wpE (defs₀ (F := F)) 𝒱₀ (c : Thread nD τ) none) Set.univ
      (tripG arg6 harg6 arg7 harg7 arg9 harg9 v104 v120 v2209 v2210 v2212 cst_1189 k) (fun _ => tripPre c XA OV XC XS XB XD XX XE (k.val + 1) σ') :=
  by
    unfold tripOut at h e
    rw [e]
    exact trip_step c XA OV XC XS XB XD XX XE arg6 harg6 arg7 harg7 arg9 harg9 v104 v120 v2209 v2210 v2212 cst_1189 k σ h

/-- The state after trip `k` from the state `σ`. -/
def stNext (k : ℕ) (σ : St F) : St F := if h : k < k0_t1_loop.trips then (tripOut c XA XC XS XB XD XX XE arg6 harg6 arg7 harg7 arg9 harg9 v104 v120 v2209 v2210 v2212 cst_1189 ⟨k, h⟩ σ).toSt else σ

/-- The running state before trip `k`. -/
def stAt (σ₀ : St F) (k : ℕ) : St F := Nat.rec σ₀ (fun k σ => stNext c XA XC XS XB XD XX XE arg6 harg6 arg7 harg7 arg9 harg9 v104 v120 v2209 v2210 v2212 cst_1189 k σ) k

/-- The logits chunk `k` writes. -/
def ovAt (σ₀ : St F) (k : ℕ) : S64x256.Idx → Elt F .f32 :=
  if h : k < k0_t1_loop.trips then ohalves (tripOut c XA XC XS XB XD XX XE arg6 harg6 arg7 harg7 arg9 harg9 v104 v120 v2209 v2210 v2212 cst_1189 ⟨k, h⟩ (stAt c XA XC XS XB XD XX XE arg6 harg6 arg7 harg7 arg9 harg9 v104 v120 v2209 v2210 v2212 cst_1189 σ₀ k)).o₁ (tripOut c XA XC XS XB XD XX XE arg6 harg6 arg7 harg7 arg9 harg9 v104 v120 v2209 v2210 v2212 cst_1189 ⟨k, h⟩ (stAt c XA XC XS XB XD XX XE arg6 harg6 arg7 harg7 arg9 harg9 v104 v120 v2209 v2210 v2212 cst_1189 σ₀ k)).o₂
  else ohalves (fun _ => σ₀.m (ix2 (0 : Fin 64) (0 : Fin 128))) (fun _ => σ₀.m (ix2 (0 : Fin 64) (0 : Fin 128)))

attribute [local irreducible] tripOut

theorem stNext_eq (k : ℕ) (h : k < k0_t1_loop.trips) (σ : St F) : stNext c XA XC XS XB XD XX XE arg6 harg6 arg7 harg7 arg9 harg9 v104 v120 v2209 v2210 v2212 cst_1189 k σ = (tripOut c XA XC XS XB XD XX XE arg6 harg6 arg7 harg7 arg9 harg9 v104 v120 v2209 v2210 v2212 cst_1189 ⟨k, h⟩ σ).toSt := by
  unfold stNext; exact dif_pos h
theorem stAt_zero (σ₀ : St F) : stAt c XA XC XS XB XD XX XE arg6 harg6 arg7 harg7 arg9 harg9 v104 v120 v2209 v2210 v2212 cst_1189 σ₀ 0 = σ₀ := rfl
theorem stAt_succ (σ₀ : St F) (k : ℕ) (h : k < k0_t1_loop.trips) : stAt c XA XC XS XB XD XX XE arg6 harg6 arg7 harg7 arg9 harg9 v104 v120 v2209 v2210 v2212 cst_1189 σ₀ (k + 1)
    = (tripOut c XA XC XS XB XD XX XE arg6 harg6 arg7 harg7 arg9 harg9 v104 v120 v2209 v2210 v2212 cst_1189 ⟨k, h⟩ (stAt c XA XC XS XB XD XX XE arg6 harg6 arg7 harg7 arg9 harg9 v104 v120 v2209 v2210 v2212 cst_1189 σ₀ k)).toSt :=
  stNext_eq c XA XC XS XB XD XX XE arg6 harg6 arg7 harg7 arg9 harg9 v104 v120 v2209 v2210 v2212 cst_1189 k h _
theorem ovAt_eq (σ₀ : St F) (k : ℕ) (h : k < k0_t1_loop.trips) : ovAt c XA XC XS XB XD XX XE arg6 harg6 arg7 harg7 arg9 harg9 v104 v120 v2209 v2210 v2212 cst_1189 σ₀ k
    = ohalves (tripOut c XA XC XS XB XD XX XE arg6 harg6 arg7 harg7 arg9 harg9 v104 v120 v2209 v2210 v2212 cst_1189 ⟨k, h⟩ (stAt c XA XC XS XB XD XX XE arg6 harg6 arg7 harg7 arg9 harg9 v104 v120 v2209 v2210 v2212 cst_1189 σ₀ k)).o₁ (tripOut c XA XC XS XB XD XX XE arg6 harg6 arg7 harg7 arg9 harg9 v104 v120 v2209 v2210 v2212 cst_1189 ⟨k, h⟩ (stAt c XA XC XS XB XD XX XE arg6 harg6 arg7 harg7 arg9 harg9 v104 v120 v2209 v2210 v2212 cst_1189 σ₀ k)).o₂ := by
  unfold ovAt; exact dif_pos h

/-- What is held before trip `k`. -/
abbrev loopAt (σ₀ : St F) (k : ℕ) : sProp 𝕄 :=
  tripPre c XA (ovAt c XA XC XS XB XD XX XE arg6 harg6 arg7 harg7 arg9 harg9 v104 v120 v2209 v2210 v2212 cst_1189 σ₀) XC XS XB XD XX XE k (stAt c XA XC XS XB XD XX XE arg6 harg6 arg7 harg7 arg9 harg9 v104 v120 v2209 v2210 v2212 cst_1189 σ₀ k)

set_option warn.classDefReducibility false in
set_option maxHeartbeats 4000000 in
/-- The loop's invariant. -/
def loopInv (σ₀ : St F) :
    LoopInvTy_k0_t1 (F := F) Unit ℕ (UU nD τ) ℕ 𝒱₀ c none Set.univ (Memref.whole main_v0) (Memref.isWhole_whole _) (Memref.whole main_arg1) (Memref.isWhole_whole _) (Memref.whole main_arg2) (Memref.isWhole_whole _) (Memref.whole main_arg3) (Memref.isWhole_whole _) (Memref.whole main_v1) (Memref.isWhole_whole _) (Memref.whole main_v2_0) (Memref.isWhole_whole _) arg6 harg6 arg7 harg7 (Memref.whole main_v2_3) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 v104 v120 v2209 v2210 v2212 cst_1189 where
  inv k _ := loopAt c XA XC XS XB XD XX XE arg6 harg6 arg7 harg7 arg9 harg9 v104 v120 v2209 v2210 v2212 cst_1189 σ₀ k
  step k _ := trip_step' c XA XC XS XB XD XX XE arg6 harg6 arg7 harg7 arg9 harg9 v104 v120 v2209 v2210 v2212 cst_1189 (ovAt c XA XC XS XB XD XX XE arg6 harg6 arg7 harg7 arg9 harg9 v104 v120 v2209 v2210 v2212 cst_1189 σ₀) k (stAt c XA XC XS XB XD XX XE arg6 harg6 arg7 harg7 arg9 harg9 v104 v120 v2209 v2210 v2212 cst_1189 σ₀ k.val)
    (stAt c XA XC XS XB XD XX XE arg6 harg6 arg7 harg7 arg9 harg9 v104 v120 v2209 v2210 v2212 cst_1189 σ₀ (k.val + 1)) (ovAt_eq c XA XC XS XB XD XX XE arg6 harg6 arg7 harg7 arg9 harg9 v104 v120 v2209 v2210 v2212 cst_1189 σ₀ k.val k.isLt) (stAt_succ c XA XC XS XB XD XX XE arg6 harg6 arg7 harg7 arg9 harg9 v104 v120 v2209 v2210 v2212 cst_1189 σ₀ k.val k.isLt)

/-- The state the loop starts from. -/
abbrev st₀ (m s cl : S64x128.Idx → Elt F .f32) (a : S1x64x256.Idx → Elt F .f32) : St F := ⟨m, s, cl, a⟩

end Loop

end Cert.Proof.Kern
-- ==== Proof.Part88.lean ====
/-
  The stretch of the kernel that finishes chunk 0's accumulator and runs the chunk loop.
-/
module

public import proofs.«01_k».proof.Proof.Loop

@[expose] public section

set_option maxRecDepth 16384

noncomputable section

namespace Cert.Proof.Kern

open Cert.Kernel Cert.Kernel.Gen
open Idealize.ShloMosaic.ValueIdx
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Part88
variable (c : Dev nD) (XA : Buf (Elt F) (wM.view.loc (c : Thread nD τ)))
  (XC : Buf (Elt F) (codesM.view.loc (c : Thread nD τ))) (XS : Buf (Elt F) (wsM.view.loc (c : Thread nD τ)))
  (XB : Buf (Elt F) (bmM.view.loc (c : Thread nD τ))) (XD : Buf (Elt F) (candM.view.loc (c : Thread nD τ)))
  (XX : Buf (Elt F) (xsM.view.loc (c : Thread nD τ))) (XE : Buf (Elt F) (caM.view.loc (c : Thread nD τ)))
  (arg6 : Memref sig .tc .vmem S64x1 .f32) (harg6 : arg6.IsWhole) (arg7 : Memref sig .tc .vmem S64x52 .f32) (harg7 : arg7.IsWhole)
  (arg9 : Memref sig .tc .vmem S64x1 .f32) (harg9 : arg9.IsWhole)
  (v104 v120 : IVec S64x128 32) (v2209 : FVec F S64x256 .f32) (v2210 : Vec F S64x128 .fp8e4m3) (v2212 : FVec F S128x256 .fp8e4m3) (cst_1189 : FVec F S64x256 .f32)

attribute [local irreducible] tripRun

/-- The weights' ring as the kernel's start leaves it: block 0 landed, blocks 1 to 11 under way. -/
abbrev wStart : sProp 𝕄 :=
  iprop(bigSep (Finset.Ico 0 1) (wHome c XA) ∗ bigSep (Finset.Ico 1 12) (wFly c XA) ∗ bigSep (Finset.Ico 12 125) (wHome c XA))

def part88_run (fe : Buf (Elt F) (sexpM.view.loc (c : Thread nD τ))) :
    { a : S1x64x256.Idx → Elt F .f32 // ∀ fw fm fs fcl fa,
      iprop(mP c fm ∗ sP c fs ∗ clP c fcl ∗ sexpP c fe ∗ constP c XC XS XB XD XX XE ∗ wslotP c (wslot 0) (wLanded c XA (wslot 0) 0 fw) ∗ cellP c (wcell 0)
        ∗ wStart c XA ∗ accP c 0 fa ∗ (∃ f, accP (F := F) c 1 f) ∗ (∃ W, owes (c : Thread nD τ) 0 W)
        ∗ bigSep (Finset.Ico 0 125) (oHome (F := F) c) ∗ bigSep (Finset.Ico 0 4) (oFree (F := F) c))
      ⊢ wp frame (wpE (defs₀ (F := F)) 𝒱₀ (c : Thread nD τ) none) Set.univ (k0_part88 (F := F) (Memref.whole main_v0) (Memref.isWhole_whole _) (Memref.whole main_arg1) (Memref.isWhole_whole _) (Memref.whole main_arg2) (Memref.isWhole_whole _) (Memref.whole main_arg3) (Memref.isWhole_whole _) (Memref.whole main_v1) (Memref.isWhole_whole _) (Memref.whole main_v2_0) (Memref.isWhole_whole _) arg6 harg6 arg7 harg7 (Memref.whole main_v2_3) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 v104 v120 v2209 v2210 v2212 cst_1189)
        (fun _ => loopAt c XA XC XS XB XD XX XE arg6 harg6 arg7 harg7 arg9 harg9 v104 v120 v2209 v2210 v2212 cst_1189 (st₀ (mM.view.read (Elt F) fm) (sM.view.read (Elt F) fs) (clM.view.read (Elt F) fcl) a) 124) } := by
  refine ⟨?a, ?run⟩
  case' run =>
    intro fw fm fs fcl fa
    iintro ⟨Hm, Hs, Hcl, He, ⟨HC, HS, HB, HD, HXX, HE⟩, Hw, Hwc, ⟨HW1, HW2, HW3⟩, Ha, ⟨%fb, Hb⟩, ⟨%W, HX⟩, HO1, HO2⟩
    unfold k0_part88
    sl_exec
  case a => exact part88_run.sl.v2236 c XA XC v2209 v2210 v2212 cst_1189 fe
  ihave Ha' := (holds_of c (aslot 0) (part88_run.sl.Ha_w1 c XA XC v2209 v2210 v2212 cst_1189 fe fa) fullShare (part88_run.sl.v2236 c XA XC v2209 v2210 v2212 cst_1189 fe) (acc_read (F := F) 0 rfl _ fa _)) $$ Ha
  ihave Hm' := (holds_of c mM _ fullShare _ rfl) $$ Hm
  ihave Hs' := (holds_of c sM _ fullShare _ rfl) $$ Hs
  ihave Hcl' := (holds_of c clM _ fullShare _ rfl) $$ Hcl
  let I := loopInv c XA XC XS XB XD XX XE arg6 harg6 arg7 harg7 arg9 harg9 v104 v120 v2209 v2210 v2212 cst_1189 (st₀ (mM.view.read (Elt F) fm) (sM.view.read (Elt F) fs) (clM.view.read (Elt F) fcl) (part88_run.sl.v2236 c XA XC v2209 v2210 v2212 cst_1189 fe))
  ihave Hz : iprop(loopAt c XA XC XS XB XD XX XE arg6 harg6 arg7 harg7 arg9 harg9 v104 v120 v2209 v2210 v2212 cst_1189 (st₀ (mM.view.read (Elt F) fm) (sM.view.read (Elt F) fs) (clM.view.read (Elt F) fcl) (part88_run.sl.v2236 c XA XC v2209 v2210 v2212 cst_1189 fe)) 0) $$ [Hm' Hs' Hcl' Ha' Hb He HC HS HB HD HXX HE HX HW1 HW2 HW3 Hw Hwc HO1 HO2]
  · isplitl [Hm' Hs' Hcl' Ha' Hb He]
    · isplitl [Hm']
      · iexact Hm'
      isplitl [Hs']
      · iexact Hs'
      isplitl [Hcl']
      · iexact Hcl'
      isplitl [Ha']
      · iexact Ha'
      isplitl [Hb]
      · iexists _; iexact Hb
      iexists _; iexact He
    isplitl [HC HS HB HD HXX HE]
    · iframe HC HS HB HD HXX HE
    isplitl [HX]
    · iexists _; iexact HX
    isplitl [HW1 HW2 HW3 Hw Hwc]
    · unfold wAt
      isplitl [HW1]
      · iexact HW1
      isplitl [HW2]
      · iexact HW2
      isplitl [HW3]
      · iexact HW3
      rw [ico_last (wFree c) (show min 0 113 ≤ 0 by omega), ico_empty (wFree c) (show 0 ≤ min 0 113 by omega)]
      isplitl [Hw Hwc]
      · unfold wFree wFreeAt
        isplitl [Hw]
        · iexists _; iexact Hw
        · iexact Hwc
      iempintro
    · unfold oAt
      isplitl [HO1]
      · iexact HO1
      rw [ico_empty (oFly c _) (show 0 - 1 ≤ 0 - 4 by omega), ico_empty (oDone c _) (show 0 - 4 ≤ 0 by omega), ico_empty (oReady c _) (show 0 ≤ 0 - 1 by omega)]
      isplitl []
      · iempintro
      isplitl []
      · iempintro
      isplitl []
      · iempintro
      iexact HO2
  icases Hz with ⟨⟨Hm, Hs, Hcl, Ha, ⟨%fb', Hb⟩, ⟨%fe', He⟩⟩, ⟨HC, HS, HB, HD, HXX, HE⟩, ⟨%W', HX⟩, HW, HO⟩
  unfold wAt oAt
  icases HW with ⟨HW1, HW2, HW3, HW4⟩
  icases HO with ⟨HO1, HO2, HO3, HO4, HO5⟩
  sl_exec
  sl_step
  isplitl [Hm Hs Hcl Ha Hb He]
  · isplitl [Hm]
    · iexact Hm
    isplitl [Hs]
    · iexact Hs
    isplitl [Hcl]
    · iexact Hcl
    isplitl [Ha]
    · iexact Ha
    isplitl [Hb]
    · iexists _; iexact Hb
    iexists _; iexact He
  isplitl [HC HS HB HD HXX HE]
  · iframe HC HS HB HD HXX HE
  isplitl [HX]
  · iexists _; iexact HX
  isplitl [HW1 HW2 HW3 HW4]
  · unfold wAt
    isplitl [HW1]
    · iexact HW1
    isplitl [HW2]
    · iexact HW2
    isplitl [HW3]
    · iexact HW3
    iexact HW4
  · unfold oAt
    isplitl [HO1]
    · iexact HO1
    isplitl [HO2]
    · iexact HO2
    isplitl [HO3]
    · iexact HO3
    isplitl [HO4]
    · iexact HO4
    iexact HO5
end Part88

end Cert.Proof.Kern
-- ==== Proof.Names.lean ====
/-
  The buffers, ring slots and transfer counters the straight parts of the kernel name by their numbers.
-/
module

public import proofs.«01_k».proof.Proof.Trip

@[expose] public section

set_option maxRecDepth 16384

noncomputable section

namespace Cert.Proof.Kern

open Cert.Kernel Cert.Kernel.Gen
open Idealize.ShloMosaic.ValueIdx
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Names
@[sl_canon] theorem cSlotW (b : ℕ) (h : b < 12) (hh hs) : (wbufM.slice (Rect.unit (s := S12x8192x256) ![b, 0, 0] S1x8192x256.size hh) hs).squeeze S8192x256 squeezes_S1x8192x256_S8192x256 = wslot b :=
  wslot_congr (by unfold wslotOff; rw [Nat.mod_eq_of_lt h]) _ _
@[sl_canon] theorem cCellW (b : ℕ) (h : b < 12) (hh) : (cc0_scratch17.slice (Rect.unit (s := S12) ![b] S1.size hh)).squeeze S_ squeezes_S1_S_ = wcell b :=
  wcell_congr (by rw [Nat.mod_eq_of_lt h]) _
@[sl_canon] theorem cBlkW0 (hh hs) : wM.slice (Rect.unit (s := S8192x32000) ![0, 0] S8192x256.size hh) hs = wblk 0 := wblk_congr (b := 0) rfl _ _
@[sl_canon] theorem cBlkW1 (hh hs) : wM.slice (Rect.unit (s := S8192x32000) ![0, 256] S8192x256.size hh) hs = wblk 1 := wblk_congr (b := 1) rfl _ _
@[sl_canon] theorem cBlkW2 (hh hs) : wM.slice (Rect.unit (s := S8192x32000) ![0, 512] S8192x256.size hh) hs = wblk 2 := wblk_congr (b := 2) rfl _ _
@[sl_canon] theorem cBlkW3 (hh hs) : wM.slice (Rect.unit (s := S8192x32000) ![0, 768] S8192x256.size hh) hs = wblk 3 := wblk_congr (b := 3) rfl _ _
@[sl_canon] theorem cBlkW4 (hh hs) : wM.slice (Rect.unit (s := S8192x32000) ![0, 1024] S8192x256.size hh) hs = wblk 4 := wblk_congr (b := 4) rfl _ _
@[sl_canon] theorem cBlkW5 (hh hs) : wM.slice (Rect.unit (s := S8192x32000) ![0, 1280] S8192x256.size hh) hs = wblk 5 := wblk_congr (b := 5) rfl _ _
@[sl_canon] theorem cBlkW6 (hh hs) : wM.slice (Rect.unit (s := S8192x32000) ![0, 1536] S8192x256.size hh) hs = wblk 6 := wblk_congr (b := 6) rfl _ _
@[sl_canon] theorem cBlkW7 (hh hs) : wM.slice (Rect.unit (s := S8192x32000) ![0, 1792] S8192x256.size hh) hs = wblk 7 := wblk_congr (b := 7) rfl _ _
@[sl_canon] theorem cBlkW8 (hh hs) : wM.slice (Rect.unit (s := S8192x32000) ![0, 2048] S8192x256.size hh) hs = wblk 8 := wblk_congr (b := 8) rfl _ _
@[sl_canon] theorem cBlkW9 (hh hs) : wM.slice (Rect.unit (s := S8192x32000) ![0, 2304] S8192x256.size hh) hs = wblk 9 := wblk_congr (b := 9) rfl _ _
@[sl_canon] theorem cBlkW10 (hh hs) : wM.slice (Rect.unit (s := S8192x32000) ![0, 2560] S8192x256.size hh) hs = wblk 10 := wblk_congr (b := 10) rfl _ _
@[sl_canon] theorem cBlkW11 (hh hs) : wM.slice (Rect.unit (s := S8192x32000) ![0, 2816] S8192x256.size hh) hs = wblk 11 := wblk_congr (b := 11) rfl _ _
@[sl_canon] theorem cBlkO120 (hh hs) : oM.slice (Rect.unit (s := S64x32000) ![0, 30720] S64x256.size hh) hs = oblk 120 := oblk_congr (b := 120) rfl _ _
@[sl_canon] theorem cBlkO121 (hh hs) : oM.slice (Rect.unit (s := S64x32000) ![0, 30976] S64x256.size hh) hs = oblk 121 := oblk_congr (b := 121) rfl _ _
@[sl_canon] theorem cBlkO122 (hh hs) : oM.slice (Rect.unit (s := S64x32000) ![0, 31232] S64x256.size hh) hs = oblk 122 := oblk_congr (b := 122) rfl _ _
@[sl_canon] theorem cBlkO123 (hh hs) : oM.slice (Rect.unit (s := S64x32000) ![0, 31488] S64x256.size hh) hs = oblk 123 := oblk_congr (b := 123) rfl _ _
@[sl_canon] theorem cBlkO124 (hh hs) : oM.slice (Rect.unit (s := S64x32000) ![0, 31744] S64x256.size hh) hs = oblk 124 := oblk_congr (b := 124) rfl _ _
@[sl_canon] theorem cSlotO0 (hh hs) : (obufM.slice (Rect.unit (s := S4x64x256) ![0, 0, 0] S1x64x256.size hh) hs).squeeze S64x256 squeezes_S1x64x256_S64x256 = oslot 120 := oslot_congr (b := 120) rfl _ _
@[sl_canon] theorem cCellO0 (hh) : (cc0_scratch18.slice (Rect.unit (s := S4) ![0] S1.size hh)).squeeze S_ squeezes_S1_S_ = ocell 120 := ocell_congr (b := 120) rfl _
@[sl_canon] theorem cSlotO1 (hh hs) : (obufM.slice (Rect.unit (s := S4x64x256) ![1, 0, 0] S1x64x256.size hh) hs).squeeze S64x256 squeezes_S1x64x256_S64x256 = oslot 121 := oslot_congr (b := 121) rfl _ _
@[sl_canon] theorem cCellO1 (hh) : (cc0_scratch18.slice (Rect.unit (s := S4) ![1] S1.size hh)).squeeze S_ squeezes_S1_S_ = ocell 121 := ocell_congr (b := 121) rfl _
@[sl_canon] theorem cSlotO2 (hh hs) : (obufM.slice (Rect.unit (s := S4x64x256) ![2, 0, 0] S1x64x256.size hh) hs).squeeze S64x256 squeezes_S1x64x256_S64x256 = oslot 122 := oslot_congr (b := 122) rfl _ _
@[sl_canon] theorem cCellO2 (hh) : (cc0_scratch18.slice (Rect.unit (s := S4) ![2] S1.size hh)).squeeze S_ squeezes_S1_S_ = ocell 122 := ocell_congr (b := 122) rfl _
@[sl_canon] theorem cSlotO3 (hh hs) : (obufM.slice (Rect.unit (s := S4x64x256) ![3, 0, 0] S1x64x256.size hh) hs).squeeze S64x256 squeezes_S1x64x256_S64x256 = oslot 123 := oslot_congr (b := 123) rfl _ _
@[sl_canon] theorem cCellO3 (hh) : (cc0_scratch18.slice (Rect.unit (s := S4) ![3] S1.size hh)).squeeze S_ squeezes_S1_S_ = ocell 123 := ocell_congr (b := 123) rfl _

abbrev icell0 : DmaSems sig S_ := (cc0_scratch19.slice (Rect.unit (s := S4) ![0] S1.size inb_S4_S1_0)).squeeze S_ squeezes_S1_S_
abbrev icell1 : DmaSems sig S_ := (cc0_scratch19.slice (Rect.unit (s := S4) ![1] S1.size inb_S4_S1_1)).squeeze S_ squeezes_S1_S_
abbrev icell2 : DmaSems sig S_ := (cc0_scratch19.slice (Rect.unit (s := S4) ![2] S1.size inb_S4_S1_2)).squeeze S_ squeezes_S1_S_
abbrev icell3 : DmaSems sig S_ := (cc0_scratch19.slice (Rect.unit (s := S4) ![3] S1.size inb_S4_S1_3)).squeeze S_ squeezes_S1_S_

abbrev xInM : Memref sig .tc .hbm S64x8192 .bf16 := Memref.whole main_v0
abbrev wsInM : Memref sig .tc .hbm S64x250 .f32 := Memref.whole main_arg2
abbrev bmInM : Memref sig .tc .hbm S64x1000 .i32 := Memref.whole main_arg3
abbrev candInM : Memref sig .tc .hbm S64x52 .i32 := Memref.whole main_v1
abbrev codesOutM : Memref sig .tc .hbm S64x8192 .fp8e4m3 := Memref.whole main_v2_3
abbrev xRawM : Memref sig .tc .vmem S64x8192 .bf16 := Memref.whole cc0_scratch0
abbrev wsRawM : Memref sig .tc .vmem S64x250 .f32 := Memref.whole cc0_scratch3
abbrev bmRawM : Memref sig .tc .vmem S64x1000 .i32 := Memref.whole cc0_scratch5
abbrev candRawM : Memref sig .tc .vmem S64x52 .i32 := Memref.whole cc0_scratch7
end Names

end Cert.Proof.Kern
-- ==== Proof.Tail.lean ====
/-
  The kernel's end: the last chunk's epilogue, the two small results, and the last transfers.
-/
module

public import proofs.«01_k».proof.Proof.Names
public import proofs.«01_k».proof.Proof.Loop

@[expose] public section

set_option maxRecDepth 16384

noncomputable section

namespace Cert.Proof.Kern

open Cert.Kernel Cert.Kernel.Gen
open Idealize.ShloMosaic.ValueIdx
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-- The kernel's statements after its chunk loop. -/
def tailProg (arg0 : Memref sig .tc .hbm S64x8192 .bf16) (harg0 : arg0.IsWhole) (arg1 : Memref sig .tc .hbm S8192x32000 .fp8e4m3) (harg1 : arg1.IsWhole) (arg2 : Memref sig .tc .hbm S64x250 .f32) (harg2 : arg2.IsWhole) (arg3 : Memref sig .tc .hbm S64x1000 .i32) (harg3 : arg3.IsWhole) (arg4 : Memref sig .tc .hbm S64x52 .i32) (harg4 : arg4.IsWhole) (arg5 : Memref sig .tc .hbm S64x32000 .f32) (harg5 : arg5.IsWhole) (arg6 : Memref sig .tc .vmem S64x1 .f32) (harg6 : arg6.IsWhole) (arg7 : Memref sig .tc .vmem S64x52 .f32) (harg7 : arg7.IsWhole) (arg8 : Memref sig .tc .hbm S64x8192 .fp8e4m3) (harg8 : arg8.IsWhole) (arg9 : Memref sig .tc .vmem S64x1 .f32) (harg9 : arg9.IsWhole) (arg10 : Memref sig .tc .vmem S64x8192 .bf16) (harg10 : arg10.IsWhole) (arg11 : Memref sig .tc .vmem S64x8192 .fp8e4m3) (harg11 : arg11.IsWhole) (arg12 : Memref sig .tc .vmem S12x8192x256 .fp8e4m3) (harg12 : arg12.IsWhole) (arg13 : Memref sig .tc .vmem S64x250 .f32) (harg13 : arg13.IsWhole) (arg14 : Memref sig .tc .vmem S64x256 .f32) (harg14 : arg14.IsWhole) (arg15 : Memref sig .tc .vmem S64x1000 .i32) (harg15 : arg15.IsWhole) (arg16 : Memref sig .tc .vmem S64x1024 .i32) (harg16 : arg16.IsWhole) (arg17 : Memref sig .tc .vmem S64x52 .i32) (harg17 : arg17.IsWhole) (arg18 : Memref sig .tc .vmem S64x128 .i32) (harg18 : arg18.IsWhole) (arg19 : Memref sig .tc .vmem S64x256 .f32) (harg19 : arg19.IsWhole) (arg20 : Memref sig .tc .vmem S64x128 .f32) (harg20 : arg20.IsWhole) (arg21 : Memref sig .tc .vmem S2x64x256 .f32) (harg21 : arg21.IsWhole) (arg22 : Memref sig .tc .vmem S4x64x256 .f32) (harg22 : arg22.IsWhole) (arg23 : Memref sig .tc .vmem S64x128 .f32) (harg23 : arg23.IsWhole) (arg24 : Memref sig .tc .vmem S64x128 .f32) (harg24 : arg24.IsWhole) (arg25 : Memref sig .tc .vmem S64x128 .f32) (harg25 : arg25.IsWhole) (arg26 : Memref sig .tc .vmem S64x128 .i32) (harg26 : arg26.IsWhole) (arg27 : DmaSems sig S12) (arg28 : DmaSems sig S4) (arg29 : DmaSems sig S4) (arg30 : DmaSems sig S_) (v104 v120 : IVec S64x128 32) :
    Prog (TpuEff nD τ sig (Elt F) Λ₀ .tc) PUnit := do
  let ⟨v2250, v2251, v2252, v2270, v2272, v2273⟩ : Σ' (v2250 : Vec F S64x128 .i32) (v2251 : Vec F S64x128 .f32) (v2252 : Vec F S64x128 .f32) (v2270 : IVec S64x128 1) (v2272 : FVec F S64x128 .f32), Vec F S64x128 .f32 ← k0_part89 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 arg28 arg29 arg30 v104 v120
  let ⟨v2274, v2281, v2282, v2308, v2310, v2312, v2314, c0_i32_1253⟩ : Σ' (v2274 : FVec F S64x128 .f32) (v2281 : FVec F S64x128 .f32) (v2282 : FVec F S64x128 .f32) (v2308 : IVec S64x128 1) (v2310 : BitVec 32) (v2312 : IVec S64x128 32) (v2314 : IVec S64x128 1), BitVec 32 ← k0_part90 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 arg28 arg29 arg30 v2250 v2251 v2270 v2272 v2273
  let ⟨v2333, v2351, v2355, v2357⟩ : Σ' (v2333 : FVec F S64x128 .f32) (v2351 : IVec S64x128 1) (v2355 : FVec F S64x128 .f32), FVec F S64x128 .f32 ← k0_part91 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 arg28 arg29 arg30 v104 v120 v2252 v2274 v2308 v2310 v2312 v2314 c0_i32_1253
  let ⟨v2362, v2363, v2389, v2391, v2393, v2395, v2397, v2399⟩ : Σ' (v2362 : FVec F S64x128 .f32) (v2363 : FVec F S64x128 .f32) (v2389 : IVec S64x128 1) (v2391 : BitVec 32) (v2393 : IVec S64x128 32) (v2395 : IVec S64x128 1) (v2397 : IVec S64x128 1), IVec S64x128 1 ← k0_part92 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 arg28 arg29 arg30 v2250 v2282 v2351 v2355 v2357
  let ⟨v2436, v2441⟩ : Σ' (v2436 : FVec F S64x1 .f32), FVec F S64x128 .f32 ← k0_part93 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 arg28 arg29 arg30 v2251 v2281 v2333 v2355 v2362 v2363 v2389 v2391 v2393 v2395 v2397 v2399
  k0_part94 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 arg28 arg29 arg30 v2436 v2441
  let c0_i32_1324 : BitVec 32 := 0#32
  let v2472 : Memref sig .tc .hbm S64x256 .f32 := arg5.slice (Rect.unit (s := S64x32000) ![0, 31232] S64x256.size inb_S64x32000_S64x256_0_31232) (fun _ => rfl)
  let c0_i32_1325 : BitVec 32 := 0#32
  let c0_i32_1326 : BitVec 32 := 0#32
  let v2473 : Memref sig .tc .vmem S1x64x256 .f32 := arg22.slice (Rect.unit (s := S4x64x256) ![2, 0, 0] S1x64x256.size inb_S4x64x256_S1x64x256_2_0_0) (fun _ => rfl)
  let v2474 : Memref sig .tc .vmem S64x256 .f32 := v2473.squeeze S64x256 squeezes_S1x64x256_S64x256
  let v2470 : DmaSems sig S1 := arg28.slice (Rect.unit (s := S4) ![2] S1.size inb_S4_S1_2)
  let v2471 : DmaSems sig S_ := v2470.squeeze S_ squeezes_S1_S_
  Prog.lift (.waitDma2 v2471.sem v2474 v2472 ((View.wordExact_bits rfl).reshape _ _) (View.wordExact_bits rfl))
  let c31488_i32_1327 : BitVec 32 := 31488#32
  let v2475 : BitVec 32 := c31488_i32_1327
  let c3_i32_1328 : BitVec 32 := 3#32
  let c3_i32_1329 : BitVec 32 := 3#32
  let v2476 : DmaSems sig S1 := arg28.slice (Rect.unit (s := S4) ![3] S1.size inb_S4_S1_3)
  let v2477 : DmaSems sig S_ := v2476.squeeze S_ squeezes_S1_S_
  let c0_i32_1330 : BitVec 32 := 0#32
  let v2478 : Memref sig .tc .hbm S64x256 .f32 := arg5.slice (Rect.unit (s := S64x32000) ![0, 31488] S64x256.size inb_S64x32000_S64x256_0_31488) (fun _ => rfl)
  let c0_i32_1331 : BitVec 32 := 0#32
  let c0_i32_1332 : BitVec 32 := 0#32
  let v2479 : Memref sig .tc .vmem S1x64x256 .f32 := arg22.slice (Rect.unit (s := S4x64x256) ![3, 0, 0] S1x64x256.size inb_S4x64x256_S1x64x256_3_0_0) (fun _ => rfl)
  let v2480 : Memref sig .tc .vmem S64x256 .f32 := v2479.squeeze S64x256 squeezes_S1x64x256_S64x256
  Prog.lift (.waitDma2 v2477.sem v2480 v2478 ((View.wordExact_bits rfl).reshape _ _) (View.wordExact_bits rfl))
  let c31744_i32_1333 : BitVec 32 := 31744#32
  let v2481 : BitVec 32 := c31744_i32_1333
  let c0_i32_1334 : BitVec 32 := 0#32
  let c0_i32_1335 : BitVec 32 := 0#32
  let v2482 : DmaSems sig S1 := arg28.slice (Rect.unit (s := S4) ![0] S1.size inb_S4_S1_0)
  let v2483 : DmaSems sig S_ := v2482.squeeze S_ squeezes_S1_S_
  let c0_i32_1336 : BitVec 32 := 0#32
  let v2484 : Memref sig .tc .hbm S64x256 .f32 := arg5.slice (Rect.unit (s := S64x32000) ![0, 31744] S64x256.size inb_S64x32000_S64x256_0_31744) (fun _ => rfl)
  let c0_i32_1337 : BitVec 32 := 0#32
  let c0_i32_1338 : BitVec 32 := 0#32
  let v2485 : Memref sig .tc .vmem S1x64x256 .f32 := arg22.slice (Rect.unit (s := S4x64x256) ![0, 0, 0] S1x64x256.size inb_S4x64x256_S1x64x256_0_0_0) (fun _ => rfl)
  let v2486 : Memref sig .tc .vmem S64x256 .f32 := v2485.squeeze S64x256 squeezes_S1x64x256_S64x256
  Prog.lift (.waitDma2 v2483.sem v2486 v2484 ((View.wordExact_bits rfl).reshape _ _) (View.wordExact_bits rfl))
  Prog.lift (.waitDma2 arg30.sem arg11 arg8 harg11.wordExact harg8.wordExact)
  pure ⟨⟩
section Tail
variable (c : Dev nD) (XA : Buf (Elt F) (wM.view.loc (c : Thread nD τ)))
  (XC : Buf (Elt F) (codesM.view.loc (c : Thread nD τ))) (XS : Buf (Elt F) (wsM.view.loc (c : Thread nD τ)))
  (XB : Buf (Elt F) (bmM.view.loc (c : Thread nD τ))) (XD : Buf (Elt F) (candM.view.loc (c : Thread nD τ)))
  (XX : Buf (Elt F) (xsM.view.loc (c : Thread nD τ))) (XE : Buf (Elt F) (caM.view.loc (c : Thread nD τ)))
  (arg6 : Memref sig .tc .vmem S64x1 .f32) (harg6 : arg6.IsWhole) (arg7 : Memref sig .tc .vmem S64x52 .f32) (harg7 : arg7.IsWhole)
  (arg9 : Memref sig .tc .vmem S64x1 .f32) (harg9 : arg9.IsWhole)
  (v104 v120 : IVec S64x128 32)

abbrev tailG : Prog (TpuEff nD τ sig (Elt F) Λ₀ .tc) PUnit := tailProg (F := F) (Memref.whole main_v0) (Memref.isWhole_whole _) (Memref.whole main_arg1) (Memref.isWhole_whole _) (Memref.whole main_arg2) (Memref.isWhole_whole _) (Memref.whole main_arg3) (Memref.isWhole_whole _) (Memref.whole main_v1) (Memref.isWhole_whole _) (Memref.whole main_v2_0) (Memref.isWhole_whole _) arg6 harg6 arg7 harg7 (Memref.whole main_v2_3) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 v104 v120

/-- What the kernel's end computes: the row's log sum, the candidates' log probabilities and the last chunk's logits. -/
structure End (F : FTy → Type) where
  lse : S64x1.Idx → Elt F .f32
  clp : S64x52.Idx → Elt F .f32
  o₁ : S1x64x128.Idx → Elt F .f32
  o₂ : S1x64x128.Idx → Elt F .f32

theorem oAt_end (OV : ℕ → S64x256.Idx → Elt F .f32) : oAt c OV 124 ⊢ iprop(oHome (F := F) c 123 ∗ oHome (F := F) c 124 ∗ oFly c OV 120 ∗ oFly c OV 121 ∗ oFly c OV 122 ∗ bigSep (Finset.Ico 0 120) (oDone c OV) ∗ oReady c OV 123) := by
  unfold oAt
  rw [show (124 - 1 : ℕ) = 123 from rfl, show (124 - 4 : ℕ) = 120 from rfl, ico_head (oHome (F := F) c) (show 123 < 125 by decide), ico_head (oHome (F := F) c) (show 123 + 1 < 125 by decide), ico_head (oFly c OV) (show 120 < 123 by decide), ico_head (oFly c OV) (show 120 + 1 < 123 by decide), ico_head (oFly c OV) (show 120 + 1 + 1 < 123 by decide), ico_head (oReady c OV) (show 123 < 124 by decide)]
  iintro ⟨⟨H1, H2, -⟩, ⟨H3, H4, H5, -⟩, H6, ⟨H7, -⟩, -⟩
  iframe H1 H2 H3 H4 H5 H6 H7

abbrev codesFly (fo : Buf (Elt F) (codesOutM.view.loc (c : Thread nD τ))) (XR : Buf (Elt F) (codesM.view.loc (c : Thread nD τ))) : sProp 𝕄 :=
  Transfers.Flight countersEmb (c : Thread nD τ) (SemLoc.dma cc0_scratch20.sem) () 16384
    iprop((codesOutM.view.loc (c : Thread nD τ) ↦[codesOutM.view.set]{fullShare} fo) ∗ codesM.view.loc (c : Thread nD τ) ↦[codesM.view.set]{fullShare.right} XR)

theorem oFree_of (b : ℕ) (g : Buf (Elt F) ((oslot b).view.loc (c : Thread nD τ))) : iprop(oslotP c (oslot b) g ∗ cellP c (ocell b)) ⊢ oFree (F := F) c b := by
  unfold oFree oFreeAt; iintro ⟨H1, H2⟩; isplitl [H1]; · iexists _; iexact H1
  iexact H2
theorem oblk_of (b : ℕ) (f : Buf (Elt F) ((oblk b).view.loc (c : Thread nD τ))) (d x : S64x256.Idx → Elt F .f32) (h : d = x) :
    oblkP c b ((oblk b).view.writes (Elt F) f [⟨Rect.whole S64x256, d⟩]) ⊢ iprop(∃ f, ⌜(oblk b).view.read (Elt F) f = x⌝ ∗ oblkP c b f) := by
  iintro H; iexists _; isplitr; swap; iexact H; ipureintro; rw [← h]
  exact View.read_writes_whole _ _ _
theorem done_end (OV : ℕ → S64x256.Idx → Elt F .f32) : iprop(bigSep (Finset.Ico 0 120) (oDone c OV) ∗ oDone c OV 120 ∗ oDone c OV 121 ∗ oDone c OV 122 ∗ oDone c OV 123) ⊢ bigSep (Finset.Ico 0 124) (oDone c OV) := by
  rw [ico_last (oDone c OV) (show 0 ≤ 123 by decide), ico_last (oDone c OV) (show 0 ≤ 122 by decide), ico_last (oDone c OV) (show 0 ≤ 121 by decide), ico_last (oDone c OV) (show 0 ≤ 120 by decide)]
  iintro ⟨H, H0, H1, H2, H3⟩; iframe H3 H2 H1 H0 H

/-- What the kernel's end leaves. -/
abbrev tailPost (OV : ℕ → S64x256.Idx → Elt F .f32) (fo : Buf (Elt F) (codesOutM.view.loc (c : Thread nD τ))) (XR : Buf (Elt F) (codesM.view.loc (c : Thread nD τ))) (w : End F) : sProp 𝕄 :=
  iprop((arg6.view.loc (c : Thread nD τ) ↦[arg6.view.set]{fullShare} holds arg6 w.lse) ∗ (arg7.view.loc (c : Thread nD τ) ↦[arg7.view.set]{fullShare} holds arg7 w.clp)
    ∗ (∃ f, ⌜(oblk 124).view.read (Elt F) f = ohalves w.o₁ w.o₂⌝ ∗ oblkP c 124 f) ∗ bigSep (Finset.Ico 0 124) (oDone c OV)
    ∗ (oFree (F := F) c 120 ∗ oFree (F := F) c 121 ∗ oFree (F := F) c 122 ∗ oFree (F := F) c 123) ∗ wAt c XA 124
    ∗ ((∃ f, mP (F := F) c f) ∗ (∃ f, sP (F := F) c f) ∗ (∃ f, clP (F := F) c f) ∗ (∃ f, accP (F := F) c 124 f) ∗ (∃ f, accP (F := F) c (124 + 1) f) ∗ (∃ f, sexpP (F := F) c f))
    ∗ constP c XC XS XB XD XX XE
    ∗ ((codesOutM.view.loc (c : Thread nD τ) ↦[codesOutM.view.set]{fullShare} fo) ∗ (codesM.view.loc (c : Thread nD τ) ↦[codesM.view.set]{fullShare.right} XR) ∗ semVal ((c : Thread nD τ), SemLoc.dma cc0_scratch20.sem) 0)
    ∗ ∃ W, owes (c : Thread nD τ) 0 W)

set_option backward.proofsInPublic true in
/-- The kernel's end. -/
def tailRun (σ : St F) : { w : End F // ∀ (OV : ℕ → S64x256.Idx → Elt F .f32) (fo XR) (f6 : Buf (Elt F) (arg6.view.loc (c : Thread nD τ))) (f7 : Buf (Elt F) (arg7.view.loc (c : Thread nD τ))),
      iprop((arg6.view.loc (c : Thread nD τ) ↦[arg6.view.set]{fullShare} f6) ∗ (arg7.view.loc (c : Thread nD τ) ↦[arg7.view.set]{fullShare} f7) ∗ tripPre c XA OV XC XS XB XD XX XE 124 σ ∗ codesFly c fo XR)
      ⊢ wp frame (wpE (defs₀ (F := F)) 𝒱₀ (c : Thread nD τ) none) Set.univ (tailG arg6 harg6 arg7 harg7 arg9 harg9 v104 v120)
        (fun _ => tailPost c XA XC XS XB XD XX XE arg6 arg7 OV fo XR w) } := by
  refine ⟨?w, ?run⟩
  case' run =>
    intro OV fo XR f6 f7
    iintro ⟨HA6, HA7, ⟨⟨Hm, Hs, Hcl, Ha, ⟨%fb, Hb⟩, ⟨%fe, He⟩⟩, ⟨HC, HS, HB, HD, HXX, HE⟩, ⟨%W, HX⟩, HW, HO⟩, HF⟩
    ihave HO' := (oAt_end c OV) $$ HO
    unfold oHome oFly oFlyAt oReady
    icases HO' with ⟨⟨%h3, HO3⟩, ⟨%h4, HO4⟩, ⟨%ff0, %gf0, %hgf0, HF0⟩, ⟨%ff1, %gf1, %hgf1, HF1⟩, ⟨%ff2, %gf2, %hgf2, HF2⟩, HDN, ⟨⟨%go, %hgo, HOs⟩, HOc⟩⟩
    dsimp only [tailG]
    sl_unfold [tailProg]
    sl_exec
  case w => exact ⟨k0_pay255 (tailRun.sl.r_18 c XB XX v104 v120 σ) (tailRun.sl.r_19 c XB XX v104 v120 σ),
    k0_pay256 (tailRun.sl.r_18 c XB XX v104 v120 σ) (tailRun.sl.r_19 c XB XX v104 v120 σ)
            (View.readAt (Elt F) caM.view (Rect.unit (s := S64x128) ![0, 0] S64x128.size inb_S64x128_S64x128_0_0).toLoadRect XE)
            (tailRun.sl.v2450 c XD XX σ),
    k0_pay232 (tailRun.sl.v2270 c XB v104 v120) (tailRun.sl.v2272 σ) (tailRun.sl.r_1 c XX), k0_pay242 (tailRun.sl.r_11 c XB XX v104 v120 σ)⟩
  sl_step
  isplitl [HA6]
  · ihave H' := (holds_of c arg6 _ fullShare _ (View.read_writes_full _ _ _ _ _)) $$ HA6
    iexact H'
  isplitl [HA7]
  · ihave H' := (holds_of c arg7 _ fullShare _ (View.read_writes_full _ _ _ _ _)) $$ HA7
    iexact H'
  isplitl [HO4]
  · ihave H' := (oblk_of c 124 h4 (tailRun.sl.dma28 c XB XX v104 v120 σ gf0) _ (obuf_read (F := F) 120 rfl rfl _ _ gf0 _ _)) $$ HO4
    iexact H'
  isplitl [HDN HF0_dst HF1_dst HF2_dst HO3]
  · iapply (done_end c OV)
    isplitl [HDN]; · iexact HDN
    isplitl [HF0_dst]; · iapply (oDone_of c OV 120 ff0 gf0 hgf0); iexact HF0_dst
    isplitl [HF1_dst]; · iapply (oDone_of c OV 121 ff1 gf1 hgf1); iexact HF1_dst
    isplitl [HF2_dst]; · iapply (oDone_of c OV 122 ff2 gf2 hgf2); iexact HF2_dst
    iapply (oDone_of c OV 123 h3 go hgo); iexact HO3
  isplitl [HF0_src HF0 HF1_src HF1 HF2_src HF2 HOs HOc]
  · isplitl [HF0_src HF0]
    · iapply (oFree_of c 120 _); isplitl [HF0_src]; · iexact HF0_src
      iexact HF0
    isplitl [HF1_src HF1]
    · iapply (oFree_of c 121 _); isplitl [HF1_src]; · iexact HF1_src
      iexact HF1
    isplitl [HF2_src HF2]
    · iapply (oFree_of c 122 _); isplitl [HF2_src]; · iexact HF2_src
      iexact HF2
    iapply (oFree_of c 123 _); isplitl [HOs]; · iexact HOs
    iexact HOc
  isplitl [HW]
  · iexact HW
  isplitl [Hm Hs Hcl Ha Hb He]
  · isplitl [Hm]; · iexists _; iexact Hm
    isplitl [Hs]; · iexists _; iexact Hs
    isplitl [Hcl]; · iexists _; iexact Hcl
    isplitl [Ha]; · iexists _; iexact Ha
    isplitl [Hb]; · iexists _; iexact Hb
    iexists _; iexact He
  isplitl [HC HS HB HD HXX HE]
  · iframe HC HS HB HD HXX HE
  isplitl [HF_dst HF_src HF]
  · isplitl [HF_dst]; · iexact HF_dst
    isplitl [HF_src]; · iexact HF_src
    iexact HF
  iexists _; iexact HX

end Tail
end Cert.Proof.Kern
-- ==== Proof.Body.lean ====
/-
  The kernel's body from its start to its end.
-/
module

public import proofs.«01_k».proof.Proof.Part88
public import proofs.«01_k».proof.Proof.Tail

@[expose] public section

set_option maxRecDepth 16384

noncomputable section

namespace Cert.Proof.Kern

open Cert.Kernel Cert.Kernel.Gen
open Idealize.ShloMosaic.ValueIdx
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Body
variable (c : Dev nD) (XA : Buf (Elt F) (wM.view.loc (c : Thread nD τ)))
  (IX : Buf (Elt F) (xInM.view.loc (c : Thread nD τ))) (IS : Buf (Elt F) (wsInM.view.loc (c : Thread nD τ)))
  (IB : Buf (Elt F) (bmInM.view.loc (c : Thread nD τ))) (ID : Buf (Elt F) (candInM.view.loc (c : Thread nD τ)))
  (arg6 : Memref sig .tc .vmem S64x1 .f32) (harg6 : arg6.IsWhole) (arg7 : Memref sig .tc .vmem S64x52 .f32) (harg7 : arg7.IsWhole)
  (arg9 : Memref sig .tc .vmem S64x1 .f32) (harg9 : arg9.IsWhole)

/-- A buffer held whole at the contents `f`. -/
abbrev atP {sp : Space} {s : Shape} {e : EltTy} (M : Memref sig .tc sp s e) (f : Buf (Elt F) (M.view.loc (c : Thread nD τ))) : sProp 𝕄 :=
  M.view.loc (c : Thread nD τ) ↦[M.view.set]{fullShare} f
/-- A buffer held whole. -/
abbrev anyP {sp : Space} {s : Shape} {e : EltTy} (M : Memref sig .tc sp s e) : sProp 𝕄 := iprop(∃ f, atP (F := F) c M f)

abbrev bodyG : Prog (TpuEff nD τ sig (Elt F) Λ₀ .tc) PUnit := cc0_masked_head (F := F) (Memref.whole main_v0) (Memref.isWhole_whole _) (Memref.whole main_arg1) (Memref.isWhole_whole _) (Memref.whole main_arg2) (Memref.isWhole_whole _) (Memref.whole main_arg3) (Memref.isWhole_whole _) (Memref.whole main_v1) (Memref.isWhole_whole _) (Memref.whole main_v2_0) (Memref.isWhole_whole _) arg6 harg6 arg7 harg7 (Memref.whole main_v2_3) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20

/-- The inputs the body reads and leaves. -/
abbrev insP : sProp 𝕄 := iprop(atP c xInM IX ∗ atP c wsInM IS ∗ atP c bmInM IB ∗ atP c candInM ID)
/-- The scratch buffers outside the two rings. -/
abbrev scrP : sProp 𝕄 :=
  iprop(anyP (F := F) c xRawM ∗ anyP (F := F) c codesM ∗ anyP (F := F) c wsRawM ∗ anyP (F := F) c wsM ∗ anyP (F := F) c bmRawM ∗ anyP (F := F) c bmM ∗ anyP (F := F) c candRawM ∗ anyP (F := F) c candM
    ∗ anyP (F := F) c sexpM ∗ anyP (F := F) c xsM ∗ anyP (F := F) c mM ∗ anyP (F := F) c sM ∗ anyP (F := F) c clM ∗ anyP (F := F) c caM
    ∗ (∃ f, accP (F := F) c 0 f) ∗ ∃ f, accP (F := F) c 1 f)
abbrev cellsP : sProp 𝕄 := iprop(cellP (F := F) c icell0 ∗ cellP (F := F) c icell1 ∗ cellP (F := F) c icell2 ∗ cellP (F := F) c icell3 ∗ cellP (F := F) c cc0_scratch20)
/-- What the body is handed. -/
abbrev PRE : sProp 𝕄 :=
  iprop(insP c IX IS IB ID ∗ scrP (F := F) c ∗ cellsP (F := F) c ∗ anyP (F := F) c arg6 ∗ anyP (F := F) c arg7 ∗ anyP (F := F) c codesOutM ∗ anyP (F := F) c arg9
    ∗ bigSep (Finset.Ico 0 125) (wHome c XA) ∗ bigSep (Finset.Ico 0 12) (wFree (F := F) c)
    ∗ bigSep (Finset.Ico 0 125) (oHome (F := F) c) ∗ bigSep (Finset.Ico 0 4) (oFree (F := F) c) ∗ ∃ W, owes (c : Thread nD τ) 0 W)

/-- What the kernel's start computes: the input's codes and scales, the padded operands and the first terms of chunk 0. -/
structure Beg (F : FTy → Type) where
  codes : S64x8192.Idx → Elt F .fp8e4m3
  xs : S64x1.Idx → Elt F .f32
  sexp : S64x256.Idx → Elt F .f32
  ws : S64x256.Idx → Elt F .f32
  bm : S64x1024.Idx → Elt F .i32
  cand : S64x128.Idx → Elt F .i32
  xx : S64x128.Idx → Elt F .f32
  ca : S64x128.Idx → Elt F .i32
  m : S64x128.Idx → Elt F .f32
  s : S64x128.Idx → Elt F .f32
  cl : S64x128.Idx → Elt F .f32
  v104 : IVec S64x128 32
  v120 : IVec S64x128 32
  v2209 : FVec F S64x256 .f32
  v2210 : Vec F S64x128 .fp8e4m3
  v2212 : FVec F S128x256 .fp8e4m3
  cst : FVec F S64x256 .f32

theorem codes_cover {V : EltTy → Type} (L : List (View.Piece V S64x8192 .fp8e4m3)) (h : View.Piece.tiledL L ![64, 128] = true) : ∀ y, ∃ p ∈ L, y ∈ p.1.set := View.cover_of_tiledL L _ h
theorem sexp_cover {V : EltTy → Type} (L : List (View.Piece V S64x256 .f32)) (h : View.Piece.tiledL L ![64, 128] = true) : ∀ y, ∃ p ∈ L, y ∈ p.1.set := View.cover_of_tiledL L _ h
theorem eqE {M : Type _} [URA M] {P Q : sProp M} (e : P = Q) : P ⊢ Q := e ▸ .rfl
theorem ico12 {M : Type _} [URA M] (Φ : ℕ → sProp M) : bigSep (Finset.Ico 0 12) Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ BI.emp) := by
  rw [ico_head Φ (by decide), ico_head Φ (by decide), ico_head Φ (by decide), ico_head Φ (by decide), ico_head Φ (by decide), ico_head Φ (by decide),
    ico_head Φ (by decide), ico_head Φ (by decide), ico_head Φ (by decide), ico_head Φ (by decide), ico_head Φ (by decide), ico_head Φ (by decide), ico_empty Φ (by decide)]
theorem ico_split {M : Type _} [URA M] (Φ : ℕ → sProp M) : bigSep (Finset.Ico 0 125) Φ = iprop(bigSep (Finset.Ico 0 12) Φ ∗ bigSep (Finset.Ico 12 125) Φ) := by
  rw [show Finset.Ico 0 125 = Finset.Ico 0 12 ∪ Finset.Ico 12 125 from (Finset.Ico_union_Ico_eq_Ico (by decide) (by decide)).symm,
    bigSep_union (Finset.Ico_disjoint_Ico_consecutive 0 12 125)]; rfl

section Values
variable (B : Beg F)
/-- Chunk 0's accumulator. -/
abbrev begAcc := part88_run c XA (holds codesM B.codes) (holds wsM B.ws) (holds bmM B.bm) (holds candM B.cand) (holds xsM B.xx) (holds caM B.ca) arg6 harg6 arg7 harg7 arg9 harg9 B.v104 B.v120 B.v2209 B.v2210 B.v2212 B.cst (holds sexpM B.sexp)
/-- The state the chunk loop starts at. -/
abbrev begSt : St F := st₀ (mM.view.read (Elt F) (holds mM B.m)) (sM.view.read (Elt F) (holds sM B.s)) (clM.view.read (Elt F) (holds clM B.cl)) (begAcc c XA arg6 harg6 arg7 harg7 arg9 harg9 B).1
/-- The state it ends at. -/
abbrev endSt : St F := stAt c XA (holds codesM B.codes) (holds wsM B.ws) (holds bmM B.bm) (holds candM B.cand) (holds xsM B.xx) (holds caM B.ca) arg6 harg6 arg7 harg7 arg9 harg9 B.v104 B.v120 B.v2209 B.v2210 B.v2212 B.cst (begSt c XA arg6 harg6 arg7 harg7 arg9 harg9 B) 124
/-- The kernel's end from there. -/
abbrev endRun := tailRun c XA (holds codesM B.codes) (holds wsM B.ws) (holds bmM B.bm) (holds candM B.cand) (holds xsM B.xx) (holds caM B.ca) arg6 harg6 arg7 harg7 arg9 harg9 B.v104 B.v120 (endSt c XA arg6 harg6 arg7 harg7 arg9 harg9 B)
/-- What each trip puts in the logits. -/
abbrev tripOv : ℕ → S64x256.Idx → Elt F .f32 := ovAt c XA (holds codesM B.codes) (holds wsM B.ws) (holds bmM B.bm) (holds candM B.cand) (holds xsM B.xx) (holds caM B.ca) arg6 harg6 arg7 harg7 arg9 harg9 B.v104 B.v120 B.v2209 B.v2210 B.v2212 B.cst (begSt c XA arg6 harg6 arg7 harg7 arg9 harg9 B)
/-- The logits, chunk by chunk. -/
def bodyOv (b : ℕ) : S64x256.Idx → Elt F .f32 :=
  if b < 124 then tripOv c XA arg6 harg6 arg7 harg7 arg9 harg9 B b else ohalves (endRun c XA arg6 harg6 arg7 harg7 arg9 harg9 B).1.o₁ (endRun c XA arg6 harg6 arg7 harg7 arg9 harg9 B).1.o₂

/-- What the body leaves. -/
abbrev POST : sProp 𝕄 :=
  iprop(insP c IX IS IB ID ∗ scrP (F := F) c ∗ cellsP (F := F) c ∗ atP c arg6 (holds arg6 (endRun c XA arg6 harg6 arg7 harg7 arg9 harg9 B).1.lse) ∗ atP c arg7 (holds arg7 (endRun c XA arg6 harg6 arg7 harg7 arg9 harg9 B).1.clp)
    ∗ atP c codesOutM (holds codesOutM B.codes) ∗ atP c arg9 (holds arg9 B.xs)
    ∗ bigSep (Finset.Ico 0 125) (wHome c XA) ∗ bigSep (Finset.Ico 0 12) (wFree (F := F) c)
    ∗ bigSep (Finset.Ico 0 125) (oDone c (bodyOv c XA arg6 harg6 arg7 harg7 arg9 harg9 B)) ∗ bigSep (Finset.Ico 0 4) (oFree (F := F) c) ∗ ∃ W, owes (c : Thread nD τ) 0 W)
end Values

theorem ico1_12 {M : Type _} [URA M] (Φ : ℕ → sProp M) : bigSep (Finset.Ico 1 12) Φ = iprop(Φ 1 ∗ Φ 2 ∗ Φ 3 ∗ Φ 4 ∗ Φ 5 ∗ Φ 6 ∗ Φ 7 ∗ Φ 8 ∗ Φ 9 ∗ Φ 10 ∗ Φ 11 ∗ BI.emp) := by
  rw [ico_head Φ (by decide), ico_head Φ (by decide), ico_head Φ (by decide), ico_head Φ (by decide), ico_head Φ (by decide),
    ico_head Φ (by decide), ico_head Φ (by decide), ico_head Φ (by decide), ico_head Φ (by decide), ico_head Φ (by decide), ico_head Φ (by decide), ico_empty Φ (by decide)]
theorem wFly_of (b : ℕ) (f : Buf (Elt F) ((wslot b).view.loc (c : Thread nD τ))) :
    (Transfers.Flight countersEmb (c : Thread nD τ) (SemLoc.dma (wcell b).sem) () 65536 iprop(wslotP c (wslot b) (wLanded c XA (wslot b) b f) ∗ wHome c XA b) : sProp 𝕄) ⊢ wFly c XA b := by
  iintro H; unfold wFly wFlyAt; iexists f; iexact H
theorem wp_seq {α β : Type} {p : Prog (TpuEff nD τ sig (Elt F) Λ₀ .tc) α} {k : α → Prog (TpuEff nD τ sig (Elt F) Λ₀ .tc) β} {Q : β → sProp 𝕄} {Q1 : α → sProp 𝕄} :
    iprop(wp frame (wpE (defs₀ (F := F)) 𝒱₀ (c : Thread nD τ) none) Set.univ p Q1 ∗ (∀ a, Q1 a -∗ wp frame (wpE (defs₀ (F := F)) 𝒱₀ (c : Thread nD τ) none) Set.univ (k a) Q))
      ⊢ wp frame (wpE (defs₀ (F := F)) 𝒱₀ (c : Thread nD τ) none) Set.univ (p >>= k) Q := by
  rw [wp_bind]; exact wp_wand_r _ _ _
theorem codes_out (g : codesOutM.view.ty.Contents (Elt F)) (d x : S64x8192.Idx → Elt F .fp8e4m3) (h : d = x) : codesOutM.view.read (Elt F) (codesOutM.view.writes (Elt F) g [⟨Rect.whole S64x8192, d⟩]) = x := by
  rw [View.read_writes_whole, h]
theorem codes_join (f : Buf (Elt F) (codesM.view.loc (c : Thread nD τ))) : iprop(codesP c fullShare.left f ∗ codesP c fullShare.right f) ⊢ codesP c fullShare f :=
  (pointsTo_share (PosShare.mem_left_op_right fullShare)).2
theorem done_all (B : Beg F) : iprop(bigSep (Finset.Ico 0 124) (oDone c (tripOv c XA arg6 harg6 arg7 harg7 arg9 harg9 B))
    ∗ ∃ f, ⌜(oblk 124).view.read (Elt F) f = ohalves (endRun c XA arg6 harg6 arg7 harg7 arg9 harg9 B).1.o₁ (endRun c XA arg6 harg6 arg7 harg7 arg9 harg9 B).1.o₂⌝ ∗ oblkP c 124 f)
      ⊢ bigSep (Finset.Ico 0 125) (oDone c (bodyOv c XA arg6 harg6 arg7 harg7 arg9 harg9 B)) := by
  rw [ico_last (oDone c (bodyOv c XA arg6 harg6 arg7 harg7 arg9 harg9 B)) (show 0 ≤ 124 by decide)]
  iintro ⟨H, ⟨%f, %hf, H4⟩⟩
  isplitl [H4]
  · unfold oDone; iexists f; isplitr; swap; iexact H4
    ipureintro; rw [hf]; unfold bodyOv; rw [if_neg (by decide)]
  have e : bigSep (Finset.Ico 0 124) (oDone c (tripOv c XA arg6 harg6 arg7 harg7 arg9 harg9 B)) = bigSep (Finset.Ico 0 124) (oDone c (bodyOv c XA arg6 harg6 arg7 harg7 arg9 harg9 B)) := by
    refine bigSep_congr fun b hb => ?_
    unfold oDone bodyOv; rw [if_pos (Finset.mem_Ico.1 hb).2]
  iapply (eqE e); iexact H

theorem wAt_end : wAt c XA 124 ⊢ iprop(bigSep (Finset.Ico 0 125) (wHome c XA) ∗ bigSep (Finset.Ico 0 12) (wFree (F := F) c)) := by
  unfold wAt
  rw [ico12 (wFree (F := F) c), show bigSep (Finset.Ico (min 124 113) (124 + 1)) (wFree (F := F) c) = iprop(wFree (F := F) c 113 ∗ wFree (F := F) c 114 ∗ wFree (F := F) c 115 ∗ wFree (F := F) c 116 ∗ wFree (F := F) c 117 ∗ wFree (F := F) c 118 ∗ wFree (F := F) c 119 ∗ wFree (F := F) c 120 ∗ wFree (F := F) c 121 ∗ wFree (F := F) c 122 ∗ wFree (F := F) c 123 ∗ wFree (F := F) c 124 ∗ BI.emp) by
    rw [show min 124 113 = 113 from rfl, ico_head _ (by decide), ico_head _ (by decide), ico_head _ (by decide), ico_head _ (by decide), ico_head _ (by decide), ico_head _ (by decide),
      ico_head _ (by decide), ico_head _ (by decide), ico_head _ (by decide), ico_head _ (by decide), ico_head _ (by decide), ico_head _ (by decide), ico_empty _ (by decide)]]
  iintro ⟨H, -, -, ⟨H5, H6, H7, H8, H9, H10, H11, H0, H1, H2, H3, H4, -⟩⟩
  isplitl [H]; · iexact H
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iempintro

theorem oFree_end : iprop(oFree (F := F) c 120 ∗ oFree (F := F) c 121 ∗ oFree (F := F) c 122 ∗ oFree (F := F) c 123) ⊢ bigSep (Finset.Ico 0 4) (oFree (F := F) c) := by
  rw [ico_head _ (by decide), ico_head _ (by decide), ico_head _ (by decide), ico_head _ (by decide), ico_empty _ (by decide)]
  iintro ⟨H0, H1, H2, H3⟩
  isplitl [H0]; · iexact H0
  isplitl [H1]; · iexact H1
  isplitl [H2]; · iexact H2
  isplitl [H3]; · iexact H3
  iempintro

set_option backward.proofsInPublic true in
set_option maxHeartbeats 4000000 in
/-- The kernel's body. -/
def bodyRun : { B : Beg F // PRE c XA IX IS IB ID arg6 arg7 arg9 ⊢ wp frame (wpE (defs₀ (F := F)) 𝒱₀ (c : Thread nD τ) none) Set.univ (bodyG arg6 harg6 arg7 harg7 arg9 harg9)
    (fun _ => POST c XA IX IS IB ID arg6 harg6 arg7 harg7 arg9 harg9 B) } := by
  refine ⟨?w, ?run⟩
  case' run =>
    iintro ⟨⟨HIX, HIS, HIB, HID⟩, ⟨⟨%f0, HXR⟩, ⟨%f1, HC⟩, ⟨%f2, HSR⟩, ⟨%f3, HS⟩, ⟨%f4, HBR⟩, ⟨%f5, HB⟩, ⟨%f6, HDR⟩, ⟨%f7, HD⟩, ⟨%f8, He⟩, ⟨%f9, HXX⟩, ⟨%f10, Hm⟩, ⟨%f11, Hs⟩, ⟨%f12, Hcl⟩, ⟨%f13, HE⟩, ⟨%f14, Ha⟩, ⟨%f15, Hb⟩⟩,
      ⟨Hi0, Hi1, Hi2, Hi3, Hcc⟩, ⟨%g6, HA6⟩, ⟨%g7, HA7⟩, ⟨%g8, HA8⟩, ⟨%g9, HA9⟩, HWH, HWF, HOH, HOF, ⟨%W, HX⟩⟩
    ihave HWF' := (eqE (ico12 (wFree c))) $$ HWF
    unfold wFree wFreeAt
    icases HWF' with ⟨⟨⟨%w0, Hw0⟩, Hq0⟩, ⟨⟨%w1, Hw1⟩, Hq1⟩, ⟨⟨%w2, Hw2⟩, Hq2⟩, ⟨⟨%w3, Hw3⟩, Hq3⟩, ⟨⟨%w4, Hw4⟩, Hq4⟩, ⟨⟨%w5, Hw5⟩, Hq5⟩, ⟨⟨%w6, Hw6⟩, Hq6⟩, ⟨⟨%w7, Hw7⟩, Hq7⟩, ⟨⟨%w8, Hw8⟩, Hq8⟩, ⟨⟨%w9, Hw9⟩, Hq9⟩, ⟨⟨%w10, Hw10⟩, Hq10⟩, ⟨⟨%w11, Hw11⟩, Hq11⟩, -⟩
    ihave HWH' := (eqE (ico_split (wHome c XA))) $$ HWH
    icases HWH' with ⟨HWH, HWH2⟩
    ihave HWH' := (eqE (ico12 (wHome c XA))) $$ HWH
    icases HWH' with ⟨Hh0, Hh1, Hh2, Hh3, Hh4, Hh5, Hh6, Hh7, Hh8, Hh9, Hh10, Hh11, -⟩
    set_option sl_exec.lendShare "HC" in
    set_option sl_exec.stopBefore "k0_part88" in
    sl_exec
  case w => exact ⟨View.canon (bodyRun.sl.HC_64 c IX), k0_pay146 (bodyRun.sl.r_10 c IX), View.canon (bodyRun.sl.He_2 c IS), View.canon (bodyRun.sl.HS_2 c IS), View.canon (bodyRun.sl.HB_2 c IB), View.canon (bodyRun.sl.HD_2 c ID),
    k0_pay147 (bodyRun.sl.r_10 c IX), k0_pay192 (bodyRun.sl.v1651 c IB ID) (bodyRun.sl.v1228 c ID) (bodyRun.sl.v1664 c ID) (bodyRun.sl.v1666 c ID), k0_pay193, k0_pay194, k0_pay195,
    bodyRun.sl.r, k0_pay56 bodyRun.sl.v80, bodyRun.sl.r_57 c XA IX IS, bodyRun.sl.v2210 c IX, bodyRun.sl.r_58 c XA, bodyRun.sl.cst_769⟩
  ihave HC1 := (holds_of c codesM _ fullShare.left (View.canon (bodyRun.sl.HC_64 c IX)) (View.read_writes_eq_canon _ _ _ (codes_cover _ (by sl_kernel_rfl)))) $$ HC
  ihave He1 := (holds_of c sexpM _ fullShare (View.canon (bodyRun.sl.He_2 c IS)) (View.read_writes_eq_canon _ _ _ (sexp_cover _ (by sl_kernel_rfl)))) $$ He
  ihave HS1 := (holds_of c wsM _ fullShare (View.canon (bodyRun.sl.HS_2 c IS)) (View.read_writes_eq_canon _ _ _ (View.cover_of_wholeMem _ (View.Piece.wholeMem_cons (View.Piece.wholeMem_here rfl))))) $$ HS
  ihave HB1 := (holds_of c bmM _ fullShare (View.canon (bodyRun.sl.HB_2 c IB)) (View.read_writes_eq_canon _ _ _ (View.cover_of_wholeMem _ (View.Piece.wholeMem_cons (View.Piece.wholeMem_here rfl))))) $$ HB
  ihave HD1 := (holds_of c candM _ fullShare (View.canon (bodyRun.sl.HD_2 c ID)) (View.read_writes_eq_canon _ _ _ (View.cover_of_wholeMem _ (View.Piece.wholeMem_cons (View.Piece.wholeMem_here rfl))))) $$ HD
  ihave HXX1 := (holds_of c xsM _ fullShare _ (View.read_writes_full _ _ _ _ _)) $$ HXX
  ihave HE1 := (holds_of c caM _ fullShare _ (View.read_writes_full _ _ _ _ _)) $$ HE
  ihave Hm1 := (holds_of c mM _ fullShare _ (View.read_writes_full _ _ _ _ _)) $$ Hm
  ihave Hs1 := (holds_of c sM _ fullShare _ (View.read_writes_full _ _ _ _ _)) $$ Hs
  ihave Hcl1 := (holds_of c clM _ fullShare _ (View.read_writes_full _ _ _ _ _)) $$ Hcl
  iapply (wp_seq (F := F) c (Q1 := fun _ => loopAt c XA (holds codesM (View.canon (bodyRun.sl.HC_64 c IX))) (holds wsM (View.canon (bodyRun.sl.HS_2 c IS))) (holds bmM (View.canon (bodyRun.sl.HB_2 c IB))) (holds candM (View.canon (bodyRun.sl.HD_2 c ID)))
    (holds xsM (k0_pay147 (bodyRun.sl.r_10 c IX))) (holds caM (k0_pay192 (bodyRun.sl.v1651 c IB ID) (bodyRun.sl.v1228 c ID) (bodyRun.sl.v1664 c ID) (bodyRun.sl.v1666 c ID))) arg6 harg6 arg7 harg7 arg9 harg9
    bodyRun.sl.r (k0_pay56 bodyRun.sl.v80) (bodyRun.sl.r_57 c XA IX IS) (bodyRun.sl.v2210 c IX) (bodyRun.sl.r_58 c XA) bodyRun.sl.cst_769 (begSt c XA arg6 harg6 arg7 harg7 arg9 harg9 (⟨View.canon (bodyRun.sl.HC_64 c IX), k0_pay146 (bodyRun.sl.r_10 c IX), View.canon (bodyRun.sl.He_2 c IS), View.canon (bodyRun.sl.HS_2 c IS), View.canon (bodyRun.sl.HB_2 c IB), View.canon (bodyRun.sl.HD_2 c ID), k0_pay147 (bodyRun.sl.r_10 c IX), k0_pay192 (bodyRun.sl.v1651 c IB ID) (bodyRun.sl.v1228 c ID) (bodyRun.sl.v1664 c ID) (bodyRun.sl.v1666 c ID), k0_pay193, k0_pay194, k0_pay195, bodyRun.sl.r, k0_pay56 bodyRun.sl.v80, bodyRun.sl.r_57 c XA IX IS, bodyRun.sl.v2210 c IX, bodyRun.sl.r_58 c XA, bodyRun.sl.cst_769⟩)) 124))
  isplitl [HC1 HS1 HB1 HD1 HXX1 HE1 Hm1 Hs1 Hcl1 He1 Hw0 Hq0 Hh0 Hq1 Hq2 Hq3 Hq4 Hq5 Hq6 Hq7 Hq8 Hq9 Hq10 Hq11 HWH2 Ha Hb HX HOH HOF]
  · iapply ((begAcc c XA arg6 harg6 arg7 harg7 arg9 harg9 (⟨View.canon (bodyRun.sl.HC_64 c IX), k0_pay146 (bodyRun.sl.r_10 c IX), View.canon (bodyRun.sl.He_2 c IS), View.canon (bodyRun.sl.HS_2 c IS), View.canon (bodyRun.sl.HB_2 c IB), View.canon (bodyRun.sl.HD_2 c ID), k0_pay147 (bodyRun.sl.r_10 c IX), k0_pay192 (bodyRun.sl.v1651 c IB ID) (bodyRun.sl.v1228 c ID) (bodyRun.sl.v1664 c ID) (bodyRun.sl.v1666 c ID), k0_pay193, k0_pay194, k0_pay195, bodyRun.sl.r, k0_pay56 bodyRun.sl.v80, bodyRun.sl.r_57 c XA IX IS, bodyRun.sl.v2210 c IX, bodyRun.sl.r_58 c XA, bodyRun.sl.cst_769⟩)).2 (wslot 0).view.junk _ _ _ _)
    isplitl [Hm1]; · iexact Hm1
    isplitl [Hs1]; · iexact Hs1
    isplitl [Hcl1]; · iexact Hcl1
    isplitl [He1]; · iexact He1
    isplitl [HC1 HS1 HB1 HD1 HXX1 HE1]
    · isplitl [HC1]; · iexact HC1
      isplitl [HS1]; · iexact HS1
      isplitl [HB1]; · iexact HB1
      isplitl [HD1]; · iexact HD1
      isplitl [HXX1]; · iexact HXX1
      iexact HE1
    isplitl [Hw0]; · iexact Hw0
    isplitl [Hq0]; · iexact Hq0
    isplitl [Hh0 Hq1 Hq2 Hq3 Hq4 Hq5 Hq6 Hq7 Hq8 Hq9 Hq10 Hq11 HWH2]
    · isplitl [Hh0]
      · rw [ico_head (wHome c XA) (show 0 < 1 by decide), ico_empty (wHome c XA) (show 1 ≤ 0 + 1 by decide)]
        isplitl [Hh0]; · iexact Hh0
        iempintro
      isplitl [Hq1 Hq2 Hq3 Hq4 Hq5 Hq6 Hq7 Hq8 Hq9 Hq10 Hq11]
      · rw [ico1_12 (wFly c XA)]
        isplitl [Hq1]; · iapply (wFly_of c XA 1 w1); iexact Hq1
        isplitl [Hq2]; · iapply (wFly_of c XA 2 w2); iexact Hq2
        isplitl [Hq3]; · iapply (wFly_of c XA 3 w3); iexact Hq3
        isplitl [Hq4]; · iapply (wFly_of c XA 4 w4); iexact Hq4
        isplitl [Hq5]; · iapply (wFly_of c XA 5 w5); iexact Hq5
        isplitl [Hq6]; · iapply (wFly_of c XA 6 w6); iexact Hq6
        isplitl [Hq7]; · iapply (wFly_of c XA 7 w7); iexact Hq7
        isplitl [Hq8]; · iapply (wFly_of c XA 8 w8); iexact Hq8
        isplitl [Hq9]; · iapply (wFly_of c XA 9 w9); iexact Hq9
        isplitl [Hq10]; · iapply (wFly_of c XA 10 w10); iexact Hq10
        isplitl [Hq11]; · iapply (wFly_of c XA 11 w11); iexact Hq11
        iempintro
      iexact HWH2
    isplitl [Ha]; · iexact Ha
    isplitl [Hb]; · iexists _; iexact Hb
    isplitl [HX]; · iexists _; iexact HX
    isplitl [HOH]; · iexact HOH
    iexact HOF
  iintro %_ HL
  iapply (wp_wand_r Idealize.ShloMosaic.frame (wpE (defs₀ (F := F)) 𝒱₀ (c : Thread nD τ) none) Set.univ)
  isplitl [HL HA6 HA7 Hcc]
  · iapply ((endRun c XA arg6 harg6 arg7 harg7 arg9 harg9 (⟨View.canon (bodyRun.sl.HC_64 c IX), k0_pay146 (bodyRun.sl.r_10 c IX), View.canon (bodyRun.sl.He_2 c IS), View.canon (bodyRun.sl.HS_2 c IS), View.canon (bodyRun.sl.HB_2 c IB), View.canon (bodyRun.sl.HD_2 c ID), k0_pay147 (bodyRun.sl.r_10 c IX), k0_pay192 (bodyRun.sl.v1651 c IB ID) (bodyRun.sl.v1228 c ID) (bodyRun.sl.v1664 c ID) (bodyRun.sl.v1666 c ID), k0_pay193, k0_pay194, k0_pay195, bodyRun.sl.r, k0_pay56 bodyRun.sl.v80, bodyRun.sl.r_57 c XA IX IS, bodyRun.sl.v2210 c IX, bodyRun.sl.r_58 c XA, bodyRun.sl.cst_769⟩)).2 (tripOv c XA arg6 harg6 arg7 harg7 arg9 harg9 (⟨View.canon (bodyRun.sl.HC_64 c IX), k0_pay146 (bodyRun.sl.r_10 c IX), View.canon (bodyRun.sl.He_2 c IS), View.canon (bodyRun.sl.HS_2 c IS), View.canon (bodyRun.sl.HB_2 c IB), View.canon (bodyRun.sl.HD_2 c ID), k0_pay147 (bodyRun.sl.r_10 c IX), k0_pay192 (bodyRun.sl.v1651 c IB ID) (bodyRun.sl.v1228 c ID) (bodyRun.sl.v1664 c ID) (bodyRun.sl.v1666 c ID), k0_pay193, k0_pay194, k0_pay195, bodyRun.sl.r, k0_pay56 bodyRun.sl.v80, bodyRun.sl.r_57 c XA IX IS, bodyRun.sl.v2210 c IX, bodyRun.sl.r_58 c XA, bodyRun.sl.cst_769⟩)) (codesOutM.view.writes (Elt F) g8 [⟨Rect.whole S64x8192, bodyRun.sl.dma292 c IX f1⟩]) (codesM.view.writes (Elt F) f1 (bodyRun.sl.HC_64 c IX)) g6 g7)
    isplitl [HA6]; · iexact HA6
    isplitl [HA7]; · iexact HA7
    isplitl [HL]; · iexact HL
    iexact Hcc
  iintro %_ ⟨P6, P7, P4, PD, PF, PW, ⟨Pm, Ps, Pcl, Pa, Pb, Pe⟩, ⟨PC, PS, PB, PDc, PX, PE⟩, ⟨PO, PR, PQ⟩, PX0⟩
  isplitl [HIX HIS HIB HID]
  · isplitl [HIX]; · iexact HIX
    isplitl [HIS]; · iexact HIS
    isplitl [HIB]; · iexact HIB
    iexact HID
  isplitl [HXR HSR HBR HDR PC PR PS PB PDc Pe PX Pm Ps Pcl PE Pa Pb]
  · isplitl [HXR]; · iexists _; iexact HXR
    isplitl [PC PR]
    · ihave PR' := (holds_of c codesM _ fullShare.right (View.canon (bodyRun.sl.HC_64 c IX)) (View.read_writes_eq_canon _ _ _ (codes_cover _ (by sl_kernel_rfl)))) $$ PR
      iexists _; iapply (codes_join c _); isplitl [PC]; · iexact PC
      iexact PR'
    isplitl [HSR]; · iexists _; iexact HSR
    isplitl [PS]; · iexists _; iexact PS
    isplitl [HBR]; · iexists _; iexact HBR
    isplitl [PB]; · iexists _; iexact PB
    isplitl [HDR]; · iexists _; iexact HDR
    isplitl [PDc]; · iexists _; iexact PDc
    isplitl [Pe]; · iexact Pe
    isplitl [PX]; · iexists _; iexact PX
    isplitl [Pm]; · iexact Pm
    isplitl [Ps]; · iexact Ps
    isplitl [Pcl]; · iexact Pcl
    isplitl [PE]; · iexists _; iexact PE
    isplitl [Pa]; · iexact Pa
    iexact Pb
  isplitl [Hi0 Hi1 Hi2 Hi3 PQ]
  · isplitl [Hi0]; · iexact Hi0
    isplitl [Hi1]; · iexact Hi1
    isplitl [Hi2]; · iexact Hi2
    isplitl [Hi3]; · iexact Hi3
    iexact PQ
  isplitl [P6]; · iexact P6
  isplitl [P7]; · iexact P7
  isplitl [PO]
  · ihave PO' := (holds_of c codesOutM _ fullShare (View.canon (bodyRun.sl.HC_64 c IX)) (codes_out (F := F) g8 (bodyRun.sl.dma292 c IX f1) _ (View.read_writes_eq_canon (Val := Elt F) codesM.view f1 (bodyRun.sl.HC_64 c IX) (codes_cover _ (by sl_kernel_rfl))))) $$ PO
    iexact PO'
  isplitl [HA9]
  · ihave H' := (holds_of c arg9 _ fullShare _ (View.read_writes_full _ _ _ _ _)) $$ HA9
    iexact H'
  ihave PW' := (wAt_end c XA) $$ PW
  icases PW' with ⟨PW1, PW2⟩
  isplitl [PW1]; · iexact PW1
  isplitl [PW2]; · iexact PW2
  isplitl [PD P4]
  · iapply (done_all c XA arg6 harg6 arg7 harg7 arg9 harg9 (⟨View.canon (bodyRun.sl.HC_64 c IX), k0_pay146 (bodyRun.sl.r_10 c IX), View.canon (bodyRun.sl.He_2 c IS), View.canon (bodyRun.sl.HS_2 c IS), View.canon (bodyRun.sl.HB_2 c IB), View.canon (bodyRun.sl.HD_2 c ID), k0_pay147 (bodyRun.sl.r_10 c IX), k0_pay192 (bodyRun.sl.v1651 c IB ID) (bodyRun.sl.v1228 c ID) (bodyRun.sl.v1664 c ID) (bodyRun.sl.v1666 c ID), k0_pay193, k0_pay194, k0_pay195, bodyRun.sl.r, k0_pay56 bodyRun.sl.v80, bodyRun.sl.r_57 c XA IX IS, bodyRun.sl.v2210 c IX, bodyRun.sl.r_58 c XA, bodyRun.sl.cst_769⟩))
    isplitl [PD]; · iexact PD
    iexact P4
  isplitl [PF]
  · iapply (oFree_end c); iexact PF
  iexact PX0
end Body

end Cert.Proof.Kern
-- ==== Proof.Split.lean ====
/-
  The buffers the kernel works on piece by piece, held whole and held in pieces: the weights and the logits in their
  125 blocks of columns, the two rings and the accumulator in their slots.
-/
module

public import proofs.«01_k».proof.Proof.Names

@[expose] public section

set_option maxRecDepth 16384

noncomputable section

namespace Cert.Proof.Kern

open Cert.Kernel Cert.Kernel.Gen
open Idealize.ShloMosaic.ValueIdx
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Whole
variable {ℓ : Loc nD τ sig} (n : ℕ) (J : ℕ → Finset (Idx ℓ)) (hd : ∀ b b' : Fin n, b ≠ b' → Disjoint (J b.val) (J b'.val))
  (hc : (Finset.univ : Finset (Fin n)).biUnion (fun b => J b.val) = Finset.univ)
include hd hc
theorem whole_eq (q : PosShare TreeShare) (f : Buf (Elt F) ℓ) : (ℓ ↦{q} f : sProp 𝕄) = bigSep (Finset.Ico 0 n) (fun b => ℓ ↦[J b]{q} f) := by
  rw [Ring.pointsTo_blocks (fun b : Fin n => J b.val) hd hc f, Ring.bigSep_fin_eq_range n _ (fun b => (ℓ ↦[J b]{q} f : sProp 𝕄)) (fun _ _ => rfl), Finset.range_eq_Ico]
theorem whole_join (q : PosShare TreeShare) (f₀ : Buf (Elt F) ℓ) : bigSep (Finset.Ico 0 n) (fun b => iprop(∃ f, ℓ ↦[J b]{q} f)) ⊢ (iprop(∃ g, ℓ ↦{q} g) : sProp 𝕄) := by
  rw [← Finset.range_eq_Ico, ← Ring.bigSep_fin_eq_range n (fun b : Fin n => iprop(∃ f, ℓ ↦[J b.val]{q} f)) (fun b => (iprop(∃ f, ℓ ↦[J b]{q} f) : sProp 𝕄)) (fun _ _ => rfl)]
  exact Ring.pointsTo_blocks_join_exists (fun b : Fin n => J b.val) hd hc f₀
theorem whole_any (q : PosShare TreeShare) : (iprop(∃ g, ℓ ↦{q} g) : sProp 𝕄) ⊢ bigSep (Finset.Ico 0 n) (fun b => iprop(∃ f : Buf (Elt F) ℓ, ℓ ↦[J b]{q} f)) := by
  refine exists_elim fun f => ?_
  rw [whole_eq n J hd hc q f]
  exact bigSep_mono fun b _ => exists_intro (Φ := fun f : Buf (Elt F) ℓ => (ℓ ↦[J b]{q} f : sProp 𝕄)) f
end Whole

/-! ## The pieces' elements -/

theorem wblk_set (b : ℕ) : (wblk b).view.set = (Rect.unit (s := S8192x32000) (colOff b) S8192x256.size (wcol_inb b)).set := View.set_slice_whole _ _
theorem oblk_set (b : ℕ) : (oblk b).view.set = (Rect.unit (s := S64x32000) (colOff b) S64x256.size (ocol_inb b)).set := View.set_slice_whole _ _
theorem wslot_set (b : ℕ) : (wslot b).view.set = (Rect.unit (s := S12x8192x256) (wslotOff b) S1x8192x256.size (wslot_inb b)).set := (View.set_reshape _ _).trans (View.set_slice_whole _ _)
theorem oslot_set (b : ℕ) : (oslot b).view.set = (Rect.unit (s := S4x64x256) (oslotOff b) S1x64x256.size (oslot_inb b)).set := (View.set_reshape _ _).trans (View.set_slice_whole _ _)
theorem aslot_set (b : ℕ) : (aslot b).view.set = (Rect.unit (s := S2x64x256) (aslotOff b) S1x64x256.size (aslot_inb b)).set := View.set_slice_whole _ _
theorem wblk_disj (b b' : Fin 125) (h : b ≠ b') : Disjoint (wblk b.val).view.set (wblk b'.val).view.set := by
  rw [wblk_set, wblk_set]
  exact Ring.lead_disjoint (s := S8192x32000) 1 256 (fun b : Fin 125 => colOff b.val) S8192x256.size (fun b => wcol_inb b.val) (fun b => by show 256 * (b.val % 125) = 256 * b.val; have := b.isLt; omega) rfl b b' h
theorem wblk_cover : (Finset.univ : Finset (Fin 125)).biUnion (fun b => ((wblk b.val).view.set : Finset S8192x32000.Idx)) = (Finset.univ : Finset S8192x32000.Idx) := by
  simp only [wblk_set]
  exact Ring.lead_cover (s := S8192x32000) 1 256 (fun b : Fin 125 => colOff b.val) S8192x256.size (fun b => wcol_inb b.val) (fun b => by show 256 * (b.val % 125) = 256 * b.val; have := b.isLt; omega)
    (fun b a ha => by fin_cases a <;> first | rfl | exact absurd rfl ha) rfl (fun a ha => by fin_cases a <;> first | rfl | exact absurd rfl ha) rfl
theorem oblk_disj (b b' : Fin 125) (h : b ≠ b') : Disjoint (oblk b.val).view.set (oblk b'.val).view.set := by
  rw [oblk_set, oblk_set]
  exact Ring.lead_disjoint (s := S64x32000) 1 256 (fun b : Fin 125 => colOff b.val) S64x256.size (fun b => ocol_inb b.val) (fun b => by show 256 * (b.val % 125) = 256 * b.val; have := b.isLt; omega) rfl b b' h
theorem oblk_cover : (Finset.univ : Finset (Fin 125)).biUnion (fun b => ((oblk b.val).view.set : Finset S64x32000.Idx)) = (Finset.univ : Finset S64x32000.Idx) := by
  simp only [oblk_set]
  exact Ring.lead_cover (s := S64x32000) 1 256 (fun b : Fin 125 => colOff b.val) S64x256.size (fun b => ocol_inb b.val) (fun b => by show 256 * (b.val % 125) = 256 * b.val; have := b.isLt; omega)
    (fun b a ha => by fin_cases a <;> first | rfl | exact absurd rfl ha) rfl (fun a ha => by fin_cases a <;> first | rfl | exact absurd rfl ha) rfl
theorem wslot_disj (b b' : Fin 12) (h : b ≠ b') : Disjoint (wslot b.val).view.set (wslot b'.val).view.set := by
  rw [wslot_set, wslot_set]
  exact Ring.lead_disjoint (s := S12x8192x256) 0 1 (fun b : Fin 12 => wslotOff b.val) S1x8192x256.size (fun b => wslot_inb b.val) (fun b => by show b.val % 12 = 1 * b.val; have := b.isLt; omega) rfl b b' h
theorem wslot_cover : (Finset.univ : Finset (Fin 12)).biUnion (fun b => ((wslot b.val).view.set : Finset S12x8192x256.Idx)) = (Finset.univ : Finset S12x8192x256.Idx) := by
  simp only [wslot_set]
  exact Ring.lead_cover (s := S12x8192x256) 0 1 (fun b : Fin 12 => wslotOff b.val) S1x8192x256.size (fun b => wslot_inb b.val) (fun b => by show b.val % 12 = 1 * b.val; have := b.isLt; omega)
    (fun b a ha => by fin_cases a <;> first | rfl | exact absurd rfl ha) rfl (fun a ha => by fin_cases a <;> first | rfl | exact absurd rfl ha) rfl
theorem oslot_disj (b b' : Fin 4) (h : b ≠ b') : Disjoint (oslot b.val).view.set (oslot b'.val).view.set := by
  rw [oslot_set, oslot_set]
  exact Ring.lead_disjoint (s := S4x64x256) 0 1 (fun b : Fin 4 => oslotOff b.val) S1x64x256.size (fun b => oslot_inb b.val) (fun b => by show b.val % 4 = 1 * b.val; have := b.isLt; omega) rfl b b' h
theorem oslot_cover : (Finset.univ : Finset (Fin 4)).biUnion (fun b => ((oslot b.val).view.set : Finset S4x64x256.Idx)) = (Finset.univ : Finset S4x64x256.Idx) := by
  simp only [oslot_set]
  exact Ring.lead_cover (s := S4x64x256) 0 1 (fun b : Fin 4 => oslotOff b.val) S1x64x256.size (fun b => oslot_inb b.val) (fun b => by show b.val % 4 = 1 * b.val; have := b.isLt; omega)
    (fun b a ha => by fin_cases a <;> first | rfl | exact absurd rfl ha) rfl (fun a ha => by fin_cases a <;> first | rfl | exact absurd rfl ha) rfl
theorem aslot_disj (b b' : Fin 2) (h : b ≠ b') : Disjoint (aslot b.val).view.set (aslot b'.val).view.set := by
  rw [aslot_set, aslot_set]
  exact Ring.lead_disjoint (s := S2x64x256) 0 1 (fun b : Fin 2 => aslotOff b.val) S1x64x256.size (fun b => aslot_inb b.val) (fun b => by show b.val % 2 = 1 * b.val; have := b.isLt; omega) rfl b b' h
theorem aslot_cover : (Finset.univ : Finset (Fin 2)).biUnion (fun b => ((aslot b.val).view.set : Finset S2x64x256.Idx)) = (Finset.univ : Finset S2x64x256.Idx) := by
  simp only [aslot_set]
  exact Ring.lead_cover (s := S2x64x256) 0 1 (fun b : Fin 2 => aslotOff b.val) S1x64x256.size (fun b => aslot_inb b.val) (fun b => by show b.val % 2 = 1 * b.val; have := b.isLt; omega)
    (fun b a ha => by fin_cases a <;> first | rfl | exact absurd rfl ha) rfl (fun a ha => by fin_cases a <;> first | rfl | exact absurd rfl ha) rfl

/-! ## Whole and in pieces -/

section Pieces
variable (c : Dev nD)

theorem w_whole (XA : Buf (Elt F) (wM.view.loc (c : Thread nD τ))) : (((c : Thread nD τ).loc main_arg1) ↦{fullShare} XA : sProp 𝕄) = bigSep (Finset.Ico 0 125) (wHome c XA) :=
  whole_eq (ℓ := (c : Thread nD τ).loc main_arg1) 125 (fun b => (wblk b).view.set) wblk_disj wblk_cover fullShare XA

theorem o_split : (iprop(∃ f : Buf (Elt F) ((c : Thread nD τ).loc main_v2_0), ((c : Thread nD τ).loc main_v2_0) ↦{fullShare} f) : sProp 𝕄) ⊢ bigSep (Finset.Ico 0 125) (oHome (F := F) c) :=
  whole_any (F := F) (ℓ := (c : Thread nD τ).loc main_v2_0) 125 (fun b => (oblk b).view.set) oblk_disj oblk_cover fullShare

/-- The whole logits from their blocks' values. -/
def oAll (OV : ℕ → S64x256.Idx → Elt F .f32) : S64x32000.Idx → Elt F .f32 := fun y =>
  OV ((y 1).val / 256) (ix2 (y 0) (⟨(y 1).val % 256, Nat.mod_lt _ (by decide)⟩ : Fin 256))

theorem oAll_read (OV : ℕ → S64x256.Idx → Elt F .f32) (b : ℕ) (hb : b < 125) : (oblk b).view.read (Elt F) (holds oM (oAll OV)) = OV b := by
  funext z
  have e : (oblk b).view.read (Elt F) (holds oM (oAll OV)) z = oM.view.read (Elt F) (holds oM (oAll OV)) ((Rect.unit (s := S64x32000) (colOff b) S64x256.size (ocol_inb b)).emb z) := rfl
  rw [e, View.read_writes_whole]
  have hz : (z 1).val < 256 := (z 1).isLt
  have h1 : (((Rect.unit (s := S64x32000) (colOff b) S64x256.size (ocol_inb b)).emb z) 1).val = 256 * (b % 125) + 1 * (z 1).val := rfl
  have h0 : (((Rect.unit (s := S64x32000) (colOff b) S64x256.size (ocol_inb b)).emb z) 0).val = 0 + 1 * (z 0).val := rfl
  unfold oAll
  rw [show (((Rect.unit (s := S64x32000) (colOff b) S64x256.size (ocol_inb b)).emb z) 1).val / 256 = b by omega]
  refine congrArg (OV b) ?_
  funext a; apply Fin.ext; fin_cases a
  · show (((Rect.unit (s := S64x32000) (colOff b) S64x256.size (ocol_inb b)).emb z) 0).val = (z 0).val; omega
  · show (((Rect.unit (s := S64x32000) (colOff b) S64x256.size (ocol_inb b)).emb z) 1).val % 256 = (z 1).val; omega

theorem oDone_block (OV : ℕ → S64x256.Idx → Elt F .f32) (b : ℕ) (hb : b < 125) : oDone c OV b ⊢ ((oblk b).view.loc (c : Thread nD τ) ↦[(oblk b).view.set]{fullShare} holds oM (oAll OV) : sProp 𝕄) := by
  unfold oDone
  iintro ⟨%f, %hf, H⟩
  have e : ((oblk b).view.loc (c : Thread nD τ) ↦[(oblk b).view.set]{fullShare} f : sProp 𝕄) ⊢ (oblk b).view.loc (c : Thread nD τ) ↦[(oblk b).view.set]{fullShare} holds oM (oAll OV) := by
    refine (BI.equiv_iff.mpr (pointsTo_congr ?_)).1
    intro i hi
    obtain ⟨z, -, rfl⟩ := Finset.mem_map.mp hi
    have e1 := congrFun (hf.trans (oAll_read OV b hb).symm) z
    exact (cast_inj _).1 e1
  iapply e; iexact H

theorem oDone_whole (OV : ℕ → S64x256.Idx → Elt F .f32) : bigSep (Finset.Ico 0 125) (oDone c OV) ⊢ (((c : Thread nD τ).loc main_v2_0) ↦{fullShare} holds oM (oAll OV) : sProp 𝕄) := by
  rw [whole_eq (F := F) (ℓ := (c : Thread nD τ).loc main_v2_0) 125 (fun b => (oblk b).view.set) oblk_disj oblk_cover fullShare (holds oM (oAll OV))]
  exact bigSep_mono fun b hb => oDone_block c OV b (Finset.mem_Ico.1 hb).2

theorem wslot_split : (iprop(∃ f : Buf (Elt F) ((c : Thread nD τ).loc cc0_scratch2), ((c : Thread nD τ).loc cc0_scratch2) ↦{fullShare} f) : sProp 𝕄) ⊢ bigSep (Finset.Ico 0 12) (fun b => iprop(∃ f, wslotP (F := F) c (wslot b) f)) :=
  whole_any (F := F) (ℓ := (c : Thread nD τ).loc cc0_scratch2) 12 (fun b => (wslot b).view.set) wslot_disj wslot_cover fullShare
theorem oslot_split : (iprop(∃ f : Buf (Elt F) ((c : Thread nD τ).loc cc0_scratch12), ((c : Thread nD τ).loc cc0_scratch12) ↦{fullShare} f) : sProp 𝕄) ⊢ bigSep (Finset.Ico 0 4) (fun b => iprop(∃ f, oslotP (F := F) c (oslot b) f)) :=
  whole_any (F := F) (ℓ := (c : Thread nD τ).loc cc0_scratch12) 4 (fun b => (oslot b).view.set) oslot_disj oslot_cover fullShare
theorem aslot_split : (iprop(∃ f : Buf (Elt F) ((c : Thread nD τ).loc cc0_scratch11), ((c : Thread nD τ).loc cc0_scratch11) ↦{fullShare} f) : sProp 𝕄) ⊢ bigSep (Finset.Ico 0 2) (fun b => iprop(∃ f, accP (F := F) c b f)) :=
  whole_any (F := F) (ℓ := (c : Thread nD τ).loc cc0_scratch11) 2 (fun b => (aslot b).view.set) aslot_disj aslot_cover fullShare
theorem wslot_join : bigSep (Finset.Ico 0 12) (fun b => iprop(∃ f, wslotP (F := F) c (wslot b) f)) ⊢ (iprop(∃ f : Buf (Elt F) ((c : Thread nD τ).loc cc0_scratch2), ((c : Thread nD τ).loc cc0_scratch2) ↦{fullShare} f) : sProp 𝕄) :=
  whole_join (F := F) (ℓ := (c : Thread nD τ).loc cc0_scratch2) 12 (fun b => (wslot b).view.set) wslot_disj wslot_cover fullShare wbufM.view.junk
theorem oslot_join : bigSep (Finset.Ico 0 4) (fun b => iprop(∃ f, oslotP (F := F) c (oslot b) f)) ⊢ (iprop(∃ f : Buf (Elt F) ((c : Thread nD τ).loc cc0_scratch12), ((c : Thread nD τ).loc cc0_scratch12) ↦{fullShare} f) : sProp 𝕄) :=
  whole_join (F := F) (ℓ := (c : Thread nD τ).loc cc0_scratch12) 4 (fun b => (oslot b).view.set) oslot_disj oslot_cover fullShare obufM.view.junk
theorem aslot_join : bigSep (Finset.Ico 0 2) (fun b => iprop(∃ f, accP (F := F) c b f)) ⊢ (iprop(∃ f : Buf (Elt F) ((c : Thread nD τ).loc cc0_scratch11), ((c : Thread nD τ).loc cc0_scratch11) ↦{fullShare} f) : sProp 𝕄) :=
  whole_join (F := F) (ℓ := (c : Thread nD τ).loc cc0_scratch11) 2 (fun b => (aslot b).view.set) aslot_disj aslot_cover fullShare accM.view.junk
end Pieces

end Cert.Proof.Kern
-- ==== Proof.Launch.lean ====
/-
  The launch: @main's two reshapes, then the kernel's one region, from any memory to its end.
-/
module

public import proofs.«01_k».proof.Proof.Body
public import proofs.«01_k».proof.Proof.Split
public import proofs.«01_k».proof.Proof.Gen.Kernel.Frame
public import Idealize.ShloMosaic.Lib.Pipeline.KitQuiescent

@[expose] public section

set_option maxRecDepth 16384

noncomputable section

namespace Cert.Proof.Kern

open Cert.Kernel Cert.Kernel.Gen
open Idealize.ShloMosaic.ValueIdx
open Idealize.ShloMosaic
open Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]
local notation "𝕄" => MT nD τ sig Unit (Elt F) ℕ (UU nD τ) ℕ

abbrev EP : Emb (UR sig nD τ) (MT nD τ sig Unit (Elt F) ℕ (UU nD τ) ℕ) := embL

/-! ## The kernel's own semaphores -/

abbrev osem : Fin 21 → SemLoc sig := fun i => .dma ⟨3 + i.val, by have := i.isLt; show 3 + i.val < 24; omega⟩
theorem ownSemFacts : Pipeline.OwnSemFacts spec0 osem := by decide

section Rest
variable (c : Dev nD)

theorem at_to {sp : Space} {s : Shape} {e : EltTy} (M : Memref sig .tc sp s e) (h : M.IsWhole) (f : Buf (Elt F) (M.view.loc (c : Thread nD τ))) :
    (M.view.loc (c : Thread nD τ) ↦{fullShare} f : sProp 𝕄) ⊢ atP c M f := by rw [atP, h.set_eq_univ]
theorem at_from {sp : Space} {s : Shape} {e : EltTy} (M : Memref sig .tc sp s e) (h : M.IsWhole) (f : Buf (Elt F) (M.view.loc (c : Thread nD τ))) :
    atP c M f ⊢ (M.view.loc (c : Thread nD τ) ↦{fullShare} f : sProp 𝕄) := by rw [atP, h.set_eq_univ]
theorem any_to {sp : Space} {s : Shape} {e : EltTy} (M : Memref sig .tc sp s e) (h : M.IsWhole) :
    (iprop(∃ f : Buf (Elt F) (M.view.loc (c : Thread nD τ)), M.view.loc (c : Thread nD τ) ↦{fullShare} f) : sProp 𝕄) ⊢ anyP (F := F) c M := by
  iintro ⟨%f, H⟩; iexists f; iapply (at_to c M h f); iexact H
theorem any_from {sp : Space} {s : Shape} {e : EltTy} (M : Memref sig .tc sp s e) (h : M.IsWhole) :
    anyP (F := F) c M ⊢ (iprop(∃ f : Buf (Elt F) (M.view.loc (c : Thread nD τ)), M.view.loc (c : Thread nD τ) ↦{fullShare} f) : sProp 𝕄) := by
  iintro ⟨%f, H⟩; iexists f; iapply (at_from c M h f); iexact H

theorem ico2 {M : Type _} [URA M] (Φ : ℕ → sProp M) : bigSep (Finset.Ico 0 2) Φ = iprop(Φ 0 ∗ Φ 1 ∗ BI.emp) := by
  rw [ico_head Φ (by decide), ico_head Φ (by decide), ico_empty Φ (by decide)]
theorem ico4 {M : Type _} [URA M] (Φ : ℕ → sProp M) : bigSep (Finset.Ico 0 4) Φ = iprop(Φ 0 ∗ Φ 1 ∗ Φ 2 ∗ Φ 3 ∗ BI.emp) := by
  rw [ico_head Φ (by decide), ico_head Φ (by decide), ico_head Φ (by decide), ico_head Φ (by decide), ico_empty Φ (by decide)]

theorem ownSems0_eq : (Pipeline.ownSems0 (Ix := Unit) (Name := ℕ) (U := UU nD τ) (Lvl := ℕ) (Val := Elt F) (τ := τ) osem c : sProp 𝕄)
    = iprop(cellP (F := F) c (wcell 0) ∗ cellP (F := F) c (wcell 1) ∗ cellP (F := F) c (wcell 2) ∗ cellP (F := F) c (wcell 3) ∗ cellP (F := F) c (wcell 4) ∗ cellP (F := F) c (wcell 5) ∗ cellP (F := F) c (wcell 6) ∗ cellP (F := F) c (wcell 7) ∗ cellP (F := F) c (wcell 8) ∗ cellP (F := F) c (wcell 9) ∗ cellP (F := F) c (wcell 10) ∗ cellP (F := F) c (wcell 11) ∗ cellP (F := F) c (ocell 0) ∗ cellP (F := F) c (ocell 1) ∗ cellP (F := F) c (ocell 2) ∗ cellP (F := F) c (ocell 3) ∗ cellP (F := F) c icell0 ∗ cellP (F := F) c icell1 ∗ cellP (F := F) c icell2 ∗ cellP (F := F) c icell3 ∗ cellP (F := F) c cc0_scratch20) := by
  unfold Pipeline.ownSems0
  rw [bigSep_univ_eq_bigSepL [(0 : Fin 21), (1 : Fin 21), (2 : Fin 21), (3 : Fin 21), (4 : Fin 21), (5 : Fin 21), (6 : Fin 21), (7 : Fin 21), (8 : Fin 21), (9 : Fin 21), (10 : Fin 21), (11 : Fin 21), (12 : Fin 21), (13 : Fin 21), (14 : Fin 21), (15 : Fin 21), (16 : Fin 21), (17 : Fin 21), (18 : Fin 21), (19 : Fin 21), (20 : Fin 21)] (by decide) (by decide)]
  rfl

/-- The rings' slots, whole at anything. -/
abbrev wSlots : sProp 𝕄 := bigSep (Finset.Ico 0 12) (fun b => iprop(∃ f, wslotP (F := F) c (wslot b) f))
abbrev oSlots : sProp 𝕄 := bigSep (Finset.Ico 0 4) (fun b => iprop(∃ f, oslotP (F := F) c (oslot b) f))
/-- The rings free: each slot with its semaphore. -/
abbrev freeP : sProp 𝕄 := iprop(bigSep (Finset.Ico 0 12) (wFree (F := F) c) ∗ bigSep (Finset.Ico 0 4) (oFree (F := F) c))

theorem cells_in : iprop((Pipeline.ownSems0 (Ix := Unit) (Name := ℕ) (U := UU nD τ) (Lvl := ℕ) (Val := Elt F) (τ := τ) osem c : sProp 𝕄) ∗ wSlots (F := F) c ∗ oSlots (F := F) c)
    ⊢ iprop(cellsP (F := F) c ∗ freeP (F := F) c) := by
  rw [ownSems0_eq]
  unfold wSlots oSlots freeP wFree oFree wFreeAt oFreeAt
  rw [ico12, ico12, ico4, ico4]
  iintro ⟨⟨C0, C1, C2, C3, C4, C5, C6, C7, C8, C9, C10, C11, C12, C13, C14, C15, C16, C17, C18, C19, C20⟩, ⟨W0, W1, W2, W3, W4, W5, W6, W7, W8, W9, W10, W11, -⟩, ⟨O0, O1, O2, O3, -⟩⟩
  isplitl [C16 C17 C18 C19 C20]
  · isplitl [C16]; · iexact C16
    isplitl [C17]; · iexact C17
    isplitl [C18]; · iexact C18
    isplitl [C19]; · iexact C19
    iexact C20
  isplitl [C0 W0 C1 W1 C2 W2 C3 W3 C4 W4 C5 W5 C6 W6 C7 W7 C8 W8 C9 W9 C10 W10 C11 W11]
  · isplitl [C0 W0]
    · isplitl [W0]; · iexact W0
      iexact C0
    isplitl [C1 W1]
    · isplitl [W1]; · iexact W1
      iexact C1
    isplitl [C2 W2]
    · isplitl [W2]; · iexact W2
      iexact C2
    isplitl [C3 W3]
    · isplitl [W3]; · iexact W3
      iexact C3
    isplitl [C4 W4]
    · isplitl [W4]; · iexact W4
      iexact C4
    isplitl [C5 W5]
    · isplitl [W5]; · iexact W5
      iexact C5
    isplitl [C6 W6]
    · isplitl [W6]; · iexact W6
      iexact C6
    isplitl [C7 W7]
    · isplitl [W7]; · iexact W7
      iexact C7
    isplitl [C8 W8]
    · isplitl [W8]; · iexact W8
      iexact C8
    isplitl [C9 W9]
    · isplitl [W9]; · iexact W9
      iexact C9
    isplitl [C10 W10]
    · isplitl [W10]; · iexact W10
      iexact C10
    isplitl [C11 W11]
    · isplitl [W11]; · iexact W11
      iexact C11
    iempintro
  isplitl [C12 O0]
  · isplitl [O0]; · iexact O0
    iexact C12
  isplitl [C13 O1]
  · isplitl [O1]; · iexact O1
    iexact C13
  isplitl [C14 O2]
  · isplitl [O2]; · iexact O2
    iexact C14
  isplitl [C15 O3]
  · isplitl [O3]; · iexact O3
    iexact C15
  iempintro

theorem cells_out : iprop(cellsP (F := F) c ∗ freeP (F := F) c)
    ⊢ iprop((Pipeline.ownSems0 (Ix := Unit) (Name := ℕ) (U := UU nD τ) (Lvl := ℕ) (Val := Elt F) (τ := τ) osem c : sProp 𝕄) ∗ wSlots (F := F) c ∗ oSlots (F := F) c) := by
  rw [ownSems0_eq]
  unfold wSlots oSlots freeP wFree oFree wFreeAt oFreeAt
  rw [ico12, ico12, ico4, ico4]
  iintro ⟨⟨C16, C17, C18, C19, C20⟩, ⟨⟨W0, C0⟩, ⟨W1, C1⟩, ⟨W2, C2⟩, ⟨W3, C3⟩, ⟨W4, C4⟩, ⟨W5, C5⟩, ⟨W6, C6⟩, ⟨W7, C7⟩, ⟨W8, C8⟩, ⟨W9, C9⟩, ⟨W10, C10⟩, ⟨W11, C11⟩, -⟩, ⟨⟨O0, C12⟩, ⟨O1, C13⟩, ⟨O2, C14⟩, ⟨O3, C15⟩, -⟩⟩
  isplitl [C0 C1 C2 C3 C4 C5 C6 C7 C8 C9 C10 C11 C12 C13 C14 C15 C16 C17 C18 C19 C20]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    isplitl [C16]; · iexact C16
    isplitl [C17]; · iexact C17
    isplitl [C18]; · iexact C18
    isplitl [C19]; · iexact C19
    iexact C20
  isplitl [W0 W1 W2 W3 W4 W5 W6 W7 W8 W9 W10 W11]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    iempintro
  isplitl [O0]; · iexact O0
  isplitl [O1]; · iexact O1
  isplitl [O2]; · iexact O2
  isplitl [O3]; · iexact O3
  iempintro

theorem scr_in : (Pipeline.scopedRest (Ix := Unit) (Name := ℕ) (U := UU nD τ) (Lvl := ℕ) (Val := Elt F) spec0 c : sProp 𝕄) ⊢ iprop(scrP (F := F) c ∗ wSlots (F := F) c ∗ oSlots (F := F) c) := by
  rw [scopedRest0_eq]
  iintro ⟨H0, H1, H2, H3, H4, H5, H6, H7, H8, H9, H10, H11, H12, H13, H14, H15, H16⟩
  ihave HA := ((aslot_split (F := F) c).trans (eqE (ico2 _))) $$ H11
  icases HA with ⟨HA0, HA1, -⟩
  isplitl [H0 H1 H3 H4 H5 H6 H7 H8 H9 H10 H13 H14 H15 H16 HA0 HA1]
  · isplitl [H0]; · iapply (any_to (F := F) c xRawM (Memref.isWhole_whole _)); iexact H0
    isplitl [H1]; · iapply (any_to (F := F) c codesM (Memref.isWhole_whole _)); iexact H1
    isplitl [H3]; · iapply (any_to (F := F) c wsRawM (Memref.isWhole_whole _)); iexact H3
    isplitl [H4]; · iapply (any_to (F := F) c wsM (Memref.isWhole_whole _)); iexact H4
    isplitl [H5]; · iapply (any_to (F := F) c bmRawM (Memref.isWhole_whole _)); iexact H5
    isplitl [H6]; · iapply (any_to (F := F) c bmM (Memref.isWhole_whole _)); iexact H6
    isplitl [H7]; · iapply (any_to (F := F) c candRawM (Memref.isWhole_whole _)); iexact H7
    isplitl [H8]; · iapply (any_to (F := F) c candM (Memref.isWhole_whole _)); iexact H8
    isplitl [H9]; · iapply (any_to (F := F) c sexpM (Memref.isWhole_whole _)); iexact H9
    isplitl [H10]; · iapply (any_to (F := F) c xsM (Memref.isWhole_whole _)); iexact H10
    isplitl [H13]; · iapply (any_to (F := F) c mM (Memref.isWhole_whole _)); iexact H13
    isplitl [H14]; · iapply (any_to (F := F) c sM (Memref.isWhole_whole _)); iexact H14
    isplitl [H15]; · iapply (any_to (F := F) c clM (Memref.isWhole_whole _)); iexact H15
    isplitl [H16]; · iapply (any_to (F := F) c caM (Memref.isWhole_whole _)); iexact H16
    isplitl [HA0]; · iexact HA0
    iexact HA1
  isplitl [H2]; · iapply (wslot_split (F := F) c); iexact H2
  iapply (oslot_split (F := F) c); iexact H12

theorem scr_out : iprop(scrP (F := F) c ∗ wSlots (F := F) c ∗ oSlots (F := F) c) ⊢ (Pipeline.scopedRest (Ix := Unit) (Name := ℕ) (U := UU nD τ) (Lvl := ℕ) (Val := Elt F) spec0 c : sProp 𝕄) := by
  rw [scopedRest0_eq]
  iintro ⟨⟨H0, H1, H3, H4, H5, H6, H7, H8, H9, H10, H13, H14, H15, H16, HA0, HA1⟩, H2, H12⟩
  isplitl [H0]; · iapply (any_from (F := F) c xRawM (Memref.isWhole_whole _)); iexact H0
  isplitl [H1]; · iapply (any_from (F := F) c codesM (Memref.isWhole_whole _)); iexact H1
  isplitl [H2]; · iapply (wslot_join (F := F) c); iexact H2
  isplitl [H3]; · iapply (any_from (F := F) c wsRawM (Memref.isWhole_whole _)); iexact H3
  isplitl [H4]; · iapply (any_from (F := F) c wsM (Memref.isWhole_whole _)); iexact H4
  isplitl [H5]; · iapply (any_from (F := F) c bmRawM (Memref.isWhole_whole _)); iexact H5
  isplitl [H6]; · iapply (any_from (F := F) c bmM (Memref.isWhole_whole _)); iexact H6
  isplitl [H7]; · iapply (any_from (F := F) c candRawM (Memref.isWhole_whole _)); iexact H7
  isplitl [H8]; · iapply (any_from (F := F) c candM (Memref.isWhole_whole _)); iexact H8
  isplitl [H9]; · iapply (any_from (F := F) c sexpM (Memref.isWhole_whole _)); iexact H9
  isplitl [H10]; · iapply (any_from (F := F) c xsM (Memref.isWhole_whole _)); iexact H10
  isplitl [HA0 HA1]
  · iapply (aslot_join (F := F) c); iapply (eqE (ico2 (fun b => iprop(∃ f, accP (F := F) c b f))).symm); isplitl [HA0]
    · iexact HA0
    isplitl [HA1]; · iexact HA1
    iempintro
  isplitl [H12]; · iapply (oslot_join (F := F) c); iexact H12
  isplitl [H13]; · iapply (any_from (F := F) c mM (Memref.isWhole_whole _)); iexact H13
  isplitl [H14]; · iapply (any_from (F := F) c sM (Memref.isWhole_whole _)); iexact H14
  isplitl [H15]; · iapply (any_from (F := F) c clM (Memref.isWhole_whole _)); iexact H15
  iapply (any_from (F := F) c caM (Memref.isWhole_whole _)); iexact H16
end Rest

/-! ## The pipeline's proof data -/

section Launch
variable (m : (ℓ : Loc nD τ sig) → Buf (Elt F) ℓ) (ρ : Dev nD → PrngReg)

abbrev st0 (t : Fin cfg0.N) : Memref sig .tc .vmem S64x1 .f32 := win0_0.stage (cfg0.slots t 0)
abbrev st1 (t : Fin cfg0.N) : Memref sig .tc .vmem S64x52 .f32 := win0_1.stage (cfg0.slots t 1)
abbrev st2 (t : Fin cfg0.N) : Memref sig .tc .vmem S64x1 .f32 := win0_2.stage (cfg0.slots t 2)
abbrev hst0 (t : Fin cfg0.N) : (st0 t).IsWhole := hstage0_0 0
abbrev hst1 (t : Fin cfg0.N) : (st1 t).IsWhole := hstage0_1 0
abbrev hst2 (t : Fin cfg0.N) : (st2 t).IsWhole := hstage0_2 0

/-- The inputs' contents as the region finds them. -/
abbrev inA (c : Dev nD) : Buf (Elt F) (wM.view.loc (c : Thread nD τ)) := V m c main_arg1
abbrev inX (c : Dev nD) : Buf (Elt F) (xInM.view.loc (c : Thread nD τ)) := V m c main_v0
abbrev inS (c : Dev nD) : Buf (Elt F) (wsInM.view.loc (c : Thread nD τ)) := V m c main_arg2
abbrev inB (c : Dev nD) : Buf (Elt F) (bmInM.view.loc (c : Thread nD τ)) := V m c main_arg3
abbrev inD (c : Dev nD) : Buf (Elt F) (candInM.view.loc (c : Thread nD τ)) := V m c main_v1

/-- The body's run at the point. -/
abbrev runAt (c : Dev nD) (t : Fin cfg0.N) := bodyRun c (inA m c) (inX m c) (inS m c) (inB m c) (inD m c) (st0 t) (hst0 t) (st1 t) (hst1 t) (st2 t) (hst2 t)
def begOf (c : Dev nD) (t : Fin cfg0.N) : Beg F := (runAt m c t).1
/-- The results' contents. -/
def lseOf (c : Dev nD) (t : Fin cfg0.N) : S64x1.Idx → Elt F .f32 := (endRun c (inA m c) (st0 t) (hst0 t) (st1 t) (hst1 t) (st2 t) (hst2 t) (begOf m c t)).1.lse
def clpOf (c : Dev nD) (t : Fin cfg0.N) : S64x52.Idx → Elt F .f32 := (endRun c (inA m c) (st0 t) (hst0 t) (st1 t) (hst1 t) (st2 t) (hst2 t) (begOf m c t)).1.clp
def logitOf (c : Dev nD) (t : Fin cfg0.N) : ℕ → S64x256.Idx → Elt F .f32 := bodyOv c (inA m c) (st0 t) (hst0 t) (st1 t) (hst1 t) (st2 t) (hst2 t) (begOf m c t)

/-- What the body finds and leaves alike. -/
abbrev Φin (c : Dev nD) : sProp 𝕄 := iprop(insP c (inX m c) (inS m c) (inB m c) (inD m c) ∗ scrP (F := F) c ∗ cellsP (F := F) c ∗ bigSep (Finset.Ico 0 125) (wHome c (inA m c)) ∗ freeP (F := F) c)
/-- The region invariant before the body, -/
def Φ₀ (c : Dev nD) : sProp 𝕄 := iprop(Φin m c ∗ anyP (F := F) c codesOutM ∗ bigSep (Finset.Ico 0 125) (oHome (F := F) c))
/-- and after it. -/
def Φ₁ (c : Dev nD) : sProp 𝕄 := iprop(Φin m c ∗ atP c codesOutM (holds codesOutM (begOf m c t0_0).codes) ∗ bigSep (Finset.Ico 0 125) (oDone c (logitOf m c t0_0)))

def dats (_ : Fin 1) (c : Dev nD) : Dat τ (Elt F) Unit ℕ (UU nD τ) ℕ cfg0 c where
  A w := V m c (Pipeline.arrRef spec0 w)
  after w t := match w with
    | ⟨0, _⟩ => lseOf m c t
    | ⟨1, _⟩ => clpOf m c t
    | ⟨2, _⟩ => (begOf m c t).xs
  Φ t := if t.val = 0 then Φ₀ m c else Φ₁ m c
  q _ := fullShare
  owed _ := 0

theorem after_w0 (c : Dev nD) (t : Fin cfg0.N) : (dats m 0 c).after 0 t = lseOf m c t := by dsimp only [dats]
theorem after_w1 (c : Dev nD) (t : Fin cfg0.N) : (dats m 0 c).after 1 t = clpOf m c t := by dsimp only [dats]
theorem after_w2 (c : Dev nD) (t : Fin cfg0.N) : (dats m 0 c).after 2 t = (begOf m c t).xs := by dsimp only [dats]

theorem defs_tc : (defs₀ (F := F)) .tc cfg0.body
    = fun a => bodyG (win0_0.stage (a.2 0)) (hstage0_0 0) (win0_1.stage (a.2 1)) (hstage0_1 0) (win0_2.stage (a.2 2)) (hstage0_2 0) := rfl
theorem prog_eq (t : Fin cfg0.N) : (defs₀ (F := F)) .tc cfg0.body (cfg0.bodyArgs t (cfg0.slots t)) = bodyG (st0 t) (hst0 t) (st1 t) (hst1 t) (st2 t) (hst2 t) :=
  (congrFun defs_tc _).trans rfl

set_option backward.isDefEq.respectTransparency.types false in
theorem body_obligation (c : Dev nD) : BodyObligation (dats (F := F) m 0 c) (defs₀ (F := F)) 𝒱₀ () Set.univ := fun t => by
  rw [fin_N0 t]
  rw [bigSep_W0, bigSep_W0]
  dsimp only
  simp only [after_w0, after_w1, after_w2]
  rw [show (dats m 0 c).Φ t0_0.castSucc = Φ₀ m c from rfl, show (dats m 0 c).Φ t0_0.succ = Φ₁ m c from rfl]
  unfold Dat.owesAt Pipeline.owesWithin
  rw [show (dats m 0 c).owed t0_0.castSucc = 0 from rfl, show (dats m 0 c).owed t0_0.succ = 0 from rfl]
  unfold owns Φ₀ Φ₁
  iintro ⟨⟨⟨HI, HS, HC, HWH, ⟨HWF, HOF⟩⟩, HCO, HOH⟩, ⟨%W, -, HW⟩, ⟨%d0, %g0, -, H0⟩, ⟨%d1, %g1, -, H1⟩, ⟨%d2, %g2, -, H2⟩⟩
  sl_rw [prog_eq t0_0]
  iapply (wp_wand_r Idealize.ShloMosaic.frame (wpE (defs₀ (F := F)) 𝒱₀ (c : Thread nD τ) none) Set.univ)
  isplitl [HI HS HC HWH HWF HOF HCO HOH HW H0 H1 H2]
  · iapply ((runAt m c t0_0).2)
    isplitl [HI]; · iexact HI
    isplitl [HS]; · iexact HS
    isplitl [HC]; · iexact HC
    isplitl [H0]; · iexists _; iexact H0
    isplitl [H1]; · iexists _; iexact H1
    isplitl [HCO]; · iexact HCO
    isplitl [H2]; · iexists _; iexact H2
    isplitl [HWH]; · iexact HWH
    isplitl [HWF]; · iexact HWF
    isplitl [HOH]; · iexact HOH
    isplitl [HOF]; · iexact HOF
    iexists _; iexact HW
  · iintro %_ ⟨HI, HS, HC, H0, H1, HCO, H2, HWH, HWF, HOD, HOF, ⟨%W', HW⟩⟩
    isplitl [HI HS HC HWH HWF HOF HCO HOD]
    · isplitl [HI HS HC HWH HWF HOF]
      · isplitl [HI]; · iexact HI
        isplitl [HS]; · iexact HS
        isplitl [HC]; · iexact HC
        isplitl [HWH]; · iexact HWH
        isplitl [HWF]; · iexact HWF
        iexact HOF
      isplitl [HCO]; · iexact HCO
      iexact HOD
    isplitl [HW]
    · iexists W'; isplitr; · ipureintro; exact fun _ _ => Or.inl trivial
      iexact HW
    isplitl [H0]
    · iexists _; isplitr; swap; · iexact H0
      ipureintro; exact View.read_writes_whole _ _ _
    isplitl [H1]
    · iexists _; isplitr; swap; · iexact H1
      ipureintro; exact View.read_writes_whole _ _ _
    iexists _; isplitr; swap; · iexact H2
    ipureintro; exact View.read_writes_whole _ _ _

/-! ## The run -/

/-- The inputs the region leaves, whole. -/
abbrev insW (c : Dev nD) : sProp 𝕄 :=
  iprop((((c : Thread nD τ).loc main_arg1) ↦{fullShare} V m c main_arg1) ∗ (((c : Thread nD τ).loc main_arg2) ↦{fullShare} V m c main_arg2) ∗ (((c : Thread nD τ).loc main_arg3) ↦{fullShare} V m c main_arg3))
/-- What the region takes, -/
def intoΦ (c : Dev nD) : sProp 𝕄 :=
  iprop(insP c (inX m c) (inS m c) (inB m c) (inD m c) ∗ bigSep (Finset.Ico 0 125) (wHome c (inA m c)) ∗ anyP (F := F) c codesOutM ∗ bigSep (Finset.Ico 0 125) (oHome (F := F) c) ∗ Pipeline.ownSems0 osem c)
/-- what it gives back, -/
def outOfΦ (c : Dev nD) : sProp 𝕄 :=
  iprop(insW m c ∗ (((c : Thread nD τ).loc main_v2_0) ↦{fullShare} holds oM (oAll (logitOf m c t0_0))) ∗ (((c : Thread nD τ).loc main_v2_3) ↦{fullShare} holds codesOutM (begOf m c t0_0).codes))
/-- and what it never sees. -/
def asideΦ (c : Dev nD) : sProp 𝕄 :=
  iprop((((c : Thread nD τ).loc main_arg0) ↦{fullShare} V m c main_arg0) ∗ (((c : Thread nD τ).loc main_arg4) ↦{fullShare} V m c main_arg4))
def u₀ : UU nD τ := (initOf (Pipeline.cells cfgs cellOf_inj) (Pipeline.launchToks cfgs cellOf_inj), 1)
def finalA (c : Dev nD) (w : Fin cfg0.W) : Buf (Elt F) ((cfg0.win w).arr.view.loc (c : Thread nD τ)) := (dats m 0 c).arrAt w cfg0.N
/-- The memory at the end, outside the windows' arrays. -/
def QY (c : Dev nD) (s : MemSt nD τ sig (Elt F)) : Prop :=
  (s.mem ((c : Thread nD τ).loc main_arg0) = V m c main_arg0 ∧ s.mem ((c : Thread nD τ).loc main_arg1) = V m c main_arg1 ∧ s.mem ((c : Thread nD τ).loc main_arg2) = V m c main_arg2
    ∧ s.mem ((c : Thread nD τ).loc main_arg3) = V m c main_arg3 ∧ s.mem ((c : Thread nD τ).loc main_arg4) = V m c main_arg4)
  ∧ s.mem ((c : Thread nD τ).loc main_v2_0) = holds oM (oAll (logitOf m c t0_0)) ∧ s.mem ((c : Thread nD τ).loc main_v2_3) = holds codesOutM (begOf m c t0_0).codes
def QC : PUnit × MemSt nD τ sig (Elt F) → Prop := fun r =>
  ∀ c : Dev nD, (∀ w : Fin cfg0.W, r.2.mem ((cfg0.win w).arr.view.loc (c : Thread nD τ)) = finalA m c w) ∧ QY m c r.2

set_option backward.isDefEq.respectTransparency.types false in
theorem into_of (c : Dev nD) (g : PrngReg) : iprop(Pipeline.unscopedRest spec0 c (V m c) ∗ Pipeline.ownSems0 osem c ∗ levels0 c ∗ prngReg c g ∗ BI.emp) ⊢ (iprop(|={Set.univ}=> iprop(intoΦ m c ∗ asideΦ m c)) : sProp 𝕄) := by
  rw [unscopedRest0_eq]
  unfold intoΦ asideΦ
  iintro ⟨⟨H0, H1, H2, H3, H4, HX, HD, HO, HC⟩, HS, -, -, -⟩; imodintro
  isplitl [H1 H2 H3 HX HD HO HC HS]
  · isplitl [HX H2 H3 HD]
    · isplitl [HX]; · iapply (at_to c xInM (Memref.isWhole_whole _) _); iexact HX
      isplitl [H2]; · iapply (at_to c wsInM (Memref.isWhole_whole _) _); iexact H2
      isplitl [H3]; · iapply (at_to c bmInM (Memref.isWhole_whole _) _); iexact H3
      iapply (at_to c candInM (Memref.isWhole_whole _) _); iexact HD
    isplitl [H1]; · iapply (eqE (w_whole c (inA m c))); iexact H1
    isplitl [HC]; · iapply (any_to c codesOutM (Memref.isWhole_whole _)); iexists _; iexact HC
    isplitl [HO]; · iapply (o_split c); iexists _; iexact HO
    iexact HS
  isplitl [H0]; · iexact H0
  iexact H4

set_option backward.isDefEq.respectTransparency.types false in
theorem in_of (c : Dev nD) : iprop(intoΦ m c ∗ Pipeline.scopedRest spec0 c) ⊢ Φ₀ m c := by
  unfold intoΦ Φ₀
  iintro ⟨⟨HI, HWH, HCO, HOH, HS⟩, HR⟩
  ihave HR' := (scr_in c) $$ HR
  icases HR' with ⟨HR, HW, HO⟩
  ihave HF := (cells_in c) $$ [HS HW HO]
  · isplitl [HS]; · iexact HS
    isplitl [HW]; · iexact HW
    iexact HO
  icases HF with ⟨HC, HF⟩
  isplitl [HI HR HC HWH HF]
  · isplitl [HI]; · iexact HI
    isplitl [HR]; · iexact HR
    isplitl [HC]; · iexact HC
    isplitl [HWH]; · iexact HWH
    iexact HF
  isplitl [HCO]; · iexact HCO
  iexact HOH

set_option backward.isDefEq.respectTransparency.types false in
theorem out_of (c : Dev nD) : Φ₁ m c ⊢ iprop(outOfΦ m c ∗ Pipeline.ownSems0 osem c ∗ Pipeline.scopedRest spec0 c) := by
  unfold outOfΦ Φ₁
  iintro ⟨⟨⟨HX, H2, H3, HD⟩, HR, HC, HWH, HF⟩, HCO, HOD⟩
  ihave HF' := (cells_out c) $$ [HC HF]
  · isplitl [HC]; · iexact HC
    iexact HF
  icases HF' with ⟨HS, HW, HO⟩
  isplitl [HWH H2 H3 HCO HOD]
  · isplitl [HWH H2 H3]
    · isplitl [HWH]; · iapply (eqE (w_whole c (inA m c)).symm); iexact HWH
      isplitl [H2]; · iapply (at_from c wsInM (Memref.isWhole_whole _) _); iexact H2
      iapply (at_from c bmInM (Memref.isWhole_whole _) _); iexact H3
    isplitl [HOD]; · iapply (oDone_whole c (logitOf m c t0_0)); iexact HOD
    iapply (at_from c codesOutM (Memref.isWhole_whole _) _); iexact HCO
  isplitl [HS]; · iexact HS
  iapply (scr_out c)
  isplitl [HR]; · iexact HR
  isplitl [HW]; · iexact HW
  iexact HO

set_option backward.isDefEq.respectTransparency.types false in
theorem end_of (c : Dev nD) (s' : Phys nD τ sig (Elt F)) : iprop(outOfΦ m c ∗ asideΦ m c ∗ SI s') ⊢ (iprop(|={Set.univ}=> iprop(⌜QY m c s'.mem⌝ ∗ SI s')) : sProp 𝕄) := by
  unfold outOfΦ asideΦ
  iintro ⟨⟨⟨H1, H2, H3⟩, HO, HC⟩, ⟨H0, H4⟩, HSI⟩
  icombine HSI H0 gives %h0
  icombine HSI H1 gives %h1
  icombine HSI H2 gives %h2
  icombine HSI H3 gives %h3
  icombine HSI H4 gives %h4
  icombine HSI HO gives %h5
  icombine HSI HC gives %h6
  imodintro
  isplitr
  · ipureintro
    exact ⟨⟨Buf.eq_of_forall_mem_univ h0, Buf.eq_of_forall_mem_univ h1, Buf.eq_of_forall_mem_univ h2, Buf.eq_of_forall_mem_univ h3, Buf.eq_of_forall_mem_univ h4⟩, Buf.eq_of_forall_mem_univ h5, Buf.eq_of_forall_mem_univ h6⟩
  iexact HSI

set_option backward.isDefEq.respectTransparency.types false in
/-- From any memory with zero counters: every fair run of @main terminates, with the arguments as launched, the results
    at the contents computed, and every semaphore counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := asideΦ m)
    (hX := fun c => into_of m c _)
    (hin := fun c => in_of m c)
    (hout := fun c => out_of m c)
    (QY := QY m)
    (hY := fun c s' => end_of m c s')
    (hQ := fun _ hh hz => ⟨hh, hz⟩)

/-- The arguments end as launched, with every semaphore counter at zero. -/
theorem frames : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c).2.1.1.trans (V_main_arg0 m c), (h.1 c).2.1.2.1.trans (V_main_arg1 m c), (h.1 c).2.1.2.2.1.trans (V_main_arg2 m c),
    (h.1 c).2.1.2.2.2.1.trans (V_main_arg3 m c), (h.1 c).2.1.2.2.2.2.trans (V_main_arg4 m c)⟩, h.2⟩) (run_main m ρ)

end Launch

end Cert.Proof.Kern
-- ==== Proof.DmaI.lean ====
/-
  The names and the transfers of one trip of the chunk loop: the blocks of the weights and of the logits, the
  slots of the two rings and their semaphores, what is held before a trip, and the trip's first part, which
  starts and waits for the transfers.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.Affine
public import Idealize.ShloMosaic.Lib.Tactic

@[expose] public section

set_option maxRecDepth 16384

noncomputable section

namespace Cert.Proof.KernI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's own resources: the pipeline's, and the counters of the kernel's own transfers. -/
abbrev UU (nD : Nat) (τ : Topo) : Type := UR sig nD τ × Counters
local notation "𝕄" => MT nD τ sig Unit (Elt F) ℕ (UU nD τ) ℕ
abbrev 𝒱₀ : Variants := Variants.none

/-! ## Families over an interval of numbers -/

section Ico
variable {M : Type _} [URA M] (Φ : ℕ → sProp M)

theorem ico_empty {a b : ℕ} (h : b ≤ a) : bigSep (Finset.Ico a b) Φ = (BI.emp : sProp M) := by
  rw [Finset.Ico_eq_empty (by omega), bigSep_empty]
theorem ico_head {a b : ℕ} (h : a < b) : bigSep (Finset.Ico a b) Φ = iprop(Φ a ∗ bigSep (Finset.Ico (a + 1) b) Φ) := by
  rw [show Finset.Ico a b = insert a (Finset.Ico (a + 1) b) from by ext x; simp; omega, bigSep_insert (by simp)]; rfl
theorem ico_last {a b : ℕ} (h : a ≤ b) : bigSep (Finset.Ico a (b + 1)) Φ = iprop(Φ b ∗ bigSep (Finset.Ico a b) Φ) := by
  rw [show Finset.Ico a (b + 1) = insert b (Finset.Ico a b) from by ext x; simp; omega, bigSep_insert (by simp)]; rfl
end Ico

/-! ## The blocks, the slots and the semaphores by number -/

abbrev wM : Memref sig .tc .hbm S8192x32000 .fp8e4m3 := Memref.whole main_arg1
abbrev wbufM : Memref sig .tc .vmem S12x8192x256 .fp8e4m3 := Memref.whole cc0_scratch2
abbrev oM : Memref sig .tc .hbm S64x32000 .f32 := Memref.whole main_v2_0
abbrev obufM : Memref sig .tc .vmem S4x64x256 .f32 := Memref.whole cc0_scratch12
abbrev accM : Memref sig .tc .vmem S2x64x256 .f32 := Memref.whole cc0_scratch11

abbrev colOff (b : ℕ) : Fin 2 → Nat := ![0, 256 * (b % 125)]
abbrev wslotOff (b : ℕ) : Fin 3 → Nat := ![b % 12, 0, 0]
abbrev oslotOff (b : ℕ) : Fin 3 → Nat := ![b % 4, 0, 0]
abbrev aslotOff (b : ℕ) : Fin 3 → Nat := ![b % 2, 0, 0]
theorem wcol_inb (b : ℕ) : ∀ a, colOff b a + S8192x256.size a ≤ S8192x32000.size a := by
  have := Nat.mod_lt b (show 0 < 125 by decide); intro a; fin_cases a
  · show 0 + 8192 ≤ 8192; omega
  · show 256 * (b % 125) + 256 ≤ 32000; omega
theorem ocol_inb (b : ℕ) : ∀ a, colOff b a + S64x256.size a ≤ S64x32000.size a := by
  have := Nat.mod_lt b (show 0 < 125 by decide); intro a; fin_cases a
  · show 0 + 64 ≤ 64; omega
  · show 256 * (b % 125) + 256 ≤ 32000; omega
theorem wslot_inb (b : ℕ) : ∀ a, wslotOff b a + S1x8192x256.size a ≤ S12x8192x256.size a := by
  have := Nat.mod_lt b (show 0 < 12 by decide); intro a; fin_cases a
  · show b % 12 + 1 ≤ 12; omega
  · show 0 + 8192 ≤ 8192; omega
  · show 0 + 256 ≤ 256; omega
theorem oslot_inb (b : ℕ) : ∀ a, oslotOff b a + S1x64x256.size a ≤ S4x64x256.size a := by
  have := Nat.mod_lt b (show 0 < 4 by decide); intro a; fin_cases a
  · show b % 4 + 1 ≤ 4; omega
  · show 0 + 64 ≤ 64; omega
  · show 0 + 256 ≤ 256; omega
theorem aslot_inb (b : ℕ) : ∀ a, aslotOff b a + S1x64x256.size a ≤ S2x64x256.size a := by
  have := Nat.mod_lt b (show 0 < 2 by decide); intro a; fin_cases a
  · show b % 2 + 1 ≤ 2; omega
  · show 0 + 64 ≤ 64; omega
  · show 0 + 256 ≤ 256; omega
theorem wcell_inb (b : ℕ) : ∀ a, (![b % 12] : Fin 1 → Nat) a + S1.size a ≤ S12.size a := by
  have := Nat.mod_lt b (show 0 < 12 by decide); intro a; fin_cases a; show b % 12 + 1 ≤ 12; omega
theorem ocell_inb (b : ℕ) : ∀ a, (![b % 4] : Fin 1 → Nat) a + S1.size a ≤ S4.size a := by
  have := Nat.mod_lt b (show 0 < 4 by decide); intro a; fin_cases a; show b % 4 + 1 ≤ 4; omega

/-- Columns `256 b …` of the weights. -/
def wblk (b : ℕ) : Memref sig .tc .hbm S8192x256 .fp8e4m3 :=
  wM.slice (Rect.unit (s := S8192x32000) (colOff b) S8192x256.size (wcol_inb b)) (fun _ => rfl)
/-- Columns `256 b …` of the logits. -/
def oblk (b : ℕ) : Memref sig .tc .hbm S64x256 .f32 :=
  oM.slice (Rect.unit (s := S64x32000) (colOff b) S64x256.size (ocol_inb b)) (fun _ => rfl)
/-- The slot of the weights' ring that block `b` lands in. -/
def wslot (b : ℕ) : Memref sig .tc .vmem S8192x256 .fp8e4m3 :=
  (wbufM.slice (Rect.unit (s := S12x8192x256) (wslotOff b) S1x8192x256.size (wslot_inb b)) (fun _ => rfl)).squeeze S8192x256 squeezes_S1x8192x256_S8192x256
/-- The slot of the logits' ring that block `b` leaves from. -/
def oslot (b : ℕ) : Memref sig .tc .vmem S64x256 .f32 :=
  (obufM.slice (Rect.unit (s := S4x64x256) (oslotOff b) S1x64x256.size (oslot_inb b)) (fun _ => rfl)).squeeze S64x256 squeezes_S1x64x256_S64x256
def wcell (b : ℕ) : DmaSems sig S_ := (cc0_scratch17.slice (Rect.unit (s := S12) ![b % 12] S1.size (wcell_inb b))).squeeze S_ squeezes_S1_S_
def ocell (b : ℕ) : DmaSems sig S_ := (cc0_scratch18.slice (Rect.unit (s := S4) ![b % 4] S1.size (ocell_inb b))).squeeze S_ squeezes_S1_S_
/-- The half of the accumulator that chunk `b` uses. -/
def aslot (b : ℕ) : Memref sig .tc .vmem S1x64x256 .f32 :=
  accM.slice (Rect.unit (s := S2x64x256) (aslotOff b) S1x64x256.size (aslot_inb b)) (fun _ => rfl)

instance (b : ℕ) : ClosedOff (wslotOff b) := ⟨wslotOff b, rfl⟩
instance (b : ℕ) : ClosedOff (oslotOff b) := ⟨oslotOff b, rfl⟩
instance (b : ℕ) : ClosedOff (aslotOff b) := ⟨aslotOff b, rfl⟩
instance (b : ℕ) : ClosedOff (colOff b) := ⟨colOff b, rfl⟩

theorem wslot_congr {off : Fin 3 → Nat} {b : ℕ} (e : off = wslotOff b) (hh hs) :
    (wbufM.slice (Rect.unit (s := S12x8192x256) off S1x8192x256.size hh) hs).squeeze S8192x256 squeezes_S1x8192x256_S8192x256 = wslot b :=
  congrArg (fun M : Memref sig .tc .vmem S1x8192x256 .fp8e4m3 => M.squeeze S8192x256 squeezes_S1x8192x256_S8192x256) (Memref.slice_unit_congr _ e _ _ _ _)
theorem oslot_congr {off : Fin 3 → Nat} {b : ℕ} (e : off = oslotOff b) (hh hs) :
    (obufM.slice (Rect.unit (s := S4x64x256) off S1x64x256.size hh) hs).squeeze S64x256 squeezes_S1x64x256_S64x256 = oslot b :=
  congrArg (fun M : Memref sig .tc .vmem S1x64x256 .f32 => M.squeeze S64x256 squeezes_S1x64x256_S64x256) (Memref.slice_unit_congr _ e _ _ _ _)
theorem wblk_congr {off : Fin 2 → Nat} {b : ℕ} (e : off = colOff b) (hh hs) :
    wM.slice (Rect.unit (s := S8192x32000) off S8192x256.size hh) hs = wblk b := Memref.slice_unit_congr _ e _ _ _ (fun _ => rfl)
theorem oblk_congr {off : Fin 2 → Nat} {b : ℕ} (e : off = colOff b) (hh hs) :
    oM.slice (Rect.unit (s := S64x32000) off S64x256.size hh) hs = oblk b := Memref.slice_unit_congr _ e _ _ _ (fun _ => rfl)
theorem wcell_congr {off : Fin 1 → Nat} {b : ℕ} (e : off = ![b % 12]) (hh) :
    (cc0_scratch17.slice (Rect.unit (s := S12) off S1.size hh)).squeeze S_ squeezes_S1_S_ = wcell b :=
  congrArg (fun A : DmaSems sig S1 => A.squeeze S_ squeezes_S1_S_) (SemArray.slice_unit_congr _ e _ _)
theorem ocell_congr {off : Fin 1 → Nat} {b : ℕ} (e : off = ![b % 4]) (hh) :
    (cc0_scratch18.slice (Rect.unit (s := S4) off S1.size hh)).squeeze S_ squeezes_S1_S_ = ocell b :=
  congrArg (fun A : DmaSems sig S1 => A.squeeze S_ squeezes_S1_S_) (SemArray.slice_unit_congr _ e _ _)

theorem wslot_add (b : ℕ) : wslot (b + 12) = wslot b := (wslot_congr (by simp [wslotOff]) (wslot_inb (b + 12)) _)
theorem wcell_add (b : ℕ) : wcell (b + 12) = wcell b := (wcell_congr (by simp) (wcell_inb (b + 12)))
theorem oslot_sub {b : ℕ} (h : 4 ≤ b) : oslot (b - 4) = oslot b :=
  oslot_congr (by unfold oslotOff; congr 1; omega) (oslot_inb (b - 4)) _
theorem ocell_sub {b : ℕ} (h : 4 ≤ b) : ocell (b - 4) = ocell b :=
  ocell_congr (by congr 1; omega) (ocell_inb (b - 4))

/-! ### The loop's conditions and offsets -/

theorem trips_eq : k0_t1_loop.trips = 124 := by decide +kernel
theorem lt124 (k : Fin k0_t1_loop.trips) : k.val < 124 := Nat.lt_of_lt_of_eq k.isLt trips_eq
theorem cond1_iff : ∀ k : Fin k0_t1_loop.trips, k0_cond1 k = 1#1 ↔ k.val < 113 := by decide +kernel
theorem cond2_iff : ∀ k : Fin k0_t1_loop.trips, k0_cond2 k = 1#1 ↔ 1 ≤ k.val := by decide +kernel
theorem cond3_iff : ∀ k : Fin k0_t1_loop.trips, k0_cond3 k = 1#1 ↔ 4 ≤ k.val := by decide +kernel
theorem off3_eq : ∀ k : Fin k0_t1_loop.trips, k.val < 113 → k0_off3 k = colOff (k.val + 12) := by decide +kernel
theorem off4_eq : ∀ k : Fin k0_t1_loop.trips, 1 ≤ k.val → k0_off4 k = ![(k.val - 1) % 4] := by decide +kernel
theorem off5_eq : ∀ k : Fin k0_t1_loop.trips, 1 ≤ k.val → k0_off5 k = colOff (k.val - 1) := by decide +kernel
theorem off6_eq : ∀ k : Fin k0_t1_loop.trips, 1 ≤ k.val → k0_off6 k = oslotOff (k.val - 1) := by decide +kernel
theorem off7_eq : ∀ k : Fin k0_t1_loop.trips, 4 ≤ k.val → k0_off7 k = ![(k.val - 4) % 4] := by decide +kernel
theorem off8_eq : ∀ k : Fin k0_t1_loop.trips, 4 ≤ k.val → k0_off8 k = colOff (k.val - 4) := by decide +kernel
theorem off9_eq : ∀ k : Fin k0_t1_loop.trips, 4 ≤ k.val → k0_off9 k = oslotOff (k.val - 4) := by decide +kernel
theorem off12_eq : ∀ k : Fin k0_t1_loop.trips, k0_off12 k = colOff (k.val + 1) := by decide +kernel

section Canon
variable (k : Fin k0_t1_loop.trips)
@[sl_canon] theorem cW1 (hh) : (cc0_scratch17.slice (Rect.unit (s := S12) (k0_off1 k) S1.size hh)).squeeze S_ squeezes_S1_S_ = wcell k.val := wcell_congr (k0_off1_eq k) _
@[sl_canon] theorem cW2 (hh hs) : (wbufM.slice (Rect.unit (s := S12x8192x256) (k0_off2 k) S1x8192x256.size hh) hs).squeeze S8192x256 squeezes_S1x8192x256_S8192x256 = wslot k.val := wslot_congr (k0_off2_eq k) _ _
@[sl_canon] theorem cW3 (h : k.val < 113) (hh hs) : wM.slice (Rect.unit (s := S8192x32000) (k0_off3 k) S8192x256.size hh) hs = wblk (k.val + 12) := wblk_congr (off3_eq k h) _ _
@[sl_canon] theorem cO4 (h : 1 ≤ k.val) (hh) : (cc0_scratch18.slice (Rect.unit (s := S4) (k0_off4 k) S1.size hh)).squeeze S_ squeezes_S1_S_ = ocell (k.val - 1) := ocell_congr (off4_eq k h) _
@[sl_canon] theorem cO5 (h : 1 ≤ k.val) (hh hs) : oM.slice (Rect.unit (s := S64x32000) (k0_off5 k) S64x256.size hh) hs = oblk (k.val - 1) := oblk_congr (off5_eq k h) _ _
@[sl_canon] theorem cO6 (h : 1 ≤ k.val) (hh hs) : (obufM.slice (Rect.unit (s := S4x64x256) (k0_off6 k) S1x64x256.size hh) hs).squeeze S64x256 squeezes_S1x64x256_S64x256 = oslot (k.val - 1) := oslot_congr (off6_eq k h) _ _
@[sl_canon] theorem cO7 (h : 4 ≤ k.val) (hh) : (cc0_scratch18.slice (Rect.unit (s := S4) (k0_off7 k) S1.size hh)).squeeze S_ squeezes_S1_S_ = ocell (k.val - 4) := ocell_congr (off7_eq k h) _
@[sl_canon] theorem cO8 (h : 4 ≤ k.val) (hh hs) : oM.slice (Rect.unit (s := S64x32000) (k0_off8 k) S64x256.size hh) hs = oblk (k.val - 4) := oblk_congr (off8_eq k h) _ _
@[sl_canon] theorem cO9 (h : 4 ≤ k.val) (hh hs) : (obufM.slice (Rect.unit (s := S4x64x256) (k0_off9 k) S1x64x256.size hh) hs).squeeze S64x256 squeezes_S1x64x256_S64x256 = oslot (k.val - 4) := oslot_congr (off9_eq k h) _ _
@[sl_canon] theorem cW10 (hh) : (cc0_scratch17.slice (Rect.unit (s := S12) (k0_off10 k) S1.size hh)).squeeze S_ squeezes_S1_S_ = wcell (k.val + 1) := wcell_congr (k0_off10_eq k) _
@[sl_canon] theorem cW11 (hh hs) : (wbufM.slice (Rect.unit (s := S12x8192x256) (k0_off11 k) S1x8192x256.size hh) hs).squeeze S8192x256 squeezes_S1x8192x256_S8192x256 = wslot (k.val + 1) := wslot_congr (k0_off11_eq k) _ _
@[sl_canon] theorem cW12 (hh hs) : wM.slice (Rect.unit (s := S8192x32000) (k0_off12 k) S8192x256.size hh) hs = wblk (k.val + 1) := wblk_congr (off12_eq k) _ _
end Canon

/-! ## What is held -/

section Pieces
variable (c : Dev nD) (XA : Buf (Elt F) (wM.view.loc (c : Thread nD τ))) (OV : ℕ → S64x256.Idx → Elt F .f32)

abbrev cellP (s : DmaSems sig S_) : sProp 𝕄 := semVal ((c : Thread nD τ), SemLoc.dma s.sem) 0
abbrev wslotP (S : Memref sig .tc .vmem S8192x256 .fp8e4m3) (f : Buf (Elt F) (S.view.loc (c : Thread nD τ))) : sProp 𝕄 :=
  S.view.loc (c : Thread nD τ) ↦[S.view.set]{fullShare} f
abbrev oslotP (S : Memref sig .tc .vmem S64x256 .f32) (g : Buf (Elt F) (S.view.loc (c : Thread nD τ))) : sProp 𝕄 :=
  S.view.loc (c : Thread nD τ) ↦[S.view.set]{fullShare} g
abbrev oblkP (b : ℕ) (f : Buf (Elt F) ((oblk b).view.loc (c : Thread nD τ))) : sProp 𝕄 :=
  (oblk b).view.loc (c : Thread nD τ) ↦[(oblk b).view.set]{fullShare} f
abbrev wHome (b : ℕ) : sProp 𝕄 := (wblk b).view.loc (c : Thread nD τ) ↦[(wblk b).view.set]{fullShare} XA

/-- What block `b`'s transfer leaves in a slot. -/
abbrev wLanded (S : Memref sig .tc .vmem S8192x256 .fp8e4m3) (b : ℕ) (f : Buf (Elt F) (S.view.loc (c : Thread nD τ))) : Buf (Elt F) (S.view.loc (c : Thread nD τ)) :=
  S.view.writes (Elt F) f [⟨Rect.whole S8192x256, ReadAs.same.apply ((wblk b).view.read (Elt F) XA)⟩]
/-- What a slot's transfer leaves in block `b` of the logits. -/
abbrev oLanded (S : Memref sig .tc .vmem S64x256 .f32) (b : ℕ) (f : Buf (Elt F) ((oblk b).view.loc (c : Thread nD τ)))
    (g : Buf (Elt F) (S.view.loc (c : Thread nD τ))) : Buf (Elt F) ((oblk b).view.loc (c : Thread nD τ)) :=
  (oblk b).view.writes (Elt F) f [⟨Rect.whole S64x256, ReadAs.same.apply (S.view.read (Elt F) g)⟩]

def wFlyAt (S : Memref sig .tc .vmem S8192x256 .fp8e4m3) (s : DmaSems sig S_) (b : ℕ) : sProp 𝕄 :=
  iprop(∃ f, Transfers.Flight countersEmb (c : Thread nD τ) (SemLoc.dma s.sem) () 65536 iprop(wslotP c S (wLanded c XA S b f) ∗ wHome c XA b))
def oFlyAt (S : Memref sig .tc .vmem S64x256 .f32) (s : DmaSems sig S_) (b : ℕ) : sProp 𝕄 :=
  iprop(∃ f, ∃ g, ⌜S.view.read (Elt F) g = OV b⌝ ∗ Transfers.Flight countersEmb (c : Thread nD τ) (SemLoc.dma s.sem) () 2048 iprop(oblkP c b (oLanded c S b f g) ∗ oslotP c S g))
def wFreeAt (S : Memref sig .tc .vmem S8192x256 .fp8e4m3) (s : DmaSems sig S_) : sProp 𝕄 := iprop((∃ f, wslotP c S f) ∗ cellP c s)
def oFreeAt (S : Memref sig .tc .vmem S64x256 .f32) (s : DmaSems sig S_) : sProp 𝕄 := iprop((∃ g, oslotP c S g) ∗ cellP c s)

/-- Block `b` of the weights under way to its slot; -/
def wFly (b : ℕ) : sProp 𝕄 := wFlyAt c XA (wslot b) (wcell b) b
/-- its slot free; -/
def wFree (b : ℕ) : sProp 𝕄 := wFreeAt c (wslot b) (wcell b)
/-- block `b` of the logits not yet written; -/
def oHome (b : ℕ) : sProp 𝕄 := iprop(∃ f, oblkP c b f)
/-- under way from its slot; -/
def oFly (b : ℕ) : sProp 𝕄 := oFlyAt c OV (oslot b) (ocell b) b
/-- arrived; -/
def oDone (b : ℕ) : sProp 𝕄 := iprop(∃ f, ⌜(oblk b).view.read (Elt F) f = OV b⌝ ∗ oblkP c b f)
/-- computed and not yet sent; -/
def oReady (b : ℕ) : sProp 𝕄 := iprop((∃ g, ⌜(oslot b).view.read (Elt F) g = OV b⌝ ∗ oslotP c (oslot b) g) ∗ cellP c (ocell b))
/-- its slot free. -/
def oFree (b : ℕ) : sProp 𝕄 := oFreeAt c (oslot b) (ocell b)

/-- The weights' ring before trip `k`; -/
def wAt (k : ℕ) : sProp 𝕄 :=
  iprop(bigSep (Finset.Ico 0 (k + 1)) (wHome c XA) ∗ bigSep (Finset.Ico (k + 1) (min (k + 12) 125)) (wFly c XA)
    ∗ bigSep (Finset.Ico (k + 12) 125) (wHome c XA) ∗ bigSep (Finset.Ico (min k 113) (k + 1)) (wFree c))
/-- in trip `k` while it computes, block `k + 1` in its slot. -/
def wMid (k : ℕ) : sProp 𝕄 :=
  iprop(bigSep (Finset.Ico 0 (k + 2)) (wHome c XA) ∗ bigSep (Finset.Ico (k + 2) (min (k + 13) 125)) (wFly c XA)
    ∗ bigSep (Finset.Ico (k + 13) 125) (wHome c XA) ∗ bigSep (Finset.Ico (min (k + 1) 113) (k + 1)) (wFree c))
/-- The logits' ring before trip `k`; -/
def oAt (k : ℕ) : sProp 𝕄 :=
  iprop(bigSep (Finset.Ico (k - 1) 125) (oHome c) ∗ bigSep (Finset.Ico (k - 4) (k - 1)) (oFly c OV)
    ∗ bigSep (Finset.Ico 0 (k - 4)) (oDone c OV) ∗ bigSep (Finset.Ico (k - 1) k) (oReady c OV) ∗ bigSep (Finset.Ico k 4) (oFree c))
/-- in trip `k` while it computes, block `k`'s slot in hand. -/
def oMid (k : ℕ) : sProp 𝕄 :=
  iprop(bigSep (Finset.Ico k 125) (oHome c) ∗ bigSep (Finset.Ico (k - 3) k) (oFly c OV)
    ∗ bigSep (Finset.Ico 0 (k - 3)) (oDone c OV) ∗ bigSep (Finset.Ico (k + 1) 4) (oFree c))

/-- A trip's end gives the weights' slot back, -/
theorem wAt_succ (k : ℕ) : iprop(wMid c XA k ∗ wFree c (k + 1)) ⊢ wAt c XA (k + 1) := by
  unfold wMid wAt
  rw [ico_last (wFree c) (show min (k + 1) 113 ≤ k + 1 by omega)]
  iintro ⟨⟨H1, H2, H3, H4⟩, H5⟩
  iframe H1 H2 H3 H5 H4
/-- and leaves the logits' slot to be sent. -/
theorem oAt_succ (k : ℕ) : iprop(oMid c OV k ∗ oReady c OV k) ⊢ oAt c OV (k + 1) := by
  unfold oMid oAt
  rw [show k + 1 - 1 = k by omega, show k + 1 - 4 = k - 3 by omega, ico_last (oReady c OV) (le_refl k), ico_empty (oReady c OV) (le_refl k)]
  iintro ⟨⟨H1, H2, H3, H4⟩, H5⟩
  iframe H1 H2 H3 H5 H4
  iempintro

/-- The blocks of the weights trip `k < 113` does not touch; -/
def wRest (k : ℕ) : sProp 𝕄 :=
  iprop(bigSep (Finset.Ico 0 (k + 1)) (wHome c XA) ∗ bigSep (Finset.Ico (k + 2) (k + 12)) (wFly c XA) ∗ bigSep (Finset.Ico (k + 13) 125) (wHome c XA))
theorem wAt_lo (k : ℕ) (h : k < 113) : wAt c XA k ⊢ iprop(wFly c XA (k + 1) ∗ wHome c XA (k + 12) ∗ wFree c k ∗ wRest c XA k) := by
  unfold wAt wRest
  rw [show min (k + 12) 125 = k + 12 by omega, show min k 113 = k by omega, ico_head (wFly c XA) (show k + 1 < k + 12 by omega),
    ico_head (wHome c XA) (show k + 12 < 125 by omega), ico_last (wFree c) (le_refl k)]
  iintro ⟨H1, ⟨H2, H3⟩, ⟨H4, H5⟩, H6, -⟩
  iframe H2 H4 H6 H1 H3 H5
theorem wMid_lo (k : ℕ) (h : k < 113) : iprop(wHome c XA (k + 1) ∗ wFlyAt c XA (wslot k) (wcell k) (k + 12) ∗ wRest c XA k) ⊢ wMid c XA k := by
  rw [show wFlyAt c XA (wslot k) (wcell k) (k + 12) = wFly c XA (k + 12) by unfold wFly; rw [wslot_add, wcell_add]]
  unfold wMid wRest
  rw [show min (k + 13) 125 = k + 12 + 1 by omega, show min (k + 1) 113 = k + 1 by omega, ico_empty (wFree c) (le_refl (k + 1)),
    ico_last (wFly c XA) (show k + 2 ≤ k + 12 by omega), ico_last (wHome c XA) (show 0 ≤ k + 1 by omega)]
  iintro ⟨H1, H2, H3, H4, H5⟩
  iframe H1 H2 H3 H4 H5
  iempintro
/-- nor trip `k ≥ 113`. -/
def wRest' (k : ℕ) : sProp 𝕄 :=
  iprop(bigSep (Finset.Ico 0 (k + 1)) (wHome c XA) ∗ bigSep (Finset.Ico (k + 2) 125) (wFly c XA) ∗ bigSep (Finset.Ico 113 (k + 1)) (wFree c))
theorem wAt_hi (k : ℕ) (h : 113 ≤ k) (h' : k < 124) : wAt c XA k ⊢ iprop(wFly c XA (k + 1) ∗ wRest' c XA k) := by
  unfold wAt wRest'
  rw [show min (k + 12) 125 = 125 by omega, show min k 113 = 113 by omega, ico_head (wFly c XA) (show k + 1 < 125 by omega)]
  iintro ⟨H1, ⟨H2, H3⟩, -, H4⟩
  iframe H2 H1 H3 H4
theorem wMid_hi (k : ℕ) (h : 113 ≤ k) : iprop(wHome c XA (k + 1) ∗ wRest' c XA k) ⊢ wMid c XA k := by
  unfold wMid wRest'
  rw [show min (k + 13) 125 = 125 by omega, show min (k + 1) 113 = 113 by omega, ico_empty (wHome c XA) (show 125 ≤ k + 13 by omega),
    ico_last (wHome c XA) (show 0 ≤ k + 1 by omega)]
  iintro ⟨H1, H2, H3, H4⟩
  iframe H1 H2 H3 H4
  iempintro

theorem oAt_zero : oAt c OV 0 ⊢ iprop(oFree c 0 ∗ oMid c OV 0) := by
  unfold oAt oMid
  rw [ico_head (oFree c) (show 0 < 4 by omega)]
  iintro ⟨H1, H2, H3, -, H4, H5⟩
  iframe H4 H1 H2 H3 H5
theorem oAt_zero' (k : ℕ) (h : k = 0) : oAt c OV k ⊢ iprop(oFree c k ∗ oMid c OV k) := by subst h; exact oAt_zero c OV
/-- The blocks of the logits trip `k ≥ 1` does not touch. -/
def oRest (k : ℕ) : sProp 𝕄 :=
  iprop(bigSep (Finset.Ico k 125) (oHome c) ∗ bigSep (Finset.Ico (k - 3) (k - 1)) (oFly c OV) ∗ bigSep (Finset.Ico 0 (k - 4)) (oDone c OV) ∗ bigSep (Finset.Ico (k + 1) 4) (oFree c))
theorem oAt_lo (k : ℕ) (h : 1 ≤ k) (h' : k < 4) : oAt c OV k ⊢ iprop(oHome c (k - 1) ∗ oReady c OV (k - 1) ∗ oFree c k ∗ oRest c OV k) := by
  unfold oAt oRest
  rw [ico_head (oHome c) (show k - 1 < 125 by omega), ico_head (oReady c OV) (show k - 1 < k by omega), ico_head (oFree c) h',
    show k - 1 + 1 = k by omega, show k - 3 = k - 4 by omega]
  iintro ⟨⟨H1, H2⟩, H3, H4, ⟨H5, -⟩, H6, H7⟩
  iframe H1 H5 H6 H2 H3 H4 H7
theorem oMid_lo (k : ℕ) (h : 1 ≤ k) (h' : k < 4) : iprop(oFly c OV (k - 1) ∗ oRest c OV k) ⊢ oMid c OV k := by
  unfold oMid oRest
  obtain ⟨j, rfl⟩ : ∃ j, k = j + 1 := ⟨k - 1, by omega⟩
  rw [show j + 1 - 1 = j by omega, ico_last (oFly c OV) (show j + 1 - 3 ≤ j by omega), show j + 1 - 3 = j + 1 - 4 by omega]
  iintro ⟨H1, H2, H3, H4, H5⟩
  iframe H2 H1 H3 H4 H5
theorem oAt_hi (k : ℕ) (h : 4 ≤ k) (h' : k < 124) : oAt c OV k ⊢ iprop(oHome c (k - 1) ∗ oReady c OV (k - 1) ∗ oFly c OV (k - 4) ∗ oRest c OV k) := by
  unfold oAt oRest
  rw [ico_head (oHome c) (show k - 1 < 125 by omega), ico_head (oReady c OV) (show k - 1 < k by omega), ico_head (oFly c OV) (show k - 4 < k - 1 by omega),
    ico_empty (oFree c) h, ico_empty (oFree c) (show 4 ≤ k + 1 by omega),
    show k - 1 + 1 = k by omega, show k - 4 + 1 = k - 3 by omega]
  iintro ⟨⟨H1, H2⟩, ⟨H3, H3'⟩, H4, ⟨H5, -⟩, H6⟩
  iframe H1 H5 H3 H2 H3' H4 H6
theorem oMid_hi (k : ℕ) (h : 4 ≤ k) (h' : k < 124) : iprop(oFly c OV (k - 1) ∗ oDone c OV (k - 4) ∗ oRest c OV k) ⊢ oMid c OV k := by
  unfold oMid oRest
  obtain ⟨j, rfl⟩ : ∃ j, k = j + 4 := ⟨k - 4, by omega⟩
  rw [show j + 4 - 1 = j + 3 by omega, show j + 4 - 4 = j by omega, show j + 4 - 3 = j + 1 by omega, ico_last (oFly c OV) (show j + 1 ≤ j + 3 by omega), ico_last (oDone c OV) (show 0 ≤ j by omega)]
  iintro ⟨H1, H2, H3, H4, H5, H6⟩
  iframe H3 H1 H4 H2 H5 H6

section Part
variable (arg6 : Memref sig .tc .vmem S64x1 .f32) (harg6 : arg6.IsWhole) (arg7 : Memref sig .tc .vmem S64x52 .f32) (harg7 : arg7.IsWhole)
  (arg9 : Memref sig .tc .vmem S64x1 .f32) (harg9 : arg9.IsWhole)

theorem oFree_sub (k : ℕ) (h : 4 ≤ k) : oFreeAt (F := F) c (oslot (k - 4)) (ocell (k - 4)) ⊢ oFreeAt (F := F) c (oslot k) (ocell k) := by
  rw [oslot_sub h, ocell_sub h]
theorem oDone_of (b : ℕ) (f g) (h : (oslot b).view.read (Elt F) g = OV b) : oblkP c b (oLanded c (oslot b) b f g) ⊢ oDone c OV b := by
  unfold oDone; iintro H; iexists _; isplitr; swap; iexact H; ipureintro; rw [← h]
  exact View.read_writes_whole _ _ _

/-- What the first part of trip `k` works out. -/
abbrev ret1 (k : Fin k0_t1_loop.trips) : Σ' (arg31 : BitVec 32) (v2487 : BitVec 32) (v2509 : BitVec 32) (v2510 : BitVec 32) (c128_i32_1355 : BitVec 32) (v2511 : BitVec 32) (v2516 : BitVec 32) (v2518 : BitVec 32), BitVec 32 := ⟨Scf.iv 1#32 1#32 k, Scalar.remsi (Scf.iv 1#32 1#32 k) 12#32, Scalar.remsi (Scf.iv 1#32 1#32 k) 2#32, Scalar.muli (Scf.iv 1#32 1#32 k) 2#32, 128#32, Scalar.divsi (Scalar.muli (Scf.iv 1#32 1#32 k) 2#32) 128#32, 1#32, 1#32, 0#32⟩

/-- The first part of trip `k`: its transfers. -/
theorem part1_run (k : Fin k0_t1_loop.trips) :
    iprop(wAt c XA k.val ∗ oAt c OV k.val ∗ (∃ W, owes (c : Thread nD τ) 0 W)) ⊢ wp frame (wpE (defs₀ (F := F)) 𝒱₀ (c : Thread nD τ) none) Set.univ
      (k0_part1 (F := F) (Memref.whole main_v0) (Memref.isWhole_whole _) (Memref.whole main_arg1) (Memref.isWhole_whole _) (Memref.whole main_arg2) (Memref.isWhole_whole _) (Memref.whole main_arg3) (Memref.isWhole_whole _) (Memref.whole main_v1) (Memref.isWhole_whole _) (Memref.whole main_v2_0) (Memref.isWhole_whole _) arg6 harg6 arg7 harg7 (Memref.whole main_v2_3) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 1#32 1#32 k)
      (fun r => iprop(⌜r = ret1 k⌝ ∗ (∃ f, wslotP c (wslot (k.val + 1)) (wLanded c XA (wslot (k.val + 1)) (k.val + 1) f)) ∗ cellP c (wcell (k.val + 1))
        ∗ (∃ g, oslotP c (oslot k.val) g) ∗ cellP c (ocell k.val) ∗ wMid c XA k.val ∗ oMid c OV k.val ∗ (∃ W, owes (c : Thread nD τ) 0 W))) := by
  have hk := lt124 k
  have b1 := cond1_iff k; have b2 := cond2_iff k; have b3 := cond3_iff k
  rcases Nat.lt_or_ge k.val 113 with h1 | h1
  · rcases Nat.lt_or_ge k.val 4 with h3 | h3
    · rcases Nat.lt_or_ge k.val 1 with h2 | h2
      · skip
        have C1 : k0_cond1 k = 1#1 := b1.2 h1
        have C2 : ¬ k0_cond2 k = 1#1 := fun h => by have := b2.1 h; omega
        have C3 : ¬ k0_cond3 k = 1#1 := fun h => by have := b3.1 h; omega
        clear b1 b2 b3
        iintro ⟨HW, HO, ⟨%W, Howes⟩⟩
        ihave HW' := (wAt_lo c XA k.val h1) $$ HW
        have h0 : k.val = 0 := by omega
        ihave HO' := (oAt_zero' c OV k.val h0) $$ HO
        unfold wFly wFlyAt wFree wFreeAt oFree oFreeAt
        icases HW' with ⟨⟨%fw, HWf⟩, HWh, ⟨⟨%fs, HWs⟩, HWc⟩, HWr⟩
        icases HO' with ⟨⟨HOF1, HOF2⟩, HOr⟩
        sl_exec
        sl_step
        isplitr; · ipureintro; rfl
        isplitl [HWf_dst]; · iexists _; iexact HWf_dst
        isplitl [HWf]; · iexact HWf
        isplitl [HOF1]; · iexact HOF1
        isplitl [HOF2]; · iexact HOF2
        isplitl [HWf_src HWc HWr]
        · iapply (wMid_lo c XA k.val h1)
          isplitl [HWf_src]; · iexact HWf_src
          isplitl [HWc]; · unfold wFlyAt; iexists _; iexact HWc
          iexact HWr
        isplitl [HOr]; · iexact HOr
        iexists _; iexact Howes
      · skip
        have C1 : k0_cond1 k = 1#1 := b1.2 h1
        have C2 : k0_cond2 k = 1#1 := b2.2 h2
        have C3 : ¬ k0_cond3 k = 1#1 := fun h => by have := b3.1 h; omega
        clear b1 b2 b3
        iintro ⟨HW, HO, ⟨%W, Howes⟩⟩
        ihave HW' := (wAt_lo c XA k.val h1) $$ HW
        ihave HO' := (oAt_lo c OV k.val h2 h3) $$ HO
        unfold wFly wFlyAt wFree wFreeAt oHome oReady oFree oFreeAt
        icases HW' with ⟨⟨%fw, HWf⟩, HWh, ⟨⟨%fs, HWs⟩, HWc⟩, HWr⟩
        icases HO' with ⟨⟨%fo, HOh⟩, ⟨⟨%go, %hgo, HOs⟩, HOc⟩, ⟨HOF1, HOF2⟩, HOr⟩
        sl_exec
        sl_step
        isplitr; · ipureintro; rfl
        isplitl [HWf_dst]; · iexists _; iexact HWf_dst
        isplitl [HWf]; · iexact HWf
        isplitl [HOF1]; · iexact HOF1
        isplitl [HOF2]; · iexact HOF2
        isplitl [HWf_src HWc HWr]
        · iapply (wMid_lo c XA k.val h1)
          isplitl [HWf_src]; · iexact HWf_src
          isplitl [HWc]; · unfold wFlyAt; iexists _; iexact HWc
          iexact HWr
        isplitl [HOc HOr]
        · iapply (oMid_lo c OV k.val h2 h3)
          isplitl [HOc]
          · unfold oFly oFlyAt; iexists _, _; isplitr; swap; iexact HOc; ipureintro; exact hgo
          iexact HOr
        iexists _; iexact Howes
    · have h2 : 1 ≤ k.val := by omega
      have C1 : k0_cond1 k = 1#1 := b1.2 h1
      have C2 : k0_cond2 k = 1#1 := b2.2 h2
      have C3 : k0_cond3 k = 1#1 := b3.2 h3
      clear b1 b2 b3
      iintro ⟨HW, HO, ⟨%W, Howes⟩⟩
      ihave HW' := (wAt_lo c XA k.val h1) $$ HW
      ihave HO' := (oAt_hi c OV k.val h3 hk) $$ HO
      unfold wFly wFlyAt wFree wFreeAt oHome oReady oFly oFlyAt
      icases HW' with ⟨⟨%fw, HWf⟩, HWh, ⟨⟨%fs, HWs⟩, HWc⟩, HWr⟩
      icases HO' with ⟨⟨%fo, HOh⟩, ⟨⟨%go, %hgo, HOs⟩, HOc⟩, ⟨%ff, %gf, %hgf, HOf⟩, HOr⟩
      sl_exec
      sl_step
      isplitr; · ipureintro; rfl
      isplitl [HWf_dst]; · iexists _; iexact HWf_dst
      isplitl [HWf]; · iexact HWf
      ihave HOF := (oFree_sub (F := F) c k.val h3) $$ [HOf_src HOf]
      · unfold oFreeAt; isplitl [HOf_src]; · iexists _; iexact HOf_src
        iexact HOf
      unfold oFreeAt
      icases HOF with ⟨HOF1, HOF2⟩
      isplitl [HOF1]; · iexact HOF1
      isplitl [HOF2]; · iexact HOF2
      isplitl [HWf_src HWc HWr]
      · iapply (wMid_lo c XA k.val h1)
        isplitl [HWf_src]; · iexact HWf_src
        isplitl [HWc]; · unfold wFlyAt; iexists _; iexact HWc
        iexact HWr
      isplitl [HOc HOf_dst HOr]
      · iapply (oMid_hi c OV k.val h3 hk)
        isplitl [HOc]
        · unfold oFly oFlyAt; iexists _, _; isplitr; swap; iexact HOc; ipureintro; exact hgo
        isplitl [HOf_dst]; · iapply (oDone_of c OV (k.val - 4) ff gf hgf); iexact HOf_dst
        iexact HOr
      iexists _; iexact Howes
  · have h2 : 1 ≤ k.val := by omega
    have h3 : 4 ≤ k.val := by omega
    have C1 : ¬ k0_cond1 k = 1#1 := fun h => by have := b1.1 h; omega
    have C2 : k0_cond2 k = 1#1 := b2.2 h2
    have C3 : k0_cond3 k = 1#1 := b3.2 h3
    clear b1 b2 b3
    iintro ⟨HW, HO, ⟨%W, Howes⟩⟩
    ihave HW' := (wAt_hi c XA k.val h1 hk) $$ HW
    ihave HO' := (oAt_hi c OV k.val h3 hk) $$ HO
    unfold wFly wFlyAt oHome oReady oFly oFlyAt
    icases HW' with ⟨⟨%fw, HWf⟩, HWr⟩
    icases HO' with ⟨⟨%fo, HOh⟩, ⟨⟨%go, %hgo, HOs⟩, HOc⟩, ⟨%ff, %gf, %hgf, HOf⟩, HOr⟩
    sl_exec
    sl_step
    isplitr; · ipureintro; rfl
    isplitl [HWf_dst]; · iexists _; iexact HWf_dst
    isplitl [HWf]; · iexact HWf
    ihave HOF := (oFree_sub (F := F) c k.val h3) $$ [HOf_src HOf]
    · unfold oFreeAt; isplitl [HOf_src]; · iexists _; iexact HOf_src
      iexact HOf
    unfold oFreeAt
    icases HOF with ⟨HOF1, HOF2⟩
    isplitl [HOF1]; · iexact HOF1
    isplitl [HOF2]; · iexact HOF2
    isplitl [HWf_src HWr]
    · iapply (wMid_hi c XA k.val h1)
      isplitl [HWf_src]; · iexact HWf_src
      iexact HWr
    isplitl [HOc HOf_dst HOr]
    · iapply (oMid_hi c OV k.val h3 hk)
      isplitl [HOc]
      · unfold oFly oFlyAt; iexists _, _; isplitr; swap; iexact HOc; ipureintro; exact hgo
      isplitl [HOf_dst]; · iapply (oDone_of c OV (k.val - 4) ff gf hgf); iexact HOf_dst
      iexact HOr
    iexists _; iexact Howes
end Part
end Pieces

end Cert.Proof.KernI
-- ==== Proof.TripI.lean ====
/-
  One trip of the chunk loop: from the running state before it (the row maximum and sum, the candidates' logits and
  the accumulator of the chunk before) to the one after, with what the trip puts in the logits' ring.
-/
module

public import proofs.«01_k».proof.Proof.DmaI
public import Idealize.ShloMosaic.Lib.VecWindow
public import Idealize.ShloMosaic.Lib.ValueLayout

@[expose] public section

set_option maxRecDepth 16384

noncomputable section

namespace Cert.Proof.KernI

open Cert.KernelIdeal Cert.KernelIdeal.Gen
open Idealize.ShloMosaic.ValueIdx
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

abbrev codesM : Memref sig .tc .vmem S64x8192 .fp8e4m3 := Memref.whole cc0_scratch1
abbrev wsM : Memref sig .tc .vmem S64x256 .f32 := Memref.whole cc0_scratch4
abbrev bmM : Memref sig .tc .vmem S64x1024 .i32 := Memref.whole cc0_scratch6
abbrev candM : Memref sig .tc .vmem S64x128 .i32 := Memref.whole cc0_scratch8
abbrev sexpM : Memref sig .tc .vmem S64x256 .f32 := Memref.whole cc0_scratch9
abbrev xsM : Memref sig .tc .vmem S64x128 .f32 := Memref.whole cc0_scratch10
abbrev mM : Memref sig .tc .vmem S64x128 .f32 := Memref.whole cc0_scratch13
abbrev sM : Memref sig .tc .vmem S64x128 .f32 := Memref.whole cc0_scratch14
abbrev clM : Memref sig .tc .vmem S64x128 .f32 := Memref.whole cc0_scratch15
abbrev caM : Memref sig .tc .vmem S64x128 .i32 := Memref.whole cc0_scratch16

/-! ## Contents by their values -/

/-- What a chunk's two stores leave in a slot of the logits' ring: its lower and its upper 128 columns. -/
def ohalves (a b : S1x64x128.Idx → Elt F .f32) : S64x256.Idx → Elt F .f32 := fun y =>
  if h : (y 1).val < 128 then a (ix3 (0 : Fin 1) (y 0) (⟨(y 1).val, h⟩ : Fin 128))
  else b (ix3 (0 : Fin 1) (y 0) (⟨(y 1).val - 128, by have h2 : (y 1).val < 256 := (y 1).isLt; omega⟩ : Fin 128))

theorem oslot_emb (b : ℕ) (y : S64x256.Idx) :
    (oslot b).view.emb y = obufM.view.emb ((ix3 (⟨b % 4, Nat.mod_lt _ (by decide)⟩ : Fin 4) (y 0) (y 1) : S4x64x256.Idx)) := by
  have e : (oslot b).view.emb y = obufM.view.emb ((Rect.unit (s := S4x64x256) (oslotOff b) S1x64x256.size (oslot_inb b)).emb
      (Shape.reshapeEquiv squeezes_S1x64x256_S64x256.numel_eq y)) := rfl
  have ey : Shape.reshapeEquiv squeezes_S1x64x256_S64x256.numel_eq y = (ix3 (⟨0, Nat.one_pos⟩ : Fin 1) (y 0) (y 1) : S1x64x256.Idx) := by
    have h := reshapeEquiv_ix2_1ab squeezes_S1x64x256_S64x256.numel_eq (y 0 : Fin 64) (y 1 : Fin 256)
    rw [← h]; congr 1; funext a; fin_cases a <;> rfl
  rw [e]
  congr 1
  rw [ey]
  funext a; apply Fin.ext
  fin_cases a
  · show b % 4 + 1 * 0 = b % 4; omega
  · show 0 + 1 * (y 0).val = (y 0).val; omega
  · show 0 + 1 * (y 1).val = (y 1).val; omega

theorem oslot_read (b : ℕ) (f : obufM.view.ty.Contents (Elt F)) (y : S64x256.Idx) :
    (oslot b).view.read (Elt F) f y = obufM.view.read (Elt F) f (ix3 (⟨b % 4, Nat.mod_lt _ (by decide)⟩ : Fin 4) (y 0) (y 1) : S4x64x256.Idx) :=
  congrArg f (oslot_emb b y)

theorem obuf_read (b : ℕ) {off₁ off₂ : Fin 3 → Nat} (e₁ : off₁ = ![b % 4, 0, 0]) (e₂ : off₂ = ![b % 4, 0, 128])
    (h₁ : ∀ a, off₁ a + S1x64x128.size a ≤ S4x64x256.size a) (h₂ : ∀ a, off₂ a + S1x64x128.size a ≤ S4x64x256.size a)
    (g : obufM.view.ty.Contents (Elt F)) (x₁ x₂ : S1x64x128.Idx → Elt F .f32) :
    (oslot b).view.read (Elt F) (View.write (Elt F) (obufM.access (Rect.unit (s := S4x64x256) off₂ S1x64x128.size h₂))
      (View.write (Elt F) (obufM.access (Rect.unit (s := S4x64x256) off₁ S1x64x128.size h₁)) g x₁ Finset.univ) x₂ Finset.univ) = ohalves x₁ x₂ := by
  subst e₁ e₂
  funext y
  have hb := Nat.mod_lt b (show 0 < 4 by decide)
  refine (oslot_read b _ y).trans ?_
  unfold ohalves
  by_cases h : (y 1).val < 128
  · rw [dif_pos h]
    rw [View.read_slice_write_of_not_mem]
    · have e : (ix3 (⟨b % 4, Nat.mod_lt _ (by decide)⟩ : Fin 4) (y 0) (y 1) : S4x64x256.Idx)
          = (Rect.unit (s := S4x64x256) ![b % 4, 0, 0] S1x64x128.size h₁).emb (ix3 (0 : Fin 1) (y 0) (⟨(y 1).val, h⟩ : Fin 128)) := by
        funext a; apply Fin.ext; fin_cases a
        · show b % 4 = b % 4 + 1 * 0; omega
        · show (y 0).val = 0 + 1 * (y 0).val; omega
        · show (y 1).val = 0 + 1 * (y 1).val; omega
      rw [e]; exact View.read_slice_write_emb _ _ _ (Finset.mem_univ _)
    · intro hm
      obtain ⟨x, -, hx⟩ := Finset.mem_map.1 hm
      have := congrArg (fun z : S4x64x256.Idx => (z 2).val) hx
      have h3 : 128 + 1 * (x 2).val = (y 1).val := this
      omega
  · rw [dif_neg h]
    have h2 : (y 1).val < 256 := (y 1).isLt
    have e : (ix3 (⟨b % 4, Nat.mod_lt _ (by decide)⟩ : Fin 4) (y 0) (y 1) : S4x64x256.Idx)
        = (Rect.unit (s := S4x64x256) ![b % 4, 0, 128] S1x64x128.size h₂).emb (ix3 (0 : Fin 1) (y 0) (⟨(y 1).val - 128, by omega⟩ : Fin 128)) := by
      funext a; apply Fin.ext; fin_cases a
      · show b % 4 = b % 4 + 1 * 0; omega
      · show (y 0).val = 0 + 1 * (y 0).val; omega
      · show (y 1).val = 128 + 1 * ((y 1).val - 128); omega
    rw [e]; exact View.read_slice_write_emb _ _ _ (Finset.mem_univ _)

theorem acc_read (b : ℕ) {off : Fin 3 → Nat} (e : off = aslotOff b) (h : ∀ a, off a + S1x64x256.size a ≤ S2x64x256.size a)
    (g : accM.view.ty.Contents (Elt F)) (x : S1x64x256.Idx → Elt F .f32) :
    (aslot b).view.read (Elt F) (View.write (Elt F) (accM.access (Rect.unit (s := S2x64x256) off S1x64x256.size h)) g x Finset.univ) = x := by
  subst e; exact View.read_write_univ _ _

theorem aslot_add (b : ℕ) : aslot (b + 2) = aslot b := by
  unfold aslot; exact Memref.slice_unit_congr _ (by unfold aslotOff; congr 1; omega) _ _ _ (fun _ => rfl)

/-- A buffer holding `x`, whatever it held before. -/
abbrev holds {sp : Space} {s : Shape} {e : EltTy} (M : Memref sig .tc sp s e) (x : s.Idx → Elt F e) : M.view.ty.Contents (Elt F) :=
  M.view.writes (Elt F) M.view.junk [⟨Rect.whole s, x⟩]

/-- Contents that read `x` may be taken to be `holds M x`. -/
theorem holds_of (c : Dev nD) {sp : Space} {s : Shape} {e : EltTy} (M : Memref sig .tc sp s e) (f : Buf (Elt F) (M.view.loc (c : Thread nD τ)))
    (q : PosShare TreeShare) (x : s.Idx → Elt F e) (h : M.view.read (Elt F) f = x) :
    (M.view.loc (c : Thread nD τ) ↦[M.view.set]{q} f : sProp 𝕄) ⊢ M.view.loc (c : Thread nD τ) ↦[M.view.set]{q} holds M x := by
  refine (BI.equiv_iff.mpr (pointsTo_congr ?_)).1
  intro i hi
  obtain ⟨z, -, rfl⟩ := Finset.mem_map.mp hi
  have e1 : M.view.read (Elt F) f z = M.view.read (Elt F) (holds M x) z := by rw [h, View.read_writes_whole]
  rw [View.read_apply, View.read_apply] at e1
  exact (cast_inj _).1 e1

theorem accP_add (c : Dev nD) (b : ℕ) :
    iprop(∃ f : Buf (Elt F) ((aslot b).view.loc (c : Thread nD τ)), ((aslot b).view.loc (c : Thread nD τ) ↦[(aslot b).view.set]{fullShare} f : sProp 𝕄)) ⊢
      iprop(∃ f : Buf (Elt F) ((aslot (b + 2)).view.loc (c : Thread nD τ)), ((aslot (b + 2)).view.loc (c : Thread nD τ) ↦[(aslot (b + 2)).view.set]{fullShare} f : sProp 𝕄)) := by
  rw [aslot_add]

theorem oslot_holds (c : Dev nD) (S : Memref sig .tc .vmem S64x256 .f32) (g : Buf (Elt F) (S.view.loc (c : Thread nD τ))) (x : S64x256.Idx → Elt F .f32)
    (h : S.view.read (Elt F) g = x) : oslotP c S g ⊢ iprop(∃ g, ⌜S.view.read (Elt F) g = x⌝ ∗ oslotP c S g) := by
  iintro H; iexists g; iframe H; ipureintro; exact h

/-- The running state: the row maximum and sum of the chunks so far, lane by lane, the candidates' logits, and the
    accumulator of the newest chunk. -/
structure St (F : FTy → Type) where
  m : S64x128.Idx → Elt F .f32
  s : S64x128.Idx → Elt F .f32
  cl : S64x128.Idx → Elt F .f32
  a : S1x64x256.Idx → Elt F .f32

/-- A trip's outcome: the state after it and the two halves of the logits it writes. -/
structure Out (F : FTy → Type) extends St F where
  o₁ : S1x64x128.Idx → Elt F .f32
  o₂ : S1x64x128.Idx → Elt F .f32

section Trip
variable (c : Dev nD) (XA : Buf (Elt F) (wM.view.loc (c : Thread nD τ))) (OV : ℕ → S64x256.Idx → Elt F .f32)
  (XC : Buf (Elt F) (codesM.view.loc (c : Thread nD τ))) (XS : Buf (Elt F) (wsM.view.loc (c : Thread nD τ)))
  (XB : Buf (Elt F) (bmM.view.loc (c : Thread nD τ))) (XD : Buf (Elt F) (candM.view.loc (c : Thread nD τ)))
  (XX : Buf (Elt F) (xsM.view.loc (c : Thread nD τ))) (XE : Buf (Elt F) (caM.view.loc (c : Thread nD τ)))
  (arg6 : Memref sig .tc .vmem S64x1 .f32) (harg6 : arg6.IsWhole) (arg7 : Memref sig .tc .vmem S64x52 .f32) (harg7 : arg7.IsWhole)
  (arg9 : Memref sig .tc .vmem S64x1 .f32) (harg9 : arg9.IsWhole)
  (v104 v120 : IVec S64x128 32) (v2209 : FVec F S64x256 .f32) (v2210 : Vec F S64x128 .fp8e4m3) (v2212 : FVec F S128x256 .fp8e4m3) (cst_1189 : FVec F S64x256 .f32)

abbrev codesP (q : PosShare TreeShare) (f : Buf (Elt F) (codesM.view.loc (c : Thread nD τ))) : sProp 𝕄 := codesM.view.loc (c : Thread nD τ) ↦[codesM.view.set]{q} f
abbrev wsP (f : Buf (Elt F) (wsM.view.loc (c : Thread nD τ))) : sProp 𝕄 := wsM.view.loc (c : Thread nD τ) ↦[wsM.view.set]{fullShare} f
abbrev bmP (f : Buf (Elt F) (bmM.view.loc (c : Thread nD τ))) : sProp 𝕄 := bmM.view.loc (c : Thread nD τ) ↦[bmM.view.set]{fullShare} f
abbrev candP (f : Buf (Elt F) (candM.view.loc (c : Thread nD τ))) : sProp 𝕄 := candM.view.loc (c : Thread nD τ) ↦[candM.view.set]{fullShare} f
abbrev xsP (f : Buf (Elt F) (xsM.view.loc (c : Thread nD τ))) : sProp 𝕄 := xsM.view.loc (c : Thread nD τ) ↦[xsM.view.set]{fullShare} f
abbrev caP (f : Buf (Elt F) (caM.view.loc (c : Thread nD τ))) : sProp 𝕄 := caM.view.loc (c : Thread nD τ) ↦[caM.view.set]{fullShare} f
/-- What a trip reads and leaves alone. -/
abbrev constP : sProp 𝕄 :=
  iprop(codesP c fullShare.left XC ∗ wsP c XS ∗ bmP c XB ∗ candP c XD ∗ xsP c XX ∗ caP c XE)
abbrev sexpP (f : Buf (Elt F) (sexpM.view.loc (c : Thread nD τ))) : sProp 𝕄 := sexpM.view.loc (c : Thread nD τ) ↦[sexpM.view.set]{fullShare} f
abbrev mP (f : Buf (Elt F) (mM.view.loc (c : Thread nD τ))) : sProp 𝕄 := mM.view.loc (c : Thread nD τ) ↦[mM.view.set]{fullShare} f
abbrev sP (f : Buf (Elt F) (sM.view.loc (c : Thread nD τ))) : sProp 𝕄 := sM.view.loc (c : Thread nD τ) ↦[sM.view.set]{fullShare} f
abbrev clP (f : Buf (Elt F) (clM.view.loc (c : Thread nD τ))) : sProp 𝕄 := clM.view.loc (c : Thread nD τ) ↦[clM.view.set]{fullShare} f
abbrev accP (b : ℕ) (f : Buf (Elt F) ((aslot b).view.loc (c : Thread nD τ))) : sProp 𝕄 := (aslot b).view.loc (c : Thread nD τ) ↦[(aslot b).view.set]{fullShare} f

abbrev tripG (k : Fin k0_t1_loop.trips) : Prog (TpuEff nD τ sig (Elt F) Λ₀ .tc) Unit :=
  k0_t1_body (F := F) (Memref.whole main_v0) (Memref.isWhole_whole _) (Memref.whole main_arg1) (Memref.isWhole_whole _) (Memref.whole main_arg2) (Memref.isWhole_whole _) (Memref.whole main_arg3) (Memref.isWhole_whole _) (Memref.whole main_v1) (Memref.isWhole_whole _) (Memref.whole main_v2_0) (Memref.isWhole_whole _) arg6 harg6 arg7 harg7 (Memref.whole main_v2_3) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 v104 v120 v2209 v2210 v2212 cst_1189 k ()

/-- The buffers of the running state before chunk `b`'s epilogue. -/
abbrev stP (b : ℕ) (σ : St F) : sProp 𝕄 :=
  iprop(mP c (holds mM σ.m) ∗ sP c (holds sM σ.s) ∗ clP c (holds clM σ.cl) ∗ accP c b (holds (aslot b) σ.a) ∗ (∃ f, accP (F := F) c (b + 1) f) ∗ (∃ f, sexpP (F := F) c f))

/-- What is held before trip `k` of the loop with the running state at `σ`. -/
abbrev tripPre (k : ℕ) (σ : St F) : sProp 𝕄 :=
  iprop(stP c k σ ∗ constP c XC XS XB XD XX XE ∗ (∃ W, owes (c : Thread nD τ) 0 W) ∗ wAt c XA k ∗ oAt c OV k)

/-- What trip `k` leaves: as `tripPre` with the logits' slot apart. -/
abbrev tripPost (k : ℕ) (w : Out F) : sProp 𝕄 :=
  iprop((∃ g, ⌜(oslot k).view.read (Elt F) g = ohalves w.o₁ w.o₂⌝ ∗ oslotP c (oslot k) g) ∗ stP c (k + 1) w.toSt ∗ constP c XC XS XB XD XX XE
    ∗ (∃ W, owes (c : Thread nD τ) 0 W) ∗ wAt c XA (k + 1) ∗ oMid c OV k ∗ cellP c (ocell k))

set_option backward.proofsInPublic true in
/-- One trip. -/
def tripRun (k : Fin k0_t1_loop.trips) (σ : St F) :
    { w : Out F // ∀ OV : ℕ → S64x256.Idx → Elt F .f32,
      tripPre c XA OV XC XS XB XD XX XE k.val σ
      ⊢ wp frame (wpE (defs₀ (F := F)) 𝒱₀ (c : Thread nD τ) none) Set.univ (tripG arg6 harg6 arg7 harg7 arg9 harg9 v104 v120 v2209 v2210 v2212 cst_1189 k)
        (fun _ => tripPost c XA OV XC XS XB XD XX XE k.val w) } := by
  refine ⟨⟨⟨?m, ?s, ?cl, ?a⟩, ?o₁, ?o₂⟩, ?run⟩
  case run =>
    intro OV
    have hcut := part1_run c XA OV arg6 harg6 arg7 harg7 arg9 harg9 k
    iintro ⟨⟨Hm, Hs, Hcl, Ha, ⟨%fb, Hb⟩, ⟨%fe, He⟩⟩, ⟨HC, HS, HB, HD, HXX, HE⟩, ⟨%W, HX⟩, HW, HO⟩
    dsimp only [tripG]
    sl_unfold [k0_t1_body]
    sl_exec
    cases hk0_part1_0
    sl_exec
    sl_step
    isplitl [Hk0_part1_3]
    · ihave H' := (oslot_holds c (oslot k.val) (tripRun.sl.Hk0_part1_3_w3 c XB XX v104 v120 k σ _ gk0_part1_1) _ (obuf_read (F := F) k.val (k0_off81_eq k) (k0_off83_eq k) _ _ _ _ _)) $$ Hk0_part1_3
      iexact H'
    isplitl [Hm Hs Hcl Hb Ha He]
    · isplitl [Hm]
      · ihave H' := (holds_of c mM _ fullShare _ (View.read_writes_full _ _ _ _ _)) $$ Hm
        iexact H'
      isplitl [Hs]
      · ihave H' := (holds_of c sM _ fullShare _ (View.read_writes_full _ _ _ _ _)) $$ Hs
        iexact H'
      isplitl [Hcl]
      · ihave H' := (holds_of c clM _ fullShare _ (View.read_writes_full _ _ _ _ _)) $$ Hcl
        iexact H'
      isplitl [Hb]
      · ihave H' := (holds_of c (aslot (k.val + 1)) (tripRun.sl.Hb_w1 c XA XC XS k fb _) fullShare _ (acc_read (F := F) _ (k0_off78_eq k) _ _ _)) $$ Hb
        iexact H'
      isplitl [Ha]
      · iapply (accP_add c k.val)
        iexists _; iexact Ha
      iexists _; iexact He
    isplitl [HC HS HB HD HXX HE]
    · iframe HC HS HB HD HXX HE
    isplitl [Hk0_part1_13]
    · iexists _; iexact Hk0_part1_13
    isplitl [Hk0_part1_1 Hk0_part1_2 Hk0_part1_5 Hk0_part1_6 Hk0_part1_7 Hk0_part1_8]
    · iapply (wAt_succ c XA k.val)
      isplitl [Hk0_part1_5 Hk0_part1_6 Hk0_part1_7 Hk0_part1_8]
      · unfold wMid; iframe Hk0_part1_5 Hk0_part1_6 Hk0_part1_7 Hk0_part1_8
      · unfold wFree wFreeAt
        isplitl [Hk0_part1_1]
        · iexists _; iexact Hk0_part1_1
        · iexact Hk0_part1_2
    isplitl [Hk0_part1_9 Hk0_part1_10 Hk0_part1_11 Hk0_part1_12]
    · unfold oMid; iframe Hk0_part1_9 Hk0_part1_10 Hk0_part1_11 Hk0_part1_12
    iexact Hk0_part1_4

/-- One trip, the logits' ring taken on as well. -/
theorem trip_step (k : Fin k0_t1_loop.trips) (σ : St F)
    (h : OV k.val = ohalves (tripRun c XA XC XS XB XD XX XE arg6 harg6 arg7 harg7 arg9 harg9 v104 v120 v2209 v2210 v2212 cst_1189 k σ).1.o₁
      (tripRun c XA XC XS XB XD XX XE arg6 harg6 arg7 harg7 arg9 harg9 v104 v120 v2209 v2210 v2212 cst_1189 k σ).1.o₂) :
    tripPre c XA OV XC XS XB XD XX XE k.val σ
      ⊢ wp frame (wpE (defs₀ (F := F)) 𝒱₀ (c : Thread nD τ) none) Set.univ (tripG arg6 harg6 arg7 harg7 arg9 harg9 v104 v120 v2209 v2210 v2212 cst_1189 k)
        (fun _ => tripPre c XA OV XC XS XB XD XX XE (k.val + 1) (tripRun c XA XC XS XB XD XX XE arg6 harg6 arg7 harg7 arg9 harg9 v104 v120 v2209 v2210 v2212 cst_1189 k σ).1.toSt) := by
  iintro H
  iapply (wp_wand_r Idealize.ShloMosaic.frame (wpE (defs₀ (F := F)) 𝒱₀ (c : Thread nD τ) none) Set.univ)
  isplitl [H]
  · iapply (tripRun c XA XC XS XB XD XX XE arg6 harg6 arg7 harg7 arg9 harg9 v104 v120 v2209 v2210 v2212 cst_1189 k σ).2 OV; iexact H
  · iintro %_ ⟨⟨%g, %hg, H6⟩, H1, H2, H3, H4, H5, H7⟩
    isplitl [H1]; · iexact H1
    isplitl [H2]; · iexact H2
    isplitl [H3]; · iexact H3
    isplitl [H4]; · iexact H4
    iapply (oAt_succ c OV k.val)
    iframe H5
    unfold oReady
    iframe H7
    iexists g; iframe H6; ipureintro; exact hg.trans h.symm
end Trip

end Cert.Proof.KernI
-- ==== Proof.LoopI.lean ====
/-
  The chunk loop: its trips one after another, and the stretch of the kernel around it that finishes chunk 0's
  accumulator and runs the loop.
-/
module

public import proofs.«01_k».proof.Proof.TripI

@[expose] public section

set_option maxRecDepth 16384

noncomputable section

namespace Cert.Proof.KernI

open Cert.KernelIdeal Cert.KernelIdeal.Gen
open Idealize.ShloMosaic.ValueIdx
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Loop
variable (c : Dev nD) (XA : Buf (Elt F) (wM.view.loc (c : Thread nD τ)))
  (XC : Buf (Elt F) (codesM.view.loc (c : Thread nD τ))) (XS : Buf (Elt F) (wsM.view.loc (c : Thread nD τ)))
  (XB : Buf (Elt F) (bmM.view.loc (c : Thread nD τ))) (XD : Buf (Elt F) (candM.view.loc (c : Thread nD τ)))
  (XX : Buf (Elt F) (xsM.view.loc (c : Thread nD τ))) (XE : Buf (Elt F) (caM.view.loc (c : Thread nD τ)))
  (arg6 : Memref sig .tc .vmem S64x1 .f32) (harg6 : arg6.IsWhole) (arg7 : Memref sig .tc .vmem S64x52 .f32) (harg7 : arg7.IsWhole)
  (arg9 : Memref sig .tc .vmem S64x1 .f32) (harg9 : arg9.IsWhole)
  (v104 v120 : IVec S64x128 32) (v2209 : FVec F S64x256 .f32) (v2210 : Vec F S64x128 .fp8e4m3) (v2212 : FVec F S128x256 .fp8e4m3) (cst_1189 : FVec F S64x256 .f32)

attribute [local irreducible] tripRun

/-- What trip `k` does from the state `σ`. -/
def tripOut (k : Fin k0_t1_loop.trips) (σ : St F) : Out F := (tripRun c XA XC XS XB XD XX XE arg6 harg6 arg7 harg7 arg9 harg9 v104 v120 v2209 v2210 v2212 cst_1189 k σ).1

/-- One trip, from any state to the state it leaves. -/
theorem trip_step' (OV : ℕ → S64x256.Idx → Elt F .f32) (k : Fin k0_t1_loop.trips) (σ σ' : St F)
    (h : OV k.val = ohalves (tripOut c XA XC XS XB XD XX XE arg6 harg6 arg7 harg7 arg9 harg9 v104 v120 v2209 v2210 v2212 cst_1189 k σ).o₁ (tripOut c XA XC XS XB XD XX XE arg6 harg6 arg7 harg7 arg9 harg9 v104 v120 v2209 v2210 v2212 cst_1189 k σ).o₂)
    (e : σ' = (tripOut c XA XC XS XB XD XX XE arg6 harg6 arg7 harg7 arg9 harg9 v104 v120 v2209 v2210 v2212 cst_1189 k σ).toSt) :
    tripPre c XA OV XC XS XB XD XX XE k.val σ ⊢ wp frame (wpE (defs₀ (F := F)) 𝒱₀ (c : Thread nD τ) none) Set.univ
      (tripG arg6 harg6 arg7 harg7 arg9 harg9 v104 v120 v2209 v2210 v2212 cst_1189 k) (fun _ => tripPre c XA OV XC XS XB XD XX XE (k.val + 1) σ') :=
  by
    unfold tripOut at h e
    rw [e]
    exact trip_step c XA OV XC XS XB XD XX XE arg6 harg6 arg7 harg7 arg9 harg9 v104 v120 v2209 v2210 v2212 cst_1189 k σ h

/-- The state after trip `k` from the state `σ`. -/
def stNext (k : ℕ) (σ : St F) : St F := if h : k < k0_t1_loop.trips then (tripOut c XA XC XS XB XD XX XE arg6 harg6 arg7 harg7 arg9 harg9 v104 v120 v2209 v2210 v2212 cst_1189 ⟨k, h⟩ σ).toSt else σ

/-- The running state before trip `k`. -/
def stAt (σ₀ : St F) (k : ℕ) : St F := Nat.rec σ₀ (fun k σ => stNext c XA XC XS XB XD XX XE arg6 harg6 arg7 harg7 arg9 harg9 v104 v120 v2209 v2210 v2212 cst_1189 k σ) k

/-- The logits chunk `k` writes. -/
def ovAt (σ₀ : St F) (k : ℕ) : S64x256.Idx → Elt F .f32 :=
  if h : k < k0_t1_loop.trips then ohalves (tripOut c XA XC XS XB XD XX XE arg6 harg6 arg7 harg7 arg9 harg9 v104 v120 v2209 v2210 v2212 cst_1189 ⟨k, h⟩ (stAt c XA XC XS XB XD XX XE arg6 harg6 arg7 harg7 arg9 harg9 v104 v120 v2209 v2210 v2212 cst_1189 σ₀ k)).o₁ (tripOut c XA XC XS XB XD XX XE arg6 harg6 arg7 harg7 arg9 harg9 v104 v120 v2209 v2210 v2212 cst_1189 ⟨k, h⟩ (stAt c XA XC XS XB XD XX XE arg6 harg6 arg7 harg7 arg9 harg9 v104 v120 v2209 v2210 v2212 cst_1189 σ₀ k)).o₂
  else ohalves (fun _ => σ₀.m (ix2 (0 : Fin 64) (0 : Fin 128))) (fun _ => σ₀.m (ix2 (0 : Fin 64) (0 : Fin 128)))

attribute [local irreducible] tripOut

theorem stNext_eq (k : ℕ) (h : k < k0_t1_loop.trips) (σ : St F) : stNext c XA XC XS XB XD XX XE arg6 harg6 arg7 harg7 arg9 harg9 v104 v120 v2209 v2210 v2212 cst_1189 k σ = (tripOut c XA XC XS XB XD XX XE arg6 harg6 arg7 harg7 arg9 harg9 v104 v120 v2209 v2210 v2212 cst_1189 ⟨k, h⟩ σ).toSt := by
  unfold stNext; exact dif_pos h
theorem stAt_zero (σ₀ : St F) : stAt c XA XC XS XB XD XX XE arg6 harg6 arg7 harg7 arg9 harg9 v104 v120 v2209 v2210 v2212 cst_1189 σ₀ 0 = σ₀ := rfl
theorem stAt_succ (σ₀ : St F) (k : ℕ) (h : k < k0_t1_loop.trips) : stAt c XA XC XS XB XD XX XE arg6 harg6 arg7 harg7 arg9 harg9 v104 v120 v2209 v2210 v2212 cst_1189 σ₀ (k + 1)
    = (tripOut c XA XC XS XB XD XX XE arg6 harg6 arg7 harg7 arg9 harg9 v104 v120 v2209 v2210 v2212 cst_1189 ⟨k, h⟩ (stAt c XA XC XS XB XD XX XE arg6 harg6 arg7 harg7 arg9 harg9 v104 v120 v2209 v2210 v2212 cst_1189 σ₀ k)).toSt :=
  stNext_eq c XA XC XS XB XD XX XE arg6 harg6 arg7 harg7 arg9 harg9 v104 v120 v2209 v2210 v2212 cst_1189 k h _
theorem ovAt_eq (σ₀ : St F) (k : ℕ) (h : k < k0_t1_loop.trips) : ovAt c XA XC XS XB XD XX XE arg6 harg6 arg7 harg7 arg9 harg9 v104 v120 v2209 v2210 v2212 cst_1189 σ₀ k
    = ohalves (tripOut c XA XC XS XB XD XX XE arg6 harg6 arg7 harg7 arg9 harg9 v104 v120 v2209 v2210 v2212 cst_1189 ⟨k, h⟩ (stAt c XA XC XS XB XD XX XE arg6 harg6 arg7 harg7 arg9 harg9 v104 v120 v2209 v2210 v2212 cst_1189 σ₀ k)).o₁ (tripOut c XA XC XS XB XD XX XE arg6 harg6 arg7 harg7 arg9 harg9 v104 v120 v2209 v2210 v2212 cst_1189 ⟨k, h⟩ (stAt c XA XC XS XB XD XX XE arg6 harg6 arg7 harg7 arg9 harg9 v104 v120 v2209 v2210 v2212 cst_1189 σ₀ k)).o₂ := by
  unfold ovAt; exact dif_pos h

/-- What is held before trip `k`. -/
abbrev loopAt (σ₀ : St F) (k : ℕ) : sProp 𝕄 :=
  tripPre c XA (ovAt c XA XC XS XB XD XX XE arg6 harg6 arg7 harg7 arg9 harg9 v104 v120 v2209 v2210 v2212 cst_1189 σ₀) XC XS XB XD XX XE k (stAt c XA XC XS XB XD XX XE arg6 harg6 arg7 harg7 arg9 harg9 v104 v120 v2209 v2210 v2212 cst_1189 σ₀ k)

set_option warn.classDefReducibility false in
set_option maxHeartbeats 4000000 in
/-- The loop's invariant. -/
def loopInv (σ₀ : St F) :
    LoopInvTy_k0_t1 (F := F) Unit ℕ (UU nD τ) ℕ 𝒱₀ c none Set.univ (Memref.whole main_v0) (Memref.isWhole_whole _) (Memref.whole main_arg1) (Memref.isWhole_whole _) (Memref.whole main_arg2) (Memref.isWhole_whole _) (Memref.whole main_arg3) (Memref.isWhole_whole _) (Memref.whole main_v1) (Memref.isWhole_whole _) (Memref.whole main_v2_0) (Memref.isWhole_whole _) arg6 harg6 arg7 harg7 (Memref.whole main_v2_3) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 v104 v120 v2209 v2210 v2212 cst_1189 where
  inv k _ := loopAt c XA XC XS XB XD XX XE arg6 harg6 arg7 harg7 arg9 harg9 v104 v120 v2209 v2210 v2212 cst_1189 σ₀ k
  step k _ := trip_step' c XA XC XS XB XD XX XE arg6 harg6 arg7 harg7 arg9 harg9 v104 v120 v2209 v2210 v2212 cst_1189 (ovAt c XA XC XS XB XD XX XE arg6 harg6 arg7 harg7 arg9 harg9 v104 v120 v2209 v2210 v2212 cst_1189 σ₀) k (stAt c XA XC XS XB XD XX XE arg6 harg6 arg7 harg7 arg9 harg9 v104 v120 v2209 v2210 v2212 cst_1189 σ₀ k.val)
    (stAt c XA XC XS XB XD XX XE arg6 harg6 arg7 harg7 arg9 harg9 v104 v120 v2209 v2210 v2212 cst_1189 σ₀ (k.val + 1)) (ovAt_eq c XA XC XS XB XD XX XE arg6 harg6 arg7 harg7 arg9 harg9 v104 v120 v2209 v2210 v2212 cst_1189 σ₀ k.val k.isLt) (stAt_succ c XA XC XS XB XD XX XE arg6 harg6 arg7 harg7 arg9 harg9 v104 v120 v2209 v2210 v2212 cst_1189 σ₀ k.val k.isLt)

/-- The state the loop starts from. -/
abbrev st₀ (m s cl : S64x128.Idx → Elt F .f32) (a : S1x64x256.Idx → Elt F .f32) : St F := ⟨m, s, cl, a⟩

end Loop

end Cert.Proof.KernI
-- ==== Proof.Part88I.lean ====
/-
  The stretch of the kernel that finishes chunk 0's accumulator and runs the chunk loop.
-/
module

public import proofs.«01_k».proof.Proof.LoopI

@[expose] public section

set_option maxRecDepth 16384

noncomputable section

namespace Cert.Proof.KernI

open Cert.KernelIdeal Cert.KernelIdeal.Gen
open Idealize.ShloMosaic.ValueIdx
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Part88
variable (c : Dev nD) (XA : Buf (Elt F) (wM.view.loc (c : Thread nD τ)))
  (XC : Buf (Elt F) (codesM.view.loc (c : Thread nD τ))) (XS : Buf (Elt F) (wsM.view.loc (c : Thread nD τ)))
  (XB : Buf (Elt F) (bmM.view.loc (c : Thread nD τ))) (XD : Buf (Elt F) (candM.view.loc (c : Thread nD τ)))
  (XX : Buf (Elt F) (xsM.view.loc (c : Thread nD τ))) (XE : Buf (Elt F) (caM.view.loc (c : Thread nD τ)))
  (arg6 : Memref sig .tc .vmem S64x1 .f32) (harg6 : arg6.IsWhole) (arg7 : Memref sig .tc .vmem S64x52 .f32) (harg7 : arg7.IsWhole)
  (arg9 : Memref sig .tc .vmem S64x1 .f32) (harg9 : arg9.IsWhole)
  (v104 v120 : IVec S64x128 32) (v2209 : FVec F S64x256 .f32) (v2210 : Vec F S64x128 .fp8e4m3) (v2212 : FVec F S128x256 .fp8e4m3) (cst_1189 : FVec F S64x256 .f32)

attribute [local irreducible] tripRun

/-- The weights' ring as the kernel's start leaves it: block 0 landed, blocks 1 to 11 under way. -/
abbrev wStart : sProp 𝕄 :=
  iprop(bigSep (Finset.Ico 0 1) (wHome c XA) ∗ bigSep (Finset.Ico 1 12) (wFly c XA) ∗ bigSep (Finset.Ico 12 125) (wHome c XA))

def part88_run (fe : Buf (Elt F) (sexpM.view.loc (c : Thread nD τ))) :
    { a : S1x64x256.Idx → Elt F .f32 // ∀ fw fm fs fcl fa,
      iprop(mP c fm ∗ sP c fs ∗ clP c fcl ∗ sexpP c fe ∗ constP c XC XS XB XD XX XE ∗ wslotP c (wslot 0) (wLanded c XA (wslot 0) 0 fw) ∗ cellP c (wcell 0)
        ∗ wStart c XA ∗ accP c 0 fa ∗ (∃ f, accP (F := F) c 1 f) ∗ (∃ W, owes (c : Thread nD τ) 0 W)
        ∗ bigSep (Finset.Ico 0 125) (oHome (F := F) c) ∗ bigSep (Finset.Ico 0 4) (oFree (F := F) c))
      ⊢ wp frame (wpE (defs₀ (F := F)) 𝒱₀ (c : Thread nD τ) none) Set.univ (k0_part88 (F := F) (Memref.whole main_v0) (Memref.isWhole_whole _) (Memref.whole main_arg1) (Memref.isWhole_whole _) (Memref.whole main_arg2) (Memref.isWhole_whole _) (Memref.whole main_arg3) (Memref.isWhole_whole _) (Memref.whole main_v1) (Memref.isWhole_whole _) (Memref.whole main_v2_0) (Memref.isWhole_whole _) arg6 harg6 arg7 harg7 (Memref.whole main_v2_3) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 v104 v120 v2209 v2210 v2212 cst_1189)
        (fun _ => loopAt c XA XC XS XB XD XX XE arg6 harg6 arg7 harg7 arg9 harg9 v104 v120 v2209 v2210 v2212 cst_1189 (st₀ (mM.view.read (Elt F) fm) (sM.view.read (Elt F) fs) (clM.view.read (Elt F) fcl) a) 124) } := by
  refine ⟨?a, ?run⟩
  case' run =>
    intro fw fm fs fcl fa
    iintro ⟨Hm, Hs, Hcl, He, ⟨HC, HS, HB, HD, HXX, HE⟩, Hw, Hwc, ⟨HW1, HW2, HW3⟩, Ha, ⟨%fb, Hb⟩, ⟨%W, HX⟩, HO1, HO2⟩
    unfold k0_part88
    sl_exec
  case a => exact part88_run.sl.v2236 c XA XC v2209 v2210 v2212 cst_1189 fe
  ihave Ha' := (holds_of c (aslot 0) (part88_run.sl.Ha_w1 c XA XC v2209 v2210 v2212 cst_1189 fe fa) fullShare (part88_run.sl.v2236 c XA XC v2209 v2210 v2212 cst_1189 fe) (acc_read (F := F) 0 rfl _ fa _)) $$ Ha
  ihave Hm' := (holds_of c mM _ fullShare _ rfl) $$ Hm
  ihave Hs' := (holds_of c sM _ fullShare _ rfl) $$ Hs
  ihave Hcl' := (holds_of c clM _ fullShare _ rfl) $$ Hcl
  let I := loopInv c XA XC XS XB XD XX XE arg6 harg6 arg7 harg7 arg9 harg9 v104 v120 v2209 v2210 v2212 cst_1189 (st₀ (mM.view.read (Elt F) fm) (sM.view.read (Elt F) fs) (clM.view.read (Elt F) fcl) (part88_run.sl.v2236 c XA XC v2209 v2210 v2212 cst_1189 fe))
  ihave Hz : iprop(loopAt c XA XC XS XB XD XX XE arg6 harg6 arg7 harg7 arg9 harg9 v104 v120 v2209 v2210 v2212 cst_1189 (st₀ (mM.view.read (Elt F) fm) (sM.view.read (Elt F) fs) (clM.view.read (Elt F) fcl) (part88_run.sl.v2236 c XA XC v2209 v2210 v2212 cst_1189 fe)) 0) $$ [Hm' Hs' Hcl' Ha' Hb He HC HS HB HD HXX HE HX HW1 HW2 HW3 Hw Hwc HO1 HO2]
  · isplitl [Hm' Hs' Hcl' Ha' Hb He]
    · isplitl [Hm']
      · iexact Hm'
      isplitl [Hs']
      · iexact Hs'
      isplitl [Hcl']
      · iexact Hcl'
      isplitl [Ha']
      · iexact Ha'
      isplitl [Hb]
      · iexists _; iexact Hb
      iexists _; iexact He
    isplitl [HC HS HB HD HXX HE]
    · iframe HC HS HB HD HXX HE
    isplitl [HX]
    · iexists _; iexact HX
    isplitl [HW1 HW2 HW3 Hw Hwc]
    · unfold wAt
      isplitl [HW1]
      · iexact HW1
      isplitl [HW2]
      · iexact HW2
      isplitl [HW3]
      · iexact HW3
      rw [ico_last (wFree c) (show min 0 113 ≤ 0 by omega), ico_empty (wFree c) (show 0 ≤ min 0 113 by omega)]
      isplitl [Hw Hwc]
      · unfold wFree wFreeAt
        isplitl [Hw]
        · iexists _; iexact Hw
        · iexact Hwc
      iempintro
    · unfold oAt
      isplitl [HO1]
      · iexact HO1
      rw [ico_empty (oFly c _) (show 0 - 1 ≤ 0 - 4 by omega), ico_empty (oDone c _) (show 0 - 4 ≤ 0 by omega), ico_empty (oReady c _) (show 0 ≤ 0 - 1 by omega)]
      isplitl []
      · iempintro
      isplitl []
      · iempintro
      isplitl []
      · iempintro
      iexact HO2
  icases Hz with ⟨⟨Hm, Hs, Hcl, Ha, ⟨%fb', Hb⟩, ⟨%fe', He⟩⟩, ⟨HC, HS, HB, HD, HXX, HE⟩, ⟨%W', HX⟩, HW, HO⟩
  unfold wAt oAt
  icases HW with ⟨HW1, HW2, HW3, HW4⟩
  icases HO with ⟨HO1, HO2, HO3, HO4, HO5⟩
  sl_exec
  sl_step
  isplitl [Hm Hs Hcl Ha Hb He]
  · isplitl [Hm]
    · iexact Hm
    isplitl [Hs]
    · iexact Hs
    isplitl [Hcl]
    · iexact Hcl
    isplitl [Ha]
    · iexact Ha
    isplitl [Hb]
    · iexists _; iexact Hb
    iexists _; iexact He
  isplitl [HC HS HB HD HXX HE]
  · iframe HC HS HB HD HXX HE
  isplitl [HX]
  · iexists _; iexact HX
  isplitl [HW1 HW2 HW3 HW4]
  · unfold wAt
    isplitl [HW1]
    · iexact HW1
    isplitl [HW2]
    · iexact HW2
    isplitl [HW3]
    · iexact HW3
    iexact HW4
  · unfold oAt
    isplitl [HO1]
    · iexact HO1
    isplitl [HO2]
    · iexact HO2
    isplitl [HO3]
    · iexact HO3
    isplitl [HO4]
    · iexact HO4
    iexact HO5
end Part88

end Cert.Proof.KernI
-- ==== Proof.NamesI.lean ====
/-
  The buffers, ring slots and transfer counters the straight parts of the kernel name by their numbers.
-/
module

public import proofs.«01_k».proof.Proof.TripI

@[expose] public section

set_option maxRecDepth 16384

noncomputable section

namespace Cert.Proof.KernI

open Cert.KernelIdeal Cert.KernelIdeal.Gen
open Idealize.ShloMosaic.ValueIdx
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Names
@[sl_canon] theorem cSlotW (b : ℕ) (h : b < 12) (hh hs) : (wbufM.slice (Rect.unit (s := S12x8192x256) ![b, 0, 0] S1x8192x256.size hh) hs).squeeze S8192x256 squeezes_S1x8192x256_S8192x256 = wslot b :=
  wslot_congr (by unfold wslotOff; rw [Nat.mod_eq_of_lt h]) _ _
@[sl_canon] theorem cCellW (b : ℕ) (h : b < 12) (hh) : (cc0_scratch17.slice (Rect.unit (s := S12) ![b] S1.size hh)).squeeze S_ squeezes_S1_S_ = wcell b :=
  wcell_congr (by rw [Nat.mod_eq_of_lt h]) _
@[sl_canon] theorem cBlkW0 (hh hs) : wM.slice (Rect.unit (s := S8192x32000) ![0, 0] S8192x256.size hh) hs = wblk 0 := wblk_congr (b := 0) rfl _ _
@[sl_canon] theorem cBlkW1 (hh hs) : wM.slice (Rect.unit (s := S8192x32000) ![0, 256] S8192x256.size hh) hs = wblk 1 := wblk_congr (b := 1) rfl _ _
@[sl_canon] theorem cBlkW2 (hh hs) : wM.slice (Rect.unit (s := S8192x32000) ![0, 512] S8192x256.size hh) hs = wblk 2 := wblk_congr (b := 2) rfl _ _
@[sl_canon] theorem cBlkW3 (hh hs) : wM.slice (Rect.unit (s := S8192x32000) ![0, 768] S8192x256.size hh) hs = wblk 3 := wblk_congr (b := 3) rfl _ _
@[sl_canon] theorem cBlkW4 (hh hs) : wM.slice (Rect.unit (s := S8192x32000) ![0, 1024] S8192x256.size hh) hs = wblk 4 := wblk_congr (b := 4) rfl _ _
@[sl_canon] theorem cBlkW5 (hh hs) : wM.slice (Rect.unit (s := S8192x32000) ![0, 1280] S8192x256.size hh) hs = wblk 5 := wblk_congr (b := 5) rfl _ _
@[sl_canon] theorem cBlkW6 (hh hs) : wM.slice (Rect.unit (s := S8192x32000) ![0, 1536] S8192x256.size hh) hs = wblk 6 := wblk_congr (b := 6) rfl _ _
@[sl_canon] theorem cBlkW7 (hh hs) : wM.slice (Rect.unit (s := S8192x32000) ![0, 1792] S8192x256.size hh) hs = wblk 7 := wblk_congr (b := 7) rfl _ _
@[sl_canon] theorem cBlkW8 (hh hs) : wM.slice (Rect.unit (s := S8192x32000) ![0, 2048] S8192x256.size hh) hs = wblk 8 := wblk_congr (b := 8) rfl _ _
@[sl_canon] theorem cBlkW9 (hh hs) : wM.slice (Rect.unit (s := S8192x32000) ![0, 2304] S8192x256.size hh) hs = wblk 9 := wblk_congr (b := 9) rfl _ _
@[sl_canon] theorem cBlkW10 (hh hs) : wM.slice (Rect.unit (s := S8192x32000) ![0, 2560] S8192x256.size hh) hs = wblk 10 := wblk_congr (b := 10) rfl _ _
@[sl_canon] theorem cBlkW11 (hh hs) : wM.slice (Rect.unit (s := S8192x32000) ![0, 2816] S8192x256.size hh) hs = wblk 11 := wblk_congr (b := 11) rfl _ _
@[sl_canon] theorem cBlkO120 (hh hs) : oM.slice (Rect.unit (s := S64x32000) ![0, 30720] S64x256.size hh) hs = oblk 120 := oblk_congr (b := 120) rfl _ _
@[sl_canon] theorem cBlkO121 (hh hs) : oM.slice (Rect.unit (s := S64x32000) ![0, 30976] S64x256.size hh) hs = oblk 121 := oblk_congr (b := 121) rfl _ _
@[sl_canon] theorem cBlkO122 (hh hs) : oM.slice (Rect.unit (s := S64x32000) ![0, 31232] S64x256.size hh) hs = oblk 122 := oblk_congr (b := 122) rfl _ _
@[sl_canon] theorem cBlkO123 (hh hs) : oM.slice (Rect.unit (s := S64x32000) ![0, 31488] S64x256.size hh) hs = oblk 123 := oblk_congr (b := 123) rfl _ _
@[sl_canon] theorem cBlkO124 (hh hs) : oM.slice (Rect.unit (s := S64x32000) ![0, 31744] S64x256.size hh) hs = oblk 124 := oblk_congr (b := 124) rfl _ _
@[sl_canon] theorem cSlotO0 (hh hs) : (obufM.slice (Rect.unit (s := S4x64x256) ![0, 0, 0] S1x64x256.size hh) hs).squeeze S64x256 squeezes_S1x64x256_S64x256 = oslot 120 := oslot_congr (b := 120) rfl _ _
@[sl_canon] theorem cCellO0 (hh) : (cc0_scratch18.slice (Rect.unit (s := S4) ![0] S1.size hh)).squeeze S_ squeezes_S1_S_ = ocell 120 := ocell_congr (b := 120) rfl _
@[sl_canon] theorem cSlotO1 (hh hs) : (obufM.slice (Rect.unit (s := S4x64x256) ![1, 0, 0] S1x64x256.size hh) hs).squeeze S64x256 squeezes_S1x64x256_S64x256 = oslot 121 := oslot_congr (b := 121) rfl _ _
@[sl_canon] theorem cCellO1 (hh) : (cc0_scratch18.slice (Rect.unit (s := S4) ![1] S1.size hh)).squeeze S_ squeezes_S1_S_ = ocell 121 := ocell_congr (b := 121) rfl _
@[sl_canon] theorem cSlotO2 (hh hs) : (obufM.slice (Rect.unit (s := S4x64x256) ![2, 0, 0] S1x64x256.size hh) hs).squeeze S64x256 squeezes_S1x64x256_S64x256 = oslot 122 := oslot_congr (b := 122) rfl _ _
@[sl_canon] theorem cCellO2 (hh) : (cc0_scratch18.slice (Rect.unit (s := S4) ![2] S1.size hh)).squeeze S_ squeezes_S1_S_ = ocell 122 := ocell_congr (b := 122) rfl _
@[sl_canon] theorem cSlotO3 (hh hs) : (obufM.slice (Rect.unit (s := S4x64x256) ![3, 0, 0] S1x64x256.size hh) hs).squeeze S64x256 squeezes_S1x64x256_S64x256 = oslot 123 := oslot_congr (b := 123) rfl _ _
@[sl_canon] theorem cCellO3 (hh) : (cc0_scratch18.slice (Rect.unit (s := S4) ![3] S1.size hh)).squeeze S_ squeezes_S1_S_ = ocell 123 := ocell_congr (b := 123) rfl _

abbrev icell0 : DmaSems sig S_ := (cc0_scratch19.slice (Rect.unit (s := S4) ![0] S1.size inb_S4_S1_0)).squeeze S_ squeezes_S1_S_
abbrev icell1 : DmaSems sig S_ := (cc0_scratch19.slice (Rect.unit (s := S4) ![1] S1.size inb_S4_S1_1)).squeeze S_ squeezes_S1_S_
abbrev icell2 : DmaSems sig S_ := (cc0_scratch19.slice (Rect.unit (s := S4) ![2] S1.size inb_S4_S1_2)).squeeze S_ squeezes_S1_S_
abbrev icell3 : DmaSems sig S_ := (cc0_scratch19.slice (Rect.unit (s := S4) ![3] S1.size inb_S4_S1_3)).squeeze S_ squeezes_S1_S_

abbrev xInM : Memref sig .tc .hbm S64x8192 .bf16 := Memref.whole main_v0
abbrev wsInM : Memref sig .tc .hbm S64x250 .f32 := Memref.whole main_arg2
abbrev bmInM : Memref sig .tc .hbm S64x1000 .i32 := Memref.whole main_arg3
abbrev candInM : Memref sig .tc .hbm S64x52 .i32 := Memref.whole main_v1
abbrev codesOutM : Memref sig .tc .hbm S64x8192 .fp8e4m3 := Memref.whole main_v2_3
abbrev xRawM : Memref sig .tc .vmem S64x8192 .bf16 := Memref.whole cc0_scratch0
abbrev wsRawM : Memref sig .tc .vmem S64x250 .f32 := Memref.whole cc0_scratch3
abbrev bmRawM : Memref sig .tc .vmem S64x1000 .i32 := Memref.whole cc0_scratch5
abbrev candRawM : Memref sig .tc .vmem S64x52 .i32 := Memref.whole cc0_scratch7
end Names

end Cert.Proof.KernI
-- ==== Proof.TailI.lean ====
/-
  The kernel's end: the last chunk's epilogue, the two small results, and the last transfers.
-/
module

public import proofs.«01_k».proof.Proof.NamesI
public import proofs.«01_k».proof.Proof.LoopI

@[expose] public section

set_option maxRecDepth 16384

noncomputable section

namespace Cert.Proof.KernI

open Cert.KernelIdeal Cert.KernelIdeal.Gen
open Idealize.ShloMosaic.ValueIdx
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-- The kernel's statements after its chunk loop. -/
def tailProg (arg0 : Memref sig .tc .hbm S64x8192 .bf16) (harg0 : arg0.IsWhole) (arg1 : Memref sig .tc .hbm S8192x32000 .fp8e4m3) (harg1 : arg1.IsWhole) (arg2 : Memref sig .tc .hbm S64x250 .f32) (harg2 : arg2.IsWhole) (arg3 : Memref sig .tc .hbm S64x1000 .i32) (harg3 : arg3.IsWhole) (arg4 : Memref sig .tc .hbm S64x52 .i32) (harg4 : arg4.IsWhole) (arg5 : Memref sig .tc .hbm S64x32000 .f32) (harg5 : arg5.IsWhole) (arg6 : Memref sig .tc .vmem S64x1 .f32) (harg6 : arg6.IsWhole) (arg7 : Memref sig .tc .vmem S64x52 .f32) (harg7 : arg7.IsWhole) (arg8 : Memref sig .tc .hbm S64x8192 .fp8e4m3) (harg8 : arg8.IsWhole) (arg9 : Memref sig .tc .vmem S64x1 .f32) (harg9 : arg9.IsWhole) (arg10 : Memref sig .tc .vmem S64x8192 .bf16) (harg10 : arg10.IsWhole) (arg11 : Memref sig .tc .vmem S64x8192 .fp8e4m3) (harg11 : arg11.IsWhole) (arg12 : Memref sig .tc .vmem S12x8192x256 .fp8e4m3) (harg12 : arg12.IsWhole) (arg13 : Memref sig .tc .vmem S64x250 .f32) (harg13 : arg13.IsWhole) (arg14 : Memref sig .tc .vmem S64x256 .f32) (harg14 : arg14.IsWhole) (arg15 : Memref sig .tc .vmem S64x1000 .i32) (harg15 : arg15.IsWhole) (arg16 : Memref sig .tc .vmem S64x1024 .i32) (harg16 : arg16.IsWhole) (arg17 : Memref sig .tc .vmem S64x52 .i32) (harg17 : arg17.IsWhole) (arg18 : Memref sig .tc .vmem S64x128 .i32) (harg18 : arg18.IsWhole) (arg19 : Memref sig .tc .vmem S64x256 .f32) (harg19 : arg19.IsWhole) (arg20 : Memref sig .tc .vmem S64x128 .f32) (harg20 : arg20.IsWhole) (arg21 : Memref sig .tc .vmem S2x64x256 .f32) (harg21 : arg21.IsWhole) (arg22 : Memref sig .tc .vmem S4x64x256 .f32) (harg22 : arg22.IsWhole) (arg23 : Memref sig .tc .vmem S64x128 .f32) (harg23 : arg23.IsWhole) (arg24 : Memref sig .tc .vmem S64x128 .f32) (harg24 : arg24.IsWhole) (arg25 : Memref sig .tc .vmem S64x128 .f32) (harg25 : arg25.IsWhole) (arg26 : Memref sig .tc .vmem S64x128 .i32) (harg26 : arg26.IsWhole) (arg27 : DmaSems sig S12) (arg28 : DmaSems sig S4) (arg29 : DmaSems sig S4) (arg30 : DmaSems sig S_) (v104 v120 : IVec S64x128 32) :
    Prog (TpuEff nD τ sig (Elt F) Λ₀ .tc) PUnit := do
  let ⟨v2250, v2251, v2252, v2270, v2272, v2273⟩ : Σ' (v2250 : Vec F S64x128 .i32) (v2251 : Vec F S64x128 .f32) (v2252 : Vec F S64x128 .f32) (v2270 : IVec S64x128 1) (v2272 : FVec F S64x128 .f32), Vec F S64x128 .f32 ← k0_part89 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 arg28 arg29 arg30 v104 v120
  let ⟨v2274, v2281, v2282, v2308, v2310, v2312, v2314, c0_i32_1253⟩ : Σ' (v2274 : FVec F S64x128 .f32) (v2281 : FVec F S64x128 .f32) (v2282 : FVec F S64x128 .f32) (v2308 : IVec S64x128 1) (v2310 : BitVec 32) (v2312 : IVec S64x128 32) (v2314 : IVec S64x128 1), BitVec 32 ← k0_part90 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 arg28 arg29 arg30 v2250 v2251 v2270 v2272 v2273
  let ⟨v2333, v2351, v2355, v2357⟩ : Σ' (v2333 : FVec F S64x128 .f32) (v2351 : IVec S64x128 1) (v2355 : FVec F S64x128 .f32), FVec F S64x128 .f32 ← k0_part91 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 arg28 arg29 arg30 v104 v120 v2252 v2274 v2308 v2310 v2312 v2314 c0_i32_1253
  let ⟨v2362, v2363, v2389, v2391, v2393, v2395, v2397, v2399⟩ : Σ' (v2362 : FVec F S64x128 .f32) (v2363 : FVec F S64x128 .f32) (v2389 : IVec S64x128 1) (v2391 : BitVec 32) (v2393 : IVec S64x128 32) (v2395 : IVec S64x128 1) (v2397 : IVec S64x128 1), IVec S64x128 1 ← k0_part92 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 arg28 arg29 arg30 v2250 v2282 v2351 v2355 v2357
  let ⟨v2436, v2441⟩ : Σ' (v2436 : FVec F S64x1 .f32), FVec F S64x128 .f32 ← k0_part93 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 arg28 arg29 arg30 v2251 v2281 v2333 v2355 v2362 v2363 v2389 v2391 v2393 v2395 v2397 v2399
  k0_part94 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 arg28 arg29 arg30 v2436 v2441
  let c0_i32_1324 : BitVec 32 := 0#32
  let v2472 : Memref sig .tc .hbm S64x256 .f32 := arg5.slice (Rect.unit (s := S64x32000) ![0, 31232] S64x256.size inb_S64x32000_S64x256_0_31232) (fun _ => rfl)
  let c0_i32_1325 : BitVec 32 := 0#32
  let c0_i32_1326 : BitVec 32 := 0#32
  let v2473 : Memref sig .tc .vmem S1x64x256 .f32 := arg22.slice (Rect.unit (s := S4x64x256) ![2, 0, 0] S1x64x256.size inb_S4x64x256_S1x64x256_2_0_0) (fun _ => rfl)
  let v2474 : Memref sig .tc .vmem S64x256 .f32 := v2473.squeeze S64x256 squeezes_S1x64x256_S64x256
  let v2470 : DmaSems sig S1 := arg28.slice (Rect.unit (s := S4) ![2] S1.size inb_S4_S1_2)
  let v2471 : DmaSems sig S_ := v2470.squeeze S_ squeezes_S1_S_
  Prog.lift (.waitDma2 v2471.sem v2474 v2472 ((View.wordExact_bits rfl).reshape _ _) (View.wordExact_bits rfl))
  let c31488_i32_1327 : BitVec 32 := 31488#32
  let v2475 : BitVec 32 := c31488_i32_1327
  let c3_i32_1328 : BitVec 32 := 3#32
  let c3_i32_1329 : BitVec 32 := 3#32
  let v2476 : DmaSems sig S1 := arg28.slice (Rect.unit (s := S4) ![3] S1.size inb_S4_S1_3)
  let v2477 : DmaSems sig S_ := v2476.squeeze S_ squeezes_S1_S_
  let c0_i32_1330 : BitVec 32 := 0#32
  let v2478 : Memref sig .tc .hbm S64x256 .f32 := arg5.slice (Rect.unit (s := S64x32000) ![0, 31488] S64x256.size inb_S64x32000_S64x256_0_31488) (fun _ => rfl)
  let c0_i32_1331 : BitVec 32 := 0#32
  let c0_i32_1332 : BitVec 32 := 0#32
  let v2479 : Memref sig .tc .vmem S1x64x256 .f32 := arg22.slice (Rect.unit (s := S4x64x256) ![3, 0, 0] S1x64x256.size inb_S4x64x256_S1x64x256_3_0_0) (fun _ => rfl)
  let v2480 : Memref sig .tc .vmem S64x256 .f32 := v2479.squeeze S64x256 squeezes_S1x64x256_S64x256
  Prog.lift (.waitDma2 v2477.sem v2480 v2478 ((View.wordExact_bits rfl).reshape _ _) (View.wordExact_bits rfl))
  let c31744_i32_1333 : BitVec 32 := 31744#32
  let v2481 : BitVec 32 := c31744_i32_1333
  let c0_i32_1334 : BitVec 32 := 0#32
  let c0_i32_1335 : BitVec 32 := 0#32
  let v2482 : DmaSems sig S1 := arg28.slice (Rect.unit (s := S4) ![0] S1.size inb_S4_S1_0)
  let v2483 : DmaSems sig S_ := v2482.squeeze S_ squeezes_S1_S_
  let c0_i32_1336 : BitVec 32 := 0#32
  let v2484 : Memref sig .tc .hbm S64x256 .f32 := arg5.slice (Rect.unit (s := S64x32000) ![0, 31744] S64x256.size inb_S64x32000_S64x256_0_31744) (fun _ => rfl)
  let c0_i32_1337 : BitVec 32 := 0#32
  let c0_i32_1338 : BitVec 32 := 0#32
  let v2485 : Memref sig .tc .vmem S1x64x256 .f32 := arg22.slice (Rect.unit (s := S4x64x256) ![0, 0, 0] S1x64x256.size inb_S4x64x256_S1x64x256_0_0_0) (fun _ => rfl)
  let v2486 : Memref sig .tc .vmem S64x256 .f32 := v2485.squeeze S64x256 squeezes_S1x64x256_S64x256
  Prog.lift (.waitDma2 v2483.sem v2486 v2484 ((View.wordExact_bits rfl).reshape _ _) (View.wordExact_bits rfl))
  Prog.lift (.waitDma2 arg30.sem arg11 arg8 harg11.wordExact harg8.wordExact)
  pure ⟨⟩
section Tail
variable (c : Dev nD) (XA : Buf (Elt F) (wM.view.loc (c : Thread nD τ)))
  (XC : Buf (Elt F) (codesM.view.loc (c : Thread nD τ))) (XS : Buf (Elt F) (wsM.view.loc (c : Thread nD τ)))
  (XB : Buf (Elt F) (bmM.view.loc (c : Thread nD τ))) (XD : Buf (Elt F) (candM.view.loc (c : Thread nD τ)))
  (XX : Buf (Elt F) (xsM.view.loc (c : Thread nD τ))) (XE : Buf (Elt F) (caM.view.loc (c : Thread nD τ)))
  (arg6 : Memref sig .tc .vmem S64x1 .f32) (harg6 : arg6.IsWhole) (arg7 : Memref sig .tc .vmem S64x52 .f32) (harg7 : arg7.IsWhole)
  (arg9 : Memref sig .tc .vmem S64x1 .f32) (harg9 : arg9.IsWhole)
  (v104 v120 : IVec S64x128 32)

abbrev tailG : Prog (TpuEff nD τ sig (Elt F) Λ₀ .tc) PUnit := tailProg (F := F) (Memref.whole main_v0) (Memref.isWhole_whole _) (Memref.whole main_arg1) (Memref.isWhole_whole _) (Memref.whole main_arg2) (Memref.isWhole_whole _) (Memref.whole main_arg3) (Memref.isWhole_whole _) (Memref.whole main_v1) (Memref.isWhole_whole _) (Memref.whole main_v2_0) (Memref.isWhole_whole _) arg6 harg6 arg7 harg7 (Memref.whole main_v2_3) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 v104 v120

/-- What the kernel's end computes: the row's log sum, the candidates' log probabilities and the last chunk's logits. -/
structure End (F : FTy → Type) where
  lse : S64x1.Idx → Elt F .f32
  clp : S64x52.Idx → Elt F .f32
  o₁ : S1x64x128.Idx → Elt F .f32
  o₂ : S1x64x128.Idx → Elt F .f32

theorem oAt_end (OV : ℕ → S64x256.Idx → Elt F .f32) : oAt c OV 124 ⊢ iprop(oHome (F := F) c 123 ∗ oHome (F := F) c 124 ∗ oFly c OV 120 ∗ oFly c OV 121 ∗ oFly c OV 122 ∗ bigSep (Finset.Ico 0 120) (oDone c OV) ∗ oReady c OV 123) := by
  unfold oAt
  rw [show (124 - 1 : ℕ) = 123 from rfl, show (124 - 4 : ℕ) = 120 from rfl, ico_head (oHome (F := F) c) (show 123 < 125 by decide), ico_head (oHome (F := F) c) (show 123 + 1 < 125 by decide), ico_head (oFly c OV) (show 120 < 123 by decide), ico_head (oFly c OV) (show 120 + 1 < 123 by decide), ico_head (oFly c OV) (show 120 + 1 + 1 < 123 by decide), ico_head (oReady c OV) (show 123 < 124 by decide)]
  iintro ⟨⟨H1, H2, -⟩, ⟨H3, H4, H5, -⟩, H6, ⟨H7, -⟩, -⟩
  iframe H1 H2 H3 H4 H5 H6 H7

abbrev codesFly (fo : Buf (Elt F) (codesOutM.view.loc (c : Thread nD τ))) (XR : Buf (Elt F) (codesM.view.loc (c : Thread nD τ))) : sProp 𝕄 :=
  Transfers.Flight countersEmb (c : Thread nD τ) (SemLoc.dma cc0_scratch20.sem) () 16384
    iprop((codesOutM.view.loc (c : Thread nD τ) ↦[codesOutM.view.set]{fullShare} fo) ∗ codesM.view.loc (c : Thread nD τ) ↦[codesM.view.set]{fullShare.right} XR)

theorem oFree_of (b : ℕ) (g : Buf (Elt F) ((oslot b).view.loc (c : Thread nD τ))) : iprop(oslotP c (oslot b) g ∗ cellP c (ocell b)) ⊢ oFree (F := F) c b := by
  unfold oFree oFreeAt; iintro ⟨H1, H2⟩; isplitl [H1]; · iexists _; iexact H1
  iexact H2
theorem oblk_of (b : ℕ) (f : Buf (Elt F) ((oblk b).view.loc (c : Thread nD τ))) (d x : S64x256.Idx → Elt F .f32) (h : d = x) :
    oblkP c b ((oblk b).view.writes (Elt F) f [⟨Rect.whole S64x256, d⟩]) ⊢ iprop(∃ f, ⌜(oblk b).view.read (Elt F) f = x⌝ ∗ oblkP c b f) := by
  iintro H; iexists _; isplitr; swap; iexact H; ipureintro; rw [← h]
  exact View.read_writes_whole _ _ _
theorem done_end (OV : ℕ → S64x256.Idx → Elt F .f32) : iprop(bigSep (Finset.Ico 0 120) (oDone c OV) ∗ oDone c OV 120 ∗ oDone c OV 121 ∗ oDone c OV 122 ∗ oDone c OV 123) ⊢ bigSep (Finset.Ico 0 124) (oDone c OV) := by
  rw [ico_last (oDone c OV) (show 0 ≤ 123 by decide), ico_last (oDone c OV) (show 0 ≤ 122 by decide), ico_last (oDone c OV) (show 0 ≤ 121 by decide), ico_last (oDone c OV) (show 0 ≤ 120 by decide)]
  iintro ⟨H, H0, H1, H2, H3⟩; iframe H3 H2 H1 H0 H

/-- What the kernel's end leaves. -/
abbrev tailPost (OV : ℕ → S64x256.Idx → Elt F .f32) (fo : Buf (Elt F) (codesOutM.view.loc (c : Thread nD τ))) (XR : Buf (Elt F) (codesM.view.loc (c : Thread nD τ))) (w : End F) : sProp 𝕄 :=
  iprop((arg6.view.loc (c : Thread nD τ) ↦[arg6.view.set]{fullShare} holds arg6 w.lse) ∗ (arg7.view.loc (c : Thread nD τ) ↦[arg7.view.set]{fullShare} holds arg7 w.clp)
    ∗ (∃ f, ⌜(oblk 124).view.read (Elt F) f = ohalves w.o₁ w.o₂⌝ ∗ oblkP c 124 f) ∗ bigSep (Finset.Ico 0 124) (oDone c OV)
    ∗ (oFree (F := F) c 120 ∗ oFree (F := F) c 121 ∗ oFree (F := F) c 122 ∗ oFree (F := F) c 123) ∗ wAt c XA 124
    ∗ ((∃ f, mP (F := F) c f) ∗ (∃ f, sP (F := F) c f) ∗ (∃ f, clP (F := F) c f) ∗ (∃ f, accP (F := F) c 124 f) ∗ (∃ f, accP (F := F) c (124 + 1) f) ∗ (∃ f, sexpP (F := F) c f))
    ∗ constP c XC XS XB XD XX XE
    ∗ ((codesOutM.view.loc (c : Thread nD τ) ↦[codesOutM.view.set]{fullShare} fo) ∗ (codesM.view.loc (c : Thread nD τ) ↦[codesM.view.set]{fullShare.right} XR) ∗ semVal ((c : Thread nD τ), SemLoc.dma cc0_scratch20.sem) 0)
    ∗ ∃ W, owes (c : Thread nD τ) 0 W)

set_option backward.proofsInPublic true in
/-- The kernel's end. -/
def tailRun (σ : St F) : { w : End F // ∀ (OV : ℕ → S64x256.Idx → Elt F .f32) (fo XR) (f6 : Buf (Elt F) (arg6.view.loc (c : Thread nD τ))) (f7 : Buf (Elt F) (arg7.view.loc (c : Thread nD τ))),
      iprop((arg6.view.loc (c : Thread nD τ) ↦[arg6.view.set]{fullShare} f6) ∗ (arg7.view.loc (c : Thread nD τ) ↦[arg7.view.set]{fullShare} f7) ∗ tripPre c XA OV XC XS XB XD XX XE 124 σ ∗ codesFly c fo XR)
      ⊢ wp frame (wpE (defs₀ (F := F)) 𝒱₀ (c : Thread nD τ) none) Set.univ (tailG arg6 harg6 arg7 harg7 arg9 harg9 v104 v120)
        (fun _ => tailPost c XA XC XS XB XD XX XE arg6 arg7 OV fo XR w) } := by
  refine ⟨?w, ?run⟩
  case' run =>
    intro OV fo XR f6 f7
    iintro ⟨HA6, HA7, ⟨⟨Hm, Hs, Hcl, Ha, ⟨%fb, Hb⟩, ⟨%fe, He⟩⟩, ⟨HC, HS, HB, HD, HXX, HE⟩, ⟨%W, HX⟩, HW, HO⟩, HF⟩
    ihave HO' := (oAt_end c OV) $$ HO
    unfold oHome oFly oFlyAt oReady
    icases HO' with ⟨⟨%h3, HO3⟩, ⟨%h4, HO4⟩, ⟨%ff0, %gf0, %hgf0, HF0⟩, ⟨%ff1, %gf1, %hgf1, HF1⟩, ⟨%ff2, %gf2, %hgf2, HF2⟩, HDN, ⟨⟨%go, %hgo, HOs⟩, HOc⟩⟩
    dsimp only [tailG]
    sl_unfold [tailProg]
    sl_exec
  case w => exact ⟨k0_pay255 (tailRun.sl.r_18 c XB XX v104 v120 σ) (tailRun.sl.r_19 c XB XX v104 v120 σ),
    k0_pay256 (tailRun.sl.r_18 c XB XX v104 v120 σ) (tailRun.sl.r_19 c XB XX v104 v120 σ)
            (View.readAt (Elt F) caM.view (Rect.unit (s := S64x128) ![0, 0] S64x128.size inb_S64x128_S64x128_0_0).toLoadRect XE)
            (tailRun.sl.v2450 c XD XX σ),
    k0_pay232 (tailRun.sl.v2270 c XB v104 v120) (tailRun.sl.v2272 σ) (tailRun.sl.r_1 c XX), k0_pay242 (tailRun.sl.r_11 c XB XX v104 v120 σ)⟩
  sl_step
  isplitl [HA6]
  · ihave H' := (holds_of c arg6 _ fullShare _ (View.read_writes_full _ _ _ _ _)) $$ HA6
    iexact H'
  isplitl [HA7]
  · ihave H' := (holds_of c arg7 _ fullShare _ (View.read_writes_full _ _ _ _ _)) $$ HA7
    iexact H'
  isplitl [HO4]
  · ihave H' := (oblk_of c 124 h4 (tailRun.sl.dma28 c XB XX v104 v120 σ gf0) _ (obuf_read (F := F) 120 rfl rfl _ _ gf0 _ _)) $$ HO4
    iexact H'
  isplitl [HDN HF0_dst HF1_dst HF2_dst HO3]
  · iapply (done_end c OV)
    isplitl [HDN]; · iexact HDN
    isplitl [HF0_dst]; · iapply (oDone_of c OV 120 ff0 gf0 hgf0); iexact HF0_dst
    isplitl [HF1_dst]; · iapply (oDone_of c OV 121 ff1 gf1 hgf1); iexact HF1_dst
    isplitl [HF2_dst]; · iapply (oDone_of c OV 122 ff2 gf2 hgf2); iexact HF2_dst
    iapply (oDone_of c OV 123 h3 go hgo); iexact HO3
  isplitl [HF0_src HF0 HF1_src HF1 HF2_src HF2 HOs HOc]
  · isplitl [HF0_src HF0]
    · iapply (oFree_of c 120 _); isplitl [HF0_src]; · iexact HF0_src
      iexact HF0
    isplitl [HF1_src HF1]
    · iapply (oFree_of c 121 _); isplitl [HF1_src]; · iexact HF1_src
      iexact HF1
    isplitl [HF2_src HF2]
    · iapply (oFree_of c 122 _); isplitl [HF2_src]; · iexact HF2_src
      iexact HF2
    iapply (oFree_of c 123 _); isplitl [HOs]; · iexact HOs
    iexact HOc
  isplitl [HW]
  · iexact HW
  isplitl [Hm Hs Hcl Ha Hb He]
  · isplitl [Hm]; · iexists _; iexact Hm
    isplitl [Hs]; · iexists _; iexact Hs
    isplitl [Hcl]; · iexists _; iexact Hcl
    isplitl [Ha]; · iexists _; iexact Ha
    isplitl [Hb]; · iexists _; iexact Hb
    iexists _; iexact He
  isplitl [HC HS HB HD HXX HE]
  · iframe HC HS HB HD HXX HE
  isplitl [HF_dst HF_src HF]
  · isplitl [HF_dst]; · iexact HF_dst
    isplitl [HF_src]; · iexact HF_src
    iexact HF
  iexists _; iexact HX

end Tail
end Cert.Proof.KernI
-- ==== Proof.BodyI.lean ====
/-
  The kernel's body from its start to its end.
-/
module

public import proofs.«01_k».proof.Proof.Part88I
public import proofs.«01_k».proof.Proof.TailI

@[expose] public section

set_option maxRecDepth 16384

noncomputable section

namespace Cert.Proof.KernI

open Cert.KernelIdeal Cert.KernelIdeal.Gen
open Idealize.ShloMosaic.ValueIdx
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Body
variable (c : Dev nD) (XA : Buf (Elt F) (wM.view.loc (c : Thread nD τ)))
  (IX : Buf (Elt F) (xInM.view.loc (c : Thread nD τ))) (IS : Buf (Elt F) (wsInM.view.loc (c : Thread nD τ)))
  (IB : Buf (Elt F) (bmInM.view.loc (c : Thread nD τ))) (ID : Buf (Elt F) (candInM.view.loc (c : Thread nD τ)))
  (arg6 : Memref sig .tc .vmem S64x1 .f32) (harg6 : arg6.IsWhole) (arg7 : Memref sig .tc .vmem S64x52 .f32) (harg7 : arg7.IsWhole)
  (arg9 : Memref sig .tc .vmem S64x1 .f32) (harg9 : arg9.IsWhole)

/-- A buffer held whole at the contents `f`. -/
abbrev atP {sp : Space} {s : Shape} {e : EltTy} (M : Memref sig .tc sp s e) (f : Buf (Elt F) (M.view.loc (c : Thread nD τ))) : sProp 𝕄 :=
  M.view.loc (c : Thread nD τ) ↦[M.view.set]{fullShare} f
/-- A buffer held whole. -/
abbrev anyP {sp : Space} {s : Shape} {e : EltTy} (M : Memref sig .tc sp s e) : sProp 𝕄 := iprop(∃ f, atP (F := F) c M f)

abbrev bodyG : Prog (TpuEff nD τ sig (Elt F) Λ₀ .tc) PUnit := cc0_masked_head (F := F) (Memref.whole main_v0) (Memref.isWhole_whole _) (Memref.whole main_arg1) (Memref.isWhole_whole _) (Memref.whole main_arg2) (Memref.isWhole_whole _) (Memref.whole main_arg3) (Memref.isWhole_whole _) (Memref.whole main_v1) (Memref.isWhole_whole _) (Memref.whole main_v2_0) (Memref.isWhole_whole _) arg6 harg6 arg7 harg7 (Memref.whole main_v2_3) (Memref.isWhole_whole _) arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20

/-- The inputs the body reads and leaves. -/
abbrev insP : sProp 𝕄 := iprop(atP c xInM IX ∗ atP c wsInM IS ∗ atP c bmInM IB ∗ atP c candInM ID)
/-- The scratch buffers outside the two rings. -/
abbrev scrP : sProp 𝕄 :=
  iprop(anyP (F := F) c xRawM ∗ anyP (F := F) c codesM ∗ anyP (F := F) c wsRawM ∗ anyP (F := F) c wsM ∗ anyP (F := F) c bmRawM ∗ anyP (F := F) c bmM ∗ anyP (F := F) c candRawM ∗ anyP (F := F) c candM
    ∗ anyP (F := F) c sexpM ∗ anyP (F := F) c xsM ∗ anyP (F := F) c mM ∗ anyP (F := F) c sM ∗ anyP (F := F) c clM ∗ anyP (F := F) c caM
    ∗ (∃ f, accP (F := F) c 0 f) ∗ ∃ f, accP (F := F) c 1 f)
abbrev cellsP : sProp 𝕄 := iprop(cellP (F := F) c icell0 ∗ cellP (F := F) c icell1 ∗ cellP (F := F) c icell2 ∗ cellP (F := F) c icell3 ∗ cellP (F := F) c cc0_scratch20)
/-- What the body is handed. -/
abbrev PRE : sProp 𝕄 :=
  iprop(insP c IX IS IB ID ∗ scrP (F := F) c ∗ cellsP (F := F) c ∗ anyP (F := F) c arg6 ∗ anyP (F := F) c arg7 ∗ anyP (F := F) c codesOutM ∗ anyP (F := F) c arg9
    ∗ bigSep (Finset.Ico 0 125) (wHome c XA) ∗ bigSep (Finset.Ico 0 12) (wFree (F := F) c)
    ∗ bigSep (Finset.Ico 0 125) (oHome (F := F) c) ∗ bigSep (Finset.Ico 0 4) (oFree (F := F) c) ∗ ∃ W, owes (c : Thread nD τ) 0 W)

/-- What the kernel's start computes: the input's codes and scales, the padded operands and the first terms of chunk 0. -/
structure Beg (F : FTy → Type) where
  codes : S64x8192.Idx → Elt F .fp8e4m3
  xs : S64x1.Idx → Elt F .f32
  sexp : S64x256.Idx → Elt F .f32
  ws : S64x256.Idx → Elt F .f32
  bm : S64x1024.Idx → Elt F .i32
  cand : S64x128.Idx → Elt F .i32
  xx : S64x128.Idx → Elt F .f32
  ca : S64x128.Idx → Elt F .i32
  m : S64x128.Idx → Elt F .f32
  s : S64x128.Idx → Elt F .f32
  cl : S64x128.Idx → Elt F .f32
  v104 : IVec S64x128 32
  v120 : IVec S64x128 32
  v2209 : FVec F S64x256 .f32
  v2210 : Vec F S64x128 .fp8e4m3
  v2212 : FVec F S128x256 .fp8e4m3
  cst : FVec F S64x256 .f32

theorem codes_cover {V : EltTy → Type} (L : List (View.Piece V S64x8192 .fp8e4m3)) (h : View.Piece.tiledL L ![64, 128] = true) : ∀ y, ∃ p ∈ L, y ∈ p.1.set := View.cover_of_tiledL L _ h
theorem sexp_cover {V : EltTy → Type} (L : List (View.Piece V S64x256 .f32)) (h : View.Piece.tiledL L ![64, 128] = true) : ∀ y, ∃ p ∈ L, y ∈ p.1.set := View.cover_of_tiledL L _ h
theorem eqE {M : Type _} [URA M] {P Q : sProp M} (e : P = Q) : P ⊢ Q := e ▸ .rfl
theorem ico12 {M : Type _} [URA M] (Φ : ℕ → sProp M) : bigSep (Finset.Ico 0 12) Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ BI.emp) := by
  rw [ico_head Φ (by decide), ico_head Φ (by decide), ico_head Φ (by decide), ico_head Φ (by decide), ico_head Φ (by decide), ico_head Φ (by decide),
    ico_head Φ (by decide), ico_head Φ (by decide), ico_head Φ (by decide), ico_head Φ (by decide), ico_head Φ (by decide), ico_head Φ (by decide), ico_empty Φ (by decide)]
theorem ico_split {M : Type _} [URA M] (Φ : ℕ → sProp M) : bigSep (Finset.Ico 0 125) Φ = iprop(bigSep (Finset.Ico 0 12) Φ ∗ bigSep (Finset.Ico 12 125) Φ) := by
  rw [show Finset.Ico 0 125 = Finset.Ico 0 12 ∪ Finset.Ico 12 125 from (Finset.Ico_union_Ico_eq_Ico (by decide) (by decide)).symm,
    bigSep_union (Finset.Ico_disjoint_Ico_consecutive 0 12 125)]; rfl

section Values
variable (B : Beg F)
/-- Chunk 0's accumulator. -/
abbrev begAcc := part88_run c XA (holds codesM B.codes) (holds wsM B.ws) (holds bmM B.bm) (holds candM B.cand) (holds xsM B.xx) (holds caM B.ca) arg6 harg6 arg7 harg7 arg9 harg9 B.v104 B.v120 B.v2209 B.v2210 B.v2212 B.cst (holds sexpM B.sexp)
/-- The state the chunk loop starts at. -/
abbrev begSt : St F := st₀ (mM.view.read (Elt F) (holds mM B.m)) (sM.view.read (Elt F) (holds sM B.s)) (clM.view.read (Elt F) (holds clM B.cl)) (begAcc c XA arg6 harg6 arg7 harg7 arg9 harg9 B).1
/-- The state it ends at. -/
abbrev endSt : St F := stAt c XA (holds codesM B.codes) (holds wsM B.ws) (holds bmM B.bm) (holds candM B.cand) (holds xsM B.xx) (holds caM B.ca) arg6 harg6 arg7 harg7 arg9 harg9 B.v104 B.v120 B.v2209 B.v2210 B.v2212 B.cst (begSt c XA arg6 harg6 arg7 harg7 arg9 harg9 B) 124
/-- The kernel's end from there. -/
abbrev endRun := tailRun c XA (holds codesM B.codes) (holds wsM B.ws) (holds bmM B.bm) (holds candM B.cand) (holds xsM B.xx) (holds caM B.ca) arg6 harg6 arg7 harg7 arg9 harg9 B.v104 B.v120 (endSt c XA arg6 harg6 arg7 harg7 arg9 harg9 B)
/-- What each trip puts in the logits. -/
abbrev tripOv : ℕ → S64x256.Idx → Elt F .f32 := ovAt c XA (holds codesM B.codes) (holds wsM B.ws) (holds bmM B.bm) (holds candM B.cand) (holds xsM B.xx) (holds caM B.ca) arg6 harg6 arg7 harg7 arg9 harg9 B.v104 B.v120 B.v2209 B.v2210 B.v2212 B.cst (begSt c XA arg6 harg6 arg7 harg7 arg9 harg9 B)
/-- The logits, chunk by chunk. -/
def bodyOv (b : ℕ) : S64x256.Idx → Elt F .f32 :=
  if b < 124 then tripOv c XA arg6 harg6 arg7 harg7 arg9 harg9 B b else ohalves (endRun c XA arg6 harg6 arg7 harg7 arg9 harg9 B).1.o₁ (endRun c XA arg6 harg6 arg7 harg7 arg9 harg9 B).1.o₂

/-- What the body leaves. -/
abbrev POST : sProp 𝕄 :=
  iprop(insP c IX IS IB ID ∗ scrP (F := F) c ∗ cellsP (F := F) c ∗ atP c arg6 (holds arg6 (endRun c XA arg6 harg6 arg7 harg7 arg9 harg9 B).1.lse) ∗ atP c arg7 (holds arg7 (endRun c XA arg6 harg6 arg7 harg7 arg9 harg9 B).1.clp)
    ∗ atP c codesOutM (holds codesOutM B.codes) ∗ atP c arg9 (holds arg9 B.xs)
    ∗ bigSep (Finset.Ico 0 125) (wHome c XA) ∗ bigSep (Finset.Ico 0 12) (wFree (F := F) c)
    ∗ bigSep (Finset.Ico 0 125) (oDone c (bodyOv c XA arg6 harg6 arg7 harg7 arg9 harg9 B)) ∗ bigSep (Finset.Ico 0 4) (oFree (F := F) c) ∗ ∃ W, owes (c : Thread nD τ) 0 W)
end Values

theorem ico1_12 {M : Type _} [URA M] (Φ : ℕ → sProp M) : bigSep (Finset.Ico 1 12) Φ = iprop(Φ 1 ∗ Φ 2 ∗ Φ 3 ∗ Φ 4 ∗ Φ 5 ∗ Φ 6 ∗ Φ 7 ∗ Φ 8 ∗ Φ 9 ∗ Φ 10 ∗ Φ 11 ∗ BI.emp) := by
  rw [ico_head Φ (by decide), ico_head Φ (by decide), ico_head Φ (by decide), ico_head Φ (by decide), ico_head Φ (by decide),
    ico_head Φ (by decide), ico_head Φ (by decide), ico_head Φ (by decide), ico_head Φ (by decide), ico_head Φ (by decide), ico_head Φ (by decide), ico_empty Φ (by decide)]
theorem wFly_of (b : ℕ) (f : Buf (Elt F) ((wslot b).view.loc (c : Thread nD τ))) :
    (Transfers.Flight countersEmb (c : Thread nD τ) (SemLoc.dma (wcell b).sem) () 65536 iprop(wslotP c (wslot b) (wLanded c XA (wslot b) b f) ∗ wHome c XA b) : sProp 𝕄) ⊢ wFly c XA b := by
  iintro H; unfold wFly wFlyAt; iexists f; iexact H
theorem wp_seq {α β : Type} {p : Prog (TpuEff nD τ sig (Elt F) Λ₀ .tc) α} {k : α → Prog (TpuEff nD τ sig (Elt F) Λ₀ .tc) β} {Q : β → sProp 𝕄} {Q1 : α → sProp 𝕄} :
    iprop(wp frame (wpE (defs₀ (F := F)) 𝒱₀ (c : Thread nD τ) none) Set.univ p Q1 ∗ (∀ a, Q1 a -∗ wp frame (wpE (defs₀ (F := F)) 𝒱₀ (c : Thread nD τ) none) Set.univ (k a) Q))
      ⊢ wp frame (wpE (defs₀ (F := F)) 𝒱₀ (c : Thread nD τ) none) Set.univ (p >>= k) Q := by
  rw [wp_bind]; exact wp_wand_r _ _ _
theorem codes_out (g : codesOutM.view.ty.Contents (Elt F)) (d x : S64x8192.Idx → Elt F .fp8e4m3) (h : d = x) : codesOutM.view.read (Elt F) (codesOutM.view.writes (Elt F) g [⟨Rect.whole S64x8192, d⟩]) = x := by
  rw [View.read_writes_whole, h]
theorem codes_join (f : Buf (Elt F) (codesM.view.loc (c : Thread nD τ))) : iprop(codesP c fullShare.left f ∗ codesP c fullShare.right f) ⊢ codesP c fullShare f :=
  (pointsTo_share (PosShare.mem_left_op_right fullShare)).2
theorem done_all (B : Beg F) : iprop(bigSep (Finset.Ico 0 124) (oDone c (tripOv c XA arg6 harg6 arg7 harg7 arg9 harg9 B))
    ∗ ∃ f, ⌜(oblk 124).view.read (Elt F) f = ohalves (endRun c XA arg6 harg6 arg7 harg7 arg9 harg9 B).1.o₁ (endRun c XA arg6 harg6 arg7 harg7 arg9 harg9 B).1.o₂⌝ ∗ oblkP c 124 f)
      ⊢ bigSep (Finset.Ico 0 125) (oDone c (bodyOv c XA arg6 harg6 arg7 harg7 arg9 harg9 B)) := by
  rw [ico_last (oDone c (bodyOv c XA arg6 harg6 arg7 harg7 arg9 harg9 B)) (show 0 ≤ 124 by decide)]
  iintro ⟨H, ⟨%f, %hf, H4⟩⟩
  isplitl [H4]
  · unfold oDone; iexists f; isplitr; swap; iexact H4
    ipureintro; rw [hf]; unfold bodyOv; rw [if_neg (by decide)]
  have e : bigSep (Finset.Ico 0 124) (oDone c (tripOv c XA arg6 harg6 arg7 harg7 arg9 harg9 B)) = bigSep (Finset.Ico 0 124) (oDone c (bodyOv c XA arg6 harg6 arg7 harg7 arg9 harg9 B)) := by
    refine bigSep_congr fun b hb => ?_
    unfold oDone bodyOv; rw [if_pos (Finset.mem_Ico.1 hb).2]
  iapply (eqE e); iexact H

theorem wAt_end : wAt c XA 124 ⊢ iprop(bigSep (Finset.Ico 0 125) (wHome c XA) ∗ bigSep (Finset.Ico 0 12) (wFree (F := F) c)) := by
  unfold wAt
  rw [ico12 (wFree (F := F) c), show bigSep (Finset.Ico (min 124 113) (124 + 1)) (wFree (F := F) c) = iprop(wFree (F := F) c 113 ∗ wFree (F := F) c 114 ∗ wFree (F := F) c 115 ∗ wFree (F := F) c 116 ∗ wFree (F := F) c 117 ∗ wFree (F := F) c 118 ∗ wFree (F := F) c 119 ∗ wFree (F := F) c 120 ∗ wFree (F := F) c 121 ∗ wFree (F := F) c 122 ∗ wFree (F := F) c 123 ∗ wFree (F := F) c 124 ∗ BI.emp) by
    rw [show min 124 113 = 113 from rfl, ico_head _ (by decide), ico_head _ (by decide), ico_head _ (by decide), ico_head _ (by decide), ico_head _ (by decide), ico_head _ (by decide),
      ico_head _ (by decide), ico_head _ (by decide), ico_head _ (by decide), ico_head _ (by decide), ico_head _ (by decide), ico_head _ (by decide), ico_empty _ (by decide)]]
  iintro ⟨H, -, -, ⟨H5, H6, H7, H8, H9, H10, H11, H0, H1, H2, H3, H4, -⟩⟩
  isplitl [H]; · iexact H
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iempintro

theorem oFree_end : iprop(oFree (F := F) c 120 ∗ oFree (F := F) c 121 ∗ oFree (F := F) c 122 ∗ oFree (F := F) c 123) ⊢ bigSep (Finset.Ico 0 4) (oFree (F := F) c) := by
  rw [ico_head _ (by decide), ico_head _ (by decide), ico_head _ (by decide), ico_head _ (by decide), ico_empty _ (by decide)]
  iintro ⟨H0, H1, H2, H3⟩
  isplitl [H0]; · iexact H0
  isplitl [H1]; · iexact H1
  isplitl [H2]; · iexact H2
  isplitl [H3]; · iexact H3
  iempintro

set_option backward.proofsInPublic true in
set_option maxHeartbeats 4000000 in
/-- The kernel's body. -/
def bodyRun : { B : Beg F // PRE c XA IX IS IB ID arg6 arg7 arg9 ⊢ wp frame (wpE (defs₀ (F := F)) 𝒱₀ (c : Thread nD τ) none) Set.univ (bodyG arg6 harg6 arg7 harg7 arg9 harg9)
    (fun _ => POST c XA IX IS IB ID arg6 harg6 arg7 harg7 arg9 harg9 B) } := by
  refine ⟨?w, ?run⟩
  case' run =>
    iintro ⟨⟨HIX, HIS, HIB, HID⟩, ⟨⟨%f0, HXR⟩, ⟨%f1, HC⟩, ⟨%f2, HSR⟩, ⟨%f3, HS⟩, ⟨%f4, HBR⟩, ⟨%f5, HB⟩, ⟨%f6, HDR⟩, ⟨%f7, HD⟩, ⟨%f8, He⟩, ⟨%f9, HXX⟩, ⟨%f10, Hm⟩, ⟨%f11, Hs⟩, ⟨%f12, Hcl⟩, ⟨%f13, HE⟩, ⟨%f14, Ha⟩, ⟨%f15, Hb⟩⟩,
      ⟨Hi0, Hi1, Hi2, Hi3, Hcc⟩, ⟨%g6, HA6⟩, ⟨%g7, HA7⟩, ⟨%g8, HA8⟩, ⟨%g9, HA9⟩, HWH, HWF, HOH, HOF, ⟨%W, HX⟩⟩
    ihave HWF' := (eqE (ico12 (wFree c))) $$ HWF
    unfold wFree wFreeAt
    icases HWF' with ⟨⟨⟨%w0, Hw0⟩, Hq0⟩, ⟨⟨%w1, Hw1⟩, Hq1⟩, ⟨⟨%w2, Hw2⟩, Hq2⟩, ⟨⟨%w3, Hw3⟩, Hq3⟩, ⟨⟨%w4, Hw4⟩, Hq4⟩, ⟨⟨%w5, Hw5⟩, Hq5⟩, ⟨⟨%w6, Hw6⟩, Hq6⟩, ⟨⟨%w7, Hw7⟩, Hq7⟩, ⟨⟨%w8, Hw8⟩, Hq8⟩, ⟨⟨%w9, Hw9⟩, Hq9⟩, ⟨⟨%w10, Hw10⟩, Hq10⟩, ⟨⟨%w11, Hw11⟩, Hq11⟩, -⟩
    ihave HWH' := (eqE (ico_split (wHome c XA))) $$ HWH
    icases HWH' with ⟨HWH, HWH2⟩
    ihave HWH' := (eqE (ico12 (wHome c XA))) $$ HWH
    icases HWH' with ⟨Hh0, Hh1, Hh2, Hh3, Hh4, Hh5, Hh6, Hh7, Hh8, Hh9, Hh10, Hh11, -⟩
    set_option sl_exec.lendShare "HC" in
    set_option sl_exec.stopBefore "k0_part88" in
    sl_exec
  case w => exact ⟨View.canon (bodyRun.sl.HC_64 c IX), k0_pay146 (bodyRun.sl.r_10 c IX), View.canon (bodyRun.sl.He_2 c IS), View.canon (bodyRun.sl.HS_2 c IS), View.canon (bodyRun.sl.HB_2 c IB), View.canon (bodyRun.sl.HD_2 c ID),
    k0_pay147 (bodyRun.sl.r_10 c IX), k0_pay192 (bodyRun.sl.v1651 c IB ID) (bodyRun.sl.v1228 c ID) (bodyRun.sl.v1664 c ID) (bodyRun.sl.v1666 c ID), k0_pay193, k0_pay194, k0_pay195,
    bodyRun.sl.r, k0_pay56 bodyRun.sl.v80, bodyRun.sl.r_57 c XA IX IS, bodyRun.sl.v2210 c IX, bodyRun.sl.r_58 c XA, bodyRun.sl.cst_769⟩
  ihave HC1 := (holds_of c codesM _ fullShare.left (View.canon (bodyRun.sl.HC_64 c IX)) (View.read_writes_eq_canon _ _ _ (codes_cover _ (by sl_kernel_rfl)))) $$ HC
  ihave He1 := (holds_of c sexpM _ fullShare (View.canon (bodyRun.sl.He_2 c IS)) (View.read_writes_eq_canon _ _ _ (sexp_cover _ (by sl_kernel_rfl)))) $$ He
  ihave HS1 := (holds_of c wsM _ fullShare (View.canon (bodyRun.sl.HS_2 c IS)) (View.read_writes_eq_canon _ _ _ (View.cover_of_wholeMem _ (View.Piece.wholeMem_cons (View.Piece.wholeMem_here rfl))))) $$ HS
  ihave HB1 := (holds_of c bmM _ fullShare (View.canon (bodyRun.sl.HB_2 c IB)) (View.read_writes_eq_canon _ _ _ (View.cover_of_wholeMem _ (View.Piece.wholeMem_cons (View.Piece.wholeMem_here rfl))))) $$ HB
  ihave HD1 := (holds_of c candM _ fullShare (View.canon (bodyRun.sl.HD_2 c ID)) (View.read_writes_eq_canon _ _ _ (View.cover_of_wholeMem _ (View.Piece.wholeMem_cons (View.Piece.wholeMem_here rfl))))) $$ HD
  ihave HXX1 := (holds_of c xsM _ fullShare _ (View.read_writes_full _ _ _ _ _)) $$ HXX
  ihave HE1 := (holds_of c caM _ fullShare _ (View.read_writes_full _ _ _ _ _)) $$ HE
  ihave Hm1 := (holds_of c mM _ fullShare _ (View.read_writes_full _ _ _ _ _)) $$ Hm
  ihave Hs1 := (holds_of c sM _ fullShare _ (View.read_writes_full _ _ _ _ _)) $$ Hs
  ihave Hcl1 := (holds_of c clM _ fullShare _ (View.read_writes_full _ _ _ _ _)) $$ Hcl
  iapply (wp_seq (F := F) c (Q1 := fun _ => loopAt c XA (holds codesM (View.canon (bodyRun.sl.HC_64 c IX))) (holds wsM (View.canon (bodyRun.sl.HS_2 c IS))) (holds bmM (View.canon (bodyRun.sl.HB_2 c IB))) (holds candM (View.canon (bodyRun.sl.HD_2 c ID)))
    (holds xsM (k0_pay147 (bodyRun.sl.r_10 c IX))) (holds caM (k0_pay192 (bodyRun.sl.v1651 c IB ID) (bodyRun.sl.v1228 c ID) (bodyRun.sl.v1664 c ID) (bodyRun.sl.v1666 c ID))) arg6 harg6 arg7 harg7 arg9 harg9
    bodyRun.sl.r (k0_pay56 bodyRun.sl.v80) (bodyRun.sl.r_57 c XA IX IS) (bodyRun.sl.v2210 c IX) (bodyRun.sl.r_58 c XA) bodyRun.sl.cst_769 (begSt c XA arg6 harg6 arg7 harg7 arg9 harg9 (⟨View.canon (bodyRun.sl.HC_64 c IX), k0_pay146 (bodyRun.sl.r_10 c IX), View.canon (bodyRun.sl.He_2 c IS), View.canon (bodyRun.sl.HS_2 c IS), View.canon (bodyRun.sl.HB_2 c IB), View.canon (bodyRun.sl.HD_2 c ID), k0_pay147 (bodyRun.sl.r_10 c IX), k0_pay192 (bodyRun.sl.v1651 c IB ID) (bodyRun.sl.v1228 c ID) (bodyRun.sl.v1664 c ID) (bodyRun.sl.v1666 c ID), k0_pay193, k0_pay194, k0_pay195, bodyRun.sl.r, k0_pay56 bodyRun.sl.v80, bodyRun.sl.r_57 c XA IX IS, bodyRun.sl.v2210 c IX, bodyRun.sl.r_58 c XA, bodyRun.sl.cst_769⟩)) 124))
  isplitl [HC1 HS1 HB1 HD1 HXX1 HE1 Hm1 Hs1 Hcl1 He1 Hw0 Hq0 Hh0 Hq1 Hq2 Hq3 Hq4 Hq5 Hq6 Hq7 Hq8 Hq9 Hq10 Hq11 HWH2 Ha Hb HX HOH HOF]
  · iapply ((begAcc c XA arg6 harg6 arg7 harg7 arg9 harg9 (⟨View.canon (bodyRun.sl.HC_64 c IX), k0_pay146 (bodyRun.sl.r_10 c IX), View.canon (bodyRun.sl.He_2 c IS), View.canon (bodyRun.sl.HS_2 c IS), View.canon (bodyRun.sl.HB_2 c IB), View.canon (bodyRun.sl.HD_2 c ID), k0_pay147 (bodyRun.sl.r_10 c IX), k0_pay192 (bodyRun.sl.v1651 c IB ID) (bodyRun.sl.v1228 c ID) (bodyRun.sl.v1664 c ID) (bodyRun.sl.v1666 c ID), k0_pay193, k0_pay194, k0_pay195, bodyRun.sl.r, k0_pay56 bodyRun.sl.v80, bodyRun.sl.r_57 c XA IX IS, bodyRun.sl.v2210 c IX, bodyRun.sl.r_58 c XA, bodyRun.sl.cst_769⟩)).2 (wslot 0).view.junk _ _ _ _)
    isplitl [Hm1]; · iexact Hm1
    isplitl [Hs1]; · iexact Hs1
    isplitl [Hcl1]; · iexact Hcl1
    isplitl [He1]; · iexact He1
    isplitl [HC1 HS1 HB1 HD1 HXX1 HE1]
    · isplitl [HC1]; · iexact HC1
      isplitl [HS1]; · iexact HS1
      isplitl [HB1]; · iexact HB1
      isplitl [HD1]; · iexact HD1
      isplitl [HXX1]; · iexact HXX1
      iexact HE1
    isplitl [Hw0]; · iexact Hw0
    isplitl [Hq0]; · iexact Hq0
    isplitl [Hh0 Hq1 Hq2 Hq3 Hq4 Hq5 Hq6 Hq7 Hq8 Hq9 Hq10 Hq11 HWH2]
    · isplitl [Hh0]
      · rw [ico_head (wHome c XA) (show 0 < 1 by decide), ico_empty (wHome c XA) (show 1 ≤ 0 + 1 by decide)]
        isplitl [Hh0]; · iexact Hh0
        iempintro
      isplitl [Hq1 Hq2 Hq3 Hq4 Hq5 Hq6 Hq7 Hq8 Hq9 Hq10 Hq11]
      · rw [ico1_12 (wFly c XA)]
        isplitl [Hq1]; · iapply (wFly_of c XA 1 w1); iexact Hq1
        isplitl [Hq2]; · iapply (wFly_of c XA 2 w2); iexact Hq2
        isplitl [Hq3]; · iapply (wFly_of c XA 3 w3); iexact Hq3
        isplitl [Hq4]; · iapply (wFly_of c XA 4 w4); iexact Hq4
        isplitl [Hq5]; · iapply (wFly_of c XA 5 w5); iexact Hq5
        isplitl [Hq6]; · iapply (wFly_of c XA 6 w6); iexact Hq6
        isplitl [Hq7]; · iapply (wFly_of c XA 7 w7); iexact Hq7
        isplitl [Hq8]; · iapply (wFly_of c XA 8 w8); iexact Hq8
        isplitl [Hq9]; · iapply (wFly_of c XA 9 w9); iexact Hq9
        isplitl [Hq10]; · iapply (wFly_of c XA 10 w10); iexact Hq10
        isplitl [Hq11]; · iapply (wFly_of c XA 11 w11); iexact Hq11
        iempintro
      iexact HWH2
    isplitl [Ha]; · iexact Ha
    isplitl [Hb]; · iexists _; iexact Hb
    isplitl [HX]; · iexists _; iexact HX
    isplitl [HOH]; · iexact HOH
    iexact HOF
  iintro %_ HL
  iapply (wp_wand_r Idealize.ShloMosaic.frame (wpE (defs₀ (F := F)) 𝒱₀ (c : Thread nD τ) none) Set.univ)
  isplitl [HL HA6 HA7 Hcc]
  · iapply ((endRun c XA arg6 harg6 arg7 harg7 arg9 harg9 (⟨View.canon (bodyRun.sl.HC_64 c IX), k0_pay146 (bodyRun.sl.r_10 c IX), View.canon (bodyRun.sl.He_2 c IS), View.canon (bodyRun.sl.HS_2 c IS), View.canon (bodyRun.sl.HB_2 c IB), View.canon (bodyRun.sl.HD_2 c ID), k0_pay147 (bodyRun.sl.r_10 c IX), k0_pay192 (bodyRun.sl.v1651 c IB ID) (bodyRun.sl.v1228 c ID) (bodyRun.sl.v1664 c ID) (bodyRun.sl.v1666 c ID), k0_pay193, k0_pay194, k0_pay195, bodyRun.sl.r, k0_pay56 bodyRun.sl.v80, bodyRun.sl.r_57 c XA IX IS, bodyRun.sl.v2210 c IX, bodyRun.sl.r_58 c XA, bodyRun.sl.cst_769⟩)).2 (tripOv c XA arg6 harg6 arg7 harg7 arg9 harg9 (⟨View.canon (bodyRun.sl.HC_64 c IX), k0_pay146 (bodyRun.sl.r_10 c IX), View.canon (bodyRun.sl.He_2 c IS), View.canon (bodyRun.sl.HS_2 c IS), View.canon (bodyRun.sl.HB_2 c IB), View.canon (bodyRun.sl.HD_2 c ID), k0_pay147 (bodyRun.sl.r_10 c IX), k0_pay192 (bodyRun.sl.v1651 c IB ID) (bodyRun.sl.v1228 c ID) (bodyRun.sl.v1664 c ID) (bodyRun.sl.v1666 c ID), k0_pay193, k0_pay194, k0_pay195, bodyRun.sl.r, k0_pay56 bodyRun.sl.v80, bodyRun.sl.r_57 c XA IX IS, bodyRun.sl.v2210 c IX, bodyRun.sl.r_58 c XA, bodyRun.sl.cst_769⟩)) (codesOutM.view.writes (Elt F) g8 [⟨Rect.whole S64x8192, bodyRun.sl.dma292 c IX f1⟩]) (codesM.view.writes (Elt F) f1 (bodyRun.sl.HC_64 c IX)) g6 g7)
    isplitl [HA6]; · iexact HA6
    isplitl [HA7]; · iexact HA7
    isplitl [HL]; · iexact HL
    iexact Hcc
  iintro %_ ⟨P6, P7, P4, PD, PF, PW, ⟨Pm, Ps, Pcl, Pa, Pb, Pe⟩, ⟨PC, PS, PB, PDc, PX, PE⟩, ⟨PO, PR, PQ⟩, PX0⟩
  isplitl [HIX HIS HIB HID]
  · isplitl [HIX]; · iexact HIX
    isplitl [HIS]; · iexact HIS
    isplitl [HIB]; · iexact HIB
    iexact HID
  isplitl [HXR HSR HBR HDR PC PR PS PB PDc Pe PX Pm Ps Pcl PE Pa Pb]
  · isplitl [HXR]; · iexists _; iexact HXR
    isplitl [PC PR]
    · ihave PR' := (holds_of c codesM _ fullShare.right (View.canon (bodyRun.sl.HC_64 c IX)) (View.read_writes_eq_canon _ _ _ (codes_cover _ (by sl_kernel_rfl)))) $$ PR
      iexists _; iapply (codes_join c _); isplitl [PC]; · iexact PC
      iexact PR'
    isplitl [HSR]; · iexists _; iexact HSR
    isplitl [PS]; · iexists _; iexact PS
    isplitl [HBR]; · iexists _; iexact HBR
    isplitl [PB]; · iexists _; iexact PB
    isplitl [HDR]; · iexists _; iexact HDR
    isplitl [PDc]; · iexists _; iexact PDc
    isplitl [Pe]; · iexact Pe
    isplitl [PX]; · iexists _; iexact PX
    isplitl [Pm]; · iexact Pm
    isplitl [Ps]; · iexact Ps
    isplitl [Pcl]; · iexact Pcl
    isplitl [PE]; · iexists _; iexact PE
    isplitl [Pa]; · iexact Pa
    iexact Pb
  isplitl [Hi0 Hi1 Hi2 Hi3 PQ]
  · isplitl [Hi0]; · iexact Hi0
    isplitl [Hi1]; · iexact Hi1
    isplitl [Hi2]; · iexact Hi2
    isplitl [Hi3]; · iexact Hi3
    iexact PQ
  isplitl [P6]; · iexact P6
  isplitl [P7]; · iexact P7
  isplitl [PO]
  · ihave PO' := (holds_of c codesOutM _ fullShare (View.canon (bodyRun.sl.HC_64 c IX)) (codes_out (F := F) g8 (bodyRun.sl.dma292 c IX f1) _ (View.read_writes_eq_canon (Val := Elt F) codesM.view f1 (bodyRun.sl.HC_64 c IX) (codes_cover _ (by sl_kernel_rfl))))) $$ PO
    iexact PO'
  isplitl [HA9]
  · ihave H' := (holds_of c arg9 _ fullShare _ (View.read_writes_full _ _ _ _ _)) $$ HA9
    iexact H'
  ihave PW' := (wAt_end c XA) $$ PW
  icases PW' with ⟨PW1, PW2⟩
  isplitl [PW1]; · iexact PW1
  isplitl [PW2]; · iexact PW2
  isplitl [PD P4]
  · iapply (done_all c XA arg6 harg6 arg7 harg7 arg9 harg9 (⟨View.canon (bodyRun.sl.HC_64 c IX), k0_pay146 (bodyRun.sl.r_10 c IX), View.canon (bodyRun.sl.He_2 c IS), View.canon (bodyRun.sl.HS_2 c IS), View.canon (bodyRun.sl.HB_2 c IB), View.canon (bodyRun.sl.HD_2 c ID), k0_pay147 (bodyRun.sl.r_10 c IX), k0_pay192 (bodyRun.sl.v1651 c IB ID) (bodyRun.sl.v1228 c ID) (bodyRun.sl.v1664 c ID) (bodyRun.sl.v1666 c ID), k0_pay193, k0_pay194, k0_pay195, bodyRun.sl.r, k0_pay56 bodyRun.sl.v80, bodyRun.sl.r_57 c XA IX IS, bodyRun.sl.v2210 c IX, bodyRun.sl.r_58 c XA, bodyRun.sl.cst_769⟩))
    isplitl [PD]; · iexact PD
    iexact P4
  isplitl [PF]
  · iapply (oFree_end c); iexact PF
  iexact PX0
end Body

end Cert.Proof.KernI
-- ==== Proof.SplitI.lean ====
/-
  The buffers the kernel works on piece by piece, held whole and held in pieces: the weights and the logits in their
  125 blocks of columns, the two rings and the accumulator in their slots.
-/
module

public import proofs.«01_k».proof.Proof.NamesI

@[expose] public section

set_option maxRecDepth 16384

noncomputable section

namespace Cert.Proof.KernI

open Cert.KernelIdeal Cert.KernelIdeal.Gen
open Idealize.ShloMosaic.ValueIdx
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Whole
variable {ℓ : Loc nD τ sig} (n : ℕ) (J : ℕ → Finset (Idx ℓ)) (hd : ∀ b b' : Fin n, b ≠ b' → Disjoint (J b.val) (J b'.val))
  (hc : (Finset.univ : Finset (Fin n)).biUnion (fun b => J b.val) = Finset.univ)
include hd hc
theorem whole_eq (q : PosShare TreeShare) (f : Buf (Elt F) ℓ) : (ℓ ↦{q} f : sProp 𝕄) = bigSep (Finset.Ico 0 n) (fun b => ℓ ↦[J b]{q} f) := by
  rw [Ring.pointsTo_blocks (fun b : Fin n => J b.val) hd hc f, Ring.bigSep_fin_eq_range n _ (fun b => (ℓ ↦[J b]{q} f : sProp 𝕄)) (fun _ _ => rfl), Finset.range_eq_Ico]
theorem whole_join (q : PosShare TreeShare) (f₀ : Buf (Elt F) ℓ) : bigSep (Finset.Ico 0 n) (fun b => iprop(∃ f, ℓ ↦[J b]{q} f)) ⊢ (iprop(∃ g, ℓ ↦{q} g) : sProp 𝕄) := by
  rw [← Finset.range_eq_Ico, ← Ring.bigSep_fin_eq_range n (fun b : Fin n => iprop(∃ f, ℓ ↦[J b.val]{q} f)) (fun b => (iprop(∃ f, ℓ ↦[J b]{q} f) : sProp 𝕄)) (fun _ _ => rfl)]
  exact Ring.pointsTo_blocks_join_exists (fun b : Fin n => J b.val) hd hc f₀
theorem whole_any (q : PosShare TreeShare) : (iprop(∃ g, ℓ ↦{q} g) : sProp 𝕄) ⊢ bigSep (Finset.Ico 0 n) (fun b => iprop(∃ f : Buf (Elt F) ℓ, ℓ ↦[J b]{q} f)) := by
  refine exists_elim fun f => ?_
  rw [whole_eq n J hd hc q f]
  exact bigSep_mono fun b _ => exists_intro (Φ := fun f : Buf (Elt F) ℓ => (ℓ ↦[J b]{q} f : sProp 𝕄)) f
end Whole

/-! ## The pieces' elements -/

theorem wblk_set (b : ℕ) : (wblk b).view.set = (Rect.unit (s := S8192x32000) (colOff b) S8192x256.size (wcol_inb b)).set := View.set_slice_whole _ _
theorem oblk_set (b : ℕ) : (oblk b).view.set = (Rect.unit (s := S64x32000) (colOff b) S64x256.size (ocol_inb b)).set := View.set_slice_whole _ _
theorem wslot_set (b : ℕ) : (wslot b).view.set = (Rect.unit (s := S12x8192x256) (wslotOff b) S1x8192x256.size (wslot_inb b)).set := (View.set_reshape _ _).trans (View.set_slice_whole _ _)
theorem oslot_set (b : ℕ) : (oslot b).view.set = (Rect.unit (s := S4x64x256) (oslotOff b) S1x64x256.size (oslot_inb b)).set := (View.set_reshape _ _).trans (View.set_slice_whole _ _)
theorem aslot_set (b : ℕ) : (aslot b).view.set = (Rect.unit (s := S2x64x256) (aslotOff b) S1x64x256.size (aslot_inb b)).set := View.set_slice_whole _ _
theorem wblk_disj (b b' : Fin 125) (h : b ≠ b') : Disjoint (wblk b.val).view.set (wblk b'.val).view.set := by
  rw [wblk_set, wblk_set]
  exact Ring.lead_disjoint (s := S8192x32000) 1 256 (fun b : Fin 125 => colOff b.val) S8192x256.size (fun b => wcol_inb b.val) (fun b => by show 256 * (b.val % 125) = 256 * b.val; have := b.isLt; omega) rfl b b' h
theorem wblk_cover : (Finset.univ : Finset (Fin 125)).biUnion (fun b => ((wblk b.val).view.set : Finset S8192x32000.Idx)) = (Finset.univ : Finset S8192x32000.Idx) := by
  simp only [wblk_set]
  exact Ring.lead_cover (s := S8192x32000) 1 256 (fun b : Fin 125 => colOff b.val) S8192x256.size (fun b => wcol_inb b.val) (fun b => by show 256 * (b.val % 125) = 256 * b.val; have := b.isLt; omega)
    (fun b a ha => by fin_cases a <;> first | rfl | exact absurd rfl ha) rfl (fun a ha => by fin_cases a <;> first | rfl | exact absurd rfl ha) rfl
theorem oblk_disj (b b' : Fin 125) (h : b ≠ b') : Disjoint (oblk b.val).view.set (oblk b'.val).view.set := by
  rw [oblk_set, oblk_set]
  exact Ring.lead_disjoint (s := S64x32000) 1 256 (fun b : Fin 125 => colOff b.val) S64x256.size (fun b => ocol_inb b.val) (fun b => by show 256 * (b.val % 125) = 256 * b.val; have := b.isLt; omega) rfl b b' h
theorem oblk_cover : (Finset.univ : Finset (Fin 125)).biUnion (fun b => ((oblk b.val).view.set : Finset S64x32000.Idx)) = (Finset.univ : Finset S64x32000.Idx) := by
  simp only [oblk_set]
  exact Ring.lead_cover (s := S64x32000) 1 256 (fun b : Fin 125 => colOff b.val) S64x256.size (fun b => ocol_inb b.val) (fun b => by show 256 * (b.val % 125) = 256 * b.val; have := b.isLt; omega)
    (fun b a ha => by fin_cases a <;> first | rfl | exact absurd rfl ha) rfl (fun a ha => by fin_cases a <;> first | rfl | exact absurd rfl ha) rfl
theorem wslot_disj (b b' : Fin 12) (h : b ≠ b') : Disjoint (wslot b.val).view.set (wslot b'.val).view.set := by
  rw [wslot_set, wslot_set]
  exact Ring.lead_disjoint (s := S12x8192x256) 0 1 (fun b : Fin 12 => wslotOff b.val) S1x8192x256.size (fun b => wslot_inb b.val) (fun b => by show b.val % 12 = 1 * b.val; have := b.isLt; omega) rfl b b' h
theorem wslot_cover : (Finset.univ : Finset (Fin 12)).biUnion (fun b => ((wslot b.val).view.set : Finset S12x8192x256.Idx)) = (Finset.univ : Finset S12x8192x256.Idx) := by
  simp only [wslot_set]
  exact Ring.lead_cover (s := S12x8192x256) 0 1 (fun b : Fin 12 => wslotOff b.val) S1x8192x256.size (fun b => wslot_inb b.val) (fun b => by show b.val % 12 = 1 * b.val; have := b.isLt; omega)
    (fun b a ha => by fin_cases a <;> first | rfl | exact absurd rfl ha) rfl (fun a ha => by fin_cases a <;> first | rfl | exact absurd rfl ha) rfl
theorem oslot_disj (b b' : Fin 4) (h : b ≠ b') : Disjoint (oslot b.val).view.set (oslot b'.val).view.set := by
  rw [oslot_set, oslot_set]
  exact Ring.lead_disjoint (s := S4x64x256) 0 1 (fun b : Fin 4 => oslotOff b.val) S1x64x256.size (fun b => oslot_inb b.val) (fun b => by show b.val % 4 = 1 * b.val; have := b.isLt; omega) rfl b b' h
theorem oslot_cover : (Finset.univ : Finset (Fin 4)).biUnion (fun b => ((oslot b.val).view.set : Finset S4x64x256.Idx)) = (Finset.univ : Finset S4x64x256.Idx) := by
  simp only [oslot_set]
  exact Ring.lead_cover (s := S4x64x256) 0 1 (fun b : Fin 4 => oslotOff b.val) S1x64x256.size (fun b => oslot_inb b.val) (fun b => by show b.val % 4 = 1 * b.val; have := b.isLt; omega)
    (fun b a ha => by fin_cases a <;> first | rfl | exact absurd rfl ha) rfl (fun a ha => by fin_cases a <;> first | rfl | exact absurd rfl ha) rfl
theorem aslot_disj (b b' : Fin 2) (h : b ≠ b') : Disjoint (aslot b.val).view.set (aslot b'.val).view.set := by
  rw [aslot_set, aslot_set]
  exact Ring.lead_disjoint (s := S2x64x256) 0 1 (fun b : Fin 2 => aslotOff b.val) S1x64x256.size (fun b => aslot_inb b.val) (fun b => by show b.val % 2 = 1 * b.val; have := b.isLt; omega) rfl b b' h
theorem aslot_cover : (Finset.univ : Finset (Fin 2)).biUnion (fun b => ((aslot b.val).view.set : Finset S2x64x256.Idx)) = (Finset.univ : Finset S2x64x256.Idx) := by
  simp only [aslot_set]
  exact Ring.lead_cover (s := S2x64x256) 0 1 (fun b : Fin 2 => aslotOff b.val) S1x64x256.size (fun b => aslot_inb b.val) (fun b => by show b.val % 2 = 1 * b.val; have := b.isLt; omega)
    (fun b a ha => by fin_cases a <;> first | rfl | exact absurd rfl ha) rfl (fun a ha => by fin_cases a <;> first | rfl | exact absurd rfl ha) rfl

/-! ## Whole and in pieces -/

section Pieces
variable (c : Dev nD)

theorem w_whole (XA : Buf (Elt F) (wM.view.loc (c : Thread nD τ))) : (((c : Thread nD τ).loc main_arg1) ↦{fullShare} XA : sProp 𝕄) = bigSep (Finset.Ico 0 125) (wHome c XA) :=
  whole_eq (ℓ := (c : Thread nD τ).loc main_arg1) 125 (fun b => (wblk b).view.set) wblk_disj wblk_cover fullShare XA

theorem o_split : (iprop(∃ f : Buf (Elt F) ((c : Thread nD τ).loc main_v2_0), ((c : Thread nD τ).loc main_v2_0) ↦{fullShare} f) : sProp 𝕄) ⊢ bigSep (Finset.Ico 0 125) (oHome (F := F) c) :=
  whole_any (F := F) (ℓ := (c : Thread nD τ).loc main_v2_0) 125 (fun b => (oblk b).view.set) oblk_disj oblk_cover fullShare

/-- The whole logits from their blocks' values. -/
def oAll (OV : ℕ → S64x256.Idx → Elt F .f32) : S64x32000.Idx → Elt F .f32 := fun y =>
  OV ((y 1).val / 256) (ix2 (y 0) (⟨(y 1).val % 256, Nat.mod_lt _ (by decide)⟩ : Fin 256))

theorem oAll_read (OV : ℕ → S64x256.Idx → Elt F .f32) (b : ℕ) (hb : b < 125) : (oblk b).view.read (Elt F) (holds oM (oAll OV)) = OV b := by
  funext z
  have e : (oblk b).view.read (Elt F) (holds oM (oAll OV)) z = oM.view.read (Elt F) (holds oM (oAll OV)) ((Rect.unit (s := S64x32000) (colOff b) S64x256.size (ocol_inb b)).emb z) := rfl
  rw [e, View.read_writes_whole]
  have hz : (z 1).val < 256 := (z 1).isLt
  have h1 : (((Rect.unit (s := S64x32000) (colOff b) S64x256.size (ocol_inb b)).emb z) 1).val = 256 * (b % 125) + 1 * (z 1).val := rfl
  have h0 : (((Rect.unit (s := S64x32000) (colOff b) S64x256.size (ocol_inb b)).emb z) 0).val = 0 + 1 * (z 0).val := rfl
  unfold oAll
  rw [show (((Rect.unit (s := S64x32000) (colOff b) S64x256.size (ocol_inb b)).emb z) 1).val / 256 = b by omega]
  refine congrArg (OV b) ?_
  funext a; apply Fin.ext; fin_cases a
  · show (((Rect.unit (s := S64x32000) (colOff b) S64x256.size (ocol_inb b)).emb z) 0).val = (z 0).val; omega
  · show (((Rect.unit (s := S64x32000) (colOff b) S64x256.size (ocol_inb b)).emb z) 1).val % 256 = (z 1).val; omega

theorem oDone_block (OV : ℕ → S64x256.Idx → Elt F .f32) (b : ℕ) (hb : b < 125) : oDone c OV b ⊢ ((oblk b).view.loc (c : Thread nD τ) ↦[(oblk b).view.set]{fullShare} holds oM (oAll OV) : sProp 𝕄) := by
  unfold oDone
  iintro ⟨%f, %hf, H⟩
  have e : ((oblk b).view.loc (c : Thread nD τ) ↦[(oblk b).view.set]{fullShare} f : sProp 𝕄) ⊢ (oblk b).view.loc (c : Thread nD τ) ↦[(oblk b).view.set]{fullShare} holds oM (oAll OV) := by
    refine (BI.equiv_iff.mpr (pointsTo_congr ?_)).1
    intro i hi
    obtain ⟨z, -, rfl⟩ := Finset.mem_map.mp hi
    have e1 := congrFun (hf.trans (oAll_read OV b hb).symm) z
    exact (cast_inj _).1 e1
  iapply e; iexact H

theorem oDone_whole (OV : ℕ → S64x256.Idx → Elt F .f32) : bigSep (Finset.Ico 0 125) (oDone c OV) ⊢ (((c : Thread nD τ).loc main_v2_0) ↦{fullShare} holds oM (oAll OV) : sProp 𝕄) := by
  rw [whole_eq (F := F) (ℓ := (c : Thread nD τ).loc main_v2_0) 125 (fun b => (oblk b).view.set) oblk_disj oblk_cover fullShare (holds oM (oAll OV))]
  exact bigSep_mono fun b hb => oDone_block c OV b (Finset.mem_Ico.1 hb).2

theorem wslot_split : (iprop(∃ f : Buf (Elt F) ((c : Thread nD τ).loc cc0_scratch2), ((c : Thread nD τ).loc cc0_scratch2) ↦{fullShare} f) : sProp 𝕄) ⊢ bigSep (Finset.Ico 0 12) (fun b => iprop(∃ f, wslotP (F := F) c (wslot b) f)) :=
  whole_any (F := F) (ℓ := (c : Thread nD τ).loc cc0_scratch2) 12 (fun b => (wslot b).view.set) wslot_disj wslot_cover fullShare
theorem oslot_split : (iprop(∃ f : Buf (Elt F) ((c : Thread nD τ).loc cc0_scratch12), ((c : Thread nD τ).loc cc0_scratch12) ↦{fullShare} f) : sProp 𝕄) ⊢ bigSep (Finset.Ico 0 4) (fun b => iprop(∃ f, oslotP (F := F) c (oslot b) f)) :=
  whole_any (F := F) (ℓ := (c : Thread nD τ).loc cc0_scratch12) 4 (fun b => (oslot b).view.set) oslot_disj oslot_cover fullShare
theorem aslot_split : (iprop(∃ f : Buf (Elt F) ((c : Thread nD τ).loc cc0_scratch11), ((c : Thread nD τ).loc cc0_scratch11) ↦{fullShare} f) : sProp 𝕄) ⊢ bigSep (Finset.Ico 0 2) (fun b => iprop(∃ f, accP (F := F) c b f)) :=
  whole_any (F := F) (ℓ := (c : Thread nD τ).loc cc0_scratch11) 2 (fun b => (aslot b).view.set) aslot_disj aslot_cover fullShare
theorem wslot_join : bigSep (Finset.Ico 0 12) (fun b => iprop(∃ f, wslotP (F := F) c (wslot b) f)) ⊢ (iprop(∃ f : Buf (Elt F) ((c : Thread nD τ).loc cc0_scratch2), ((c : Thread nD τ).loc cc0_scratch2) ↦{fullShare} f) : sProp 𝕄) :=
  whole_join (F := F) (ℓ := (c : Thread nD τ).loc cc0_scratch2) 12 (fun b => (wslot b).view.set) wslot_disj wslot_cover fullShare wbufM.view.junk
theorem oslot_join : bigSep (Finset.Ico 0 4) (fun b => iprop(∃ f, oslotP (F := F) c (oslot b) f)) ⊢ (iprop(∃ f : Buf (Elt F) ((c : Thread nD τ).loc cc0_scratch12), ((c : Thread nD τ).loc cc0_scratch12) ↦{fullShare} f) : sProp 𝕄) :=
  whole_join (F := F) (ℓ := (c : Thread nD τ).loc cc0_scratch12) 4 (fun b => (oslot b).view.set) oslot_disj oslot_cover fullShare obufM.view.junk
theorem aslot_join : bigSep (Finset.Ico 0 2) (fun b => iprop(∃ f, accP (F := F) c b f)) ⊢ (iprop(∃ f : Buf (Elt F) ((c : Thread nD τ).loc cc0_scratch11), ((c : Thread nD τ).loc cc0_scratch11) ↦{fullShare} f) : sProp 𝕄) :=
  whole_join (F := F) (ℓ := (c : Thread nD τ).loc cc0_scratch11) 2 (fun b => (aslot b).view.set) aslot_disj aslot_cover fullShare accM.view.junk
end Pieces

end Cert.Proof.KernI
-- ==== Proof.LaunchI.lean ====
/-
  The launch: @main's two reshapes, then the kernel's one region, from any memory to its end.
-/
module

public import proofs.«01_k».proof.Proof.BodyI
public import proofs.«01_k».proof.Proof.SplitI
public import proofs.«01_k».proof.Proof.Gen.KernelIdeal.Frame
public import Idealize.ShloMosaic.Lib.Pipeline.KitQuiescent

@[expose] public section

set_option maxRecDepth 16384

noncomputable section

namespace Cert.Proof.KernI

open Cert.KernelIdeal Cert.KernelIdeal.Gen
open Idealize.ShloMosaic.ValueIdx
open Idealize.ShloMosaic
open Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]
local notation "𝕄" => MT nD τ sig Unit (Elt F) ℕ (UU nD τ) ℕ

abbrev EP : Emb (UR sig nD τ) (MT nD τ sig Unit (Elt F) ℕ (UU nD τ) ℕ) := embL

/-! ## The kernel's own semaphores -/

abbrev osem : Fin 21 → SemLoc sig := fun i => .dma ⟨3 + i.val, by have := i.isLt; show 3 + i.val < 24; omega⟩
theorem ownSemFacts : Pipeline.OwnSemFacts spec0 osem := by decide

section Rest
variable (c : Dev nD)

theorem at_to {sp : Space} {s : Shape} {e : EltTy} (M : Memref sig .tc sp s e) (h : M.IsWhole) (f : Buf (Elt F) (M.view.loc (c : Thread nD τ))) :
    (M.view.loc (c : Thread nD τ) ↦{fullShare} f : sProp 𝕄) ⊢ atP c M f := by rw [atP, h.set_eq_univ]
theorem at_from {sp : Space} {s : Shape} {e : EltTy} (M : Memref sig .tc sp s e) (h : M.IsWhole) (f : Buf (Elt F) (M.view.loc (c : Thread nD τ))) :
    atP c M f ⊢ (M.view.loc (c : Thread nD τ) ↦{fullShare} f : sProp 𝕄) := by rw [atP, h.set_eq_univ]
theorem any_to {sp : Space} {s : Shape} {e : EltTy} (M : Memref sig .tc sp s e) (h : M.IsWhole) :
    (iprop(∃ f : Buf (Elt F) (M.view.loc (c : Thread nD τ)), M.view.loc (c : Thread nD τ) ↦{fullShare} f) : sProp 𝕄) ⊢ anyP (F := F) c M := by
  iintro ⟨%f, H⟩; iexists f; iapply (at_to c M h f); iexact H
theorem any_from {sp : Space} {s : Shape} {e : EltTy} (M : Memref sig .tc sp s e) (h : M.IsWhole) :
    anyP (F := F) c M ⊢ (iprop(∃ f : Buf (Elt F) (M.view.loc (c : Thread nD τ)), M.view.loc (c : Thread nD τ) ↦{fullShare} f) : sProp 𝕄) := by
  iintro ⟨%f, H⟩; iexists f; iapply (at_from c M h f); iexact H

theorem ico2 {M : Type _} [URA M] (Φ : ℕ → sProp M) : bigSep (Finset.Ico 0 2) Φ = iprop(Φ 0 ∗ Φ 1 ∗ BI.emp) := by
  rw [ico_head Φ (by decide), ico_head Φ (by decide), ico_empty Φ (by decide)]
theorem ico4 {M : Type _} [URA M] (Φ : ℕ → sProp M) : bigSep (Finset.Ico 0 4) Φ = iprop(Φ 0 ∗ Φ 1 ∗ Φ 2 ∗ Φ 3 ∗ BI.emp) := by
  rw [ico_head Φ (by decide), ico_head Φ (by decide), ico_head Φ (by decide), ico_head Φ (by decide), ico_empty Φ (by decide)]

theorem ownSems0_eq : (Pipeline.ownSems0 (Ix := Unit) (Name := ℕ) (U := UU nD τ) (Lvl := ℕ) (Val := Elt F) (τ := τ) osem c : sProp 𝕄)
    = iprop(cellP (F := F) c (wcell 0) ∗ cellP (F := F) c (wcell 1) ∗ cellP (F := F) c (wcell 2) ∗ cellP (F := F) c (wcell 3) ∗ cellP (F := F) c (wcell 4) ∗ cellP (F := F) c (wcell 5) ∗ cellP (F := F) c (wcell 6) ∗ cellP (F := F) c (wcell 7) ∗ cellP (F := F) c (wcell 8) ∗ cellP (F := F) c (wcell 9) ∗ cellP (F := F) c (wcell 10) ∗ cellP (F := F) c (wcell 11) ∗ cellP (F := F) c (ocell 0) ∗ cellP (F := F) c (ocell 1) ∗ cellP (F := F) c (ocell 2) ∗ cellP (F := F) c (ocell 3) ∗ cellP (F := F) c icell0 ∗ cellP (F := F) c icell1 ∗ cellP (F := F) c icell2 ∗ cellP (F := F) c icell3 ∗ cellP (F := F) c cc0_scratch20) := by
  unfold Pipeline.ownSems0
  rw [bigSep_univ_eq_bigSepL [(0 : Fin 21), (1 : Fin 21), (2 : Fin 21), (3 : Fin 21), (4 : Fin 21), (5 : Fin 21), (6 : Fin 21), (7 : Fin 21), (8 : Fin 21), (9 : Fin 21), (10 : Fin 21), (11 : Fin 21), (12 : Fin 21), (13 : Fin 21), (14 : Fin 21), (15 : Fin 21), (16 : Fin 21), (17 : Fin 21), (18 : Fin 21), (19 : Fin 21), (20 : Fin 21)] (by decide) (by decide)]
  rfl

/-- The rings' slots, whole at anything. -/
abbrev wSlots : sProp 𝕄 := bigSep (Finset.Ico 0 12) (fun b => iprop(∃ f, wslotP (F := F) c (wslot b) f))
abbrev oSlots : sProp 𝕄 := bigSep (Finset.Ico 0 4) (fun b => iprop(∃ f, oslotP (F := F) c (oslot b) f))
/-- The rings free: each slot with its semaphore. -/
abbrev freeP : sProp 𝕄 := iprop(bigSep (Finset.Ico 0 12) (wFree (F := F) c) ∗ bigSep (Finset.Ico 0 4) (oFree (F := F) c))

theorem cells_in : iprop((Pipeline.ownSems0 (Ix := Unit) (Name := ℕ) (U := UU nD τ) (Lvl := ℕ) (Val := Elt F) (τ := τ) osem c : sProp 𝕄) ∗ wSlots (F := F) c ∗ oSlots (F := F) c)
    ⊢ iprop(cellsP (F := F) c ∗ freeP (F := F) c) := by
  rw [ownSems0_eq]
  unfold wSlots oSlots freeP wFree oFree wFreeAt oFreeAt
  rw [ico12, ico12, ico4, ico4]
  iintro ⟨⟨C0, C1, C2, C3, C4, C5, C6, C7, C8, C9, C10, C11, C12, C13, C14, C15, C16, C17, C18, C19, C20⟩, ⟨W0, W1, W2, W3, W4, W5, W6, W7, W8, W9, W10, W11, -⟩, ⟨O0, O1, O2, O3, -⟩⟩
  isplitl [C16 C17 C18 C19 C20]
  · isplitl [C16]; · iexact C16
    isplitl [C17]; · iexact C17
    isplitl [C18]; · iexact C18
    isplitl [C19]; · iexact C19
    iexact C20
  isplitl [C0 W0 C1 W1 C2 W2 C3 W3 C4 W4 C5 W5 C6 W6 C7 W7 C8 W8 C9 W9 C10 W10 C11 W11]
  · isplitl [C0 W0]
    · isplitl [W0]; · iexact W0
      iexact C0
    isplitl [C1 W1]
    · isplitl [W1]; · iexact W1
      iexact C1
    isplitl [C2 W2]
    · isplitl [W2]; · iexact W2
      iexact C2
    isplitl [C3 W3]
    · isplitl [W3]; · iexact W3
      iexact C3
    isplitl [C4 W4]
    · isplitl [W4]; · iexact W4
      iexact C4
    isplitl [C5 W5]
    · isplitl [W5]; · iexact W5
      iexact C5
    isplitl [C6 W6]
    · isplitl [W6]; · iexact W6
      iexact C6
    isplitl [C7 W7]
    · isplitl [W7]; · iexact W7
      iexact C7
    isplitl [C8 W8]
    · isplitl [W8]; · iexact W8
      iexact C8
    isplitl [C9 W9]
    · isplitl [W9]; · iexact W9
      iexact C9
    isplitl [C10 W10]
    · isplitl [W10]; · iexact W10
      iexact C10
    isplitl [C11 W11]
    · isplitl [W11]; · iexact W11
      iexact C11
    iempintro
  isplitl [C12 O0]
  · isplitl [O0]; · iexact O0
    iexact C12
  isplitl [C13 O1]
  · isplitl [O1]; · iexact O1
    iexact C13
  isplitl [C14 O2]
  · isplitl [O2]; · iexact O2
    iexact C14
  isplitl [C15 O3]
  · isplitl [O3]; · iexact O3
    iexact C15
  iempintro

theorem cells_out : iprop(cellsP (F := F) c ∗ freeP (F := F) c)
    ⊢ iprop((Pipeline.ownSems0 (Ix := Unit) (Name := ℕ) (U := UU nD τ) (Lvl := ℕ) (Val := Elt F) (τ := τ) osem c : sProp 𝕄) ∗ wSlots (F := F) c ∗ oSlots (F := F) c) := by
  rw [ownSems0_eq]
  unfold wSlots oSlots freeP wFree oFree wFreeAt oFreeAt
  rw [ico12, ico12, ico4, ico4]
  iintro ⟨⟨C16, C17, C18, C19, C20⟩, ⟨⟨W0, C0⟩, ⟨W1, C1⟩, ⟨W2, C2⟩, ⟨W3, C3⟩, ⟨W4, C4⟩, ⟨W5, C5⟩, ⟨W6, C6⟩, ⟨W7, C7⟩, ⟨W8, C8⟩, ⟨W9, C9⟩, ⟨W10, C10⟩, ⟨W11, C11⟩, -⟩, ⟨⟨O0, C12⟩, ⟨O1, C13⟩, ⟨O2, C14⟩, ⟨O3, C15⟩, -⟩⟩
  isplitl [C0 C1 C2 C3 C4 C5 C6 C7 C8 C9 C10 C11 C12 C13 C14 C15 C16 C17 C18 C19 C20]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    isplitl [C16]; · iexact C16
    isplitl [C17]; · iexact C17
    isplitl [C18]; · iexact C18
    isplitl [C19]; · iexact C19
    iexact C20
  isplitl [W0 W1 W2 W3 W4 W5 W6 W7 W8 W9 W10 W11]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    iempintro
  isplitl [O0]; · iexact O0
  isplitl [O1]; · iexact O1
  isplitl [O2]; · iexact O2
  isplitl [O3]; · iexact O3
  iempintro

theorem scr_in : (Pipeline.scopedRest (Ix := Unit) (Name := ℕ) (U := UU nD τ) (Lvl := ℕ) (Val := Elt F) spec0 c : sProp 𝕄) ⊢ iprop(scrP (F := F) c ∗ wSlots (F := F) c ∗ oSlots (F := F) c) := by
  rw [scopedRest0_eq]
  iintro ⟨H0, H1, H2, H3, H4, H5, H6, H7, H8, H9, H10, H11, H12, H13, H14, H15, H16⟩
  ihave HA := ((aslot_split (F := F) c).trans (eqE (ico2 _))) $$ H11
  icases HA with ⟨HA0, HA1, -⟩
  isplitl [H0 H1 H3 H4 H5 H6 H7 H8 H9 H10 H13 H14 H15 H16 HA0 HA1]
  · isplitl [H0]; · iapply (any_to (F := F) c xRawM (Memref.isWhole_whole _)); iexact H0
    isplitl [H1]; · iapply (any_to (F := F) c codesM (Memref.isWhole_whole _)); iexact H1
    isplitl [H3]; · iapply (any_to (F := F) c wsRawM (Memref.isWhole_whole _)); iexact H3
    isplitl [H4]; · iapply (any_to (F := F) c wsM (Memref.isWhole_whole _)); iexact H4
    isplitl [H5]; · iapply (any_to (F := F) c bmRawM (Memref.isWhole_whole _)); iexact H5
    isplitl [H6]; · iapply (any_to (F := F) c bmM (Memref.isWhole_whole _)); iexact H6
    isplitl [H7]; · iapply (any_to (F := F) c candRawM (Memref.isWhole_whole _)); iexact H7
    isplitl [H8]; · iapply (any_to (F := F) c candM (Memref.isWhole_whole _)); iexact H8
    isplitl [H9]; · iapply (any_to (F := F) c sexpM (Memref.isWhole_whole _)); iexact H9
    isplitl [H10]; · iapply (any_to (F := F) c xsM (Memref.isWhole_whole _)); iexact H10
    isplitl [H13]; · iapply (any_to (F := F) c mM (Memref.isWhole_whole _)); iexact H13
    isplitl [H14]; · iapply (any_to (F := F) c sM (Memref.isWhole_whole _)); iexact H14
    isplitl [H15]; · iapply (any_to (F := F) c clM (Memref.isWhole_whole _)); iexact H15
    isplitl [H16]; · iapply (any_to (F := F) c caM (Memref.isWhole_whole _)); iexact H16
    isplitl [HA0]; · iexact HA0
    iexact HA1
  isplitl [H2]; · iapply (wslot_split (F := F) c); iexact H2
  iapply (oslot_split (F := F) c); iexact H12

theorem scr_out : iprop(scrP (F := F) c ∗ wSlots (F := F) c ∗ oSlots (F := F) c) ⊢ (Pipeline.scopedRest (Ix := Unit) (Name := ℕ) (U := UU nD τ) (Lvl := ℕ) (Val := Elt F) spec0 c : sProp 𝕄) := by
  rw [scopedRest0_eq]
  iintro ⟨⟨H0, H1, H3, H4, H5, H6, H7, H8, H9, H10, H13, H14, H15, H16, HA0, HA1⟩, H2, H12⟩
  isplitl [H0]; · iapply (any_from (F := F) c xRawM (Memref.isWhole_whole _)); iexact H0
  isplitl [H1]; · iapply (any_from (F := F) c codesM (Memref.isWhole_whole _)); iexact H1
  isplitl [H2]; · iapply (wslot_join (F := F) c); iexact H2
  isplitl [H3]; · iapply (any_from (F := F) c wsRawM (Memref.isWhole_whole _)); iexact H3
  isplitl [H4]; · iapply (any_from (F := F) c wsM (Memref.isWhole_whole _)); iexact H4
  isplitl [H5]; · iapply (any_from (F := F) c bmRawM (Memref.isWhole_whole _)); iexact H5
  isplitl [H6]; · iapply (any_from (F := F) c bmM (Memref.isWhole_whole _)); iexact H6
  isplitl [H7]; · iapply (any_from (F := F) c candRawM (Memref.isWhole_whole _)); iexact H7
  isplitl [H8]; · iapply (any_from (F := F) c candM (Memref.isWhole_whole _)); iexact H8
  isplitl [H9]; · iapply (any_from (F := F) c sexpM (Memref.isWhole_whole _)); iexact H9
  isplitl [H10]; · iapply (any_from (F := F) c xsM (Memref.isWhole_whole _)); iexact H10
  isplitl [HA0 HA1]
  · iapply (aslot_join (F := F) c); iapply (eqE (ico2 (fun b => iprop(∃ f, accP (F := F) c b f))).symm); isplitl [HA0]
    · iexact HA0
    isplitl [HA1]; · iexact HA1
    iempintro
  isplitl [H12]; · iapply (oslot_join (F := F) c); iexact H12
  isplitl [H13]; · iapply (any_from (F := F) c mM (Memref.isWhole_whole _)); iexact H13
  isplitl [H14]; · iapply (any_from (F := F) c sM (Memref.isWhole_whole _)); iexact H14
  isplitl [H15]; · iapply (any_from (F := F) c clM (Memref.isWhole_whole _)); iexact H15
  iapply (any_from (F := F) c caM (Memref.isWhole_whole _)); iexact H16
end Rest

/-! ## The pipeline's proof data -/

section Launch
variable (m : (ℓ : Loc nD τ sig) → Buf (Elt F) ℓ) (ρ : Dev nD → PrngReg)

abbrev st0 (t : Fin cfg0.N) : Memref sig .tc .vmem S64x1 .f32 := win0_0.stage (cfg0.slots t 0)
abbrev st1 (t : Fin cfg0.N) : Memref sig .tc .vmem S64x52 .f32 := win0_1.stage (cfg0.slots t 1)
abbrev st2 (t : Fin cfg0.N) : Memref sig .tc .vmem S64x1 .f32 := win0_2.stage (cfg0.slots t 2)
abbrev hst0 (t : Fin cfg0.N) : (st0 t).IsWhole := hstage0_0 0
abbrev hst1 (t : Fin cfg0.N) : (st1 t).IsWhole := hstage0_1 0
abbrev hst2 (t : Fin cfg0.N) : (st2 t).IsWhole := hstage0_2 0

/-- The inputs' contents as the region finds them. -/
abbrev inA (c : Dev nD) : Buf (Elt F) (wM.view.loc (c : Thread nD τ)) := V m c main_arg1
abbrev inX (c : Dev nD) : Buf (Elt F) (xInM.view.loc (c : Thread nD τ)) := V m c main_v0
abbrev inS (c : Dev nD) : Buf (Elt F) (wsInM.view.loc (c : Thread nD τ)) := V m c main_arg2
abbrev inB (c : Dev nD) : Buf (Elt F) (bmInM.view.loc (c : Thread nD τ)) := V m c main_arg3
abbrev inD (c : Dev nD) : Buf (Elt F) (candInM.view.loc (c : Thread nD τ)) := V m c main_v1

/-- The body's run at the point. -/
abbrev runAt (c : Dev nD) (t : Fin cfg0.N) := bodyRun c (inA m c) (inX m c) (inS m c) (inB m c) (inD m c) (st0 t) (hst0 t) (st1 t) (hst1 t) (st2 t) (hst2 t)
def begOf (c : Dev nD) (t : Fin cfg0.N) : Beg F := (runAt m c t).1
/-- The results' contents. -/
def lseOf (c : Dev nD) (t : Fin cfg0.N) : S64x1.Idx → Elt F .f32 := (endRun c (inA m c) (st0 t) (hst0 t) (st1 t) (hst1 t) (st2 t) (hst2 t) (begOf m c t)).1.lse
def clpOf (c : Dev nD) (t : Fin cfg0.N) : S64x52.Idx → Elt F .f32 := (endRun c (inA m c) (st0 t) (hst0 t) (st1 t) (hst1 t) (st2 t) (hst2 t) (begOf m c t)).1.clp
def logitOf (c : Dev nD) (t : Fin cfg0.N) : ℕ → S64x256.Idx → Elt F .f32 := bodyOv c (inA m c) (st0 t) (hst0 t) (st1 t) (hst1 t) (st2 t) (hst2 t) (begOf m c t)

/-- What the body finds and leaves alike. -/
abbrev Φin (c : Dev nD) : sProp 𝕄 := iprop(insP c (inX m c) (inS m c) (inB m c) (inD m c) ∗ scrP (F := F) c ∗ cellsP (F := F) c ∗ bigSep (Finset.Ico 0 125) (wHome c (inA m c)) ∗ freeP (F := F) c)
/-- The region invariant before the body, -/
def Φ₀ (c : Dev nD) : sProp 𝕄 := iprop(Φin m c ∗ anyP (F := F) c codesOutM ∗ bigSep (Finset.Ico 0 125) (oHome (F := F) c))
/-- and after it. -/
def Φ₁ (c : Dev nD) : sProp 𝕄 := iprop(Φin m c ∗ atP c codesOutM (holds codesOutM (begOf m c t0_0).codes) ∗ bigSep (Finset.Ico 0 125) (oDone c (logitOf m c t0_0)))

def dats (_ : Fin 1) (c : Dev nD) : Dat τ (Elt F) Unit ℕ (UU nD τ) ℕ cfg0 c where
  A w := V m c (Pipeline.arrRef spec0 w)
  after w t := match w with
    | ⟨0, _⟩ => lseOf m c t
    | ⟨1, _⟩ => clpOf m c t
    | ⟨2, _⟩ => (begOf m c t).xs
  Φ t := if t.val = 0 then Φ₀ m c else Φ₁ m c
  q _ := fullShare
  owed _ := 0

theorem after_w0 (c : Dev nD) (t : Fin cfg0.N) : (dats m 0 c).after 0 t = lseOf m c t := by dsimp only [dats]
theorem after_w1 (c : Dev nD) (t : Fin cfg0.N) : (dats m 0 c).after 1 t = clpOf m c t := by dsimp only [dats]
theorem after_w2 (c : Dev nD) (t : Fin cfg0.N) : (dats m 0 c).after 2 t = (begOf m c t).xs := by dsimp only [dats]

theorem defs_tc : (defs₀ (F := F)) .tc cfg0.body
    = fun a => bodyG (win0_0.stage (a.2 0)) (hstage0_0 0) (win0_1.stage (a.2 1)) (hstage0_1 0) (win0_2.stage (a.2 2)) (hstage0_2 0) := rfl
theorem prog_eq (t : Fin cfg0.N) : (defs₀ (F := F)) .tc cfg0.body (cfg0.bodyArgs t (cfg0.slots t)) = bodyG (st0 t) (hst0 t) (st1 t) (hst1 t) (st2 t) (hst2 t) :=
  (congrFun defs_tc _).trans rfl

set_option backward.isDefEq.respectTransparency.types false in
theorem body_obligation (c : Dev nD) : BodyObligation (dats (F := F) m 0 c) (defs₀ (F := F)) 𝒱₀ () Set.univ := fun t => by
  rw [fin_N0 t]
  rw [bigSep_W0, bigSep_W0]
  dsimp only
  simp only [after_w0, after_w1, after_w2]
  rw [show (dats m 0 c).Φ t0_0.castSucc = Φ₀ m c from rfl, show (dats m 0 c).Φ t0_0.succ = Φ₁ m c from rfl]
  unfold Dat.owesAt Pipeline.owesWithin
  rw [show (dats m 0 c).owed t0_0.castSucc = 0 from rfl, show (dats m 0 c).owed t0_0.succ = 0 from rfl]
  unfold owns Φ₀ Φ₁
  iintro ⟨⟨⟨HI, HS, HC, HWH, ⟨HWF, HOF⟩⟩, HCO, HOH⟩, ⟨%W, -, HW⟩, ⟨%d0, %g0, -, H0⟩, ⟨%d1, %g1, -, H1⟩, ⟨%d2, %g2, -, H2⟩⟩
  sl_rw [prog_eq t0_0]
  iapply (wp_wand_r Idealize.ShloMosaic.frame (wpE (defs₀ (F := F)) 𝒱₀ (c : Thread nD τ) none) Set.univ)
  isplitl [HI HS HC HWH HWF HOF HCO HOH HW H0 H1 H2]
  · iapply ((runAt m c t0_0).2)
    isplitl [HI]; · iexact HI
    isplitl [HS]; · iexact HS
    isplitl [HC]; · iexact HC
    isplitl [H0]; · iexists _; iexact H0
    isplitl [H1]; · iexists _; iexact H1
    isplitl [HCO]; · iexact HCO
    isplitl [H2]; · iexists _; iexact H2
    isplitl [HWH]; · iexact HWH
    isplitl [HWF]; · iexact HWF
    isplitl [HOH]; · iexact HOH
    isplitl [HOF]; · iexact HOF
    iexists _; iexact HW
  · iintro %_ ⟨HI, HS, HC, H0, H1, HCO, H2, HWH, HWF, HOD, HOF, ⟨%W', HW⟩⟩
    isplitl [HI HS HC HWH HWF HOF HCO HOD]
    · isplitl [HI HS HC HWH HWF HOF]
      · isplitl [HI]; · iexact HI
        isplitl [HS]; · iexact HS
        isplitl [HC]; · iexact HC
        isplitl [HWH]; · iexact HWH
        isplitl [HWF]; · iexact HWF
        iexact HOF
      isplitl [HCO]; · iexact HCO
      iexact HOD
    isplitl [HW]
    · iexists W'; isplitr; · ipureintro; exact fun _ _ => Or.inl trivial
      iexact HW
    isplitl [H0]
    · iexists _; isplitr; swap; · iexact H0
      ipureintro; exact View.read_writes_whole _ _ _
    isplitl [H1]
    · iexists _; isplitr; swap; · iexact H1
      ipureintro; exact View.read_writes_whole _ _ _
    iexists _; isplitr; swap; · iexact H2
    ipureintro; exact View.read_writes_whole _ _ _

/-! ## The run -/

/-- The inputs the region leaves, whole. -/
abbrev insW (c : Dev nD) : sProp 𝕄 :=
  iprop((((c : Thread nD τ).loc main_arg1) ↦{fullShare} V m c main_arg1) ∗ (((c : Thread nD τ).loc main_arg2) ↦{fullShare} V m c main_arg2) ∗ (((c : Thread nD τ).loc main_arg3) ↦{fullShare} V m c main_arg3))
/-- What the region takes, -/
def intoΦ (c : Dev nD) : sProp 𝕄 :=
  iprop(insP c (inX m c) (inS m c) (inB m c) (inD m c) ∗ bigSep (Finset.Ico 0 125) (wHome c (inA m c)) ∗ anyP (F := F) c codesOutM ∗ bigSep (Finset.Ico 0 125) (oHome (F := F) c) ∗ Pipeline.ownSems0 osem c)
/-- what it gives back, -/
def outOfΦ (c : Dev nD) : sProp 𝕄 :=
  iprop(insW m c ∗ (((c : Thread nD τ).loc main_v2_0) ↦{fullShare} holds oM (oAll (logitOf m c t0_0))) ∗ (((c : Thread nD τ).loc main_v2_3) ↦{fullShare} holds codesOutM (begOf m c t0_0).codes))
/-- and what it never sees. -/
def asideΦ (c : Dev nD) : sProp 𝕄 :=
  iprop((((c : Thread nD τ).loc main_arg0) ↦{fullShare} V m c main_arg0) ∗ (((c : Thread nD τ).loc main_arg4) ↦{fullShare} V m c main_arg4))
def u₀ : UU nD τ := (initOf (Pipeline.cells cfgs cellOf_inj) (Pipeline.launchToks cfgs cellOf_inj), 1)
def finalA (c : Dev nD) (w : Fin cfg0.W) : Buf (Elt F) ((cfg0.win w).arr.view.loc (c : Thread nD τ)) := (dats m 0 c).arrAt w cfg0.N
/-- The memory at the end, outside the windows' arrays. -/
def QY (c : Dev nD) (s : MemSt nD τ sig (Elt F)) : Prop :=
  (s.mem ((c : Thread nD τ).loc main_arg0) = V m c main_arg0 ∧ s.mem ((c : Thread nD τ).loc main_arg1) = V m c main_arg1 ∧ s.mem ((c : Thread nD τ).loc main_arg2) = V m c main_arg2
    ∧ s.mem ((c : Thread nD τ).loc main_arg3) = V m c main_arg3 ∧ s.mem ((c : Thread nD τ).loc main_arg4) = V m c main_arg4)
  ∧ s.mem ((c : Thread nD τ).loc main_v2_0) = holds oM (oAll (logitOf m c t0_0)) ∧ s.mem ((c : Thread nD τ).loc main_v2_3) = holds codesOutM (begOf m c t0_0).codes
def QC : PUnit × MemSt nD τ sig (Elt F) → Prop := fun r =>
  ∀ c : Dev nD, (∀ w : Fin cfg0.W, r.2.mem ((cfg0.win w).arr.view.loc (c : Thread nD τ)) = finalA m c w) ∧ QY m c r.2

set_option backward.isDefEq.respectTransparency.types false in
theorem into_of (c : Dev nD) (g : PrngReg) : iprop(Pipeline.unscopedRest spec0 c (V m c) ∗ Pipeline.ownSems0 osem c ∗ levels0 c ∗ prngReg c g ∗ BI.emp) ⊢ (iprop(|={Set.univ}=> iprop(intoΦ m c ∗ asideΦ m c)) : sProp 𝕄) := by
  rw [unscopedRest0_eq]
  unfold intoΦ asideΦ
  iintro ⟨⟨H0, H1, H2, H3, H4, HX, HD, HO, HC⟩, HS, -, -, -⟩; imodintro
  isplitl [H1 H2 H3 HX HD HO HC HS]
  · isplitl [HX H2 H3 HD]
    · isplitl [HX]; · iapply (at_to c xInM (Memref.isWhole_whole _) _); iexact HX
      isplitl [H2]; · iapply (at_to c wsInM (Memref.isWhole_whole _) _); iexact H2
      isplitl [H3]; · iapply (at_to c bmInM (Memref.isWhole_whole _) _); iexact H3
      iapply (at_to c candInM (Memref.isWhole_whole _) _); iexact HD
    isplitl [H1]; · iapply (eqE (w_whole c (inA m c))); iexact H1
    isplitl [HC]; · iapply (any_to c codesOutM (Memref.isWhole_whole _)); iexists _; iexact HC
    isplitl [HO]; · iapply (o_split c); iexists _; iexact HO
    iexact HS
  isplitl [H0]; · iexact H0
  iexact H4

set_option backward.isDefEq.respectTransparency.types false in
theorem in_of (c : Dev nD) : iprop(intoΦ m c ∗ Pipeline.scopedRest spec0 c) ⊢ Φ₀ m c := by
  unfold intoΦ Φ₀
  iintro ⟨⟨HI, HWH, HCO, HOH, HS⟩, HR⟩
  ihave HR' := (scr_in c) $$ HR
  icases HR' with ⟨HR, HW, HO⟩
  ihave HF := (cells_in c) $$ [HS HW HO]
  · isplitl [HS]; · iexact HS
    isplitl [HW]; · iexact HW
    iexact HO
  icases HF with ⟨HC, HF⟩
  isplitl [HI HR HC HWH HF]
  · isplitl [HI]; · iexact HI
    isplitl [HR]; · iexact HR
    isplitl [HC]; · iexact HC
    isplitl [HWH]; · iexact HWH
    iexact HF
  isplitl [HCO]; · iexact HCO
  iexact HOH

set_option backward.isDefEq.respectTransparency.types false in
theorem out_of (c : Dev nD) : Φ₁ m c ⊢ iprop(outOfΦ m c ∗ Pipeline.ownSems0 osem c ∗ Pipeline.scopedRest spec0 c) := by
  unfold outOfΦ Φ₁
  iintro ⟨⟨⟨HX, H2, H3, HD⟩, HR, HC, HWH, HF⟩, HCO, HOD⟩
  ihave HF' := (cells_out c) $$ [HC HF]
  · isplitl [HC]; · iexact HC
    iexact HF
  icases HF' with ⟨HS, HW, HO⟩
  isplitl [HWH H2 H3 HCO HOD]
  · isplitl [HWH H2 H3]
    · isplitl [HWH]; · iapply (eqE (w_whole c (inA m c)).symm); iexact HWH
      isplitl [H2]; · iapply (at_from c wsInM (Memref.isWhole_whole _) _); iexact H2
      iapply (at_from c bmInM (Memref.isWhole_whole _) _); iexact H3
    isplitl [HOD]; · iapply (oDone_whole c (logitOf m c t0_0)); iexact HOD
    iapply (at_from c codesOutM (Memref.isWhole_whole _) _); iexact HCO
  isplitl [HS]; · iexact HS
  iapply (scr_out c)
  isplitl [HR]; · iexact HR
  isplitl [HW]; · iexact HW
  iexact HO

set_option backward.isDefEq.respectTransparency.types false in
theorem end_of (c : Dev nD) (s' : Phys nD τ sig (Elt F)) : iprop(outOfΦ m c ∗ asideΦ m c ∗ SI s') ⊢ (iprop(|={Set.univ}=> iprop(⌜QY m c s'.mem⌝ ∗ SI s')) : sProp 𝕄) := by
  unfold outOfΦ asideΦ
  iintro ⟨⟨⟨H1, H2, H3⟩, HO, HC⟩, ⟨H0, H4⟩, HSI⟩
  icombine HSI H0 gives %h0
  icombine HSI H1 gives %h1
  icombine HSI H2 gives %h2
  icombine HSI H3 gives %h3
  icombine HSI H4 gives %h4
  icombine HSI HO gives %h5
  icombine HSI HC gives %h6
  imodintro
  isplitr
  · ipureintro
    exact ⟨⟨Buf.eq_of_forall_mem_univ h0, Buf.eq_of_forall_mem_univ h1, Buf.eq_of_forall_mem_univ h2, Buf.eq_of_forall_mem_univ h3, Buf.eq_of_forall_mem_univ h4⟩, Buf.eq_of_forall_mem_univ h5, Buf.eq_of_forall_mem_univ h6⟩
  iexact HSI

set_option backward.isDefEq.respectTransparency.types false in
/-- From any memory with zero counters: every fair run of @main terminates, with the arguments as launched, the results
    at the contents computed, and every semaphore counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := asideΦ m)
    (hX := fun c => into_of m c _)
    (hin := fun c => in_of m c)
    (hout := fun c => out_of m c)
    (QY := QY m)
    (hY := fun c s' => end_of m c s')
    (hQ := fun _ hh hz => ⟨hh, hz⟩)

/-- The arguments end as launched, with every semaphore counter at zero. -/
theorem frames : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c).2.1.1.trans (V_main_arg0 m c), (h.1 c).2.1.2.1.trans (V_main_arg1 m c), (h.1 c).2.1.2.2.1.trans (V_main_arg2 m c),
    (h.1 c).2.1.2.2.2.1.trans (V_main_arg3 m c), (h.1 c).2.1.2.2.2.2.trans (V_main_arg4 m c)⟩, h.2⟩) (run_main m ρ)

end Launch

end Cert.Proof.KernI
-- ==== Proof.Field.lean ====
/-
  The quantiser's scale: the exponent field found by comparing with powers of two, and the least power of two above.
-/
module

public import Idealize.ShloMosaic.Lib.Pointwise

@[expose] public section

set_option maxRecDepth 16384

noncomputable section

open Idealize.ShloMosaic

namespace Cert.Proof.Val

/-- The float whose only set bits are the exponent field `n`. -/
def T (n : ℕ) : EReal := Ideal.ofBits .f32 (BitVec.ofNat 32 n <<< 23)

theorem T_fields : ∀ n : Fin 255, ((BitVec.ofNat 32 n.val <<< 23).extractLsb' 31 1 == 1#1) = false ∧ ((BitVec.ofNat 32 n.val <<< 23).extractLsb' 23 8).toNat = n.val
    ∧ ((BitVec.ofNat 32 n.val <<< 23).extractLsb' 0 23).toNat = 0 := by decide +kernel

/-- A pattern with a clear sign and fraction denotes a power of two. -/
theorem ieee_pow (b : BitVec 32) (n : ℕ) (ha : (b.extractLsb' 31 1 == 1#1) = false) (hb : (b.extractLsb' 23 8).toNat = n) (hc : (b.extractLsb' 0 23).toNat = 0)
    (h1 : 1 ≤ n) (h2 : n ≤ 254) : Ideal.ieee 8 23 b = (((2 : ℝ) ^ ((n : ℤ) - 127) : ℝ) : EReal) := by
  have h3 : ((2 : ℝ) ^ (23 : ℕ)) * (2 : ℝ) ^ ((n : ℤ) - 127 - 23) = (2 : ℝ) ^ ((n : ℤ) - 127) := by
    rw [← zpow_natCast, ← zpow_add₀ (by norm_num : (2 : ℝ) ≠ 0)]
    congr 1
    push_cast
    ring
  have e1 : ¬ n = 2 ^ 8 - 1 := by omega
  have e2 : ¬ n = 0 := by omega
  simp only [Ideal.ieee, Nat.reduceAdd, ha, hb, hc, e1, e2, if_false, Bool.false_eq_true]
  rw [← h3]
  norm_num

theorem ieee_zero (b : BitVec 32) (hb : (b.extractLsb' 23 8).toNat = 0) (hc : (b.extractLsb' 0 23).toNat = 0) : Ideal.ieee 8 23 b = 0 := by
  simp [Ideal.ieee, hb, hc]

theorem T_eq (n : ℕ) (h1 : 1 ≤ n) (h2 : n ≤ 254) : T n = (((2 : ℝ) ^ ((n : ℤ) - 127) : ℝ) : EReal) :=
  ieee_pow _ n (T_fields ⟨n, by omega⟩).1 (T_fields ⟨n, by omega⟩).2.1 (T_fields ⟨n, by omega⟩).2.2 h1 h2

theorem T_zero : T 0 = 0 := by
  have h := T_fields ⟨0, by omega⟩
  exact ieee_zero (BitVec.ofNat 32 0 <<< 23) h.2.1 h.2.2

theorem T_127 : T 127 = 1 := by rw [T_eq 127 (by omega) (by omega)]; norm_num

theorem T_le (a b : ℕ) (h1 : 1 ≤ a) (h2 : a ≤ b) (h3 : b ≤ 254) : T a ≤ T b := by
  rw [T_eq a h1 (by omega), T_eq b (by omega) h3, EReal.coe_le_coe_iff]
  exact zpow_le_zpow_right₀ (by norm_num) (by omega)

/-- One comparison of the search. -/
def up (v : EReal) (s b : ℕ) : ℕ := if T (s + b) ≤ v then s + b else s

def Inv (v : EReal) (s w : ℕ) : Prop := (s = 0 ∨ T s ≤ v) ∧ (s + w = 256 ∨ v < T (s + w)) ∧ s + w ≤ 256

theorem up_inv (v : EReal) (s b : ℕ) (h : Inv v s (b + b)) : Inv v (up v s b) b := by
  obtain ⟨h1, h2, h3⟩ := h
  unfold up
  split_ifs with hc
  · refine ⟨Or.inr hc, ?_, by omega⟩
    rw [add_assoc]; exact h2
  · exact ⟨h1, Or.inr (lt_of_not_ge hc), by omega⟩

/-- The field the search finds. -/
def field4 (v : EReal) : ℕ := up v (up v (up v (up v 0 128) 64) 32) 16
def field (v : EReal) : ℕ := up v (up v (up v (up v (field4 v) 8) 4) 2) 1

theorem inv4 (v : EReal) : Inv v (up v 0 128) 128 ∧ Inv v (up v (up v 0 128) 64) 64 ∧ Inv v (up v (up v (up v 0 128) 64) 32) 32 ∧ Inv v (field4 v) 16 := by
  have a0 : Inv v 0 (128 + 128) := ⟨Or.inl rfl, Or.inl rfl, le_rfl⟩
  have a1 := up_inv v _ 128 a0
  have a2 := up_inv v _ 64 a1
  have a3 := up_inv v _ 32 a2
  exact ⟨a1, a2, a3, up_inv v _ 16 a3⟩

theorem inv8 (v : EReal) : Inv v (up v (field4 v) 8) 8 ∧ Inv v (up v (up v (field4 v) 8) 4) 4 ∧ Inv v (up v (up v (up v (field4 v) 8) 4) 2) 2 ∧ Inv v (field v) 1 := by
  have a1 := up_inv v _ 8 (inv4 v).2.2.2
  have a2 := up_inv v _ 4 a1
  have a3 := up_inv v _ 2 a2
  exact ⟨a1, a2, a3, up_inv v _ 1 a3⟩

/-- The field that counts: 255 from `2 ^ 127` on. -/
def fieldTop (v : EReal) : ℕ := if T 254 ≤ v then 255 else field v
/-- The scale's own field: that of one where the field is 0 or 255, else one more. -/
def scaleField (v : EReal) : ℕ := if fieldTop v = 0 ∨ fieldTop v = 255 then 127 else fieldTop v + 1

theorem field_lt (v : EReal) (h : ¬ T 254 ≤ v) : field v ≤ 253 := by
  obtain ⟨h1, h2, h3⟩ := (inv8 v).2.2.2
  by_contra hc
  have hf : 254 ≤ field v := by omega
  rcases h1 with h1 | h1
  · omega
  rcases Nat.lt_or_ge (field v) 255 with hl | hl
  · have : field v = 254 := by omega
    rw [this] at h1; exact h h1
  · have e : field v = 255 := by omega
    rw [e] at h1
    have ht : T 255 = ⊤ := by
      unfold T; simp [Ideal.ofBits, Ideal.ieee]
    rw [ht] at h1
    exact h (le_trans le_top h1)

/-- What the reference takes: the least of the powers above `v` where `v` is a normal float, else one. -/
def refScale (v : EReal) : EReal :=
  if T 1 ≤ v ∧ v < T 254 then Finset.univ.fold min ⊤ (fun k : Fin 253 => if v < T (k.val + 2) then T (k.val + 2) else ⊤) else 1

theorem scale_eq (v : EReal) : T (scaleField v) = refScale v := by
  unfold refScale scaleField fieldTop
  obtain ⟨h1, h2, h3⟩ := (inv8 v).2.2.2
  by_cases ht : T 254 ≤ v
  · rw [if_pos ht, if_pos (Or.inr rfl), if_neg (fun h => absurd h.2 (not_lt.2 ht)), T_127]
  rw [if_neg ht]
  have hf := field_lt v ht
  by_cases h0 : field v = 0
  · have hv : v < T 1 := by
      rcases h2 with h2 | h2
      · omega
      · rw [h0] at h2; exact h2
    rw [if_pos (Or.inl h0), if_neg (fun h => absurd h.1 (not_le.2 hv)), T_127]
  · have hv : T (field v) ≤ v := h1.resolve_left h0
    have hu : v < T (field v + 1) := h2.resolve_left (by omega)
    rw [if_neg (by omega), if_pos ⟨le_trans (T_le 1 _ le_rfl (by omega) (by omega)) hv, lt_of_not_ge ht⟩]
    apply le_antisymm
    · rw [Finset.le_fold_min]
      refine ⟨le_top, fun k _ => ?_⟩
      split_ifs with hk
      · by_contra hc
        have hlt : k.val + 2 ≤ field v := by
          by_contra hcc
          exact hc (T_le _ _ (by omega) (by omega) (by omega))
        exact absurd (lt_of_lt_of_le hk (T_le _ _ (by omega) hlt (by omega))) (not_lt.2 hv)
      · exact le_top
    · rw [Finset.fold_min_le]
      refine Or.inr ⟨⟨field v - 1, by omega⟩, Finset.mem_univ _, ?_⟩
      have e : field v - 1 + 2 = field v + 1 := by omega
      dsimp only
      rw [e, if_pos hu]

/-- The reciprocal's field. -/
theorem inv_eq (v : EReal) (hv : v < T 253) : 1 ≤ scaleField v ∧ scaleField v ≤ 253 := by
  unfold scaleField fieldTop
  have h254 : ¬ T 254 ≤ v := not_le.2 (lt_of_lt_of_le hv (T_le _ _ (by omega) (by omega) (by omega)))
  rw [if_neg h254]
  have hf := field_lt v h254
  obtain ⟨h1, h2, h3⟩ := (inv8 v).2.2.2
  split_ifs with hc
  · omega
  · refine ⟨by omega, ?_⟩
    by_contra hcc
    have e : field v = 253 := by omega
    rcases h1 with h1 | h1
    · omega
    · rw [e] at h1; exact absurd h1 (not_le.2 hv)

/-- Multiplying by the reciprocal power is dividing by the power. -/
theorem mul_T (x : EReal) (n : ℕ) (h1 : 1 ≤ n) (h2 : n ≤ 253) : x * T (254 - n) = Ideal.div x (T n) := by
  rw [T_eq n h1 (by omega), T_eq (254 - n) (by omega) (by omega)]
  unfold Ideal.div
  have hp : (0 : ℝ) < (2 : ℝ) ^ ((n : ℤ) - 127) := by positivity
  rw [if_neg (by exact_mod_cast hp.ne')]
  congr 1
  rw [← EReal.coe_inv]
  congr 1
  rw [← zpow_neg]
  congr 1
  omega

end Cert.Proof.Val
end
-- ==== Proof.ValA.lean ====
module

public import proofs.«01_k».proof.Proof.BodyI
public import proofs.«01_k».proof.Proof.Field
public import proofs.«01_k».proof.Proof.Gen.ReferenceIdeal.Skeleton
public import Idealize.ShloMosaic.Lib.Pipeline.ValueKit
public import Idealize.ShloMosaic.Lib.Pointwise

@[expose] public section

set_option maxRecDepth 16384

noncomputable section

namespace Cert.Proof.Val

open Cert.KernelIdeal Cert.KernelIdeal.Gen Cert.Proof.KernI
open Idealize.ShloMosaic
open Idealize.ShloMosaic.TcCoe

/-- One comparison of the search, as the kernel writes it. -/
def vstep (v : FVec Ideal S64x1 .f32) (f : IVec S64x1 32) (b : BitVec 32) : IVec S64x1 32 :=
  select (cmpf .oge v (bitcastToFloat .f32 (shli (addi f (broadcast S64x1 b)) (broadcast S64x1 23#32)))) (addi f (broadcast S64x1 b)) f

theorem shl_nat (s : ℕ) : Ideal.ofBits .f32 (IntOp.shli ArithUnit.vector (BitVec.ofNat 32 s) 23#32) = T s := rfl

theorem addi_nat (s b : ℕ) : IntOp.addi (BitVec.ofNat 32 s) (BitVec.ofNat 32 b) = BitVec.ofNat 32 (s + b) := (BitVec.ofNat_add s b).symm

theorem vstep_at (v : FVec Ideal S64x1 .f32) (f : IVec S64x1 32) (b s : ℕ) (i : S64x1.Idx) (hf : f i = BitVec.ofNat 32 s) :
    vstep v f (BitVec.ofNat 32 b) i = BitVec.ofNat 32 (up (v i) s b) := by
  pointwise [vstep]
  rw [hf, addi_nat, shl_nat]
  unfold up
  split_ifs <;> rfl

theorem pay65_eq (a : FVec Ideal S64x128 .f32) (x y z : Vec Ideal S64x128 .bf16) :
    k0_pay65 (F := Ideal) a x y z = vstep (k0_pay64 (F := Ideal) a x y z) (vstep (k0_pay64 (F := Ideal) a x y z) (vstep (k0_pay64 (F := Ideal) a x y z) (vstep (k0_pay64 (F := Ideal) a x y z) (broadcast S64x1 0#32) 128#32) 64#32) 32#32) 16#32 := rfl

theorem pay65_at (a : FVec Ideal S64x128 .f32) (x y z : Vec Ideal S64x128 .bf16) (i : S64x1.Idx) :
    k0_pay65 (F := Ideal) a x y z i = BitVec.ofNat 32 (field4 (k0_pay64 (F := Ideal) a x y z i)) := by
  rw [pay65_eq]
  generalize k0_pay64 (F := Ideal) a x y z = v
  exact vstep_at v _ 16 _ i (vstep_at v _ 32 _ i (vstep_at v _ 64 _ i (vstep_at v _ 128 0 i rfl)))

/-- After the last comparison: 255 from `2 ^ 127` on, then the unbiased exponent plus one, 0 where the field is 0 or 255. -/
def vlast (v : FVec Ideal S64x1 .f32) (f : IVec S64x1 32) : IVec S64x1 32 :=
  select (ori (cmpi .eq (select (cmpf .oge v (broadcast S64x1 (Scalar.ofBits .f32 0x7F000000#32))) (broadcast S64x1 255#32) f) (broadcast S64x1 0#32))
    (cmpi .eq (select (cmpf .oge v (broadcast S64x1 (Scalar.ofBits .f32 0x7F000000#32))) (broadcast S64x1 255#32) f) (broadcast S64x1 255#32)))
    (broadcast S64x1 0#32) (subi (select (cmpf .oge v (broadcast S64x1 (Scalar.ofBits .f32 0x7F000000#32))) (broadcast S64x1 255#32) f) (broadcast S64x1 126#32))

theorem pay66_eq (v : FVec Ideal S64x1 .f32) (f : IVec S64x1 32) :
    k0_pay66 (F := Ideal) v f = vlast v (vstep v (vstep v (vstep v (vstep v f 8#32) 4#32) 2#32) 1#32) := rfl

theorem T_254 : Ideal.ofBits .f32 2130706432#32 = T 254 := rfl

theorem top_word (s : ℕ) (h : s ≤ 255) :
    IntOp.addi (Scalar.select (IntOp.ori (IntOp.cmpi CmpIPredicate.eq (BitVec.ofNat 32 s) 0#32) (IntOp.cmpi CmpIPredicate.eq (BitVec.ofNat 32 s) 255#32))
      (0#32) (IntOp.subi (BitVec.ofNat 32 s) 126#32)) 127#32 = BitVec.ofNat 32 (if s = 0 ∨ s = 255 then 127 else s + 1) := by
  have key : ∀ k : Fin 256, IntOp.addi (Scalar.select (IntOp.ori (IntOp.cmpi CmpIPredicate.eq (BitVec.ofNat 32 k.val) 0#32) (IntOp.cmpi CmpIPredicate.eq (BitVec.ofNat 32 k.val) 255#32))
      (0#32) (IntOp.subi (BitVec.ofNat 32 k.val) 126#32)) 127#32 = BitVec.ofNat 32 (if k.val = 0 ∨ k.val = 255 then 127 else k.val + 1) := by decide +kernel
  exact key ⟨s, by omega⟩

/-- The exponent word, biased: the scale's field. -/
theorem pay66_at (v : FVec Ideal S64x1 .f32) (f : IVec S64x1 32) (i : S64x1.Idx) (hf : f i = BitVec.ofNat 32 (field4 (v i))) :
    IntOp.addi (k0_pay66 (F := Ideal) v f i) 127#32 = BitVec.ofNat 32 (scaleField (v i)) := by
  rw [pay66_eq]
  have hg := vstep_at v _ 1 _ i (vstep_at v _ 2 _ i (vstep_at v _ 4 _ i (vstep_at v f 8 _ i hf)))
  generalize vstep v (vstep v (vstep v (vstep v f 8#32) 4#32) 2#32) 1#32 = g at hg
  have hg' : g i = BitVec.ofNat 32 (field (v i)) := hg
  pointwise [vlast]
  rw [hg', T_254]
  have e : (if T 254 ≤ v i then 255#32 else BitVec.ofNat 32 (field (v i))) = BitVec.ofNat 32 (fieldTop (v i)) := by
    unfold fieldTop; split_ifs <;> rfl
  rw [e]
  refine top_word _ ?_
  unfold fieldTop
  split_ifs with h
  · exact le_rfl
  · exact le_trans (field_lt _ h) (by omega)

theorem pay146_at (v : FVec Ideal S64x1 .f32) (f : IVec S64x1 32) (i : S64x1.Idx) (hf : f i = BitVec.ofNat 32 (field4 (v i))) :
    k0_pay146 (F := Ideal) (k0_pay66 (F := Ideal) v f) i = T (scaleField (v i)) := by
  have h := pay66_at v f i hf
  generalize k0_pay66 (F := Ideal) v f = e at h
  pointwise [k0_pay146]
  rw [h]; rfl

theorem neg_word (e : BitVec 32) (n : ℕ) (hn : n ≤ 254) (h : IntOp.addi e 127#32 = BitVec.ofNat 32 n) :
    IntOp.addi (IntOp.subi (0#32) e) 127#32 = BitVec.ofNat 32 (254 - n) := by
  have e1 : e = BitVec.ofNat 32 n - 127#32 := by
    rw [← h]; unfold IntOp.addi; rw [BitVec.add_sub_cancel]
  rw [e1]
  have key : ∀ k : Fin 255, IntOp.addi (IntOp.subi (0#32) (BitVec.ofNat 32 k.val - 127#32)) 127#32 = BitVec.ofNat 32 (254 - k.val) := by decide +kernel
  exact key ⟨n, by omega⟩

theorem pay69_at (v : FVec Ideal S64x1 .f32) (f : IVec S64x1 32) (j : S64x128.Idx) (hf : f (ix2 (j 0) 0) = BitVec.ofNat 32 (field4 (v (ix2 (j 0) 0)))) (hv : v (ix2 (j 0) 0) < T 253) :
    k0_pay69 (F := Ideal) (k0_pay67 (F := Ideal) v f) k0_pay68 j = T (254 - scaleField (v (ix2 (j 0) 0))) := by
  have h := pay66_at v f (ix2 (j 0) 0) hf
  pointwise [k0_pay69, k0_pay67, k0_pay68]
  rw [neg_word _ _ (by have := (inv_eq _ hv).2; omega) h]; rfl

/-! ## The row's largest absolute value -/

/-- One lane block folded into the running maximum. -/
def mx (a : FVec Ideal S64x128 .f32) (x : Vec Ideal S64x128 .bf16) : FVec Ideal S64x128 .f32 := maximumf a (absf (extf .f32 x bitsLt_bf16_f32))

/-- The 128 lanes from column `n` on. -/
def lane (w : S64x8192.Idx → Elt Ideal .bf16) (n : ℕ) : Vec Ideal S64x128 .bf16 :=
  fun x => if h : n + (x 1).val < 8192 then w (ix2 (x 0) ⟨n + (x 1).val, h⟩) else (0 : EReal)

def chainV (w : S64x8192.Idx → Elt Ideal .bf16) : ℕ → FVec Ideal S64x128 .f32
  | 0 => broadcast S64x128 (Scalar.ofBits .f32 0x00000000#32)
  | n + 1 => mx (chainV w n) (lane w (128 * n))

theorem rd (w : S64x8192.Idx → Elt Ideal .bf16) (n : ℕ) (inb) :
    xRawM.view.readCov (Val := Elt Ideal) [⟨Rect.whole S64x8192, w⟩] (Rect.unit (s := S64x8192) ![0,n] S64x128.size inb).toLoadRect = lane w n := by
  rw [View.readCov_eq_canon']
  funext x
  have e : View.canon (Val := Elt Ideal) [⟨Rect.whole S64x8192, w⟩] = w := by
    funext y
    have h := View.canon_cons_emb (Val := Elt Ideal) (Rect.whole S64x8192) w [] y
    rw [Rect.emb_whole_apply] at h
    exact h
  rw [e]
  have h1 := inb 1
  have h2 := (x 1).isLt
  have h3 : n + (x 1).val < 8192 := by
    have h4 : n + 128 ≤ 8192 := h1
    have h5 : (x 1).val < 128 := h2
    omega
  unfold lane
  rw [dif_pos h3]
  congr 1
  funext a
  apply Fin.ext
  have q : ∀ a : Fin 2, ((Rect.unit (s := S64x8192) ![0, n] S64x128.size inb).idx x a).val = (ix2 (n0 := 64) (n1 := 8192) (x 0) ⟨n + (x 1).val, h3⟩ a).val := by
    refine Fin.forall_fin_two.2 ⟨?_, ?_⟩
    · show 0 + 1 * (x 0).val = (x 0).val
      omega
    · show n + 1 * (x 1).val = n + (x 1).val
      omega
  exact q a

theorem abs_nonneg' (x : EReal) : 0 ≤ max x (-x) := by
  rcases le_total 0 x with h | h
  · exact le_max_of_le_left h
  · exact le_max_of_le_right (EReal.neg_nonneg.2 h)

theorem chain_le (w : S64x8192.Idx → Elt Ideal .bf16) (r : Fin 64) (l : Fin 128) (c : EReal) : ∀ n : ℕ,
    (chainV w n (ix2 r l) : EReal) ≤ c ↔ 0 ≤ c ∧ ∀ j < n, max (lane w (128 * j) (ix2 r l) : EReal) (-(lane w (128 * j) (ix2 r l) : EReal)) ≤ c
  | 0 => by
    have e : (chainV w 0 (ix2 r l) : EReal) = 0 := by
      show Ideal.ofBits .f32 0#32 = 0
      exact T_zero
    rw [e]; simp
  | n + 1 => by
    have e : (chainV w (n + 1) (ix2 r l) : EReal) = max (chainV w n (ix2 r l) : EReal) (max (lane w (128 * n) (ix2 r l) : EReal) (-(lane w (128 * n) (ix2 r l) : EReal))) := rfl
    rw [e, max_le_iff, chain_le w r l c n, and_assoc]
    refine and_congr_right fun _ => ⟨fun h j hj => ?_, fun h => ⟨fun j hj => h j (by omega), h n (by omega)⟩⟩
    rcases Nat.lt_succ_iff_lt_or_eq.1 hj with hj | rfl
    · exact h.1 j hj
    · exact h.2

/-- The row's largest absolute value times the constant. -/
def vOf (w : S64x8192.Idx → Elt Ideal .bf16) (r : Fin 64) : EReal :=
  Finset.univ.fold max (Ideal.ofBits .f32 4286578688#32) (fun k : Fin 8192 => max (w (ix2 r k) : EReal) (-(w (ix2 r k) : EReal))) * Ideal.ofBits .f32 991054117#32

theorem fold_eq (w : S64x8192.Idx → Elt Ideal .bf16) (r : Fin 64) (b : EReal) :
    Finset.univ.fold max b (fun l : Fin 128 => (chainV w 64 (ix2 r l) : EReal)) = Finset.univ.fold max b (fun k : Fin 8192 => max (w (ix2 r k) : EReal) (-(w (ix2 r k) : EReal))) := by
  refine eq_of_forall_ge_iff fun c => ?_
  rw [Finset.fold_max_le, Finset.fold_max_le]
  refine and_congr_right fun _ => ⟨fun h k _ => ?_, fun h l _ => (chain_le w r l c 64).2 ⟨le_trans (abs_nonneg' _) (h 0 (Finset.mem_univ _)), fun j hj => ?_⟩⟩
  · have hk := ((chain_le w r ⟨k.val % 128, by omega⟩ c 64).1 (h _ (Finset.mem_univ _))).2 (k.val / 128) (by omega)
    have e : lane w (128 * (k.val / 128)) (ix2 r ⟨k.val % 128, by omega⟩) = w (ix2 r k) := by
      have h3 : 128 * (k.val / 128) + k.val % 128 < 8192 := by omega
      show (if h : 128 * (k.val / 128) + k.val % 128 < 8192 then w (ix2 r ⟨128 * (k.val / 128) + k.val % 128, h⟩) else (0 : EReal)) = _
      rw [dif_pos h3]
      congr 2
      apply Fin.ext
      show 128 * (k.val / 128) + k.val % 128 = k.val
      omega
    rw [e] at hk; exact hk
  · have h3 : 128 * j + l.val < 8192 := by omega
    have e : lane w (128 * j) (ix2 r l) = w (ix2 r ⟨128 * j + l.val, h3⟩) := by
      show (if h : 128 * j + l.val < 8192 then w (ix2 r ⟨128 * j + l.val, h⟩) else (0 : EReal)) = _
      rw [dif_pos h3]
    rw [e]; exact h _ (Finset.mem_univ _)

theorem pay64_at (w : S64x8192.Idx → Elt Ideal .bf16) (i : S64x1.Idx) :
    k0_pay64 (F := Ideal) (chainV w 61) (lane w 7808) (lane w 7936) (lane w 8064) i = vOf w (i 0) := by
  pointwise [k0_pay64]
  exact congrArg (· * Ideal.ofBits .f32 991054117#32) (fold_eq w (i 0) (Ideal.ofBits .f32 4286578688#32))

/-- The code at an index: the entry times the reciprocal of its row's scale, clipped. -/
def codeAt (w : S64x8192.Idx → Elt Ideal .bf16) (y : S64x8192.Idx) : EReal :=
  min (Ideal.ofBits .f32 1138753536#32) (max (Ideal.ofBits .f32 3286237184#32) ((w y : EReal) * T (254 - scaleField (vOf w (y 0)))))

end Cert.Proof.Val
end
-- ==== Proof.ValB.lean ====
module

public import proofs.«01_k».proof.Proof.BodyI
public import proofs.«01_k».proof.Proof.ValA
public import proofs.«01_k».proof.Proof.Gen.ReferenceIdeal.Skeleton
public import Idealize.ShloMosaic.Lib.Pipeline.ValueKit
public import Idealize.ShloMosaic.Lib.Pointwise

@[expose] public section

set_option maxRecDepth 16384

noncomputable section

namespace Cert.Proof.Val

open Cert.KernelIdeal Cert.KernelIdeal.Gen Cert.Proof.KernI
open Idealize.ShloMosaic
open Idealize.ShloMosaic.TcCoe

section Kern
variable (c : Dev nD) (IX : Buf (Elt Ideal) (View.loc (c : Thread nD τ) xInM.view))

theorem v124_eq : bodyRun.sl.v124 (F := Ideal) c IX = lane (bodyRun.sl.dma0 (F := Ideal) c IX) 0 := rd _ _ _
theorem v128_eq : bodyRun.sl.v128 (F := Ideal) c IX = lane (bodyRun.sl.dma0 (F := Ideal) c IX) 128 := rd _ _ _
theorem v132_eq : bodyRun.sl.v132 (F := Ideal) c IX = lane (bodyRun.sl.dma0 (F := Ideal) c IX) 256 := rd _ _ _
theorem v136_eq : bodyRun.sl.v136 (F := Ideal) c IX = lane (bodyRun.sl.dma0 (F := Ideal) c IX) 384 := rd _ _ _
theorem v140_eq : bodyRun.sl.v140 (F := Ideal) c IX = lane (bodyRun.sl.dma0 (F := Ideal) c IX) 512 := rd _ _ _
theorem v144_eq : bodyRun.sl.v144 (F := Ideal) c IX = lane (bodyRun.sl.dma0 (F := Ideal) c IX) 640 := rd _ _ _
theorem v148_eq : bodyRun.sl.v148 (F := Ideal) c IX = lane (bodyRun.sl.dma0 (F := Ideal) c IX) 768 := rd _ _ _
theorem v152_eq : bodyRun.sl.v152 (F := Ideal) c IX = lane (bodyRun.sl.dma0 (F := Ideal) c IX) 896 := rd _ _ _
theorem v156_eq : bodyRun.sl.v156 (F := Ideal) c IX = lane (bodyRun.sl.dma0 (F := Ideal) c IX) 1024 := rd _ _ _
theorem v160_eq : bodyRun.sl.v160 (F := Ideal) c IX = lane (bodyRun.sl.dma0 (F := Ideal) c IX) 1152 := rd _ _ _
theorem v164_eq : bodyRun.sl.v164 (F := Ideal) c IX = lane (bodyRun.sl.dma0 (F := Ideal) c IX) 1280 := rd _ _ _
theorem v168_eq : bodyRun.sl.v168 (F := Ideal) c IX = lane (bodyRun.sl.dma0 (F := Ideal) c IX) 1408 := rd _ _ _
theorem v172_eq : bodyRun.sl.v172 (F := Ideal) c IX = lane (bodyRun.sl.dma0 (F := Ideal) c IX) 1536 := rd _ _ _
theorem v176_eq : bodyRun.sl.v176 (F := Ideal) c IX = lane (bodyRun.sl.dma0 (F := Ideal) c IX) 1664 := rd _ _ _
theorem v180_eq : bodyRun.sl.v180 (F := Ideal) c IX = lane (bodyRun.sl.dma0 (F := Ideal) c IX) 1792 := rd _ _ _
theorem v184_eq : bodyRun.sl.v184 (F := Ideal) c IX = lane (bodyRun.sl.dma0 (F := Ideal) c IX) 1920 := rd _ _ _
theorem v188_eq : bodyRun.sl.v188 (F := Ideal) c IX = lane (bodyRun.sl.dma0 (F := Ideal) c IX) 2048 := rd _ _ _
theorem v192_eq : bodyRun.sl.v192 (F := Ideal) c IX = lane (bodyRun.sl.dma0 (F := Ideal) c IX) 2176 := rd _ _ _
theorem v196_eq : bodyRun.sl.v196 (F := Ideal) c IX = lane (bodyRun.sl.dma0 (F := Ideal) c IX) 2304 := rd _ _ _
theorem v200_eq : bodyRun.sl.v200 (F := Ideal) c IX = lane (bodyRun.sl.dma0 (F := Ideal) c IX) 2432 := rd _ _ _
theorem v204_eq : bodyRun.sl.v204 (F := Ideal) c IX = lane (bodyRun.sl.dma0 (F := Ideal) c IX) 2560 := rd _ _ _
theorem v208_eq : bodyRun.sl.v208 (F := Ideal) c IX = lane (bodyRun.sl.dma0 (F := Ideal) c IX) 2688 := rd _ _ _
theorem v212_eq : bodyRun.sl.v212 (F := Ideal) c IX = lane (bodyRun.sl.dma0 (F := Ideal) c IX) 2816 := rd _ _ _
theorem v216_eq : bodyRun.sl.v216 (F := Ideal) c IX = lane (bodyRun.sl.dma0 (F := Ideal) c IX) 2944 := rd _ _ _
theorem v220_eq : bodyRun.sl.v220 (F := Ideal) c IX = lane (bodyRun.sl.dma0 (F := Ideal) c IX) 3072 := rd _ _ _
theorem v224_eq : bodyRun.sl.v224 (F := Ideal) c IX = lane (bodyRun.sl.dma0 (F := Ideal) c IX) 3200 := rd _ _ _
theorem v228_eq : bodyRun.sl.v228 (F := Ideal) c IX = lane (bodyRun.sl.dma0 (F := Ideal) c IX) 3328 := rd _ _ _
theorem v232_eq : bodyRun.sl.v232 (F := Ideal) c IX = lane (bodyRun.sl.dma0 (F := Ideal) c IX) 3456 := rd _ _ _
theorem v236_eq : bodyRun.sl.v236 (F := Ideal) c IX = lane (bodyRun.sl.dma0 (F := Ideal) c IX) 3584 := rd _ _ _
theorem v240_eq : bodyRun.sl.v240 (F := Ideal) c IX = lane (bodyRun.sl.dma0 (F := Ideal) c IX) 3712 := rd _ _ _
theorem v244_eq : bodyRun.sl.v244 (F := Ideal) c IX = lane (bodyRun.sl.dma0 (F := Ideal) c IX) 3840 := rd _ _ _
theorem v248_eq : bodyRun.sl.v248 (F := Ideal) c IX = lane (bodyRun.sl.dma0 (F := Ideal) c IX) 3968 := rd _ _ _
theorem v252_eq : bodyRun.sl.v252 (F := Ideal) c IX = lane (bodyRun.sl.dma0 (F := Ideal) c IX) 4096 := rd _ _ _
theorem v256_eq : bodyRun.sl.v256 (F := Ideal) c IX = lane (bodyRun.sl.dma0 (F := Ideal) c IX) 4224 := rd _ _ _
theorem v260_eq : bodyRun.sl.v260 (F := Ideal) c IX = lane (bodyRun.sl.dma0 (F := Ideal) c IX) 4352 := rd _ _ _
theorem v264_eq : bodyRun.sl.v264 (F := Ideal) c IX = lane (bodyRun.sl.dma0 (F := Ideal) c IX) 4480 := rd _ _ _
theorem v268_eq : bodyRun.sl.v268 (F := Ideal) c IX = lane (bodyRun.sl.dma0 (F := Ideal) c IX) 4608 := rd _ _ _
theorem v272_eq : bodyRun.sl.v272 (F := Ideal) c IX = lane (bodyRun.sl.dma0 (F := Ideal) c IX) 4736 := rd _ _ _
theorem v276_eq : bodyRun.sl.v276 (F := Ideal) c IX = lane (bodyRun.sl.dma0 (F := Ideal) c IX) 4864 := rd _ _ _
theorem v280_eq : bodyRun.sl.v280 (F := Ideal) c IX = lane (bodyRun.sl.dma0 (F := Ideal) c IX) 4992 := rd _ _ _
theorem v284_eq : bodyRun.sl.v284 (F := Ideal) c IX = lane (bodyRun.sl.dma0 (F := Ideal) c IX) 5120 := rd _ _ _
theorem v288_eq : bodyRun.sl.v288 (F := Ideal) c IX = lane (bodyRun.sl.dma0 (F := Ideal) c IX) 5248 := rd _ _ _
theorem v292_eq : bodyRun.sl.v292 (F := Ideal) c IX = lane (bodyRun.sl.dma0 (F := Ideal) c IX) 5376 := rd _ _ _
theorem v296_eq : bodyRun.sl.v296 (F := Ideal) c IX = lane (bodyRun.sl.dma0 (F := Ideal) c IX) 5504 := rd _ _ _
theorem v300_eq : bodyRun.sl.v300 (F := Ideal) c IX = lane (bodyRun.sl.dma0 (F := Ideal) c IX) 5632 := rd _ _ _
theorem v304_eq : bodyRun.sl.v304 (F := Ideal) c IX = lane (bodyRun.sl.dma0 (F := Ideal) c IX) 5760 := rd _ _ _
theorem v308_eq : bodyRun.sl.v308 (F := Ideal) c IX = lane (bodyRun.sl.dma0 (F := Ideal) c IX) 5888 := rd _ _ _
theorem v312_eq : bodyRun.sl.v312 (F := Ideal) c IX = lane (bodyRun.sl.dma0 (F := Ideal) c IX) 6016 := rd _ _ _
theorem v316_eq : bodyRun.sl.v316 (F := Ideal) c IX = lane (bodyRun.sl.dma0 (F := Ideal) c IX) 6144 := rd _ _ _
theorem v320_eq : bodyRun.sl.v320 (F := Ideal) c IX = lane (bodyRun.sl.dma0 (F := Ideal) c IX) 6272 := rd _ _ _
theorem v324_eq : bodyRun.sl.v324 (F := Ideal) c IX = lane (bodyRun.sl.dma0 (F := Ideal) c IX) 6400 := rd _ _ _
theorem v328_eq : bodyRun.sl.v328 (F := Ideal) c IX = lane (bodyRun.sl.dma0 (F := Ideal) c IX) 6528 := rd _ _ _
theorem v332_eq : bodyRun.sl.v332 (F := Ideal) c IX = lane (bodyRun.sl.dma0 (F := Ideal) c IX) 6656 := rd _ _ _
theorem v336_eq : bodyRun.sl.v336 (F := Ideal) c IX = lane (bodyRun.sl.dma0 (F := Ideal) c IX) 6784 := rd _ _ _
theorem v340_eq : bodyRun.sl.v340 (F := Ideal) c IX = lane (bodyRun.sl.dma0 (F := Ideal) c IX) 6912 := rd _ _ _
theorem v344_eq : bodyRun.sl.v344 (F := Ideal) c IX = lane (bodyRun.sl.dma0 (F := Ideal) c IX) 7040 := rd _ _ _
theorem v348_eq : bodyRun.sl.v348 (F := Ideal) c IX = lane (bodyRun.sl.dma0 (F := Ideal) c IX) 7168 := rd _ _ _
theorem v352_eq : bodyRun.sl.v352 (F := Ideal) c IX = lane (bodyRun.sl.dma0 (F := Ideal) c IX) 7296 := rd _ _ _
theorem v356_eq : bodyRun.sl.v356 (F := Ideal) c IX = lane (bodyRun.sl.dma0 (F := Ideal) c IX) 7424 := rd _ _ _
theorem v360_eq : bodyRun.sl.v360 (F := Ideal) c IX = lane (bodyRun.sl.dma0 (F := Ideal) c IX) 7552 := rd _ _ _
theorem v364_eq : bodyRun.sl.v364 (F := Ideal) c IX = lane (bodyRun.sl.dma0 (F := Ideal) c IX) 7680 := rd _ _ _
theorem v368_eq : bodyRun.sl.v368 (F := Ideal) c IX = lane (bodyRun.sl.dma0 (F := Ideal) c IX) 7808 := rd _ _ _
theorem v372_eq : bodyRun.sl.v372 (F := Ideal) c IX = lane (bodyRun.sl.dma0 (F := Ideal) c IX) 7936 := rd _ _ _
theorem v376_eq : bodyRun.sl.v376 (F := Ideal) c IX = lane (bodyRun.sl.dma0 (F := Ideal) c IX) 8064 := rd _ _ _

theorem r1_eq : bodyRun.sl.r_1 (F := Ideal) c IX = chainV (bodyRun.sl.dma0 (F := Ideal) c IX) 1 := by
  rw [bodyRun.sl.r_1, v124_eq]; rfl
theorem r2_eq : bodyRun.sl.r_2 (F := Ideal) c IX = chainV (bodyRun.sl.dma0 (F := Ideal) c IX) 11 := by
  rw [bodyRun.sl.r_2, r1_eq, v128_eq, v132_eq, v136_eq, v140_eq, v144_eq, v148_eq, v152_eq, v156_eq, v160_eq, v164_eq]; rfl
theorem r3_eq : bodyRun.sl.r_3 (F := Ideal) c IX = chainV (bodyRun.sl.dma0 (F := Ideal) c IX) 21 := by
  rw [bodyRun.sl.r_3, r2_eq, v168_eq, v172_eq, v176_eq, v180_eq, v184_eq, v188_eq, v192_eq, v196_eq, v200_eq, v204_eq]; rfl
theorem r4_eq : bodyRun.sl.r_4 (F := Ideal) c IX = chainV (bodyRun.sl.dma0 (F := Ideal) c IX) 31 := by
  rw [bodyRun.sl.r_4, r3_eq, v208_eq, v212_eq, v216_eq, v220_eq, v224_eq, v228_eq, v232_eq, v236_eq, v240_eq, v244_eq]; rfl
theorem r5_eq : bodyRun.sl.r_5 (F := Ideal) c IX = chainV (bodyRun.sl.dma0 (F := Ideal) c IX) 41 := by
  rw [bodyRun.sl.r_5, r4_eq, v248_eq, v252_eq, v256_eq, v260_eq, v264_eq, v268_eq, v272_eq, v276_eq, v280_eq, v284_eq]; rfl
theorem r6_eq : bodyRun.sl.r_6 (F := Ideal) c IX = chainV (bodyRun.sl.dma0 (F := Ideal) c IX) 51 := by
  rw [bodyRun.sl.r_6, r5_eq, v288_eq, v292_eq, v296_eq, v300_eq, v304_eq, v308_eq, v312_eq, v316_eq, v320_eq, v324_eq]; rfl
theorem r7_eq : bodyRun.sl.r_7 (F := Ideal) c IX = chainV (bodyRun.sl.dma0 (F := Ideal) c IX) 61 := by
  rw [bodyRun.sl.r_7, r6_eq, v328_eq, v332_eq, v336_eq, v340_eq, v344_eq, v348_eq, v352_eq, v356_eq, v360_eq, v364_eq]; rfl

theorem r8_eq : bodyRun.sl.r_8 (F := Ideal) c IX = k0_pay64 (F := Ideal) (chainV (bodyRun.sl.dma0 c IX) 61) (lane (bodyRun.sl.dma0 c IX) 7808) (lane (bodyRun.sl.dma0 c IX) 7936) (lane (bodyRun.sl.dma0 c IX) 8064) := by
  rw [bodyRun.sl.r_8, r7_eq, v368_eq, v372_eq, v376_eq]

theorem r8_at (i : S64x1.Idx) : bodyRun.sl.r_8 (F := Ideal) c IX i = vOf (bodyRun.sl.dma0 c IX) (i 0) := by rw [r8_eq, pay64_at]

theorem r9_at (i : S64x1.Idx) : bodyRun.sl.r_9 (F := Ideal) c IX i = BitVec.ofNat 32 (field4 (bodyRun.sl.r_8 (F := Ideal) c IX i)) := pay65_at _ _ _ _ i

/-- The scales the kernel leaves. -/
theorem xs_at (i : S64x1.Idx) : k0_pay146 (F := Ideal) (bodyRun.sl.r_10 c IX) i = refScale (vOf (bodyRun.sl.dma0 c IX) (i 0)) := by
  rw [← r8_at, ← scale_eq]
  exact pay146_at _ _ i (r9_at c IX i)

theorem r12_at (j : S64x128.Idx) (hv : vOf (bodyRun.sl.dma0 c IX) (j 0) < T 253) :
    bodyRun.sl.r_12 (F := Ideal) c IX j = T (254 - scaleField (vOf (bodyRun.sl.dma0 c IX) (j 0))) := by
  have e := r8_at c IX (ix2 (j 0) 0)
  have h := pay69_at _ _ j (r9_at c IX (ix2 (j 0) 0)) (by rw [e]; exact hv)
  rw [e] at h
  exact h

end Kern

end Cert.Proof.Val
end
-- ==== Proof.ValC.lean ====
module

public import proofs.«01_k».proof.Proof.BodyI
public import proofs.«01_k».proof.Proof.ValB
public import proofs.«01_k».proof.Proof.Gen.ReferenceIdeal.Skeleton
public import Idealize.ShloMosaic.Lib.Pipeline.ValueKit
public import Idealize.ShloMosaic.Lib.Pointwise

@[expose] public section

set_option maxRecDepth 16384

noncomputable section

namespace Cert.Proof.Val

open Cert.KernelIdeal Cert.KernelIdeal.Gen Cert.Proof.KernI
open Idealize.ShloMosaic
open Idealize.ShloMosaic.TcCoe

/-- One block of codes: the lanes times the reciprocal, clipped, narrowed. -/
def clipv (inv : FVec Ideal S64x128 .f32) (x : Vec Ideal S64x128 .bf16) : FVec Ideal S64x128 .fp8e4m3 :=
  shapeCast S64x128 (truncf .fp8e4m3 (minimumf (broadcast S64x128 (Scalar.ofBits .f32 0x43E00000#32)) (maximumf (broadcast S64x128 (Scalar.ofBits .f32 0xC3E00000#32))
    (mulf (extf .f32 x bitsLt_bf16_f32) inv))) bitsLt_fp8e4m3_f32) shapeCasts_S64x128_S64x128

theorem clipv_at (inv : FVec Ideal S64x128 .f32) (x : Vec Ideal S64x128 .bf16) (i : S64x128.Idx) :
    (clipv inv x i : EReal) = min (Ideal.ofBits .f32 1138753536#32) (max (Ideal.ofBits .f32 3286237184#32) ((x i : EReal) * (inv i : EReal))) := by
  pointwise [clipv]

section Kern
variable (c : Dev nD) (IX : Buf (Elt Ideal) (View.loc (c : Thread nD τ) xInM.view))

theorem piece_at (hv : ∀ r, vOf (bodyRun.sl.dma0 (F := Ideal) c IX) r < T 253) (n : ℕ) (inb) (p : S64x128.Idx → Elt Ideal .fp8e4m3)
    (hp : p = clipv (bodyRun.sl.r_12 (F := Ideal) c IX) (lane (bodyRun.sl.dma0 (F := Ideal) c IX) n)) :
    ∀ x, p x = codeAt (bodyRun.sl.dma0 (F := Ideal) c IX) ((Rect.unit (s := S64x8192) ![0, n] S64x128.size inb).emb x) := by
  intro x
  have h3 : n + (x 1).val < 8192 := by
    have h4 : n + 128 ≤ 8192 := inb 1
    have h5 : (x 1).val < 128 := (x 1).isLt
    omega
  have e : (Rect.unit (s := S64x8192) ![0, n] S64x128.size inb).emb x = ix2 (n0 := 64) (n1 := 8192) (x 0) ⟨n + (x 1).val, h3⟩ := by
    refine Shape.idx_ext₂ ?_ ?_
    · show 0 + 1 * (x 0).val = (x 0).val
      omega
    · show n + 1 * (x 1).val = n + (x 1).val
      omega
  rw [e, hp]
  refine (clipv_at _ _ x).trans ?_
  rw [r12_at c IX x (hv _)]
  unfold codeAt lane
  rw [dif_pos h3]
  rfl

/-- The codes the kernel leaves. -/
theorem codes_at (hv : ∀ r, vOf (bodyRun.sl.dma0 (F := Ideal) c IX) r < T 253) :
    View.canon (bodyRun.sl.HC_64 (F := Ideal) c IX) = codeAt (bodyRun.sl.dma0 (F := Ideal) c IX) := by
  funext y
  refine View.canon_apply_of_pieces (Val := Elt Ideal) (e := .fp8e4m3) (codeAt (bodyRun.sl.dma0 (F := Ideal) c IX)) _ ?_ y (codes_cover _ (by sl_kernel_rfl) y)
  unfold bodyRun.sl.HC_64
  refine List.forall_mem_cons.2 ⟨piece_at c IX hv 8064 inb_S64x8192_S64x128_0_8064 _ (congrArg (clipv (bodyRun.sl.r_12 (F := Ideal) c IX)) (v376_eq c IX)), ?_⟩
  refine List.forall_mem_cons.2 ⟨piece_at c IX hv 7936 inb_S64x8192_S64x128_0_7936 _ (congrArg (clipv (bodyRun.sl.r_12 (F := Ideal) c IX)) (v372_eq c IX)), ?_⟩
  refine List.forall_mem_cons.2 ⟨piece_at c IX hv 7808 inb_S64x8192_S64x128_0_7808 _ (congrArg (clipv (bodyRun.sl.r_12 (F := Ideal) c IX)) (v368_eq c IX)), ?_⟩
  refine List.forall_mem_cons.2 ⟨piece_at c IX hv 7680 inb_S64x8192_S64x128_0_7680 _ (congrArg (clipv (bodyRun.sl.r_12 (F := Ideal) c IX)) (v364_eq c IX)), ?_⟩
  refine List.forall_mem_cons.2 ⟨piece_at c IX hv 7552 inb_S64x8192_S64x128_0_7552 _ (congrArg (clipv (bodyRun.sl.r_12 (F := Ideal) c IX)) (v360_eq c IX)), ?_⟩
  refine List.forall_mem_cons.2 ⟨piece_at c IX hv 7424 inb_S64x8192_S64x128_0_7424 _ (congrArg (clipv (bodyRun.sl.r_12 (F := Ideal) c IX)) (v356_eq c IX)), ?_⟩
  refine List.forall_mem_cons.2 ⟨piece_at c IX hv 7296 inb_S64x8192_S64x128_0_7296 _ (congrArg (clipv (bodyRun.sl.r_12 (F := Ideal) c IX)) (v352_eq c IX)), ?_⟩
  refine List.forall_mem_cons.2 ⟨piece_at c IX hv 7168 inb_S64x8192_S64x128_0_7168 _ (congrArg (clipv (bodyRun.sl.r_12 (F := Ideal) c IX)) (v348_eq c IX)), ?_⟩
  refine List.forall_mem_cons.2 ⟨piece_at c IX hv 7040 inb_S64x8192_S64x128_0_7040 _ (congrArg (clipv (bodyRun.sl.r_12 (F := Ideal) c IX)) (v344_eq c IX)), ?_⟩
  refine List.forall_mem_cons.2 ⟨piece_at c IX hv 6912 inb_S64x8192_S64x128_0_6912 _ (congrArg (clipv (bodyRun.sl.r_12 (F := Ideal) c IX)) (v340_eq c IX)), ?_⟩
  refine List.forall_mem_cons.2 ⟨piece_at c IX hv 6784 inb_S64x8192_S64x128_0_6784 _ (congrArg (clipv (bodyRun.sl.r_12 (F := Ideal) c IX)) (v336_eq c IX)), ?_⟩
  refine List.forall_mem_cons.2 ⟨piece_at c IX hv 6656 inb_S64x8192_S64x128_0_6656 _ (congrArg (clipv (bodyRun.sl.r_12 (F := Ideal) c IX)) (v332_eq c IX)), ?_⟩
  refine List.forall_mem_cons.2 ⟨piece_at c IX hv 6528 inb_S64x8192_S64x128_0_6528 _ (congrArg (clipv (bodyRun.sl.r_12 (F := Ideal) c IX)) (v328_eq c IX)), ?_⟩
  refine List.forall_mem_cons.2 ⟨piece_at c IX hv 6400 inb_S64x8192_S64x128_0_6400 _ (congrArg (clipv (bodyRun.sl.r_12 (F := Ideal) c IX)) (v324_eq c IX)), ?_⟩
  refine List.forall_mem_cons.2 ⟨piece_at c IX hv 6272 inb_S64x8192_S64x128_0_6272 _ (congrArg (clipv (bodyRun.sl.r_12 (F := Ideal) c IX)) (v320_eq c IX)), ?_⟩
  refine List.forall_mem_cons.2 ⟨piece_at c IX hv 6144 inb_S64x8192_S64x128_0_6144 _ (congrArg (clipv (bodyRun.sl.r_12 (F := Ideal) c IX)) (v316_eq c IX)), ?_⟩
  refine List.forall_mem_cons.2 ⟨piece_at c IX hv 6016 inb_S64x8192_S64x128_0_6016 _ (congrArg (clipv (bodyRun.sl.r_12 (F := Ideal) c IX)) (v312_eq c IX)), ?_⟩
  refine List.forall_mem_cons.2 ⟨piece_at c IX hv 5888 inb_S64x8192_S64x128_0_5888 _ (congrArg (clipv (bodyRun.sl.r_12 (F := Ideal) c IX)) (v308_eq c IX)), ?_⟩
  refine List.forall_mem_cons.2 ⟨piece_at c IX hv 5760 inb_S64x8192_S64x128_0_5760 _ (congrArg (clipv (bodyRun.sl.r_12 (F := Ideal) c IX)) (v304_eq c IX)), ?_⟩
  refine List.forall_mem_cons.2 ⟨piece_at c IX hv 5632 inb_S64x8192_S64x128_0_5632 _ (congrArg (clipv (bodyRun.sl.r_12 (F := Ideal) c IX)) (v300_eq c IX)), ?_⟩
  refine List.forall_mem_cons.2 ⟨piece_at c IX hv 5504 inb_S64x8192_S64x128_0_5504 _ (congrArg (clipv (bodyRun.sl.r_12 (F := Ideal) c IX)) (v296_eq c IX)), ?_⟩
  refine List.forall_mem_cons.2 ⟨piece_at c IX hv 5376 inb_S64x8192_S64x128_0_5376 _ (congrArg (clipv (bodyRun.sl.r_12 (F := Ideal) c IX)) (v292_eq c IX)), ?_⟩
  refine List.forall_mem_cons.2 ⟨piece_at c IX hv 5248 inb_S64x8192_S64x128_0_5248 _ (congrArg (clipv (bodyRun.sl.r_12 (F := Ideal) c IX)) (v288_eq c IX)), ?_⟩
  refine List.forall_mem_cons.2 ⟨piece_at c IX hv 5120 inb_S64x8192_S64x128_0_5120 _ (congrArg (clipv (bodyRun.sl.r_12 (F := Ideal) c IX)) (v284_eq c IX)), ?_⟩
  refine List.forall_mem_cons.2 ⟨piece_at c IX hv 4992 inb_S64x8192_S64x128_0_4992 _ (congrArg (clipv (bodyRun.sl.r_12 (F := Ideal) c IX)) (v280_eq c IX)), ?_⟩
  refine List.forall_mem_cons.2 ⟨piece_at c IX hv 4864 inb_S64x8192_S64x128_0_4864 _ (congrArg (clipv (bodyRun.sl.r_12 (F := Ideal) c IX)) (v276_eq c IX)), ?_⟩
  refine List.forall_mem_cons.2 ⟨piece_at c IX hv 4736 inb_S64x8192_S64x128_0_4736 _ (congrArg (clipv (bodyRun.sl.r_12 (F := Ideal) c IX)) (v272_eq c IX)), ?_⟩
  refine List.forall_mem_cons.2 ⟨piece_at c IX hv 4608 inb_S64x8192_S64x128_0_4608 _ (congrArg (clipv (bodyRun.sl.r_12 (F := Ideal) c IX)) (v268_eq c IX)), ?_⟩
  refine List.forall_mem_cons.2 ⟨piece_at c IX hv 4480 inb_S64x8192_S64x128_0_4480 _ (congrArg (clipv (bodyRun.sl.r_12 (F := Ideal) c IX)) (v264_eq c IX)), ?_⟩
  refine List.forall_mem_cons.2 ⟨piece_at c IX hv 4352 inb_S64x8192_S64x128_0_4352 _ (congrArg (clipv (bodyRun.sl.r_12 (F := Ideal) c IX)) (v260_eq c IX)), ?_⟩
  refine List.forall_mem_cons.2 ⟨piece_at c IX hv 4224 inb_S64x8192_S64x128_0_4224 _ (congrArg (clipv (bodyRun.sl.r_12 (F := Ideal) c IX)) (v256_eq c IX)), ?_⟩
  refine List.forall_mem_cons.2 ⟨piece_at c IX hv 4096 inb_S64x8192_S64x128_0_4096 _ (congrArg (clipv (bodyRun.sl.r_12 (F := Ideal) c IX)) (v252_eq c IX)), ?_⟩
  refine List.forall_mem_cons.2 ⟨piece_at c IX hv 3968 inb_S64x8192_S64x128_0_3968 _ (congrArg (clipv (bodyRun.sl.r_12 (F := Ideal) c IX)) (v248_eq c IX)), ?_⟩
  refine List.forall_mem_cons.2 ⟨piece_at c IX hv 3840 inb_S64x8192_S64x128_0_3840 _ (congrArg (clipv (bodyRun.sl.r_12 (F := Ideal) c IX)) (v244_eq c IX)), ?_⟩
  refine List.forall_mem_cons.2 ⟨piece_at c IX hv 3712 inb_S64x8192_S64x128_0_3712 _ (congrArg (clipv (bodyRun.sl.r_12 (F := Ideal) c IX)) (v240_eq c IX)), ?_⟩
  refine List.forall_mem_cons.2 ⟨piece_at c IX hv 3584 inb_S64x8192_S64x128_0_3584 _ (congrArg (clipv (bodyRun.sl.r_12 (F := Ideal) c IX)) (v236_eq c IX)), ?_⟩
  refine List.forall_mem_cons.2 ⟨piece_at c IX hv 3456 inb_S64x8192_S64x128_0_3456 _ (congrArg (clipv (bodyRun.sl.r_12 (F := Ideal) c IX)) (v232_eq c IX)), ?_⟩
  refine List.forall_mem_cons.2 ⟨piece_at c IX hv 3328 inb_S64x8192_S64x128_0_3328 _ (congrArg (clipv (bodyRun.sl.r_12 (F := Ideal) c IX)) (v228_eq c IX)), ?_⟩
  refine List.forall_mem_cons.2 ⟨piece_at c IX hv 3200 inb_S64x8192_S64x128_0_3200 _ (congrArg (clipv (bodyRun.sl.r_12 (F := Ideal) c IX)) (v224_eq c IX)), ?_⟩
  refine List.forall_mem_cons.2 ⟨piece_at c IX hv 3072 inb_S64x8192_S64x128_0_3072 _ (congrArg (clipv (bodyRun.sl.r_12 (F := Ideal) c IX)) (v220_eq c IX)), ?_⟩
  refine List.forall_mem_cons.2 ⟨piece_at c IX hv 2944 inb_S64x8192_S64x128_0_2944 _ (congrArg (clipv (bodyRun.sl.r_12 (F := Ideal) c IX)) (v216_eq c IX)), ?_⟩
  refine List.forall_mem_cons.2 ⟨piece_at c IX hv 2816 inb_S64x8192_S64x128_0_2816 _ (congrArg (clipv (bodyRun.sl.r_12 (F := Ideal) c IX)) (v212_eq c IX)), ?_⟩
  refine List.forall_mem_cons.2 ⟨piece_at c IX hv 2688 inb_S64x8192_S64x128_0_2688 _ (congrArg (clipv (bodyRun.sl.r_12 (F := Ideal) c IX)) (v208_eq c IX)), ?_⟩
  refine List.forall_mem_cons.2 ⟨piece_at c IX hv 2560 inb_S64x8192_S64x128_0_2560 _ (congrArg (clipv (bodyRun.sl.r_12 (F := Ideal) c IX)) (v204_eq c IX)), ?_⟩
  refine List.forall_mem_cons.2 ⟨piece_at c IX hv 2432 inb_S64x8192_S64x128_0_2432 _ (congrArg (clipv (bodyRun.sl.r_12 (F := Ideal) c IX)) (v200_eq c IX)), ?_⟩
  refine List.forall_mem_cons.2 ⟨piece_at c IX hv 2304 inb_S64x8192_S64x128_0_2304 _ (congrArg (clipv (bodyRun.sl.r_12 (F := Ideal) c IX)) (v196_eq c IX)), ?_⟩
  refine List.forall_mem_cons.2 ⟨piece_at c IX hv 2176 inb_S64x8192_S64x128_0_2176 _ (congrArg (clipv (bodyRun.sl.r_12 (F := Ideal) c IX)) (v192_eq c IX)), ?_⟩
  refine List.forall_mem_cons.2 ⟨piece_at c IX hv 2048 inb_S64x8192_S64x128_0_2048 _ (congrArg (clipv (bodyRun.sl.r_12 (F := Ideal) c IX)) (v188_eq c IX)), ?_⟩
  refine List.forall_mem_cons.2 ⟨piece_at c IX hv 1920 inb_S64x8192_S64x128_0_1920 _ (congrArg (clipv (bodyRun.sl.r_12 (F := Ideal) c IX)) (v184_eq c IX)), ?_⟩
  refine List.forall_mem_cons.2 ⟨piece_at c IX hv 1792 inb_S64x8192_S64x128_0_1792 _ (congrArg (clipv (bodyRun.sl.r_12 (F := Ideal) c IX)) (v180_eq c IX)), ?_⟩
  refine List.forall_mem_cons.2 ⟨piece_at c IX hv 1664 inb_S64x8192_S64x128_0_1664 _ (congrArg (clipv (bodyRun.sl.r_12 (F := Ideal) c IX)) (v176_eq c IX)), ?_⟩
  refine List.forall_mem_cons.2 ⟨piece_at c IX hv 1536 inb_S64x8192_S64x128_0_1536 _ (congrArg (clipv (bodyRun.sl.r_12 (F := Ideal) c IX)) (v172_eq c IX)), ?_⟩
  refine List.forall_mem_cons.2 ⟨piece_at c IX hv 1408 inb_S64x8192_S64x128_0_1408 _ (congrArg (clipv (bodyRun.sl.r_12 (F := Ideal) c IX)) (v168_eq c IX)), ?_⟩
  refine List.forall_mem_cons.2 ⟨piece_at c IX hv 1280 inb_S64x8192_S64x128_0_1280 _ (congrArg (clipv (bodyRun.sl.r_12 (F := Ideal) c IX)) (v164_eq c IX)), ?_⟩
  refine List.forall_mem_cons.2 ⟨piece_at c IX hv 1152 inb_S64x8192_S64x128_0_1152 _ (congrArg (clipv (bodyRun.sl.r_12 (F := Ideal) c IX)) (v160_eq c IX)), ?_⟩
  refine List.forall_mem_cons.2 ⟨piece_at c IX hv 1024 inb_S64x8192_S64x128_0_1024 _ (congrArg (clipv (bodyRun.sl.r_12 (F := Ideal) c IX)) (v156_eq c IX)), ?_⟩
  refine List.forall_mem_cons.2 ⟨piece_at c IX hv 896 inb_S64x8192_S64x128_0_896 _ (congrArg (clipv (bodyRun.sl.r_12 (F := Ideal) c IX)) (v152_eq c IX)), ?_⟩
  refine List.forall_mem_cons.2 ⟨piece_at c IX hv 768 inb_S64x8192_S64x128_0_768 _ (congrArg (clipv (bodyRun.sl.r_12 (F := Ideal) c IX)) (v148_eq c IX)), ?_⟩
  refine List.forall_mem_cons.2 ⟨piece_at c IX hv 640 inb_S64x8192_S64x128_0_640 _ (congrArg (clipv (bodyRun.sl.r_12 (F := Ideal) c IX)) (v144_eq c IX)), ?_⟩
  refine List.forall_mem_cons.2 ⟨piece_at c IX hv 512 inb_S64x8192_S64x128_0_512 _ (congrArg (clipv (bodyRun.sl.r_12 (F := Ideal) c IX)) (v140_eq c IX)), ?_⟩
  refine List.forall_mem_cons.2 ⟨piece_at c IX hv 384 inb_S64x8192_S64x128_0_384 _ (congrArg (clipv (bodyRun.sl.r_12 (F := Ideal) c IX)) (v136_eq c IX)), ?_⟩
  refine List.forall_mem_cons.2 ⟨piece_at c IX hv 256 inb_S64x8192_S64x128_0_256 _ (congrArg (clipv (bodyRun.sl.r_12 (F := Ideal) c IX)) (v132_eq c IX)), ?_⟩
  refine List.forall_mem_cons.2 ⟨piece_at c IX hv 128 inb_S64x8192_S64x128_0_128 _ (congrArg (clipv (bodyRun.sl.r_12 (F := Ideal) c IX)) (v128_eq c IX)), ?_⟩
  refine List.forall_mem_cons.2 ⟨piece_at c IX hv 0 inb_S64x8192_S64x128_0_0 _ (congrArg (clipv (bodyRun.sl.r_12 (F := Ideal) c IX)) (v124_eq c IX)), ?_⟩
  exact fun p hp => absurd hp (List.not_mem_nil)

end Kern

end Cert.Proof.Val
end
-- ==== Proof.ValD.lean ====
module

public import proofs.«01_k».proof.Proof.LaunchI
public import proofs.«01_k».proof.Proof.ValC
public import Idealize.ShloMosaic.Lib.Pipeline.ValueKit
public import Idealize.ShloMosaic.Lib.Pointwise

@[expose] public section

set_option maxRecDepth 16384

noncomputable section

namespace Cert.Proof.Val

open Cert.KernelIdeal Cert.KernelIdeal.Gen Cert.Proof.KernI
open Idealize.ShloMosaic
open Idealize.ShloMosaic.TcCoe
open Idealize.SL.Sem

variable (m : (ℓ : Loc nD τ sig) → Buf (Elt Ideal) ℓ) (ρ : Dev nD → PrngReg) (c : Dev nD)

/-- The activations as the kernel holds them: the argument without its middle axis. -/
def xOf : S64x8192.Idx → EReal := shapeCast S64x8192 (m ((c : Thread nD τ).loc main_arg0) : FVec Ideal S64x1x8192 .bf16) shapeCasts_S64x1x8192_S64x8192

theorem inX_eq : (V m c main_v0 : S64x8192.Idx → EReal) = xOf m c := by
  entry_read
  rfl

theorem dma_eq : bodyRun.sl.dma0 (F := Ideal) c (inX m c) = xOf m c := by
  refine Eq.trans ?_ (inX_eq m c)
  rfl

/-- The scales' array after the kernel's one point. -/
theorem final_xs : finalA m c 2 = fun i : S64x1.Idx => refScale (vOf (xOf m c) (i 0)) := by
  refine (dats m 0 c).arrAt_eq_of_after_last 2 t0_0 (by decide +kernel) _ fun j => ?_
  blk_simp
  rw [after_w2]
  refine (xs_at c (inX m c) _).trans ?_
  rw [dma_eq]

theorem holds_whole (b : Ref sig .tc) (x : b.ty.shape.Idx → Elt Ideal b.ty.elt) : holds (Memref.whole b) x = x :=
  View.read_writes_whole (Val := Elt Ideal) (Memref.whole b).view _ x

/-- The codes' array after the kernel. -/
theorem final_codes (hv : ∀ r, vOf (xOf m c) r < T 253) : holds codesOutM (begOf m c t0_0).codes = codeAt (xOf m c) := by
  refine (holds_whole main_v2_3 _).trans ?_
  refine (codes_at c (inX m c) (fun r => ?_)).trans ?_
  · rw [dma_eq]
    exact hv r
  · rw [dma_eq]

end Cert.Proof.Val
-- ==== Proof.LogA.lean ====
module

public import proofs.«01_k».proof.Proof.ValD

@[expose] public section

set_option maxRecDepth 16384

noncomputable section

namespace Cert.Proof.Val

open Cert.KernelIdeal Cert.KernelIdeal.Gen Cert.Proof.KernI
open Idealize.ShloMosaic
open Idealize.ShloMosaic.TcCoe
open Idealize.SL.Sem
open Idealize.ShloMosaic.ValueIdx (reshapeEquiv_ix2_1ab)

/-- The 128 columns of the codes from column `p` on. -/
def cblk (XC : S64x8192.Idx → EReal) (p : ℕ) : S64x128.Idx → EReal := fun x =>
  XC (ix2 (x 0 : Fin 64) (⟨(p + (x 1).val) % 8192, Nat.mod_lt _ (by decide)⟩ : Fin 8192))

/-- The 128 rows from row `p` on of the weights' columns `256 b …`. -/
def wv (XA : S8192x32000.Idx → EReal) (b p : ℕ) : S1x128x256.Idx → EReal := fun x =>
  XA (ix2 (⟨(p + (x 1).val) % 8192, Nat.mod_lt _ (by decide)⟩ : Fin 8192) (⟨256 * (b % 125) + (x 2).val, by
    have h : (x 2).val < 256 := (x 2).isLt
    have := Nat.mod_lt b (show 0 < 125 by decide)
    omega⟩ : Fin 32000))

/-- One row of a chunk's scales. -/
def sv (G : S64x256.Idx → EReal) (n : ℕ) : S1x256.Idx → EReal := fun x =>
  G (ix2 (⟨n % 64, Nat.mod_lt _ (by decide)⟩ : Fin 64) (x 1 : Fin 256))

theorem c_eq (XC : S64x8192.Idx → EReal) (p : ℕ) (h : ∀ a, (![0, p] : Fin 2 → ℕ) a + S64x128.size a ≤ S64x8192.size a) :
    View.readAt (Elt Ideal) codesM.view (Rect.unit (s := S64x8192) ![0, p] S64x128.size h).toLoadRect XC = cblk XC p := by
  funext x
  show XC _ = XC _
  refine congrArg XC ?_
  have h1 : p + 128 ≤ 8192 := h 1
  have h2 : (x 1).val < 128 := (x 1).isLt
  funext a; apply Fin.ext
  fin_cases a
  · show 0 + 1 * (x 0).val = (x 0).val; omega
  · show p + 1 * (x 1).val = (p + (x 1).val) % 8192
    rw [Nat.mod_eq_of_lt (by omega)]; omega

theorem c_eq' (XC : S64x8192.Idx → EReal) (p : ℕ) (h : ∀ a, (![0, p] : Fin 2 → ℕ) a + (![64, 128] : Fin 2 → ℕ) a ≤ S64x8192.size a) :
    View.readAt (Elt Ideal) (View.whole cc0_scratch1) (Rect.unit (s := S64x8192) ![0, p] ![64, 128] h).toLoadRect XC = cblk XC p := c_eq XC p h

theorem wslot_emb (b : ℕ) (y : S8192x256.Idx) :
    (wslot b).view.emb y = wbufM.view.emb ((ix3 (⟨b % 12, Nat.mod_lt _ (by decide)⟩ : Fin 12) (y 0) (y 1) : S12x8192x256.Idx)) := by
  have e : (wslot b).view.emb y = wbufM.view.emb ((Rect.unit (s := S12x8192x256) (wslotOff b) S1x8192x256.size (wslot_inb b)).emb
      (Shape.reshapeEquiv squeezes_S1x8192x256_S8192x256.numel_eq y)) := rfl
  have ey : Shape.reshapeEquiv squeezes_S1x8192x256_S8192x256.numel_eq y = (ix3 (⟨0, Nat.one_pos⟩ : Fin 1) (y 0) (y 1) : S1x8192x256.Idx) := by
    have h := reshapeEquiv_ix2_1ab squeezes_S1x8192x256_S8192x256.numel_eq (y 0 : Fin 8192) (y 1 : Fin 256)
    refine Eq.trans (congrArg _ ?_) (h.trans ?_) <;> (funext a; fin_cases a <;> rfl)
  rw [e]
  congr 1
  rw [ey]
  funext a; apply Fin.ext
  fin_cases a
  · show b % 12 + 1 * 0 = b % 12; omega
  · show 0 + 1 * (y 0).val = (y 0).val; omega
  · show 0 + 1 * (y 1).val = (y 1).val; omega

theorem w_eq (XA : S8192x32000.Idx → EReal) (b p : ℕ) (off : Fin 3 → ℕ) (e : off = ![b % 12, p, 0])
    (h : ∀ a, off a + S1x128x256.size a ≤ S12x8192x256.size a) (g : (wslot b).view.ty.Contents (Elt Ideal)) :
    View.readAt (Elt Ideal) (Memref.whole cc0_scratch2).view (Rect.unit (s := S12x8192x256) off S1x128x256.size h).toLoadRect
      ((wslot b).view.writes (Elt Ideal) g [⟨Rect.whole S8192x256, ReadAs.same.apply (View.read (Elt Ideal) (wblk b).view XA)⟩]) = wv XA b p := by
  subst e
  funext x
  have h1 : p + 128 ≤ 8192 := h 1
  have hx0 : (x 0).val < 1 := (x 0).isLt
  have hx1 : (x 1).val < 128 := (x 1).isLt
  have hx2 : (x 2).val < 256 := (x 2).isLt
  let y : S8192x256.Idx := ix2 (⟨p + (x 1).val, by omega⟩ : Fin 8192) (⟨(x 2).val, hx2⟩ : Fin 256)
  have k := congrFun (View.read_writes_whole (Val := Elt Ideal) (wslot b).view g (ReadAs.same.apply (View.read (Elt Ideal) (wblk b).view XA))) y
  generalize (wslot b).view.writes (Elt Ideal) g [⟨Rect.whole S8192x256, ReadAs.same.apply (View.read (Elt Ideal) (wblk b).view XA)⟩] = f at k ⊢
  have k2 : f ((wslot b).view.emb y) = XA ((wblk b).view.emb y) := k
  have ei : wbufM.view.emb ((ix3 (⟨b % 12, Nat.mod_lt _ (by decide)⟩ : Fin 12) (y 0) (y 1) : S12x8192x256.Idx))
      = (Rect.unit (s := S12x8192x256) ![b % 12, p, 0] S1x128x256.size h).toLoadRect.idx x := by
    funext a; apply Fin.ext
    fin_cases a
    · show b % 12 = b % 12 + 1 * (x 0).val; omega
    · show p + (x 1).val = p + 1 * (x 1).val; omega
    · show (x 2).val = 0 + 1 * (x 2).val; omega
  have k3 : f ((Rect.unit (s := S12x8192x256) ![b % 12, p, 0] S1x128x256.size h).toLoadRect.idx x) = XA ((wblk b).view.emb y) := by
    rw [← k2, wslot_emb, ei]
  have hm : (p + (x 1).val) % 8192 = p + (x 1).val := Nat.mod_eq_of_lt (by omega)
  refine Eq.trans k3 ?_
  show XA _ = XA _
  refine congrArg XA ?_
  funext a; apply Fin.ext
  fin_cases a
  · show 0 + 1 * (p + (x 1).val) = (p + (x 1).val) % 8192
    rw [hm]; omega
  · show 256 * (b % 125) + 1 * (x 2).val = 256 * (b % 125) + (x 2).val; omega

/-- Two halves side by side. -/
def halves (p q : S64x128.Idx → EReal) : S64x256.Idx → EReal := fun y =>
  if h : (y 1).val < 128 then p (ix2 (y 0 : Fin 64) (⟨(y 1).val, h⟩ : Fin 128))
  else q (ix2 (y 0 : Fin 64) (⟨(y 1).val - 128, by have h2 : (y 1).val < 256 := (y 1).isLt; omega⟩ : Fin 128))

theorem halves_canon (p q : S64x128.Idx → EReal) (h0 : ∀ a, (![0, 0] : Fin 2 → ℕ) a + S64x128.size a ≤ S64x256.size a) (h1 : ∀ a, (![0, 128] : Fin 2 → ℕ) a + S64x128.size a ≤ S64x256.size a) :
    View.canon (Val := Elt Ideal) (e := .f32) [⟨Rect.unit (s := S64x256) ![0, 128] S64x128.size h1, q⟩, ⟨Rect.unit (s := S64x256) ![0, 0] S64x128.size h0, p⟩] = halves p q := by
  funext y
  refine View.canon_apply_of_pieces (Val := Elt Ideal) (e := .f32) (halves p q) _ ?_ y ?_
  · intro r hr x
    rcases List.mem_cons.1 hr with rfl | hr
    · have hx : (x 1).val < 128 := (x 1).isLt
      unfold halves
      rw [dif_neg (by show ¬ (128 + 1 * (x 1).val < 128); omega)]
      refine congrArg q ?_
      funext a; apply Fin.ext
      fin_cases a
      · show (x 0).val = 0 + 1 * (x 0).val; omega
      · show (x 1).val = 128 + 1 * (x 1).val - 128; omega
    · obtain rfl := List.mem_singleton.1 hr
      have hx : (x 1).val < 128 := (x 1).isLt
      unfold halves
      rw [dif_pos (by show 0 + 1 * (x 1).val < 128; omega)]
      refine congrArg p ?_
      funext a; apply Fin.ext
      fin_cases a
      · show (x 0).val = 0 + 1 * (x 0).val; omega
      · show (x 1).val = 0 + 1 * (x 1).val; omega
  · exact View.cover_of_tiledL _ ![64, 128] rfl y

theorem s_eq (p q : S64x128.Idx → EReal) (n : ℕ) (h0 : ∀ a, (![0, 0] : Fin 2 → ℕ) a + S64x128.size a ≤ S64x256.size a) (h1 : ∀ a, (![0, 128] : Fin 2 → ℕ) a + S64x128.size a ≤ S64x256.size a)
    (h : ∀ a, (![n, 0] : Fin 2 → ℕ) a + S1x256.size a ≤ S64x256.size a) :
    sexpM.view.readCov (Val := Elt Ideal) [⟨Rect.unit (s := S64x256) ![0, 128] S64x128.size h1, q⟩, ⟨Rect.unit (s := S64x256) ![0, 0] S64x128.size h0, p⟩]
      (Rect.unit (s := S64x256) ![n, 0] S1x256.size h).toLoadRect = sv (halves p q) n := by
  rw [View.readCov_eq_canon', halves_canon]
  funext x
  have hn : n + 1 ≤ 64 := h 0
  have hx0 : (x 0).val < 1 := (x 0).isLt
  refine congrArg (halves p q) ?_
  funext a; apply Fin.ext
  fin_cases a
  · show n + 1 * (x 0).val = n % 64
    rw [Nat.mod_eq_of_lt (by omega)]; omega
  · show 0 + 1 * (x 1).val = (x 1).val; omega

/-- One term of the sum over the blocks of 128 rows. -/
def term (C : S64x8192.Idx → EReal) (A : S8192x32000.Idx → EReal) (G : S64x256.Idx → EReal) (b n : ℕ) : FVec Ideal S64x256 .f32 :=
  mulf (matmul (φ₁ := .fp8e4m3) (φ₂ := .fp8e4m3) dot_S64x128_S128x256_S64x256_1_0_0_1_n_n none (cblk C (128 * n) : FVec Ideal S64x128 .fp8e4m3) (shapeCast S128x256 (wv A b (128 * n)) shapeCasts_S1x128x256_S128x256 : FVec Ideal S128x256 .fp8e4m3) (constant S64x256 FTy.f32 0#32))
    (broadcastTo S64x256 (sv G n) broadcasts_S1x256_S64x256)

/-- The sum of the terms 0 … n, from the left. -/
def chain (C : S64x8192.Idx → EReal) (A : S8192x32000.Idx → EReal) (G : S64x256.Idx → EReal) (b : ℕ) : ℕ → FVec Ideal S64x256 .f32
  | 0 => term C A G b 0
  | n + 1 => addf (chain C A G b n) (term C A G b (n + 1))

theorem chain_zero (C : S64x8192.Idx → EReal) (A : S8192x32000.Idx → EReal) (G : S64x256.Idx → EReal) (b : ℕ) : chain C A G b 0 = term C A G b 0 := rfl

theorem chain_succ (C : S64x8192.Idx → EReal) (A : S8192x32000.Idx → EReal) (G : S64x256.Idx → EReal) (b n : ℕ) :
    chain C A G b (n + 1) = addf (chain C A G b n) (term C A G b (n + 1)) := rfl

end Cert.Proof.Val
-- ==== Proof.LogB.lean ====
module

public import proofs.«01_k».proof.Proof.LogA

@[expose] public section

set_option maxRecDepth 16384

noncomputable section

namespace Cert.Proof.Val

open Cert.KernelIdeal Cert.KernelIdeal.Gen Cert.Proof.KernI
open Idealize.ShloMosaic
open Idealize.ShloMosaic.TcCoe
open Idealize.SL.Sem

variable (c : Dev nD) (XA : Buf (Elt Ideal) (wM.view.loc (c : Thread nD τ))) (XC : Buf (Elt Ideal) (codesM.view.loc (c : Thread nD τ))) (XS : Buf (Elt Ideal) (wsM.view.loc (c : Thread nD τ))) (k : Fin k0_t1_loop.trips) (v : BitVec 32)

/-- The scales a trip gathers, its two halves. -/
def gathered : S64x256.Idx → EReal :=
  halves (tripRun.sl.v2556 (F := Ideal) c XS k v) (k0_pay3 (F := Ideal) v (tripRun.sl.r (F := Ideal) c XS k) tripRun.sl.v2532 128#32 0#1)

theorem w0_eq : tripRun.sl.v2584 (F := Ideal) c XA k = wv XA (k.val + 1) 0 := w_eq XA _ _ _ (k0_off14_eq k) _ _
theorem w1_eq : tripRun.sl.v2592 (F := Ideal) c XA k = wv XA (k.val + 1) 128 := w_eq XA _ _ _ (k0_off15_eq k) _ _
theorem w2_eq : tripRun.sl.v2601 (F := Ideal) c XA k = wv XA (k.val + 1) 256 := w_eq XA _ _ _ (k0_off16_eq k) _ _
theorem w3_eq : tripRun.sl.v2610 (F := Ideal) c XA k = wv XA (k.val + 1) 384 := w_eq XA _ _ _ (k0_off17_eq k) _ _
theorem w4_eq : tripRun.sl.v2619 (F := Ideal) c XA k = wv XA (k.val + 1) 512 := w_eq XA _ _ _ (k0_off18_eq k) _ _
theorem w5_eq : tripRun.sl.v2628 (F := Ideal) c XA k = wv XA (k.val + 1) 640 := w_eq XA _ _ _ (k0_off19_eq k) _ _
theorem w6_eq : tripRun.sl.v2637 (F := Ideal) c XA k = wv XA (k.val + 1) 768 := w_eq XA _ _ _ (k0_off20_eq k) _ _
theorem w7_eq : tripRun.sl.v2646 (F := Ideal) c XA k = wv XA (k.val + 1) 896 := w_eq XA _ _ _ (k0_off21_eq k) _ _
theorem w8_eq : tripRun.sl.v2655 (F := Ideal) c XA k = wv XA (k.val + 1) 1024 := w_eq XA _ _ _ (k0_off22_eq k) _ _
theorem w9_eq : tripRun.sl.v2664 (F := Ideal) c XA k = wv XA (k.val + 1) 1152 := w_eq XA _ _ _ (k0_off23_eq k) _ _
theorem w10_eq : tripRun.sl.v2673 (F := Ideal) c XA k = wv XA (k.val + 1) 1280 := w_eq XA _ _ _ (k0_off24_eq k) _ _
theorem w11_eq : tripRun.sl.v2682 (F := Ideal) c XA k = wv XA (k.val + 1) 1408 := w_eq XA _ _ _ (k0_off25_eq k) _ _
theorem w12_eq : tripRun.sl.v2691 (F := Ideal) c XA k = wv XA (k.val + 1) 1536 := w_eq XA _ _ _ (k0_off26_eq k) _ _
theorem w13_eq : tripRun.sl.v2700 (F := Ideal) c XA k = wv XA (k.val + 1) 1664 := w_eq XA _ _ _ (k0_off27_eq k) _ _
theorem w14_eq : tripRun.sl.v2709 (F := Ideal) c XA k = wv XA (k.val + 1) 1792 := w_eq XA _ _ _ (k0_off28_eq k) _ _
theorem w15_eq : tripRun.sl.v2718 (F := Ideal) c XA k = wv XA (k.val + 1) 1920 := w_eq XA _ _ _ (k0_off29_eq k) _ _
theorem w16_eq : tripRun.sl.v2727 (F := Ideal) c XA k = wv XA (k.val + 1) 2048 := w_eq XA _ _ _ (k0_off30_eq k) _ _
theorem w17_eq : tripRun.sl.v2736 (F := Ideal) c XA k = wv XA (k.val + 1) 2176 := w_eq XA _ _ _ (k0_off31_eq k) _ _
theorem w18_eq : tripRun.sl.v2745 (F := Ideal) c XA k = wv XA (k.val + 1) 2304 := w_eq XA _ _ _ (k0_off32_eq k) _ _
theorem w19_eq : tripRun.sl.v2754 (F := Ideal) c XA k = wv XA (k.val + 1) 2432 := w_eq XA _ _ _ (k0_off33_eq k) _ _
theorem w20_eq : tripRun.sl.v2763 (F := Ideal) c XA k = wv XA (k.val + 1) 2560 := w_eq XA _ _ _ (k0_off34_eq k) _ _
theorem w21_eq : tripRun.sl.v2772 (F := Ideal) c XA k = wv XA (k.val + 1) 2688 := w_eq XA _ _ _ (k0_off35_eq k) _ _
theorem w22_eq : tripRun.sl.v2781 (F := Ideal) c XA k = wv XA (k.val + 1) 2816 := w_eq XA _ _ _ (k0_off36_eq k) _ _
theorem w23_eq : tripRun.sl.v2790 (F := Ideal) c XA k = wv XA (k.val + 1) 2944 := w_eq XA _ _ _ (k0_off37_eq k) _ _
theorem w24_eq : tripRun.sl.v2799 (F := Ideal) c XA k = wv XA (k.val + 1) 3072 := w_eq XA _ _ _ (k0_off38_eq k) _ _
theorem w25_eq : tripRun.sl.v2808 (F := Ideal) c XA k = wv XA (k.val + 1) 3200 := w_eq XA _ _ _ (k0_off39_eq k) _ _
theorem w26_eq : tripRun.sl.v2817 (F := Ideal) c XA k = wv XA (k.val + 1) 3328 := w_eq XA _ _ _ (k0_off40_eq k) _ _
theorem w27_eq : tripRun.sl.v2826 (F := Ideal) c XA k = wv XA (k.val + 1) 3456 := w_eq XA _ _ _ (k0_off41_eq k) _ _
theorem w28_eq : tripRun.sl.v2835 (F := Ideal) c XA k = wv XA (k.val + 1) 3584 := w_eq XA _ _ _ (k0_off42_eq k) _ _
theorem w29_eq : tripRun.sl.v2844 (F := Ideal) c XA k = wv XA (k.val + 1) 3712 := w_eq XA _ _ _ (k0_off43_eq k) _ _
theorem w30_eq : tripRun.sl.v2853 (F := Ideal) c XA k = wv XA (k.val + 1) 3840 := w_eq XA _ _ _ (k0_off44_eq k) _ _
theorem w31_eq : tripRun.sl.v2862 (F := Ideal) c XA k = wv XA (k.val + 1) 3968 := w_eq XA _ _ _ (k0_off45_eq k) _ _
theorem w32_eq : tripRun.sl.v2871 (F := Ideal) c XA k = wv XA (k.val + 1) 4096 := w_eq XA _ _ _ (k0_off46_eq k) _ _
theorem w33_eq : tripRun.sl.v2880 (F := Ideal) c XA k = wv XA (k.val + 1) 4224 := w_eq XA _ _ _ (k0_off47_eq k) _ _
theorem w34_eq : tripRun.sl.v2889 (F := Ideal) c XA k = wv XA (k.val + 1) 4352 := w_eq XA _ _ _ (k0_off48_eq k) _ _
theorem w35_eq : tripRun.sl.v2898 (F := Ideal) c XA k = wv XA (k.val + 1) 4480 := w_eq XA _ _ _ (k0_off49_eq k) _ _
theorem w36_eq : tripRun.sl.v2907 (F := Ideal) c XA k = wv XA (k.val + 1) 4608 := w_eq XA _ _ _ (k0_off50_eq k) _ _
theorem w37_eq : tripRun.sl.v2916 (F := Ideal) c XA k = wv XA (k.val + 1) 4736 := w_eq XA _ _ _ (k0_off51_eq k) _ _
theorem w38_eq : tripRun.sl.v2925 (F := Ideal) c XA k = wv XA (k.val + 1) 4864 := w_eq XA _ _ _ (k0_off52_eq k) _ _
theorem w39_eq : tripRun.sl.v2934 (F := Ideal) c XA k = wv XA (k.val + 1) 4992 := w_eq XA _ _ _ (k0_off53_eq k) _ _
theorem w40_eq : tripRun.sl.v2943 (F := Ideal) c XA k = wv XA (k.val + 1) 5120 := w_eq XA _ _ _ (k0_off54_eq k) _ _
theorem w41_eq : tripRun.sl.v2952 (F := Ideal) c XA k = wv XA (k.val + 1) 5248 := w_eq XA _ _ _ (k0_off55_eq k) _ _
theorem w42_eq : tripRun.sl.v2961 (F := Ideal) c XA k = wv XA (k.val + 1) 5376 := w_eq XA _ _ _ (k0_off56_eq k) _ _
theorem w43_eq : tripRun.sl.v2970 (F := Ideal) c XA k = wv XA (k.val + 1) 5504 := w_eq XA _ _ _ (k0_off57_eq k) _ _
theorem w44_eq : tripRun.sl.v2979 (F := Ideal) c XA k = wv XA (k.val + 1) 5632 := w_eq XA _ _ _ (k0_off58_eq k) _ _
theorem w45_eq : tripRun.sl.v2988 (F := Ideal) c XA k = wv XA (k.val + 1) 5760 := w_eq XA _ _ _ (k0_off59_eq k) _ _
theorem w46_eq : tripRun.sl.v2997 (F := Ideal) c XA k = wv XA (k.val + 1) 5888 := w_eq XA _ _ _ (k0_off60_eq k) _ _
theorem w47_eq : tripRun.sl.v3006 (F := Ideal) c XA k = wv XA (k.val + 1) 6016 := w_eq XA _ _ _ (k0_off61_eq k) _ _
theorem w48_eq : tripRun.sl.v3015 (F := Ideal) c XA k = wv XA (k.val + 1) 6144 := w_eq XA _ _ _ (k0_off62_eq k) _ _
theorem w49_eq : tripRun.sl.v3024 (F := Ideal) c XA k = wv XA (k.val + 1) 6272 := w_eq XA _ _ _ (k0_off63_eq k) _ _
theorem w50_eq : tripRun.sl.v3033 (F := Ideal) c XA k = wv XA (k.val + 1) 6400 := w_eq XA _ _ _ (k0_off64_eq k) _ _
theorem w51_eq : tripRun.sl.v3042 (F := Ideal) c XA k = wv XA (k.val + 1) 6528 := w_eq XA _ _ _ (k0_off65_eq k) _ _
theorem w52_eq : tripRun.sl.v3051 (F := Ideal) c XA k = wv XA (k.val + 1) 6656 := w_eq XA _ _ _ (k0_off66_eq k) _ _
theorem w53_eq : tripRun.sl.v3060 (F := Ideal) c XA k = wv XA (k.val + 1) 6784 := w_eq XA _ _ _ (k0_off67_eq k) _ _
theorem w54_eq : tripRun.sl.v3069 (F := Ideal) c XA k = wv XA (k.val + 1) 6912 := w_eq XA _ _ _ (k0_off68_eq k) _ _
theorem w55_eq : tripRun.sl.v3078 (F := Ideal) c XA k = wv XA (k.val + 1) 7040 := w_eq XA _ _ _ (k0_off69_eq k) _ _
theorem w56_eq : tripRun.sl.v3087 (F := Ideal) c XA k = wv XA (k.val + 1) 7168 := w_eq XA _ _ _ (k0_off70_eq k) _ _
theorem w57_eq : tripRun.sl.v3096 (F := Ideal) c XA k = wv XA (k.val + 1) 7296 := w_eq XA _ _ _ (k0_off71_eq k) _ _
theorem w58_eq : tripRun.sl.v3105 (F := Ideal) c XA k = wv XA (k.val + 1) 7424 := w_eq XA _ _ _ (k0_off72_eq k) _ _
theorem w59_eq : tripRun.sl.v3114 (F := Ideal) c XA k = wv XA (k.val + 1) 7552 := w_eq XA _ _ _ (k0_off73_eq k) _ _
theorem w60_eq : tripRun.sl.v3123 (F := Ideal) c XA k = wv XA (k.val + 1) 7680 := w_eq XA _ _ _ (k0_off74_eq k) _ _
theorem w61_eq : tripRun.sl.v3132 (F := Ideal) c XA k = wv XA (k.val + 1) 7808 := w_eq XA _ _ _ (k0_off75_eq k) _ _
theorem w62_eq : tripRun.sl.v3141 (F := Ideal) c XA k = wv XA (k.val + 1) 7936 := w_eq XA _ _ _ (k0_off76_eq k) _ _
theorem w63_eq : tripRun.sl.v3150 (F := Ideal) c XA k = wv XA (k.val + 1) 8064 := w_eq XA _ _ _ (k0_off77_eq k) _ _
theorem s0_eq : tripRun.sl.v2587 (F := Ideal) c XS k v = sv (gathered c XS k v) 0 := s_eq _ _ _ _ _ _
theorem s1_eq : tripRun.sl.v2595 (F := Ideal) c XS k v = sv (gathered c XS k v) 1 := s_eq _ _ _ _ _ _
theorem s2_eq : tripRun.sl.v2604 (F := Ideal) c XS k v = sv (gathered c XS k v) 2 := s_eq _ _ _ _ _ _
theorem s3_eq : tripRun.sl.v2613 (F := Ideal) c XS k v = sv (gathered c XS k v) 3 := s_eq _ _ _ _ _ _
theorem s4_eq : tripRun.sl.v2622 (F := Ideal) c XS k v = sv (gathered c XS k v) 4 := s_eq _ _ _ _ _ _
theorem s5_eq : tripRun.sl.v2631 (F := Ideal) c XS k v = sv (gathered c XS k v) 5 := s_eq _ _ _ _ _ _
theorem s6_eq : tripRun.sl.v2640 (F := Ideal) c XS k v = sv (gathered c XS k v) 6 := s_eq _ _ _ _ _ _
theorem s7_eq : tripRun.sl.v2649 (F := Ideal) c XS k v = sv (gathered c XS k v) 7 := s_eq _ _ _ _ _ _
theorem s8_eq : tripRun.sl.v2658 (F := Ideal) c XS k v = sv (gathered c XS k v) 8 := s_eq _ _ _ _ _ _
theorem s9_eq : tripRun.sl.v2667 (F := Ideal) c XS k v = sv (gathered c XS k v) 9 := s_eq _ _ _ _ _ _
theorem s10_eq : tripRun.sl.v2676 (F := Ideal) c XS k v = sv (gathered c XS k v) 10 := s_eq _ _ _ _ _ _
theorem s11_eq : tripRun.sl.v2685 (F := Ideal) c XS k v = sv (gathered c XS k v) 11 := s_eq _ _ _ _ _ _
theorem s12_eq : tripRun.sl.v2694 (F := Ideal) c XS k v = sv (gathered c XS k v) 12 := s_eq _ _ _ _ _ _
theorem s13_eq : tripRun.sl.v2703 (F := Ideal) c XS k v = sv (gathered c XS k v) 13 := s_eq _ _ _ _ _ _
theorem s14_eq : tripRun.sl.v2712 (F := Ideal) c XS k v = sv (gathered c XS k v) 14 := s_eq _ _ _ _ _ _
theorem s15_eq : tripRun.sl.v2721 (F := Ideal) c XS k v = sv (gathered c XS k v) 15 := s_eq _ _ _ _ _ _
theorem s16_eq : tripRun.sl.v2730 (F := Ideal) c XS k v = sv (gathered c XS k v) 16 := s_eq _ _ _ _ _ _
theorem s17_eq : tripRun.sl.v2739 (F := Ideal) c XS k v = sv (gathered c XS k v) 17 := s_eq _ _ _ _ _ _
theorem s18_eq : tripRun.sl.v2748 (F := Ideal) c XS k v = sv (gathered c XS k v) 18 := s_eq _ _ _ _ _ _
theorem s19_eq : tripRun.sl.v2757 (F := Ideal) c XS k v = sv (gathered c XS k v) 19 := s_eq _ _ _ _ _ _
theorem s20_eq : tripRun.sl.v2766 (F := Ideal) c XS k v = sv (gathered c XS k v) 20 := s_eq _ _ _ _ _ _
theorem s21_eq : tripRun.sl.v2775 (F := Ideal) c XS k v = sv (gathered c XS k v) 21 := s_eq _ _ _ _ _ _
theorem s22_eq : tripRun.sl.v2784 (F := Ideal) c XS k v = sv (gathered c XS k v) 22 := s_eq _ _ _ _ _ _
theorem s23_eq : tripRun.sl.v2793 (F := Ideal) c XS k v = sv (gathered c XS k v) 23 := s_eq _ _ _ _ _ _
theorem s24_eq : tripRun.sl.v2802 (F := Ideal) c XS k v = sv (gathered c XS k v) 24 := s_eq _ _ _ _ _ _
theorem s25_eq : tripRun.sl.v2811 (F := Ideal) c XS k v = sv (gathered c XS k v) 25 := s_eq _ _ _ _ _ _
theorem s26_eq : tripRun.sl.v2820 (F := Ideal) c XS k v = sv (gathered c XS k v) 26 := s_eq _ _ _ _ _ _
theorem s27_eq : tripRun.sl.v2829 (F := Ideal) c XS k v = sv (gathered c XS k v) 27 := s_eq _ _ _ _ _ _
theorem s28_eq : tripRun.sl.v2838 (F := Ideal) c XS k v = sv (gathered c XS k v) 28 := s_eq _ _ _ _ _ _
theorem s29_eq : tripRun.sl.v2847 (F := Ideal) c XS k v = sv (gathered c XS k v) 29 := s_eq _ _ _ _ _ _
theorem s30_eq : tripRun.sl.v2856 (F := Ideal) c XS k v = sv (gathered c XS k v) 30 := s_eq _ _ _ _ _ _
theorem s31_eq : tripRun.sl.v2865 (F := Ideal) c XS k v = sv (gathered c XS k v) 31 := s_eq _ _ _ _ _ _
theorem s32_eq : tripRun.sl.v2874 (F := Ideal) c XS k v = sv (gathered c XS k v) 32 := s_eq _ _ _ _ _ _
theorem s33_eq : tripRun.sl.v2883 (F := Ideal) c XS k v = sv (gathered c XS k v) 33 := s_eq _ _ _ _ _ _
theorem s34_eq : tripRun.sl.v2892 (F := Ideal) c XS k v = sv (gathered c XS k v) 34 := s_eq _ _ _ _ _ _
theorem s35_eq : tripRun.sl.v2901 (F := Ideal) c XS k v = sv (gathered c XS k v) 35 := s_eq _ _ _ _ _ _
theorem s36_eq : tripRun.sl.v2910 (F := Ideal) c XS k v = sv (gathered c XS k v) 36 := s_eq _ _ _ _ _ _
theorem s37_eq : tripRun.sl.v2919 (F := Ideal) c XS k v = sv (gathered c XS k v) 37 := s_eq _ _ _ _ _ _
theorem s38_eq : tripRun.sl.v2928 (F := Ideal) c XS k v = sv (gathered c XS k v) 38 := s_eq _ _ _ _ _ _
theorem s39_eq : tripRun.sl.v2937 (F := Ideal) c XS k v = sv (gathered c XS k v) 39 := s_eq _ _ _ _ _ _
theorem s40_eq : tripRun.sl.v2946 (F := Ideal) c XS k v = sv (gathered c XS k v) 40 := s_eq _ _ _ _ _ _
theorem s41_eq : tripRun.sl.v2955 (F := Ideal) c XS k v = sv (gathered c XS k v) 41 := s_eq _ _ _ _ _ _
theorem s42_eq : tripRun.sl.v2964 (F := Ideal) c XS k v = sv (gathered c XS k v) 42 := s_eq _ _ _ _ _ _
theorem s43_eq : tripRun.sl.v2973 (F := Ideal) c XS k v = sv (gathered c XS k v) 43 := s_eq _ _ _ _ _ _
theorem s44_eq : tripRun.sl.v2982 (F := Ideal) c XS k v = sv (gathered c XS k v) 44 := s_eq _ _ _ _ _ _
theorem s45_eq : tripRun.sl.v2991 (F := Ideal) c XS k v = sv (gathered c XS k v) 45 := s_eq _ _ _ _ _ _
theorem s46_eq : tripRun.sl.v3000 (F := Ideal) c XS k v = sv (gathered c XS k v) 46 := s_eq _ _ _ _ _ _
theorem s47_eq : tripRun.sl.v3009 (F := Ideal) c XS k v = sv (gathered c XS k v) 47 := s_eq _ _ _ _ _ _
theorem s48_eq : tripRun.sl.v3018 (F := Ideal) c XS k v = sv (gathered c XS k v) 48 := s_eq _ _ _ _ _ _
theorem s49_eq : tripRun.sl.v3027 (F := Ideal) c XS k v = sv (gathered c XS k v) 49 := s_eq _ _ _ _ _ _
theorem s50_eq : tripRun.sl.v3036 (F := Ideal) c XS k v = sv (gathered c XS k v) 50 := s_eq _ _ _ _ _ _
theorem s51_eq : tripRun.sl.v3045 (F := Ideal) c XS k v = sv (gathered c XS k v) 51 := s_eq _ _ _ _ _ _
theorem s52_eq : tripRun.sl.v3054 (F := Ideal) c XS k v = sv (gathered c XS k v) 52 := s_eq _ _ _ _ _ _
theorem s53_eq : tripRun.sl.v3063 (F := Ideal) c XS k v = sv (gathered c XS k v) 53 := s_eq _ _ _ _ _ _
theorem s54_eq : tripRun.sl.v3072 (F := Ideal) c XS k v = sv (gathered c XS k v) 54 := s_eq _ _ _ _ _ _
theorem s55_eq : tripRun.sl.v3081 (F := Ideal) c XS k v = sv (gathered c XS k v) 55 := s_eq _ _ _ _ _ _
theorem s56_eq : tripRun.sl.v3090 (F := Ideal) c XS k v = sv (gathered c XS k v) 56 := s_eq _ _ _ _ _ _
theorem s57_eq : tripRun.sl.v3099 (F := Ideal) c XS k v = sv (gathered c XS k v) 57 := s_eq _ _ _ _ _ _
theorem s58_eq : tripRun.sl.v3108 (F := Ideal) c XS k v = sv (gathered c XS k v) 58 := s_eq _ _ _ _ _ _
theorem s59_eq : tripRun.sl.v3117 (F := Ideal) c XS k v = sv (gathered c XS k v) 59 := s_eq _ _ _ _ _ _
theorem s60_eq : tripRun.sl.v3126 (F := Ideal) c XS k v = sv (gathered c XS k v) 60 := s_eq _ _ _ _ _ _
theorem s61_eq : tripRun.sl.v3135 (F := Ideal) c XS k v = sv (gathered c XS k v) 61 := s_eq _ _ _ _ _ _
theorem s62_eq : tripRun.sl.v3144 (F := Ideal) c XS k v = sv (gathered c XS k v) 62 := s_eq _ _ _ _ _ _
theorem s63_eq : tripRun.sl.v3153 (F := Ideal) c XS k v = sv (gathered c XS k v) 63 := s_eq _ _ _ _ _ _

theorem t1_eq : tripRun.sl.r_1 (F := Ideal) c XA XC XS k v = chain XC XA (gathered c XS k v) (k.val + 1) 0 := by
  simp only [tripRun.sl.r_1, s0_eq, w0_eq, c_eq']
  generalize gathered c XS k v = G
  rw [chain_zero]
  rfl
theorem t3_eq : tripRun.sl.r_3 (F := Ideal) c XA XC XS k v = chain XC XA (gathered c XS k v) (k.val + 1) 4 := by
  simp only [tripRun.sl.r_3, tripRun.sl.r_2, t1_eq, s1_eq, s2_eq, s3_eq, s4_eq, w2_eq, w3_eq, w4_eq, w1_eq, c_eq']
  generalize gathered c XS k v = G
  rw [chain_succ _ _ _ _ 3, chain_succ _ _ _ _ 2, chain_succ _ _ _ _ 1, chain_succ _ _ _ _ 0]
  generalize chain _ _ _ _ 0 = P
  rfl
theorem t6_eq : tripRun.sl.r_6 (F := Ideal) c XA XC XS k v = chain XC XA (gathered c XS k v) (k.val + 1) 8 := by
  simp only [tripRun.sl.r_6, tripRun.sl.r_4, tripRun.sl.r_5, t3_eq, s5_eq, s6_eq, s7_eq, s8_eq, w6_eq, w7_eq, w8_eq, w5_eq, c_eq']
  generalize gathered c XS k v = G
  rw [chain_succ _ _ _ _ 7, chain_succ _ _ _ _ 6, chain_succ _ _ _ _ 5, chain_succ _ _ _ _ 4]
  generalize chain _ _ _ _ 4 = P
  rfl
theorem t8_eq : tripRun.sl.r_8 (F := Ideal) c XA XC XS k v = chain XC XA (gathered c XS k v) (k.val + 1) 12 := by
  simp only [tripRun.sl.r_8, tripRun.sl.r_7, t6_eq, s9_eq, s10_eq, s11_eq, s12_eq, w9_eq, w10_eq, w11_eq, w12_eq, c_eq']
  generalize gathered c XS k v = G
  rw [chain_succ _ _ _ _ 11, chain_succ _ _ _ _ 10, chain_succ _ _ _ _ 9, chain_succ _ _ _ _ 8]
  generalize chain _ _ _ _ 8 = P
  rfl
theorem t9_eq : tripRun.sl.r_9 (F := Ideal) c XA XC XS k v = chain XC XA (gathered c XS k v) (k.val + 1) 15 := by
  simp only [tripRun.sl.r_9, t8_eq, s13_eq, s14_eq, s15_eq, w13_eq, w14_eq, w15_eq, c_eq']
  generalize gathered c XS k v = G
  rw [chain_succ _ _ _ _ 14, chain_succ _ _ _ _ 13, chain_succ _ _ _ _ 12]
  generalize chain _ _ _ _ 12 = P
  rfl
theorem t11_eq : tripRun.sl.r_11 (F := Ideal) c XA XC XS k v = chain XC XA (gathered c XS k v) (k.val + 1) 19 := by
  simp only [tripRun.sl.r_11, tripRun.sl.r_10, t9_eq, s16_eq, s17_eq, s18_eq, s19_eq, w17_eq, w18_eq, w19_eq, w16_eq, c_eq']
  generalize gathered c XS k v = G
  rw [chain_succ _ _ _ _ 18, chain_succ _ _ _ _ 17, chain_succ _ _ _ _ 16, chain_succ _ _ _ _ 15]
  generalize chain _ _ _ _ 15 = P
  rfl
theorem t14_eq : tripRun.sl.r_14 (F := Ideal) c XA XC XS k v = chain XC XA (gathered c XS k v) (k.val + 1) 23 := by
  simp only [tripRun.sl.r_14, tripRun.sl.r_12, tripRun.sl.r_13, t11_eq, s20_eq, s21_eq, s22_eq, s23_eq, w21_eq, w22_eq, w23_eq, w20_eq, c_eq']
  generalize gathered c XS k v = G
  rw [chain_succ _ _ _ _ 22, chain_succ _ _ _ _ 21, chain_succ _ _ _ _ 20, chain_succ _ _ _ _ 19]
  generalize chain _ _ _ _ 19 = P
  rfl
theorem t16_eq : tripRun.sl.r_16 (F := Ideal) c XA XC XS k v = chain XC XA (gathered c XS k v) (k.val + 1) 27 := by
  simp only [tripRun.sl.r_16, tripRun.sl.r_15, t14_eq, s24_eq, s25_eq, s26_eq, s27_eq, w24_eq, w25_eq, w26_eq, w27_eq, c_eq']
  generalize gathered c XS k v = G
  rw [chain_succ _ _ _ _ 26, chain_succ _ _ _ _ 25, chain_succ _ _ _ _ 24, chain_succ _ _ _ _ 23]
  generalize chain _ _ _ _ 23 = P
  rfl
theorem t17_eq : tripRun.sl.r_17 (F := Ideal) c XA XC XS k v = chain XC XA (gathered c XS k v) (k.val + 1) 30 := by
  simp only [tripRun.sl.r_17, t16_eq, s28_eq, s29_eq, s30_eq, w28_eq, w29_eq, w30_eq, c_eq']
  generalize gathered c XS k v = G
  rw [chain_succ _ _ _ _ 29, chain_succ _ _ _ _ 28, chain_succ _ _ _ _ 27]
  generalize chain _ _ _ _ 27 = P
  rfl
theorem t19_eq : tripRun.sl.r_19 (F := Ideal) c XA XC XS k v = chain XC XA (gathered c XS k v) (k.val + 1) 34 := by
  simp only [tripRun.sl.r_19, tripRun.sl.r_18, t17_eq, s31_eq, s32_eq, s33_eq, s34_eq, w32_eq, w33_eq, w34_eq, w31_eq, c_eq']
  generalize gathered c XS k v = G
  rw [chain_succ _ _ _ _ 33, chain_succ _ _ _ _ 32, chain_succ _ _ _ _ 31, chain_succ _ _ _ _ 30]
  generalize chain _ _ _ _ 30 = P
  rfl
theorem t22_eq : tripRun.sl.r_22 (F := Ideal) c XA XC XS k v = chain XC XA (gathered c XS k v) (k.val + 1) 38 := by
  simp only [tripRun.sl.r_22, tripRun.sl.r_20, tripRun.sl.r_21, t19_eq, s35_eq, s36_eq, s37_eq, s38_eq, w36_eq, w37_eq, w38_eq, w35_eq, c_eq']
  generalize gathered c XS k v = G
  rw [chain_succ _ _ _ _ 37, chain_succ _ _ _ _ 36, chain_succ _ _ _ _ 35, chain_succ _ _ _ _ 34]
  generalize chain _ _ _ _ 34 = P
  rfl
theorem t24_eq : tripRun.sl.r_24 (F := Ideal) c XA XC XS k v = chain XC XA (gathered c XS k v) (k.val + 1) 42 := by
  simp only [tripRun.sl.r_24, tripRun.sl.r_23, t22_eq, s39_eq, s40_eq, s41_eq, s42_eq, w39_eq, w40_eq, w41_eq, w42_eq, c_eq']
  generalize gathered c XS k v = G
  rw [chain_succ _ _ _ _ 41, chain_succ _ _ _ _ 40, chain_succ _ _ _ _ 39, chain_succ _ _ _ _ 38]
  generalize chain _ _ _ _ 38 = P
  rfl
theorem t25_eq : tripRun.sl.r_25 (F := Ideal) c XA XC XS k v = chain XC XA (gathered c XS k v) (k.val + 1) 45 := by
  simp only [tripRun.sl.r_25, t24_eq, s43_eq, s44_eq, s45_eq, w43_eq, w44_eq, w45_eq, c_eq']
  generalize gathered c XS k v = G
  rw [chain_succ _ _ _ _ 44, chain_succ _ _ _ _ 43, chain_succ _ _ _ _ 42]
  generalize chain _ _ _ _ 42 = P
  rfl
theorem t27_eq : tripRun.sl.r_27 (F := Ideal) c XA XC XS k v = chain XC XA (gathered c XS k v) (k.val + 1) 49 := by
  simp only [tripRun.sl.r_27, tripRun.sl.r_26, t25_eq, s46_eq, s47_eq, s48_eq, s49_eq, w47_eq, w48_eq, w49_eq, w46_eq, c_eq']
  generalize gathered c XS k v = G
  rw [chain_succ _ _ _ _ 48, chain_succ _ _ _ _ 47, chain_succ _ _ _ _ 46, chain_succ _ _ _ _ 45]
  generalize chain _ _ _ _ 45 = P
  rfl
theorem t30_eq : tripRun.sl.r_30 (F := Ideal) c XA XC XS k v = chain XC XA (gathered c XS k v) (k.val + 1) 53 := by
  simp only [tripRun.sl.r_30, tripRun.sl.r_28, tripRun.sl.r_29, t27_eq, s50_eq, s51_eq, s52_eq, s53_eq, w51_eq, w52_eq, w53_eq, w50_eq, c_eq']
  generalize gathered c XS k v = G
  rw [chain_succ _ _ _ _ 52, chain_succ _ _ _ _ 51, chain_succ _ _ _ _ 50, chain_succ _ _ _ _ 49]
  generalize chain _ _ _ _ 49 = P
  rfl
theorem t32_eq : tripRun.sl.r_32 (F := Ideal) c XA XC XS k v = chain XC XA (gathered c XS k v) (k.val + 1) 57 := by
  simp only [tripRun.sl.r_32, tripRun.sl.r_31, t30_eq, s54_eq, s55_eq, s56_eq, s57_eq, w54_eq, w55_eq, w56_eq, w57_eq, c_eq']
  generalize gathered c XS k v = G
  rw [chain_succ _ _ _ _ 56, chain_succ _ _ _ _ 55, chain_succ _ _ _ _ 54, chain_succ _ _ _ _ 53]
  generalize chain _ _ _ _ 53 = P
  rfl
theorem t33_eq : tripRun.sl.r_33 (F := Ideal) c XA XC XS k v = chain XC XA (gathered c XS k v) (k.val + 1) 60 := by
  simp only [tripRun.sl.r_33, t32_eq, s58_eq, s59_eq, s60_eq, w58_eq, w59_eq, w60_eq, c_eq']
  generalize gathered c XS k v = G
  rw [chain_succ _ _ _ _ 59, chain_succ _ _ _ _ 58, chain_succ _ _ _ _ 57]
  generalize chain _ _ _ _ 57 = P
  rfl

variable (XB : Buf (Elt Ideal) (bmM.view.loc (c : Thread nD τ))) (XD : Buf (Elt Ideal) (candM.view.loc (c : Thread nD τ))) (XX : Buf (Elt Ideal) (xsM.view.loc (c : Thread nD τ))) (XE : Buf (Elt Ideal) (caM.view.loc (c : Thread nD τ)))
  (arg6 : Memref sig .tc .vmem S64x1 .f32) (harg6 : arg6.IsWhole) (arg7 : Memref sig .tc .vmem S64x52 .f32) (harg7 : arg7.IsWhole) (arg9 : Memref sig .tc .vmem S64x1 .f32) (harg9 : arg9.IsWhole)
  (v104 v120 : IVec S64x128 32) (v2209 : FVec Ideal S64x256 .f32) (v2210 : Vec Ideal S64x128 .fp8e4m3) (v2212 : FVec Ideal S128x256 .fp8e4m3) (cst : FVec Ideal S64x256 .f32) (σ : St Ideal)

/-- A trip's accumulator: the sum of the 64 terms of its chunk. -/
theorem acc_eq : (tripOut c XA XC XS XB XD XX XE arg6 harg6 arg7 harg7 arg9 harg9 v104 v120 v2209 v2210 v2212 cst k σ).a
    = shapeCast S1x64x256 (chain XC XA (gathered c XS k (Scalar.muli (Scf.iv 1#32 1#32 k.val) 2#32)) (k.val + 1) 63) shapeCasts_S64x256_S1x64x256 := by
  show k0_pay30 (F := Ideal) (tripRun.sl.r_33 c XA XC XS k (Scalar.muli (Scf.iv 1#32 1#32 k.val) 2#32)) (tripRun.sl.r_34 c XA XC k)
    (tripRun.sl.v3135 c XS k (Scalar.muli (Scf.iv 1#32 1#32 k.val) 2#32)) _ (tripRun.sl.v3141 c XA k) (tripRun.sl.v3144 c XS k (Scalar.muli (Scf.iv 1#32 1#32 k.val) 2#32)) _
    (tripRun.sl.v3150 c XA k) (tripRun.sl.v3153 c XS k (Scalar.muli (Scf.iv 1#32 1#32 k.val) 2#32)) = _
  generalize Scalar.muli (Scf.iv 1#32 1#32 k.val) 2#32 = v
  simp only [t33_eq, tripRun.sl.r_34, s61_eq, w61_eq, s62_eq, w62_eq, s63_eq, w63_eq, c_eq']
  generalize gathered c XS k v = G
  rw [chain_succ _ _ _ _ 62, chain_succ _ _ _ _ 61, chain_succ _ _ _ _ 60]
  generalize chain _ _ _ _ 60 = P
  rfl

end Cert.Proof.Val
-- ==== Proof.LogC.lean ====
module

public import proofs.«01_k».proof.Proof.LogB

@[expose] public section

set_option maxRecDepth 16384

noncomputable section

namespace Cert.Proof.Val

open Cert.KernelIdeal Cert.KernelIdeal.Gen Cert.Proof.KernI
open Idealize.ShloMosaic
open Idealize.ShloMosaic.TcCoe
open Idealize.SL.Sem

theorem term_at (C : S64x8192.Idx → EReal) (A : S8192x32000.Idx → EReal) (G : S64x256.Idx → EReal) (b n : ℕ) (hn : n < 64) (i : S64x256.Idx) :
    (term C A G b n i : EReal) = (∑ k : Fin 128, C (ix2 (i 0 : Fin 64) (⟨128 * n + k.val, by omega⟩ : Fin 8192)) * A (ix2 (⟨128 * n + k.val, by omega⟩ : Fin 8192) (⟨256 * (b % 125) + (i 1).val, by
      have h : (i 1).val < 256 := (i 1).isLt
      have := Nat.mod_lt b (show 0 < 125 by decide)
      omega⟩ : Fin 32000))) * G (ix2 (⟨n, hn⟩ : Fin 64) (i 1 : Fin 256)) := by
  pointwise [term]
  have e1 : sv G n (ix2 0 (i 1)) = G (ix2 (⟨n, hn⟩ : Fin 64) (i 1 : Fin 256)) := by
    refine congrArg G ?_
    funext a; apply Fin.ext
    fin_cases a
    · exact Nat.mod_eq_of_lt hn
    · rfl
  have e2 : ∀ x : Fin 128, (⟨(128 * n + x.val) % 8192, Nat.mod_lt _ (by decide)⟩ : Fin 8192) = ⟨128 * n + x.val, by omega⟩ := fun x => Fin.ext (Nat.mod_eq_of_lt (by omega))
  rw [e1]
  refine congrArg (· * _) (Finset.sum_congr rfl fun x _ => ?_)
  show C (ix2 _ (⟨(128 * n + x.val) % 8192, _⟩ : Fin 8192)) * A (ix2 (⟨(128 * n + x.val) % 8192, _⟩ : Fin 8192) _) = _
  rw [e2 x]
  rfl

theorem chain_at (C : S64x8192.Idx → EReal) (A : S8192x32000.Idx → EReal) (G : S64x256.Idx → EReal) (b n : ℕ) (i : S64x256.Idx) :
    (chain C A G b n i : EReal) = ∑ j ∈ Finset.range (n + 1), (term C A G b j i : EReal) := by
  induction n with
  | zero => rw [chain_zero, Finset.sum_range_one]
  | succ n ih =>
    rw [chain_succ, Finset.sum_range_succ, ← ih]
    rfl

theorem lane_word : ∀ q : Fin 128, Scalar.select
      (IntOp.andi
        (IntOp.cmpi CmpIPredicate.ne
          (IntOp.subi (BitVec.setWidth 32 (IntOp.cmpi CmpIPredicate.sgt (BitVec.ofNat 32 q.val) 0#32))
            (BitVec.setWidth 32 (IntOp.cmpi CmpIPredicate.slt (BitVec.ofNat 32 q.val) 0#32)))
          (Scalar.subi (Scalar.extui (Scalar.cmpi CmpIPredicate.sgt 32#32 0#32))
            (Scalar.extui (Scalar.cmpi CmpIPredicate.slt 32#32 0#32))))
        (IntOp.cmpi CmpIPredicate.ne (IntOp.remsi ArithUnit.vector (BitVec.ofNat 32 q.val) 32#32) 0#32))
      (IntOp.subi (IntOp.divsi ArithUnit.vector (BitVec.ofNat 32 q.val) 32#32) 1#32)
      (IntOp.divsi ArithUnit.vector (BitVec.ofNat 32 q.val) 32#32) =
    BitVec.ofNat 32 (q.val / 32) := by decide +kernel

theorem lane_bit : ∀ q : Fin 128, Scalar.select
      (IntOp.andi
        (IntOp.xori
          (IntOp.cmpi CmpIPredicate.slt
            (IntOp.remsi ArithUnit.vector (BitVec.ofNat 32 q.val)
              (Scalar.select (Scalar.cmpi CmpIPredicate.eq 32#32 0#32) 1#32 32#32))
            0#32)
          (Scalar.cmpi CmpIPredicate.slt (Scalar.select (Scalar.cmpi CmpIPredicate.eq 32#32 0#32) 1#32 32#32) 0#32))
        (IntOp.cmpi CmpIPredicate.ne
          (IntOp.remsi ArithUnit.vector (BitVec.ofNat 32 q.val)
            (Scalar.select (Scalar.cmpi CmpIPredicate.eq 32#32 0#32) 1#32 32#32))
          0#32))
      (IntOp.addi
        (IntOp.remsi ArithUnit.vector (BitVec.ofNat 32 q.val)
          (Scalar.select (Scalar.cmpi CmpIPredicate.eq 32#32 0#32) 1#32 32#32))
        (Scalar.select (Scalar.cmpi CmpIPredicate.eq 32#32 0#32) 1#32 32#32))
      (IntOp.remsi ArithUnit.vector (BitVec.ofNat 32 q.val)
        (Scalar.select (Scalar.cmpi CmpIPredicate.eq 32#32 0#32) 1#32 32#32)) =
    BitVec.ofNat 32 (q.val % 32) := by decide +kernel

/-- A lane's word among those of its block. -/
theorem v104_at (i : S64x128.Idx) : bodyRun.sl.r i = BitVec.ofNat 32 ((i 1).val / 32) := by
  pointwise [bodyRun.sl.r, k0_pay55, bodyRun.sl.v80, bodyRun.sl.v81, bodyRun.sl.v83, bodyRun.sl.v85]
  exact lane_word (i 1)

/-- A lane's bit in its word. -/
theorem v120_at (i : S64x128.Idx) : k0_pay56 bodyRun.sl.v80 i = BitVec.ofNat 32 ((i 1).val % 32) := by
  pointwise [k0_pay56, bodyRun.sl.v80]
  exact lane_bit (i 1)

theorem off79_0 : ∀ k : Fin k0_t1_loop.trips, k0_off79 k 0#32 = ![0, 128 * ((8 * k.val) / 128)] := by decide +kernel
theorem off79_1 : ∀ k : Fin k0_t1_loop.trips, k0_off79 k 1#32 = ![0, 128 * ((8 * k.val + 4) / 128)] := by decide +kernel

theorem word0 : ∀ (k : Fin k0_t1_loop.trips) (q : Fin 4),
    (Scalar.select (IntOp.cmpi CmpIPredicate.slt (IntOp.addi (BitVec.ofNat 32 q.val) (tripRun.sl.v3202 (Scf.iv 1#32 1#32 k.val))) 0#32)
      (IntOp.addi (IntOp.addi (BitVec.ofNat 32 q.val) (tripRun.sl.v3202 (Scf.iv 1#32 1#32 k.val))) 128#32)
      (IntOp.addi (BitVec.ofNat 32 q.val) (tripRun.sl.v3202 (Scf.iv 1#32 1#32 k.val)))).toNat % 128 = (8 * k.val) % 128 + q.val := by decide +kernel

theorem word1 : ∀ (k : Fin k0_t1_loop.trips) (q : Fin 4),
    (Scalar.select (IntOp.cmpi CmpIPredicate.slt (IntOp.addi (BitVec.ofNat 32 q.val) (tripRun.sl.v3316 (Scf.iv 1#32 1#32 k.val))) 0#32)
      (IntOp.addi (IntOp.addi (BitVec.ofNat 32 q.val) (tripRun.sl.v3316 (Scf.iv 1#32 1#32 k.val))) 128#32)
      (IntOp.addi (BitVec.ofNat 32 q.val) (tripRun.sl.v3316 (Scf.iv 1#32 1#32 k.val)))).toNat % 128 = (8 * k.val + 4) % 128 + q.val := by decide +kernel

theorem scale0 : ∀ k : Fin k0_t1_loop.trips,
    (Scalar.select (IntOp.cmpi CmpIPredicate.slt (IntOp.addi (0#32) (tripRun.sl.v2543 (Scalar.muli (Scf.iv 1#32 1#32 k.val) 2#32))) 0#32)
      (IntOp.addi (IntOp.addi (0#32) (tripRun.sl.v2543 (Scalar.muli (Scf.iv 1#32 1#32 k.val) 2#32))) 128#32)
      (IntOp.addi (0#32) (tripRun.sl.v2543 (Scalar.muli (Scf.iv 1#32 1#32 k.val) 2#32)))).toNat % 128 = (2 * k.val + 2) % 128 := by decide +kernel

/-- The second half's column among the 128 gathered from, as the kernel computes it. -/
def colWord (v : BitVec 32) : BitVec 32 :=
  IntOp.addi (0#32) (Scalar.addi (Scalar.select (Scalar.andi (Scalar.xori (Scalar.cmpi CmpIPredicate.slt (Scalar.remsi v 128#32) 0#32) (Scalar.cmpi CmpIPredicate.slt 128#32 0#32))
    (Scalar.cmpi CmpIPredicate.ne (Scalar.remsi v 128#32) 0#32)) (Scalar.addi (Scalar.remsi v 128#32) 128#32) (Scalar.remsi v 128#32)) 1#32)

theorem scale1 : ∀ k : Fin k0_t1_loop.trips,
    (Scalar.select (IntOp.cmpi CmpIPredicate.slt (colWord (Scalar.muli (Scf.iv 1#32 1#32 k.val) 2#32)) 0#32)
      (IntOp.addi (colWord (Scalar.muli (Scf.iv 1#32 1#32 k.val) 2#32)) 128#32)
      (colWord (Scalar.muli (Scf.iv 1#32 1#32 k.val) 2#32))).toNat % 128 = (2 * k.val + 2) % 128 + 1 := by decide +kernel

theorem bmread (XB : S64x1024.Idx → BitVec 32) (p : ℕ) (off : Fin 2 → ℕ) (e : off = ![0, p]) (h : ∀ a, off a + S64x128.size a ≤ S64x1024.size a) (x : S64x128.Idx) :
    View.readAt (Elt Ideal) bmM.view (Rect.unit (s := S64x1024) off S64x128.size h).toLoadRect XB x = XB (ix2 (x 0 : Fin 64) (⟨p + (x 1).val, by
      subst e
      have h1 : p + 128 ≤ 1024 := h 1
      have h2 : (x 1).val < 128 := (x 1).isLt
      omega⟩ : Fin 1024)) := by
  subst e
  show XB _ = XB _
  refine congrArg XB ?_
  funext a; apply Fin.ext
  fin_cases a
  · show 0 + 1 * (x 0).val = (x 0).val; omega
  · show p + 1 * (x 1).val = p + (x 1).val; omega

theorem aread (b q : ℕ) (X : S1x64x256.Idx → EReal) (off : Fin 3 → ℕ) (e : off = ![b % 2, 0, q]) (h : ∀ a, off a + S1x64x128.size a ≤ S2x64x256.size a) (g : (aslot b).view.ty.Contents (Elt Ideal)) (x : S1x64x128.Idx) :
    View.readAt (Elt Ideal) (Memref.whole cc0_scratch11).view (Rect.unit (s := S2x64x256) off S1x64x128.size h).toLoadRect
      ((aslot b).view.writes (Elt Ideal) g [⟨Rect.whole S1x64x256, X⟩]) x = X (ix3 (0 : Fin 1) (x 1 : Fin 64) (⟨q + (x 2).val, by
      subst e
      have h1 : q + 128 ≤ 256 := h 2
      have h2 : (x 2).val < 128 := (x 2).isLt
      omega⟩ : Fin 256)) := by
  subst e
  have h1 : q + 128 ≤ 256 := h 2
  have hx0 : (x 0).val < 1 := (x 0).isLt
  have hx2 : (x 2).val < 128 := (x 2).isLt
  let y : S1x64x256.Idx := ix3 (0 : Fin 1) (x 1 : Fin 64) (⟨q + (x 2).val, by omega⟩ : Fin 256)
  have k := congrFun (View.read_writes_whole (Val := Elt Ideal) (aslot b).view g X) y
  generalize (aslot b).view.writes (Elt Ideal) g [⟨Rect.whole S1x64x256, X⟩] = f at k ⊢
  have k2 : f ((aslot b).view.emb y) = X y := k
  have ei : (aslot b).view.emb y = (Rect.unit (s := S2x64x256) ![b % 2, 0, q] S1x64x128.size h).toLoadRect.idx x := by
    funext a; apply Fin.ext
    fin_cases a
    · show b % 2 + 1 * 0 = b % 2 + 1 * (x 0).val; omega
    · show 0 + 1 * (x 1).val = 0 + 1 * (x 1).val; omega
    · show 0 + 1 * (q + (x 2).val) = q + 1 * (x 2).val; omega
  have k3 : f ((Rect.unit (s := S2x64x256) ![b % 2, 0, q] S1x64x128.size h).toLoadRect.idx x) = X y := by rw [← k2, ei]
  exact k3

variable (c : Dev nD) (XB : Buf (Elt Ideal) (bmM.view.loc (c : Thread nD τ))) (XS : Buf (Elt Ideal) (wsM.view.loc (c : Thread nD τ))) (k : Fin k0_t1_loop.trips)

theorem wsread (p : ℕ) (off : Fin 2 → ℕ) (e : off = ![0, p]) (h : ∀ a, off a + S64x128.size a ≤ S64x256.size a) (x : S64x128.Idx) (q : ℕ) (hq : q < 256) (eq : p + (x 1).val = q) :
    View.readAt (Elt Ideal) wsM.view (Rect.unit (s := S64x256) off S64x128.size h).toLoadRect XS x = XS (ix2 (x 0 : Fin 64) (⟨q, hq⟩ : Fin 256)) := by
  subst e
  show XS _ = XS _
  refine congrArg XS ?_
  funext a; apply Fin.ext
  fin_cases a
  · show 0 + 1 * (x 0).val = (x 0).val; omega
  · show p + 1 * (x 1).val = q; omega

/-- Whether a token of chunk `b` is allowed, by the padded words. -/
def okPad (XB : S64x1024.Idx → BitVec 32) (b : ℕ) (i : S64x256.Idx) : BitVec 1 :=
  IntOp.cmpi CmpIPredicate.eq (IntOp.andi (IntOp.shrsi ArithUnit.vector (XB (ix2 (i 0 : Fin 64) (⟨(8 * b + (i 1).val / 32) % 1024, Nat.mod_lt _ (by decide)⟩ : Fin 1024))) (BitVec.ofNat 32 ((i 1).val % 32))) 1#32) 1#32

theorem bmread' (p : ℕ) (off : Fin 2 → ℕ) (e : off = ![0, p]) (h : ∀ a, off a + S64x128.size a ≤ S64x1024.size a) (x : S64x128.Idx) (q : ℕ) (hq : q < 1024) (eq : p + (x 1).val = q) :
    View.readAt (Elt Ideal) bmM.view (Rect.unit (s := S64x1024) off S64x128.size h).toLoadRect XB x = XB (ix2 (x 0 : Fin 64) (⟨q, hq⟩ : Fin 1024)) := by
  refine (bmread XB p off e h x).trans ?_
  refine congrArg XB ?_
  funext a; apply Fin.ext
  fin_cases a
  · rfl
  · exact eq

theorem trips : k0_t1_loop.trips = 124 := by decide +kernel

theorem ok0_at (r : Fin 64) (y : Fin 128) :
    k0_pay33 (F := Ideal) (k0_pay56 bodyRun.sl.v80) (tripRun.sl.r_36 (F := Ideal) c XB k) (tripRun.sl.v3204 bodyRun.sl.r (Scf.iv 1#32 1#32 k.val))
      (tripRun.sl.v3206 bodyRun.sl.r (Scf.iv 1#32 1#32 k.val)) (128#32) (ix2 r y) = okPad XB k.val (ix2 r (⟨y.val, by omega⟩ : Fin 256)) := by
  have hk : k.val < 124 := trips ▸ k.isLt
  have key : ∀ p : Fin 128, p.val = (8 * k.val) % 128 + y.val / 32 → tripRun.sl.r_36 (F := Ideal) c XB k (ix2 r p) = XB (ix2 r (⟨(8 * k.val + y.val / 32) % 1024, Nat.mod_lt _ (by decide)⟩ : Fin 1024)) := by
    intro p hp
    exact bmread' c XB _ _ (off79_0 k) _ (ix2 r p) _ (Nat.mod_lt _ (by decide)) (by show 128 * (8 * k.val / 128) + p.val = _; omega)
  pointwise [k0_pay33, tripRun.sl.v3204, tripRun.sl.v3206, tripRun.sl.v3203, tripRun.sl.v2532]
  have e1 : bodyRun.sl.r (ix2 r y) = BitVec.ofNat 32 (y.val / 32) := v104_at _
  have e2 : k0_pay56 bodyRun.sl.v80 (ix2 r y) = BitVec.ofNat 32 (y.val % 32) := v120_at _
  rw [e2]
  simp only [e1]
  rw [key ⟨_, Nat.mod_lt _ (by decide)⟩ (word0 k ⟨y.val / 32, by omega⟩)]
  rfl

theorem ok1_at (r : Fin 64) (y : Fin 128) :
    tripRun.sl.v3331 (F := Ideal) c XB bodyRun.sl.r (k0_pay56 bodyRun.sl.v80) k (Scf.iv 1#32 1#32 k.val) (ix2 r y) = okPad XB k.val (ix2 r (⟨128 + y.val, by omega⟩ : Fin 256)) := by
  have hk : k.val < 124 := trips ▸ k.isLt
  have key : ∀ p : Fin 128, p.val = (8 * k.val + 4) % 128 + y.val / 32 → View.readAt (Elt Ideal) (View.whole cc0_scratch6) (Rect.unit (s := S64x1024) (k0_off79 k 1#32) ![64, 128] (k0_off79_inb k 1)).toLoadRect XB (ix2 r p) = XB (ix2 r (⟨(8 * k.val + (128 + y.val) / 32) % 1024, Nat.mod_lt _ (by decide)⟩ : Fin 1024)) := by
    intro p hp
    exact bmread' c XB _ _ (off79_1 k) _ (ix2 r p) _ (Nat.mod_lt _ (by decide)) (by show 128 * ((8 * k.val + 4) / 128) + p.val = _; omega)
  pointwise [tripRun.sl.v3331, tripRun.sl.v3329, tripRun.sl.v3327, tripRun.sl.v3326, tripRun.sl.v3325, tripRun.sl.v3324, tripRun.sl.v3323, tripRun.sl.v3322, tripRun.sl.v3320, tripRun.sl.v3318,tripRun.sl.v3317,tripRun.sl.v3253, tripRun.sl.v2548, tripRun.sl.v2532]
  have e1 : bodyRun.sl.r (ix2 r y) = BitVec.ofNat 32 (y.val / 32) := v104_at _
  have e2 : k0_pay56 bodyRun.sl.v80 (ix2 r y) = BitVec.ofNat 32 (y.val % 32) := v120_at _
  rw [e2]
  simp only [e1]
  rw [key ⟨_, Nat.mod_lt _ (by decide)⟩ (word1 k ⟨y.val / 32, by omega⟩)]
  unfold okPad
  rw [show (((ix2 r (⟨128 + y.val, by omega⟩ : Fin 256) : S64x256.Idx) 1).val % 32) = y.val % 32 by show (128 + y.val) % 32 = _; omega]
  rfl

/-- The scales a trip gathers: those of its chunk's two blocks of columns. -/
theorem gathered_at (i : S64x256.Idx) : gathered c XS k (Scalar.muli (Scf.iv 1#32 1#32 k.val) 2#32) i = XS (ix2 (i 0 : Fin 64) (⟨(2 * (k.val + 1) + (i 1).val / 128) % 256, Nat.mod_lt _ (by decide)⟩ : Fin 256)) := by
  have hk : k.val < 124 := trips ▸ k.isLt
  have hi : (i 1).val < 256 := (i 1).isLt
  unfold gathered halves
  split_ifs with h
  · have key : ∀ p : Fin 128, p.val = (2 * k.val + 2) % 128 → View.readAt (Elt Ideal) (View.whole cc0_scratch4) (Rect.unit (s := S64x256) (k0_off13 k) ![64, 128] (k0_off13_inb k)).toLoadRect XS (ix2 (i 0 : Fin 64) p) = XS (ix2 (i 0 : Fin 64) (⟨(2 * (k.val + 1) + (i 1).val / 128) % 256, Nat.mod_lt _ (by decide)⟩ : Fin 256)) := by
      intro p hp
      exact wsread c XS _ _ (k0_off13_eq k) _ (ix2 (i 0 : Fin 64) p) _ (Nat.mod_lt _ (by decide)) (by show 128 * ((2 * k.val + 2) / 128) + p.val = _; omega)
    pointwise [tripRun.sl.v2556, tripRun.sl.v2553, tripRun.sl.v2552, tripRun.sl.v2551, tripRun.sl.v2550, tripRun.sl.v2549, tripRun.sl.v2548, tripRun.sl.v2547, tripRun.sl.v2545, tripRun.sl.v2544, tripRun.sl.v2532]
    exact key ⟨_, Nat.mod_lt _ (by decide)⟩ (scale0 k)
  · have key : ∀ p : Fin 128, p.val = (2 * k.val + 2) % 128 + 1 → tripRun.sl.r (F := Ideal) c XS k (ix2 (i 0 : Fin 64) p) = XS (ix2 (i 0 : Fin 64) (⟨(2 * (k.val + 1) + (i 1).val / 128) % 256, Nat.mod_lt _ (by decide)⟩ : Fin 256)) := by
      intro p hp
      exact wsread c XS _ _ (k0_off13_eq k) _ (ix2 (i 0 : Fin 64) p) _ (Nat.mod_lt _ (by decide)) (by show 128 * ((2 * k.val + 2) / 128) + p.val = _; omega)
    pointwise [k0_pay3, tripRun.sl.v2532]
    exact key ⟨_, Nat.mod_lt _ (by decide)⟩ (scale1 k)

variable (XA : Buf (Elt Ideal) (wM.view.loc (c : Thread nD τ))) (XC : Buf (Elt Ideal) (codesM.view.loc (c : Thread nD τ)))
  (XD : Buf (Elt Ideal) (candM.view.loc (c : Thread nD τ))) (XX : Buf (Elt Ideal) (xsM.view.loc (c : Thread nD τ))) (XE : Buf (Elt Ideal) (caM.view.loc (c : Thread nD τ)))
  (arg6 : Memref sig .tc .vmem S64x1 .f32) (harg6 : arg6.IsWhole) (arg7 : Memref sig .tc .vmem S64x52 .f32) (harg7 : arg7.IsWhole) (arg9 : Memref sig .tc .vmem S64x1 .f32) (harg9 : arg9.IsWhole)
  (v2209 : FVec Ideal S64x256 .f32) (v2210 : Vec Ideal S64x128 .fp8e4m3) (v2212 : FVec Ideal S128x256 .fp8e4m3) (cst : FVec Ideal S64x256 .f32) (σ : St Ideal)

/-- A trip's output: the accumulator of the chunk before, scaled and masked. -/
def outPad (XB : S64x1024.Idx → BitVec 32) (XX : S64x128.Idx → EReal) (b : ℕ) (a : S1x64x256.Idx → EReal) : S64x256.Idx → EReal := fun i =>
  Scalar.select (okPad XB b i) (a (ix3 (0 : Fin 1) (i 0 : Fin 64) (i 1 : Fin 256)) * XX (ix2 (i 0 : Fin 64) (⟨(i 1).val % 128, Nat.mod_lt _ (by decide)⟩ : Fin 128))) 0

theorem xxread (h : ∀ a, (![0, 0] : Fin 2 → ℕ) a + S64x128.size a ≤ S64x128.size a) : View.readAt (Elt Ideal) xsM.view (Rect.unit (s := S64x128) ![0, 0] S64x128.size h).toLoadRect XX = XX := by
  funext x
  show XX _ = XX _
  refine congrArg XX ?_
  funext a; apply Fin.ext
  fin_cases a
  · show 0 + 1 * (x 0).val = (x 0).val; omega
  · show 0 + 1 * (x 1).val = (x 1).val; omega

theorem o1_at (r : Fin 64) (y : Fin 128) : (tripOut c XA XC XS XB XD XX XE arg6 harg6 arg7 harg7 arg9 harg9 bodyRun.sl.r (k0_pay56 bodyRun.sl.v80) v2209 v2210 v2212 cst k σ).o₁ (ix3 (0 : Fin 1) r y)
    = outPad XB XX k.val σ.a (ix2 r (⟨y.val, by omega⟩ : Fin 256)) := by
  show k0_pay35 (F := Ideal) (k0_pay56 bodyRun.sl.v80) (tripRun.sl.r_36 (F := Ideal) c XB k) (tripRun.sl.v3204 bodyRun.sl.r (Scf.iv 1#32 1#32 k.val)) (tripRun.sl.v3206 bodyRun.sl.r (Scf.iv 1#32 1#32 k.val)) (128#32)
    (View.readAt (Elt Ideal) (Memref.whole cc0_scratch11).view (Rect.unit (s := S2x64x256) (k0_off80 k) S1x64x128.size (k0_off80_inb k)).toLoadRect ((aslot k.val).view.writes (Elt Ideal) (aslot k.val).view.junk [⟨Rect.whole S1x64x256, σ.a⟩]))
    (View.readAt (Elt Ideal) xsM.view (Rect.unit ![0, 0] S64x128.size inb_S64x128_S64x128_0_0).toLoadRect XX) (ix3 (0 : Fin 1) r y) = _
  rw [xxread c XX]
  have ea : ∀ x : S1x64x128.Idx, _ := fun x => aread k.val 0 σ.a _ (k0_off80_eq k) (k0_off80_inb k) (aslot k.val).view.junk x
  generalize View.readAt (Elt Ideal) (Memref.whole cc0_scratch11).view (Rect.unit (s := S2x64x256) (k0_off80 k) S1x64x128.size (k0_off80_inb k)).toLoadRect ((aslot k.val).view.writes (Elt Ideal) (aslot k.val).view.junk [⟨Rect.whole S1x64x256, σ.a⟩]) = R at ea ⊢
  have eo := ok0_at c XB k r y
  pointwise [k0_pay35, k0_pay34]
  rw [eo, ea]
  unfold outPad
  have ex : (⟨(((ix2 r (⟨y.val, by omega⟩ : Fin 256) : S64x256.Idx) 1).val) % 128, Nat.mod_lt _ (by decide)⟩ : Fin 128) = y := Fin.ext (Nat.mod_eq_of_lt y.isLt)
  rw [ex]
  have e0 : (⟨0 + y.val, by omega⟩ : Fin 256) = ⟨y.val, by omega⟩ := Fin.ext (Nat.zero_add _)
  erw [e0]
  rfl

theorem v3334_at (x : S64x128.Idx) : tripRun.sl.v3334 (F := Ideal) k σ x = σ.a (ix3 (0 : Fin 1) (x 0 : Fin 64) (⟨128 + (x 1).val, by have h : (x 1).val < 128 := (x 1).isLt; omega⟩ : Fin 256)) := by
  unfold tripRun.sl.v3334
  have ea : ∀ x : S1x64x128.Idx, _ := fun x => aread k.val 128 σ.a _ (k0_off82_eq k) (k0_off82_inb k) (aslot k.val).view.junk x
  generalize View.readAt (Elt Ideal) (Memref.whole cc0_scratch11).view (Rect.unit (s := S2x64x256) (k0_off82 k) S1x64x128.size (k0_off82_inb k)).toLoadRect ((aslot k.val).view.writes (Elt Ideal) (aslot k.val).view.junk [⟨Rect.whole S1x64x256, σ.a⟩]) = R at ea ⊢
  pointwise []
  rw [ea]
  rfl

theorem pay45_at (p : Vec Ideal S64x128 .i1) (a b : Vec Ideal S64x128 .f32) (r : Fin 64) (y : Fin 128) :
    k0_pay45 (F := Ideal) p a b (ix3 (0 : Fin 1) r y) = Scalar.select (p (ix2 r y)) ((a (ix2 r y) : EReal) * b (ix2 r y)) (0 : EReal) := by
  pointwise [k0_pay45, k0_pay44]

theorem o2_eq : (tripOut c XA XC XS XB XD XX XE arg6 harg6 arg7 harg7 arg9 harg9 bodyRun.sl.r (k0_pay56 bodyRun.sl.v80) v2209 v2210 v2212 cst k σ).o₂
    = k0_pay45 (F := Ideal) (tripRun.sl.v3331 (F := Ideal) c XB bodyRun.sl.r (k0_pay56 bodyRun.sl.v80) k (Scf.iv 1#32 1#32 k.val)) (tripRun.sl.v3334 (F := Ideal) k σ)
    (View.readAt (Elt Ideal) xsM.view (Rect.unit ![0, 0] S64x128.size inb_S64x128_S64x128_0_0).toLoadRect XX) := rfl

theorem o2_at (r : Fin 64) (y : Fin 128) : (tripOut c XA XC XS XB XD XX XE arg6 harg6 arg7 harg7 arg9 harg9 bodyRun.sl.r (k0_pay56 bodyRun.sl.v80) v2209 v2210 v2212 cst k σ).o₂ (ix3 (0 : Fin 1) r y)
    = outPad XB XX k.val σ.a (ix2 r (⟨128 + y.val, by omega⟩ : Fin 256)) := by
  rw [o2_eq, xxread c XX, pay45_at, ok1_at, v3334_at]
  unfold outPad
  have ex : (⟨(((ix2 r (⟨128 + y.val, by omega⟩ : Fin 256) : S64x256.Idx) 1).val) % 128, Nat.mod_lt _ (by decide)⟩ : Fin 128) = y := Fin.ext (by show (128 + y.val) % 128 = y.val; omega)
  rw [ex]
  rfl

/-- What a trip leaves of its chunk's logits. -/
theorem out_at (y : S64x256.Idx) : ohalves (tripOut c XA XC XS XB XD XX XE arg6 harg6 arg7 harg7 arg9 harg9 bodyRun.sl.r (k0_pay56 bodyRun.sl.v80) v2209 v2210 v2212 cst k σ).o₁
      (tripOut c XA XC XS XB XD XX XE arg6 harg6 arg7 harg7 arg9 harg9 bodyRun.sl.r (k0_pay56 bodyRun.sl.v80) v2209 v2210 v2212 cst k σ).o₂ y
    = outPad XB XX k.val σ.a y := by
  have hy : (y 1).val < 256 := (y 1).isLt
  unfold ohalves
  split_ifs with h
  · refine (o1_at c XB XS k XA XC XD XX XE arg6 harg6 arg7 harg7 arg9 harg9 v2209 v2210 v2212 cst σ (y 0) ⟨(y 1).val, h⟩).trans ?_
    refine congrArg _ ?_
    funext a; apply Fin.ext; fin_cases a <;> rfl
  · refine (o2_at c XB XS k XA XC XD XX XE arg6 harg6 arg7 harg7 arg9 harg9 v2209 v2210 v2212 cst σ (y 0) ⟨(y 1).val - 128, by omega⟩).trans ?_
    refine congrArg _ ?_
    funext a; apply Fin.ext; fin_cases a
    · rfl
    · show 128 + ((y 1).val - 128) = (y 1).val; omega

end Cert.Proof.Val
-- ==== Proof.LogD.lean ====
module

public import proofs.«01_k».proof.Proof.LogC

@[expose] public section

set_option maxRecDepth 16384

noncomputable section

namespace Cert.Proof.Val

open Cert.KernelIdeal Cert.KernelIdeal.Gen Cert.Proof.KernI
open Idealize.ShloMosaic
open Idealize.ShloMosaic.TcCoe
open Idealize.SL.Sem

/-- A sum scaled by a nonnegative real, term by term. -/
theorem sum_scale {ι : Type} (S : Finset ι) (f : ι → EReal) (s : EReal) (h0 : 0 ≤ s) (h1 : s ≠ ⊤) : (∑ k ∈ S, f k) * s = ∑ k ∈ S, f k * s := by
  classical
  induction S using Finset.induction_on with
  | empty => simp
  | insert a S ha ih => rw [Finset.sum_insert ha, Finset.sum_insert ha, ← ih, EReal.right_distrib_of_nonneg_of_ne_top h0 h1]

/-- A sum over 8192 as 64 sums over 128. -/
theorem sum_blocks (f : Fin 8192 → EReal) : ∑ n ∈ Finset.range 64, ∑ k : Fin 128, f (⟨(128 * n + k.val) % 8192, Nat.mod_lt _ (by decide)⟩ : Fin 8192) = ∑ p : Fin 8192, f p := by
  rw [Finset.sum_range]
  rw [← Finset.sum_product']
  refine Finset.sum_nbij' (fun a : Fin 64 × Fin 128 => (⟨(128 * a.1.val + a.2.val) % 8192, Nat.mod_lt _ (by decide)⟩ : Fin 8192))
    (fun p : Fin 8192 => ((⟨p.val / 128, by omega⟩ : Fin 64), (⟨p.val % 128, by omega⟩ : Fin 128))) ?_ ?_ ?_ ?_ ?_
  · intro a _; exact Finset.mem_univ _
  · intro a _; exact Finset.mem_univ _
  · rintro ⟨a, b⟩ _
    refine Prod.ext (Fin.ext ?_) (Fin.ext ?_)
    · show (128 * a.val + b.val) % 8192 / 128 = a.val; omega
    · show (128 * a.val + b.val) % 8192 % 128 = b.val; omega
  · intro p _
    refine Fin.ext ?_
    show (128 * (p.val / 128) + p.val % 128) % 8192 = p.val; omega
  · intro a _; rfl

/-- The 64 scaled block products together: the product with the scaled weights. -/
theorem blocks_eq (C : Fin 8192 → EReal) (A : Fin 8192 → EReal) (s : Fin 64 → EReal) (h0 : ∀ n, 0 ≤ s n) (h1 : ∀ n, s n ≠ ⊤) :
    ∑ n ∈ Finset.range 64, (∑ k : Fin 128, C (⟨(128 * n + k.val) % 8192, Nat.mod_lt _ (by decide)⟩ : Fin 8192) * A (⟨(128 * n + k.val) % 8192, Nat.mod_lt _ (by decide)⟩ : Fin 8192)) * s (⟨n % 64, Nat.mod_lt _ (by decide)⟩ : Fin 64)
      = ∑ p : Fin 8192, C p * (A p * s (⟨p.val / 128, by omega⟩ : Fin 64)) := by
  refine Eq.trans ?_ (sum_blocks (fun p => C p * (A p * s (⟨p.val / 128, by omega⟩ : Fin 64))))
  refine Finset.sum_congr rfl fun n hn => ?_
  have hn : n < 64 := Finset.mem_range.1 hn
  rw [sum_scale _ _ _ (h0 _) (h1 _)]
  refine Finset.sum_congr rfl fun k _ => ?_
  have e : (⟨n % 64, Nat.mod_lt _ (by decide)⟩ : Fin 64) = (⟨(128 * n + k.val) % 8192 / 128, by omega⟩ : Fin 64) := Fin.ext (by show n % 64 = (128 * n + k.val) % 8192 / 128; omega)
  rw [e, mul_assoc]

end Cert.Proof.Val
end
-- ==== Proof.ValR.lean ====
module

public import proofs.«01_k».proof.Proof.ValA
public import proofs.«01_k».proof.Proof.Gen.ReferenceIdeal.Skeleton
public import Idealize.ShloMosaic.Lib.Pipeline.ValueKit
public import Idealize.ShloMosaic.Lib.Pointwise

@[expose] public section

set_option maxRecDepth 16384

noncomputable section

namespace Cert.Proof.Val

open Cert.KernelIdeal Cert.KernelIdeal.Gen
open Idealize.ShloMosaic
open Idealize.ShloMosaic.TcCoe

theorem T_255 : T 255 = ⊤ := by unfold T; simp [Ideal.ofBits, Ideal.ieee]

/-- What a positive normal pattern denotes. -/
theorem ieee_norm (b : BitVec 32) (e m : ℕ) (ha : (b.extractLsb' 31 1 == 1#1) = false) (hb : (b.extractLsb' 23 8).toNat = e) (hc : (b.extractLsb' 0 23).toNat = m)
    (h1 : 1 ≤ e) (h2 : e ≤ 254) : Ideal.ieee 8 23 b = ((((2 : ℝ) ^ (23 : ℕ) + m) * (2 : ℝ) ^ ((e : ℤ) - 127 - 23) : ℝ) : EReal) := by
  have e1 : ¬ e = 2 ^ 8 - 1 := by omega
  have e2 : ¬ e = 0 := by omega
  simp only [Ideal.ieee, Nat.reduceAdd, ha, hb, hc, e1, e2, if_false, Bool.false_eq_true]
  norm_num

theorem lit_125 : Ideal.ofBits .f32 1123680256#32 = ((125 : ℝ) : EReal) :=
  (ieee_norm 1123680256#32 133 7995392 (by decide) (by decide) (by decide) (by omega) (by omega)).trans (congrArg _ (by norm_num))

theorem lit_max : Ideal.ofBits .f32 0x7F7F0000#32 ≤ (((2 : ℝ) ^ (128 : ℕ) : ℝ) : EReal) := by
  refine le_of_eq_of_le (ieee_norm 0x7F7F0000#32 254 8323072 (by decide) (by decide) (by decide) (by omega) (by omega)) ?_
  rw [EReal.coe_le_coe_iff]
  norm_num

theorem lit_448 : ∃ q : ℝ, Ideal.ofBits .f32 991054117#32 = (q : EReal) ∧ 0 ≤ q ∧ q ≤ (2 : ℝ) ^ (-8 : ℤ) :=
  ⟨_, ieee_norm 991054117#32 118 1198373 (by decide) (by decide) (by decide) (by omega) (by omega), by positivity, by norm_num⟩

theorem power_at (k : ℕ) (hk : k < 253) : (FloatOps.exp2 (F := Ideal) (φ := .f32) (FloatOps.sitofp (F := Ideal) FTy.f32 (BitVec.ofNat 32 k) - Ideal.ofBits FTy.f32 1123680256#32 : EReal) : EReal) = T (k + 2) := by
  rw [lit_125, T_eq (k + 2) (by omega) (by omega)]
  have e : (BitVec.ofNat 32 k).toInt = (k : ℤ) := by
    rw [BitVec.toInt_eq_toNat_of_lt] <;> rw [BitVec.toNat_ofNat] <;> omega
  show Ideal.exp2 ((((BitVec.ofNat 32 k).toInt : ℝ) : EReal) - ((125 : ℝ) : EReal)) = _
  rw [e, ← EReal.coe_sub]
  show ((Real.rpow 2 (((k : ℤ) : ℝ) - 125) : ℝ) : EReal) = _
  congr 1
  have e2 : (((k : ℤ) : ℝ) - 125) = (((k + 2 : ℕ) : ℤ) - 127 : ℤ) := by push_cast; ring
  rw [e2]
  exact Real.rpow_intCast 2 _

theorem ref_scale (x : Vec Ideal S64x8192 .bf16) (i : S64x1.Idx) : (Cert.ReferenceIdeal.Gen.k0_pay3 (F := Ideal) x i : EReal) = refScale (vOf x (i 0)) := by
  pointwise [Cert.ReferenceIdeal.Gen.k0_pay3, Cert.ReferenceIdeal.Gen.k0_pay2]
  have ev : Finset.fold max (Ideal.ofBits FTy.f32 4286578688#32) (fun k : Fin 8192 => FloatOps.absf (F := Ideal) (φ := .f32) (x (ix2 (i 0) k))) Finset.univ * Ideal.ofBits FTy.f32 991054117#32 = vOf x (i 0) := rfl
  have et : Ideal.ofBits FTy.f32 2139095040#32 = ⊤ := T_255
  have ep : (fun k : Fin 253 => if vOf x (i 0) < FloatOps.exp2 (F := Ideal) (φ := .f32) (FloatOps.sitofp (F := Ideal) FTy.f32 (BitVec.ofNat 32 k.val) - Ideal.ofBits FTy.f32 1123680256#32 : EReal) then
      FloatOps.exp2 (F := Ideal) (φ := .f32) (FloatOps.sitofp (F := Ideal) FTy.f32 (BitVec.ofNat 32 k.val) - Ideal.ofBits FTy.f32 1123680256#32 : EReal) else ⊤) = (fun k : Fin 253 => if vOf x (i 0) < T (k.val + 2) then T (k.val + 2) else ⊤) := by
    funext k
    rw [power_at k.val k.isLt]
  erw [ev, et, ep]
  unfold refScale
  have e1 : Ideal.ofBits FTy.f32 8388608#32 = T 1 := rfl
  have e2 : Ideal.ofBits FTy.f32 2130706432#32 = T 254 := rfl
  rw [e1, e2]
  by_cases h1 : T 1 ≤ vOf x (i 0) <;> by_cases h2 : vOf x (i 0) < T 254 <;> simp [h1, h2, Scalar.select, IntOp.andi]

theorem ref_codes (x : Vec Ideal S64x8192 .bf16) (hv : ∀ r, vOf x r < T 253) (i : S64x8192.Idx) :
    (Cert.ReferenceIdeal.Gen.k0_pay4 (F := Ideal) x i : EReal) = codeAt x i := by
  have h3 := ref_scale x (ix2 (i 0) 0)
  pointwise [Cert.ReferenceIdeal.Gen.k0_pay4, Cert.ReferenceIdeal.Gen.k0_pay2]
  erw [h3]
  unfold codeAt
  have hb := inv_eq _ (hv (i 0))
  rw [mul_T _ _ hb.1 hb.2, scale_eq]
  rfl

theorem vOf_lt (w : S64x8192.Idx → Elt Ideal .bf16) (hw : ∀ y, max (w y : EReal) (-(w y : EReal)) ≤ Ideal.ofBits .f32 0x7F7F0000#32) (r : Fin 64) : vOf w r < T 253 := by
  unfold vOf
  have eb : Ideal.ofBits .f32 4286578688#32 = ⊥ := by simp [Ideal.ofBits, Ideal.ieee]
  obtain ⟨q, eq, q0, q1⟩ := lit_448
  rw [eq]
  have hM : Finset.univ.fold max (Ideal.ofBits .f32 4286578688#32) (fun k : Fin 8192 => max (w (ix2 r k) : EReal) (-(w (ix2 r k) : EReal))) ≤ (((2 : ℝ) ^ (128 : ℕ) : ℝ) : EReal) := by
    rw [Finset.fold_max_le]
    exact ⟨eb ▸ bot_le, fun k _ => le_trans (hw _) lit_max⟩
  refine lt_of_le_of_lt (mul_le_mul_of_nonneg_right hM (by exact_mod_cast q0)) ?_
  rw [T_eq 253 (by omega) (by omega), ← EReal.coe_mul, EReal.coe_lt_coe_iff]
  have h8 : (2 : ℝ) ^ (128 : ℕ) * q ≤ (2 : ℝ) ^ (128 : ℕ) * (2 : ℝ) ^ (-8 : ℤ) := mul_le_mul_of_nonneg_left q1 (by positivity)
  refine lt_of_le_of_lt h8 ?_
  norm_num

end Cert.Proof.Val
end
-- ==== Proof.ValE.lean ====
module

public import proofs.«01_k».proof.Proof.ValR
public import proofs.«01_k».proof.Proof.Gen.ReferenceIdeal.Frame
public import Idealize.ShloMosaic.Lib.Claim
public import Idealize.ShloMosaic.Lib.Pipeline.ValueKit
public import Idealize.ShloMosaic.Lib.Pointwise

@[expose] public section

set_option maxRecDepth 16384

noncomputable section

namespace Cert.Proof.Val

open Cert.ReferenceIdeal Cert.ReferenceIdeal.Gen
open Idealize.ShloMosaic
open Idealize.ShloMosaic.TcCoe

variable (m : (ℓ : Loc nD τ sig) → Buf (Elt Ideal) ℓ) (c : Dev nD)

/-- The activations as the reference holds them: the argument without its middle axis. -/
def xRef : S64x8192.Idx → EReal := shapeCast S64x8192 (m ((c : Thread nD τ).loc main_arg0) : FVec Ideal S64x1x8192 .bf16) shapeCasts_S64x1x8192_S64x8192

theorem idx : ∀ t : Fin cfg0.N, win0_0.index t = ![0, 0] := (by decide +kernel : ∀ t : Fin grid0.N, _)

theorem blk_eq : (iblk m c 0 t0_0 : S64x8192.Idx → EReal) = xRef m c := by
  have h : (V m c main_v0 : S64x8192.Idx → EReal) = xRef m c := by
    entry_read
    rfl
  refine Eq.trans ?_ h
  funext y
  blk_simp [iblk, idx t0_0]
  blk_ext [idx t0_0]

theorem ref_final_xs : (dats m 0 c).arrAt 9 (cfgs 0).N = fun i : S64x1.Idx => refScale (vOf (xRef m c) (i 0)) := by
  refine (dats m 0 c).arrAt_eq_of_after_last 9 t0_0 (by decide +kernel) _ fun j => ?_
  blk_simp
  rw [after0_9]
  frame_out
  refine (ref_scale _ _).trans ?_
  rw [blk_eq]

theorem ref_final_codes (hv : ∀ r, vOf (xRef m c) r < T 253) : (dats m 0 c).arrAt 8 (cfgs 0).N = codeAt (xRef m c) := by
  refine (dats m 0 c).arrAt_eq_of_after_last 8 t0_0 (by decide +kernel) _ fun j => ?_
  blk_simp
  rw [after0_8]
  frame_out
  refine (ref_codes _ (fun r => ?_) _).trans ?_
  · rw [blk_eq]
    exact hv r
  · rw [blk_eq]

end Cert.Proof.Val
-- ==== Proof.LogR.lean ====
module

public import proofs.«01_k».proof.Proof.ValE

@[expose] public section

set_option maxRecDepth 16384

noncomputable section

namespace Cert.Proof.Val

open Cert.ReferenceIdeal Cert.ReferenceIdeal.Gen
open Idealize.ShloMosaic
open Idealize.ShloMosaic.TcCoe

/-- Whether token `v` is allowed in row `r`: bit `v % 32` of word `v / 32`. -/
def okAt (bm : S64x1000.Idx → BitVec 32) (r : Fin 64) (v : Fin 32000) : BitVec 1 :=
  IntOp.cmpi CmpIPredicate.eq (IntOp.andi (IntOp.shrsi ArithUnit.vector (bm (ix2 r (⟨v.val / 32, by omega⟩ : Fin 1000))) (BitVec.ofNat 32 (v.val % 32))) 1#32) 1#32

/-- The product of the codes with the dequantised weights. -/
def rawAt (cd : S64x8192.Idx → EReal) (w : S8192x32000.Idx → EReal) (s : S64x250.Idx → EReal) (r : Fin 64) (v : Fin 32000) : EReal :=
  ∑ p : Fin 8192, cd (ix2 r p) * (w (ix2 p v) * s (ix2 (⟨p.val / 128, by omega⟩ : Fin 64) (⟨v.val / 128, by omega⟩ : Fin 250)))

/-- The masked logits. -/
def logitAt (cd : S64x8192.Idx → EReal) (xs : Fin 64 → EReal) (w : S8192x32000.Idx → EReal) (s : S64x250.Idx → EReal) (bm : S64x1000.Idx → BitVec 32) : S64x32000.Idx → EReal := fun i =>
  Scalar.select (okAt bm (i 0) (i 1)) (rawAt cd w s (i 0) (i 1) * xs (i 0)) 0

theorem bit_index : ∀ v : Fin 32000, Scalar.select
    (IntOp.andi
      (IntOp.xori
        (IntOp.cmpi CmpIPredicate.slt
          (IntOp.remsi ArithUnit.vector (BitVec.ofNat 32 v.val)
            (Scalar.select (Scalar.cmpi CmpIPredicate.eq 32#32 0#32) 1#32 32#32))
          0#32)
        (Scalar.cmpi CmpIPredicate.slt (Scalar.select (Scalar.cmpi CmpIPredicate.eq 32#32 0#32) 1#32 32#32)
          0#32))
      (IntOp.cmpi CmpIPredicate.ne
        (IntOp.remsi ArithUnit.vector (BitVec.ofNat 32 v.val)
          (Scalar.select (Scalar.cmpi CmpIPredicate.eq 32#32 0#32) 1#32 32#32))
        0#32))
    (IntOp.addi
      (IntOp.remsi ArithUnit.vector (BitVec.ofNat 32 v.val)
        (Scalar.select (Scalar.cmpi CmpIPredicate.eq 32#32 0#32) 1#32 32#32))
      (Scalar.select (Scalar.cmpi CmpIPredicate.eq 32#32 0#32) 1#32 32#32))
    (IntOp.remsi ArithUnit.vector (BitVec.ofNat 32 v.val)
      (Scalar.select (Scalar.cmpi CmpIPredicate.eq 32#32 0#32) 1#32 32#32)) = BitVec.ofNat 32 (v.val % 32) := by decide +kernel

theorem pay7_at (bm : Vec Ideal S64x1000 .i32) (i : S64x32000.Idx) : k0_pay7 (F := Ideal) bm i = okAt bm (i 0) (i 1) := by
  pointwise [k0_pay7]
  rw [bit_index (i 1)]
  rfl

theorem pay6_at (xs cd s w) (i : S64x32000.Idx) : (k0_pay6 (F := Ideal) xs cd (k0_pay5 (F := Ideal) s) w i : EReal) = rawAt cd w s (i 0) (i 1) * xs (ix2 (i 0) 0) := by
  pointwise [k0_pay6, k0_pay5]
  rfl

theorem pay8_at (xs cd s w bm) (i : S64x32000.Idx) : (k0_pay8 (F := Ideal) xs cd (k0_pay5 (F := Ideal) s) w bm i : EReal) = logitAt cd (fun r => xs (ix2 r 0)) w s bm i := by
  pointwise [k0_pay8]
  rw [pay7_at, pay6_at]
  rfl

variable (m : (ℓ : Loc nD τ sig) → Buf (Elt Ideal) ℓ) (c : Dev nD)

theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)

theorem blk1_eq : (iblk m c 1 t0_0 : S8192x32000.Idx → EReal) = m ((c : Thread nD τ).loc main_arg1) := by
  refine Eq.trans ?_ (V_main_arg1 m c)
  funext y
  blk_simp [iblk, idx1 t0_0]
  blk_ext [idx1 t0_0]

theorem blk2_eq : (iblk m c 2 t0_0 : S64x250.Idx → EReal) = m ((c : Thread nD τ).loc main_arg2) := by
  refine Eq.trans ?_ (V_main_arg2 m c)
  funext y
  blk_simp [iblk, idx2 t0_0]
  blk_ext [idx2 t0_0]

theorem blk3_eq : (iblk m c 3 t0_0 : S64x1000.Idx → BitVec 32) = m ((c : Thread nD τ).loc main_arg3) := by
  refine Eq.trans ?_ (V_main_arg3 m c)
  funext y
  blk_simp [iblk, idx3 t0_0]
  blk_ext [idx3 t0_0]

end Cert.Proof.Val
end
-- ==== Proof.LogE.lean ====
module

public import proofs.«01_k».proof.Proof.LogD
public import proofs.«01_k».proof.Proof.LogR

@[expose] public section

set_option maxRecDepth 16384

noncomputable section

namespace Cert.Proof.Val

open Cert.KernelIdeal Cert.KernelIdeal.Gen Cert.Proof.KernI
open Idealize.ShloMosaic
open Idealize.ShloMosaic.TcCoe
open Idealize.SL.Sem
open Idealize.ShloMosaic.ValueIdx (reshapeEquiv_ix2_1ab)

section Trips
variable (c : Dev nD) (XS : Buf (Elt Ideal) (wsM.view.loc (c : Thread nD τ))) (XB : Buf (Elt Ideal) (bmM.view.loc (c : Thread nD τ)))
  (XA : Buf (Elt Ideal) (wM.view.loc (c : Thread nD τ))) (XC : Buf (Elt Ideal) (codesM.view.loc (c : Thread nD τ)))
  (XD : Buf (Elt Ideal) (candM.view.loc (c : Thread nD τ))) (XX : Buf (Elt Ideal) (xsM.view.loc (c : Thread nD τ))) (XE : Buf (Elt Ideal) (caM.view.loc (c : Thread nD τ)))
  (arg6 : Memref sig .tc .vmem S64x1 .f32) (harg6 : arg6.IsWhole) (arg7 : Memref sig .tc .vmem S64x52 .f32) (harg7 : arg7.IsWhole) (arg9 : Memref sig .tc .vmem S64x1 .f32) (harg9 : arg9.IsWhole)
  (v2209 : FVec Ideal S64x256 .f32) (v2210 : Vec Ideal S64x128 .fp8e4m3) (v2212 : FVec Ideal S128x256 .fp8e4m3) (cst : FVec Ideal S64x256 .f32) (σ₀ : St Ideal)

/-- The logits of a chunk whose accumulator a trip left, from the chain of the trip before. -/
theorem trip_logit (k : ℕ) (h : k < k0_t1_loop.trips) (h' : k + 1 < k0_t1_loop.trips) (y : S64x256.Idx) :
    ovAt c XA XC XS XB XD XX XE arg6 harg6 arg7 harg7 arg9 harg9 bodyRun.sl.r (k0_pay56 bodyRun.sl.v80) v2209 v2210 v2212 cst σ₀ (k + 1) y
      = outPad XB XX (k + 1) (shapeCast S1x64x256 (chain XC XA (gathered c XS ⟨k, h⟩ (Scalar.muli (Scf.iv 1#32 1#32 k) 2#32)) (k + 1) 63) shapeCasts_S64x256_S1x64x256) y := by
  rw [ovAt_eq _ _ _ _ _ _ _ _ _ _ _ _ _ _ _ _ _ _ _ _ _ (k + 1) h', out_at]
  refine congrArg (fun a => outPad XB XX (k + 1) a y) ?_
  rw [stAt_succ _ _ _ _ _ _ _ _ _ _ _ _ _ _ _ _ _ _ _ _ _ k h]
  exact acc_eq c XA XC XS ⟨k, h⟩ XB XD XX XE arg6 harg6 arg7 harg7 arg9 harg9 _ _ _ _ _ _ _

/-- The chain of chunk `k + 1` is the product with the scaled weights. -/
theorem chain_raw (S : S64x250.Idx → EReal) (hXS : ∀ (n : Fin 64) (j : Fin 250), XS (ix2 n (⟨j.val, by omega⟩ : Fin 256)) = S (ix2 n j)) (h0 : ∀ i, 0 ≤ S i) (h1 : ∀ i, S i ≠ ⊤)
    (k : ℕ) (h : k < k0_t1_loop.trips) (r : Fin 64) (q : Fin 256) (v : Fin 32000) (hv : v.val = 256 * (k + 1) + q.val) :
    (chain XC XA (gathered c XS ⟨k, h⟩ (Scalar.muli (Scf.iv 1#32 1#32 k) 2#32)) (k + 1) 63 (ix2 r q) : EReal) = rawAt XC XA S r v := by
  have hk : k < 124 := trips ▸ h
  rw [chain_at]
  refine Eq.trans (Finset.sum_congr rfl fun n hn => ?_) (blocks_eq (fun p => XC (ix2 r p)) (fun p => XA (ix2 p v)) (fun n => S (ix2 n (⟨v.val / 128, by omega⟩ : Fin 250))) (fun _ => h0 _) (fun _ => h1 _))
  have hn : n < 64 := Finset.mem_range.1 hn
  rw [term_at _ _ _ _ _ hn]
  refine congrArg₂ (· * ·) (Finset.sum_congr rfl fun p _ => congrArg₂ (· * ·) (congrArg (fun z => XC (ix2 r z)) (Fin.ext ?_)) (congrArg₂ (fun z w => XA (ix2 z w)) (Fin.ext ?_) (Fin.ext ?_))) ?_
  · show 128 * n + p.val = (128 * n + p.val) % 8192; omega
  · show 128 * n + p.val = (128 * n + p.val) % 8192; omega
  · show 256 * ((k + 1) % 125) + q.val = v.val; omega
  · refine (gathered_at c XS ⟨k, h⟩ _).trans ?_
    refine Eq.trans ?_ (hXS (⟨n % 64, Nat.mod_lt _ (by decide)⟩ : Fin 64) (⟨v.val / 128, by omega⟩ : Fin 250))
    refine congrArg₂ (fun z w => XS (ix2 z w)) (Fin.ext ?_) (Fin.ext ?_)
    · show n = n % 64; omega
    · show (2 * (k + 1) + q.val / 128) % 256 = v.val / 128; omega

/-- A trip's logits are the masked logits of its tokens. -/
theorem out_logit (S : S64x250.Idx → EReal) (hXS : ∀ (n : Fin 64) (j : Fin 250), XS (ix2 n (⟨j.val, by omega⟩ : Fin 256)) = S (ix2 n j)) (h0 : ∀ i, 0 ≤ S i) (h1 : ∀ i, S i ≠ ⊤)
    (bm : S64x1000.Idx → BitVec 32) (hXB : ∀ (n : Fin 64) (j : Fin 1000), XB (ix2 n (⟨j.val, by omega⟩ : Fin 1024)) = bm (ix2 n j))
    (xs : Fin 64 → EReal) (hXX : ∀ (r : Fin 64) (q : Fin 128), XX (ix2 r q) = xs r)
    (k : ℕ) (h : k < k0_t1_loop.trips) (r : Fin 64) (q : Fin 256) (v : Fin 32000) (hv : v.val = 256 * (k + 1) + q.val) :
    outPad XB XX (k + 1) (shapeCast S1x64x256 (chain XC XA (gathered c XS ⟨k, h⟩ (Scalar.muli (Scf.iv 1#32 1#32 k) 2#32)) (k + 1) 63) shapeCasts_S64x256_S1x64x256) (ix2 r q)
      = logitAt XC xs XA S bm (ix2 r v) := by
  have hk : k < 124 := trips ▸ h
  have ec := chain_raw c XS XA XC S hXS h0 h1 k h r q v hv
  generalize chain XC XA (gathered c XS ⟨k, h⟩ (Scalar.muli (Scf.iv 1#32 1#32 k) 2#32)) (k + 1) 63 = P at ec ⊢
  have ep : (shapeCast S1x64x256 P shapeCasts_S64x256_S1x64x256 (ix3 (0 : Fin 1) r q) : EReal) = P (ix2 r q) := by
    pointwise []
  have eo : okPad XB (k + 1) (ix2 r q) = okAt bm r v := by
    unfold okPad okAt
    rw [← hXB]
    have e1 : (⟨(8 * (k + 1) + q.val / 32) % 1024, Nat.mod_lt _ (by decide)⟩ : Fin 1024) = ⟨v.val / 32, by omega⟩ := Fin.ext (by show (8 * (k + 1) + q.val / 32) % 1024 = v.val / 32; omega)
    have e2 : q.val % 32 = v.val % 32 := by omega
    show IntOp.cmpi CmpIPredicate.eq (IntOp.andi (IntOp.shrsi ArithUnit.vector (XB (ix2 r (⟨(8 * (k + 1) + q.val / 32) % 1024, Nat.mod_lt _ (by decide)⟩ : Fin 1024))) (BitVec.ofNat 32 (q.val % 32))) 1#32) 1#32 = _
    rw [e1, e2]
  show Scalar.select (okPad XB (k + 1) (ix2 r q)) (shapeCast S1x64x256 P shapeCasts_S64x256_S1x64x256 (ix3 (0 : Fin 1) r q) * XX (ix2 r (⟨q.val % 128, Nat.mod_lt _ (by decide)⟩ : Fin 128))) 0 = Scalar.select (okAt bm r v) (rawAt XC XA S r v * xs r) 0
  rw [eo, ep, ec, hXX]
end Trips

section Operands
variable (c : Dev nD) (IX : Buf (Elt Ideal) (xInM.view.loc (c : Thread nD τ))) (IS : Buf (Elt Ideal) (wsInM.view.loc (c : Thread nD τ))) (IB : Buf (Elt Ideal) (bmInM.view.loc (c : Thread nD τ)))

theorem canon_whole {e : EltTy} (S : Shape) (x : S.Idx → Elt Ideal e) : View.canon (Val := Elt Ideal) (e := e) [⟨Rect.whole S, x⟩] = x :=
  View.canon_cons_unit_zero rfl _ x []

theorem v1184_eq : bodyRun.sl.v1184 (F := Ideal) c IS = IS := by
  unfold bodyRun.sl.v1184
  rw [View.readCov_eq_canon', canon_whole]
  funext x
  show IS _ = IS x
  refine congrArg IS ?_
  funext a; apply Fin.ext; fin_cases a
  · show 0 + 1 * (x 0).val = (x 0).val; omega
  · show 0 + 1 * (x 1).val = (x 1).val; omega

theorem v1196_eq : bodyRun.sl.v1196 (F := Ideal) c IB = IB := by
  unfold bodyRun.sl.v1196
  rw [View.readCov_eq_canon', canon_whole]
  funext x
  show IB _ = IB x
  refine congrArg IB ?_
  funext a; apply Fin.ext; fin_cases a
  · show 0 + 1 * (x 0).val = (x 0).val; omega
  · show 0 + 1 * (x 1).val = (x 1).val; omega

theorem r32_eq : (bodyRun.sl.r_32 (F := Ideal) c IS : S64x250.Idx → EReal) = IS := by
  funext y
  unfold bodyRun.sl.r_32
  rw [v1184_eq]
  pointwise [k0_pay149]

/-- The padded scales hold the scales. -/
theorem ws_at (n : Fin 64) (j : Fin 250) : View.canon (bodyRun.sl.HS_2 (F := Ideal) c IS) (ix2 n (⟨j.val, by omega⟩ : Fin 256)) = IS (ix2 n j) := by
  unfold bodyRun.sl.HS_2
  have e : (ix2 n (⟨j.val, by omega⟩ : Fin 256) : S64x256.Idx) = (Rect.unit (s := S64x256) ![0, 0] S64x250.size inb_S64x256_S64x250_0_0).emb (ix2 n j : S64x250.Idx) := by
    funext a; apply Fin.ext; fin_cases a
    · show n.val = 0 + 1 * n.val; omega
    · show j.val = 0 + 1 * j.val; omega
  rw [e, View.canon_cons_emb, r32_eq]

/-- The padded mask holds the mask. -/
theorem bm_at (n : Fin 64) (j : Fin 1000) : View.canon (bodyRun.sl.HB_2 (F := Ideal) c IB) (ix2 n (⟨j.val, by omega⟩ : Fin 1024)) = IB (ix2 n j) := by
  unfold bodyRun.sl.HB_2
  have e : (ix2 n (⟨j.val, by omega⟩ : Fin 1024) : S64x1024.Idx) = (Rect.unit (s := S64x1024) ![0, 0] S64x1000.size inb_S64x1024_S64x1000_0_0).emb (ix2 n j : S64x1000.Idx) := by
    funext a; apply Fin.ext; fin_cases a
    · show n.val = 0 + 1 * n.val; omega
    · show j.val = 0 + 1 * j.val; omega
  rw [e, View.canon_cons_emb]
  unfold bodyRun.sl.v1199
  rw [v1196_eq]
  pointwise []

/-- The scales of the rows, along the lanes. -/
theorem xx_at (r : Fin 64) (q : Fin 128) : (k0_pay147 (F := Ideal) (bodyRun.sl.r_10 c IX) (ix2 r q) : EReal) = refScale (vOf (bodyRun.sl.dma0 c IX) r) := by
  refine Eq.trans ?_ (xs_at c IX (ix2 r 0))
  generalize bodyRun.sl.r_10 (F := Ideal) c IX = R
  unfold k0_pay147
  generalize k0_pay146 (F := Ideal) R = Q
  pointwise []
end Operands

section Kernel
variable (m : (ℓ : Loc nD τ sig) → Buf (Elt Ideal) ℓ) (c : Dev nD)

set_option maxHeartbeats 2000000 in
theorem beg_ws : holds wsM (begOf m c t0_0).ws = View.canon (bodyRun.sl.HS_2 (F := Ideal) c (inS m c)) := holds_whole cc0_scratch4 _
set_option maxHeartbeats 2000000 in
theorem beg_bm : holds bmM (begOf m c t0_0).bm = View.canon (bodyRun.sl.HB_2 (F := Ideal) c (inB m c)) := holds_whole cc0_scratch6 _
set_option maxHeartbeats 2000000 in
theorem beg_xx : holds xsM (begOf m c t0_0).xx = k0_pay147 (F := Ideal) (bodyRun.sl.r_10 c (inX m c)) := holds_whole cc0_scratch10 _
theorem beg_codes (hv : ∀ r, vOf (xOf m c) r < T 253) : holds codesM (begOf m c t0_0).codes = codeAt (xOf m c) := by
  refine (holds_whole cc0_scratch1 _).trans ?_
  refine (codes_at c (inX m c) (fun r => ?_)).trans ?_
  · rw [dma_eq]
    exact hv r
  · rw [dma_eq]
theorem beg_v104 : (begOf m c t0_0).v104 = bodyRun.sl.r := rfl
theorem beg_v120 : (begOf m c t0_0).v120 = k0_pay56 bodyRun.sl.v80 := rfl

/-- The logits the kernel leaves of chunks 1 to 123. -/
theorem logit_mid (hv : ∀ r, vOf (xOf m c) r < T 253) (h0 : ∀ i, 0 ≤ (show S64x250.Idx → EReal from m ((c : Thread nD τ).loc main_arg2)) i) (h1 : ∀ i, (show S64x250.Idx → EReal from m ((c : Thread nD τ).loc main_arg2)) i ≠ ⊤)
    (k : ℕ) (hk : k < 123) (r : Fin 64) (q : Fin 256) (v : Fin 32000) (hq : v.val = 256 * (k + 1) + q.val) :
    logitOf m c t0_0 (k + 1) (ix2 r q)
      = logitAt (codeAt (xOf m c)) (fun r => refScale (vOf (xOf m c) r)) (m ((c : Thread nD τ).loc main_arg1)) (m ((c : Thread nD τ).loc main_arg2)) (m ((c : Thread nD τ).loc main_arg3)) (ix2 r v) := by
  unfold logitOf bodyOv
  rw [if_pos (show k + 1 < 124 by omega)]
  show ovAt _ _ _ _ _ _ _ _ _ _ _ _ _ _ _ _ _ _ _ _ _ (k + 1) (ix2 r q) = _
  rw [beg_v104, beg_v120]
  have ht : k < k0_t1_loop.trips := trips.symm ▸ (show k < 124 by omega)
  rw [trip_logit _ _ _ _ _ _ _ _ _ _ _ _ _ _ _ _ _ _ _ k ht (trips.symm ▸ (show k + 1 < 124 by omega))]
  rw [beg_codes m c hv, beg_ws, beg_bm, beg_xx]
  have eA : inA m c = m ((c : Thread nD τ).loc main_arg1) := Cert.KernelIdeal.Gen.V_main_arg1 m c
  have eS : inS m c = m ((c : Thread nD τ).loc main_arg2) := Cert.KernelIdeal.Gen.V_main_arg2 m c
  have eB : inB m c = m ((c : Thread nD τ).loc main_arg3) := Cert.KernelIdeal.Gen.V_main_arg3 m c
  rw [eA]
  refine out_logit c _ _ _ _ _ (m ((c : Thread nD τ).loc main_arg2)) (fun n j => ?_) h0 h1 (m ((c : Thread nD τ).loc main_arg3)) (fun n j => ?_) _ (fun r q => ?_) k ht r q v hq
  · rw [ws_at, eS]
  · rw [bm_at, eB]
  · rw [xx_at, dma_eq]
end Kernel

end Cert.Proof.Val
end
-- ==== Proof.LogS.lean ====
module

public import proofs.«01_k».proof.Proof.LogR

@[expose] public section

set_option maxRecDepth 16384

noncomputable section

namespace Cert.Proof.Val

open Cert.ReferenceIdeal Cert.ReferenceIdeal.Gen
open Idealize.ShloMosaic
open Idealize.ShloMosaic.TcCoe

theorem h18_eq (x0 x1 x2 x3 x4) : Cert.ReferenceIdeal.Gen.k0_pay18 (F := Ideal) x0 x1 x2 x3 x4 = Cert.ReferenceIdeal.Gen.k0_pay3 (F := Ideal) x0 := by
  unfold Cert.ReferenceIdeal.Gen.k0_pay18
  simp (disch := decide) only [View.ld_unit_lit']

theorem h19_eq (x0 x1 x2 x3 x4) : Cert.ReferenceIdeal.Gen.k0_pay19 (F := Ideal) x0 x1 x2 x3 x4 = Cert.ReferenceIdeal.Gen.k0_pay4 (F := Ideal) x0 := by
  unfold Cert.ReferenceIdeal.Gen.k0_pay19
  simp (disch := decide) only [View.ld_unit_lit']

theorem h20_eq (x : Vec Ideal S64x250 .f32) : View.ld x r0_2 = x := by
  simp (disch := decide) only [View.ld_unit_lit']

variable (m : (ℓ : Loc nD τ sig) → Buf (Elt Ideal) ℓ) (c : Dev nD)

/-- The logits' array after the reference. -/
theorem ref_final_logits (hv : ∀ r, vOf (xRef m c) r < T 253) : (dats m 0 c).arrAt 5 (cfgs 0).N
    = logitAt (codeAt (xRef m c)) (fun r => refScale (vOf (xRef m c) r)) (m ((c : Thread nD τ).loc main_arg1)) (m ((c : Thread nD τ).loc main_arg2)) (m ((c : Thread nD τ).loc main_arg3)) := by
  refine (dats m 0 c).arrAt_eq_of_after_last 5 t0_0 (by decide +kernel) _ fun j => ?_
  blk_simp
  rw [after0_5]
  frame_out
  refine (pay8_at _ _ _ _ _ _).trans ?_
  have hc : Cert.ReferenceIdeal.Gen.k0_pay4 (F := Ideal) (iblk m c 0 t0_0) = codeAt (xRef m c) := by
    funext y
    refine (ref_codes _ (fun r => ?_) y).trans ?_
    · rw [blk_eq]; exact hv r
    · rw [blk_eq]
  have hs : (fun r : Fin 64 => (Cert.ReferenceIdeal.Gen.k0_pay3 (F := Ideal) (iblk m c 0 t0_0) (ix2 r 0) : EReal)) = fun r => refScale (vOf (xRef m c) r) := by
    funext r
    refine (ref_scale _ _).trans ?_
    rw [blk_eq]
    rfl
  rw [h19_eq, h18_eq, hc, h20_eq]
  erw [hs, blk1_eq, blk2_eq, blk3_eq]

end Cert.Proof.Val
-- ==== Proof.ValF.lean ====
module

public import proofs.«01_k».proof.Defs
public import proofs.«01_k».proof.Proof.LogE
public import proofs.«01_k».proof.Proof.LogS
public import Idealize.ShloMosaic.Lib.Claim
public import Idealize.ShloMosaic.Lib.Pointwise

@[expose] public section

set_option maxRecDepth 16384

noncomputable section

namespace Cert.Proof.Val

open Idealize.ShloMosaic
open Idealize.ShloMosaic.TcCoe
open Idealize.SL.Sem

instance boundFacts : Cert.Pre_bounded.Facts where
  bitsLt_bf16_f32 := by decide
  bcast_S_S64x1x8192 := by decide
  bcast_S_S64x250 := by decide
  bcast_S64x1x8192_S64x250x8192_0_1_2 := by decide
  bcast_S64x250_S64x250x1_0_1 := by decide
  bcast_S64x250x1_S64x250x8192_0_1_2 := by decide

instance maskFacts : Cert.On_covered.Facts where
  bcast_S_S64x32000 := by decide
  bcast_S_S64x1 := by decide
  bcast_S_S64x52 := by decide
  bcast_S_S64x8192 := by decide

theorem fin_max : Ideal.ofBits .f32 0x7F7FFFFF#32 ≠ ⊤ := by
  rw [show Ideal.ofBits .f32 0x7F7FFFFF#32 = _ from ieee_norm 0x7F7FFFFF#32 254 8388607 (by decide) (by decide) (by decide) (by omega) (by omega)]
  exact EReal.coe_ne_top _

theorem and_one : ∀ a b : BitVec 1, IntOp.andi a b = 1#1 → a = 1#1 ∧ b = 1#1 := by decide

/-- What the precondition says of an activation and a scale. -/
theorem bound_at (x w s b d) (i : Cert.Pre_bounded.S64x250x8192.Idx) (h : Cert.Pre_bounded.fn (F := Ideal) x w s b d i = 1#1) :
    max (x (ix3 (i 0 : Fin 64) (0 : Fin 1) (i 2 : Fin 8192)) : EReal) (-(x (ix3 (i 0 : Fin 64) (0 : Fin 1) (i 2 : Fin 8192)) : EReal)) ≤ Ideal.ofBits .f32 0x7F7F0000#32
      ∧ (0 : EReal) ≤ s (ix2 (i 0 : Fin 64) (i 1 : Fin 250)) ∧ (s (ix2 (i 0 : Fin 64) (i 1 : Fin 250)) : EReal) ≤ Ideal.ofBits .f32 0x7F7FFFFF#32 := by
  revert h
  pointwise [Cert.Pre_bounded.fn]
  intro h
  have key : ∀ (p : Prop) (_ : Decidable p), BitVec.ofBool (decide p) = 1#1 → p := by
    intro p _ hp
    by_cases hq : p
    · exact hq
    · rw [decide_eq_false hq] at hp
      exact absurd hp (by decide)
  have h1 := and_one _ _ h
  have h2 := and_one _ _ h1.2
  exact ⟨key _ _ h1.1, key _ _ h2.1, key _ _ h2.2⟩

theorem token_range : ∀ v : Fin 32000, IntOp.andi (IntOp.cmpi CmpIPredicate.sge (BitVec.ofNat 32 v.val) 256#32) (IntOp.cmpi CmpIPredicate.slt (BitVec.ofNat 32 v.val) 31744#32) = 1#1 → 256 ≤ v.val ∧ v.val < 31744 := by
  decide +kernel

/-- The tokens whose logits are claimed. -/
theorem mask_at (x w s b d) (i : Cert.On_covered.S64x32000.Idx) (h : (Cert.On_covered.fn (F := Ideal) x w s b d).1 i = 1#1) : 256 ≤ (i 1).val ∧ (i 1).val < 31744 := by
  revert h
  pointwise [Cert.On_covered.fn]
  exact token_range (i 1)

section
variable (m : (ℓ : Loc Cert.KernelIdeal.nD Cert.KernelIdeal.τ Cert.KernelIdeal.sig) → Buf (Elt Ideal) ℓ)

theorem small (hpre : Cert.Pre_KernelIdeal_bounded m) (c : Dev Cert.KernelIdeal.nD) (r : Fin 64) : vOf (xOf m c) r < T 253 := by
  refine vOf_lt (xOf m c) (fun y => ?_) r
  have h := fun i => (bound_at _ _ _ _ _ i (congrFun (hpre c) i)).1
  have e : ∀ z : Cert.KernelIdeal.S64x1x8192.Idx, z = ix3 (z 0 : Fin 64) (0 : Fin 1) (z 2 : Fin 8192) := by
    intro z
    funext a; apply Fin.ext; fin_cases a
    · rfl
    · show (z 1).val = 0
      have h1 : (z 1).val < 1 := (z 1).isLt
      omega
    · rfl
  have h' : ∀ z : Cert.KernelIdeal.S64x1x8192.Idx, max ((show Cert.KernelIdeal.S64x1x8192.Idx → EReal from m ((c : Thread Cert.KernelIdeal.nD Cert.KernelIdeal.τ).loc Cert.KernelIdeal.main_arg0)) z) (-((show Cert.KernelIdeal.S64x1x8192.Idx → EReal from m ((c : Thread Cert.KernelIdeal.nD Cert.KernelIdeal.τ).loc Cert.KernelIdeal.main_arg0)) z)) ≤ Ideal.ofBits .f32 0x7F7F0000#32 := by
    intro z
    rw [e z]
    exact h (ix3 (z 0 : Fin 64) (0 : Fin 250) (z 2 : Fin 8192))
  exact h' _

/-- The weights' scales. -/
def wsOf (c : Dev Cert.KernelIdeal.nD) : Cert.KernelIdeal.S64x250.Idx → EReal := m ((c : Thread Cert.KernelIdeal.nD Cert.KernelIdeal.τ).loc Cert.KernelIdeal.main_arg2)

theorem scales (hpre : Cert.Pre_KernelIdeal_bounded m) (c : Dev Cert.KernelIdeal.nD) (i : Cert.KernelIdeal.S64x250.Idx) : 0 ≤ wsOf m c i ∧ wsOf m c i ≠ ⊤ := by
  have e : i = ix2 (i 0 : Fin 64) (i 1 : Fin 250) := by
    funext a; fin_cases a <;> rfl
  have h := (bound_at _ _ _ _ _ (ix3 (i 0 : Fin 64) (i 1 : Fin 250) (0 : Fin 8192)) (congrFun (hpre c) _)).2
  rw [e]
  exact ⟨h.1, ne_of_lt (lt_of_le_of_lt h.2 (lt_top_iff_ne_top.2 fin_max))⟩

/-- The kernel's logits. -/
def logitsOf (c : Dev Cert.KernelIdeal.nD) : Cert.KernelIdeal.S64x32000.Idx → EReal :=
  logitAt (codeAt (xOf m c)) (fun r => refScale (vOf (xOf m c) r)) (m ((c : Thread Cert.KernelIdeal.nD Cert.KernelIdeal.τ).loc Cert.KernelIdeal.main_arg1)) (wsOf m c) (m ((c : Thread Cert.KernelIdeal.nD Cert.KernelIdeal.τ).loc Cert.KernelIdeal.main_arg3))

theorem final_logits (hpre : Cert.Pre_KernelIdeal_bounded m) (c : Dev Cert.KernelIdeal.nD) (i : Cert.KernelIdeal.S64x32000.Idx) (h0 : 256 ≤ (i 1).val) (h1 : (i 1).val < 31744) :
    Cert.Proof.KernI.holds Cert.Proof.KernI.oM (Cert.Proof.KernI.oAll (Cert.Proof.KernI.logitOf m c Cert.KernelIdeal.Gen.t0_0)) i = logitsOf m c i := by
  refine (congrFun (holds_whole Cert.KernelIdeal.main_v2_0 _) i).trans ?_
  obtain ⟨k, hk⟩ : ∃ k, (i 1).val / 256 = k + 1 := ⟨(i 1).val / 256 - 1, by omega⟩
  unfold Cert.Proof.KernI.oAll
  rw [hk]
  refine (logit_mid m c (small m hpre c) (fun z => (scales m hpre c z).1) (fun z => (scales m hpre c z).2) k (by omega) (i 0) _ (i 1) (by show (i 1).val = 256 * (k + 1) + (i 1).val % 256; omega)).trans ?_
  refine congrArg (logitsOf m c) ?_
  funext a; fin_cases a <;> rfl

end

theorem off {p : Prop} (h : (0#1 : BitVec 1) = 1#1) : p := absurd h (by decide)

theorem algebraic : Cert.algebraic_KernelIdeal_ReferenceIdeal_on_covered_pre_bounded := by
  intro m g m' g' hpre hagree
  have hx : ∀ c, xRef m' c = xOf m c := fun c => congrArg (fun z => shapeCast Cert.KernelIdeal.S64x8192 z Cert.KernelIdeal.Gen.facts.shapeCasts_S64x1x8192_S64x8192) (hagree c).1
  refine ⟨fun c => logitsOf m c, fun c => m _, fun c => m _, fun c => codeAt (xOf m c), fun c => fun i => refScale (vOf (xOf m c) (i 0)), ?_, ?_⟩
  · refine (θ_run _ _ _).mono (fun r h c => ?_) (Cert.Proof.KernI.run_main m g)
    have hf := (h.1 c)
    refine ⟨fun i hi => ?_, fun i hi => off hi, fun i hi => off hi, fun i _ => ?_, fun i _ => ?_, ?_⟩
    · exact (congrFun hf.2.2.1 i).trans (final_logits m hpre c i (mask_at _ _ _ _ _ i hi).1 (mask_at _ _ _ _ _ i hi).2)
    · exact congrFun (hf.2.2.2.trans (final_codes m c (small m hpre c))) i
    · exact congrFun ((hf.1 2).trans (final_xs m c)) i
    · exact ⟨hf.2.1.1.trans (Cert.KernelIdeal.Gen.V_main_arg0 m c), hf.2.1.2.1.trans (Cert.KernelIdeal.Gen.V_main_arg1 m c), hf.2.1.2.2.1.trans (Cert.KernelIdeal.Gen.V_main_arg2 m c),
        hf.2.1.2.2.2.1.trans (Cert.KernelIdeal.Gen.V_main_arg3 m c), hf.2.1.2.2.2.2.trans (Cert.KernelIdeal.Gen.V_main_arg4 m c)⟩
  · refine (θ_run _ _ _).mono (fun r h c => ?_) (θ_run_and (Cert.ReferenceIdeal.Gen.run_main m' g') (Cert.ReferenceIdeal.Gen.frame m' g'))
    have hf := h.1 c
    have ha := h.2.1 c
    refine ⟨fun i _ => ?_, fun i hi => off hi, fun i hi => off hi, fun i _ => ?_, fun i _ => ?_, ha⟩
    · refine congrFun ((hf.1 5).trans ((ref_final_logits m' c ?_).trans ?_)) i
      · rw [hx]
        exact small m hpre c
      · rw [hx, (hagree c).2.1, (hagree c).2.2.1, (hagree c).2.2.2.1]
        rfl
    · refine congrFun ((hf.1 8).trans ((ref_final_codes m' c ?_).trans ?_)) i
      · rw [hx]
        exact small m hpre c
      · rw [hx]
    · have hs := (hf.1 9).trans (ref_final_xs m' c)
      rw [hx] at hs
      exact congrFun hs i

end Cert.Proof.Val
-- ==== Proof.lean ====
/-
  The claims: the kernel and the reference run to their end from any memory and leave their arguments, with every
  semaphore counter at zero; the idealized kernel is the kernel's own text; and over the extended reals the kernel's
  codes and scales are the reference's.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Launch
public import proofs.«01_k».proof.Proof.LaunchI
public import proofs.«01_k».proof.Proof.ValF
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Proof.Val.boundFacts, Cert.Proof.Val.maskFacts,
  fun m ρ _ => Cert.Proof.Kern.frames (F := Bits) m ρ,
  fun m ρ _ => Cert.Proof.KernI.frames (F := Ideal) m ρ,
  fun m ρ _ => Cert.Proof.KernI.frames (F := Ideal) m ρ,
  fun m ρ _ => Cert.ReferenceIdeal.Gen.frame (F := Ideal) m ρ,
  fun m ρ _ => Cert.ReferenceIdeal.Gen.frame (F := Ideal) m ρ,
  trivial,
  Cert.Proof.Val.algebraic⟩

end Cert.Proof

end
